-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rois_in_range [hPre_rois_in_range : Cert.Pre_rois_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rois_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rois_in_range [hPre_rois_in_range : Cert.Pre_rois_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rois_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_rois_in_range [hKernelIdeal : Cert.KernelIdeal.Facts] [hPre_rois_in_range : Cert.Pre_rois_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rois_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rois_in_range [hReferenceIdeal : Cert.ReferenceIdeal.Facts] [hPre_rois_in_range : Cert.Pre_rois_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rois_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "one_seventh" .f32 0x3E124925#32 ((7⁻¹ : ℝ) : EReal)

def algebraic_KernelIdeal_ReferenceIdeal_pre_rois_in_range [hKernelIdeal : Cert.KernelIdeal.Facts] [hReferenceIdeal : Cert.ReferenceIdeal.Facts] [hPre_rois_in_range : Cert.Pre_rois_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rois_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_rois_in_range : Cert.Pre_rois_in_range.Facts),
    quiescent_Kernel (hKernel := hKernel)
    ∧ quiescent_KernelIdeal (hKernelIdeal := hKernelIdeal)
    ∧ quiescent_KernelIdeal_pre_rois_in_range (hKernelIdeal := hKernelIdeal) (hPre_rois_in_range := hPre_rois_in_range)
    ∧ quiescent_ReferenceIdeal (hReferenceIdeal := hReferenceIdeal)
    ∧ quiescent_ReferenceIdeal_pre_rois_in_range (hReferenceIdeal := hReferenceIdeal) (hPre_rois_in_range := hPre_rois_in_range)
    ∧ preserves_Kernel_KernelIdeal
    ∧ algebraic_KernelIdeal_ReferenceIdeal_pre_rois_in_range (hKernelIdeal := hKernelIdeal) (hReferenceIdeal := hReferenceIdeal) (hPre_rois_in_range := hPre_rois_in_range)
-- ==== Pre_rois_in_range.lean ====
abbrev S4x256x200x200 : Shape := ⟨4, ![4, 256, 200, 200]⟩
abbrev S1024x5 : Shape := ⟨2, ![1024, 5]⟩
abbrev S_ : Shape := ⟨0, ![]⟩
abbrev S1024x1 : Shape := ⟨2, ![1024, 1]⟩
abbrev S1024 : Shape := ⟨1, ![1024]⟩

class Facts : Prop where
  slices_S1024x5_S1024x1_0_0 : S1024x5.Slices ![0, 0] S1024x1
  shapeCasts_S1024x1_S1024 : S1024x1.ShapeCasts S1024
  slices_S1024x5_S1024x1_0_3 : S1024x5.Slices ![0, 3] S1024x1
  bcast_S_S1024 : S_.BroadcastsInDim S1024 (![] : Fin 0 → Fin S1024.rank)
  slices_S1024x5_S1024x1_0_1 : S1024x5.Slices ![0, 1] S1024x1

variable [Facts]

def fn {F : FTy → Type} [FloatOps F] (main_arg0 : FVec F S4x256x200x200 .f32) (main_arg1 : FVec F S1024x5 .f32) (main_arg2 : FVec F S_ .f32) : IVec S1024 1 :=
  let main_v0 : FVec F S1024x1 .f32 := (extractStridedSlice S1024x1 ![0, 0] · slices_S1024x5_S1024x1_0_0) main_arg1
  let main_v1 : FVec F S1024 .f32 := shapeCast S1024 main_v0 shapeCasts_S1024x1_S1024
  let main_v2 : FVec F S1024x1 .f32 := (extractStridedSlice S1024x1 ![0, 3] · slices_S1024x5_S1024x1_0_3) main_arg1
  let main_v3 : FVec F S1024 .f32 := shapeCast S1024 main_v2 shapeCasts_S1024x1_S1024
  let main_v4 : FVec F S1024 .f32 := broadcastInDim S1024 ![] bcast_S_S1024 main_arg2
  let main_v5 : FVec F S1024 .f32 := mulf main_v3 main_v4
  let main_v6 : FVec F S1024x1 .f32 := (extractStridedSlice S1024x1 ![0, 1] · slices_S1024x5_S1024x1_0_1) main_arg1
  let main_v7 : FVec F S1024 .f32 := shapeCast S1024 main_v6 shapeCasts_S1024x1_S1024
  let main_v8 : FVec F S1024 .f32 := broadcastInDim S1024 ![] bcast_S_S1024 main_arg2
  let main_v9 : FVec F S1024 .f32 := mulf main_v7 main_v8
  let main_v10 : FVec F S1024 .f32 := subf main_v5 main_v9
  let main_cst : FVec F S_ .f32 := constant S_ .f32 0xBF800000#32
  let main_v11 : FVec F S1024 .f32 := broadcastInDim S1024 ![] bcast_S_S1024 main_cst
  let main_v12 : IVec S1024 1 := cmpf .ogt main_v1 main_v11
  let main_cst_0 : FVec F S_ .f32 := constant S_ .f32 0x40800000#32
  let main_v13 : FVec F S1024 .f32 := broadcastInDim S1024 ![] bcast_S_S1024 main_cst_0
  let main_v14 : IVec S1024 1 := cmpf .olt main_v1 main_v13
  let main_v15 : IVec S1024 1 := andi main_v12 main_v14
  let main_cst_1 : FVec F S_ .f32 := constant S_ .f32 0x42180000#32
  let main_v16 : FVec F S1024 .f32 := broadcastInDim S1024 ![] bcast_S_S1024 main_cst_1
  let main_v17 : IVec S1024 1 := cmpf .ole main_v10 main_v16
  let main_v18 : IVec S1024 1 := andi main_v15 main_v17
  main_v18
-- ==== Kernel.lean ====
abbrev S4x256x200x200 : Shape := ⟨4, ![4, 256, 200, 200]⟩
abbrev S1024x5 : Shape := ⟨2, ![1024, 5]⟩
abbrev S_ : Shape := ⟨0, ![]⟩
abbrev S4x200x200x256 : Shape := ⟨4, ![4, 200, 200, 256]⟩
abbrev S5120 : Shape := ⟨1, ![5120]⟩
abbrev S1 : Shape := ⟨1, ![1]⟩
abbrev S1024x1 : Shape := ⟨2, ![1024, 1]⟩
abbrev S1024 : Shape := ⟨1, ![1024]⟩
abbrev S4 : Shape := ⟨1, ![4]⟩
abbrev S3 : Shape := ⟨1, ![3]⟩
abbrev S1536 : Shape := ⟨1, ![1536]⟩
abbrev S1x4 : Shape := ⟨2, ![1, 4]⟩
abbrev S12 : Shape := ⟨1, ![12]⟩
abbrev S12x1 : Shape := ⟨2, ![12, 1]⟩
abbrev S12x4 : Shape := ⟨2, ![12, 4]⟩
abbrev S1536x7x7x256 : Shape := ⟨4, ![1536, 7, 7, 256]⟩
abbrev S1x200x200x256 : Shape := ⟨4, ![1, 200, 200, 256]⟩
abbrev S128x7x7x256 : Shape := ⟨4, ![128, 7, 7, 256]⟩
abbrev S64x96 : Shape := ⟨2, ![64, 96]⟩
abbrev S1x2x48x256 : Shape := ⟨4, ![1, 2, 48, 256]⟩
abbrev S2x48x256 : Shape := ⟨3, ![2, 48, 256]⟩
abbrev S96x256 : Shape := ⟨2, ![96, 256]⟩
abbrev S8x96 : Shape := ⟨2, ![8, 96]⟩
abbrev S8x256 : Shape := ⟨2, ![8, 256]⟩
abbrev S7x256 : Shape := ⟨2, ![7, 256]⟩
abbrev S1x1x7x256 : Shape := ⟨4, ![1, 1, 7, 256]⟩
abbrev S1024x7x7x256 : Shape := ⟨4, ![1024, 7, 7, 256]⟩
abbrev S1024x256x7x7 : Shape := ⟨4, ![1024, 256, 7, 7]⟩

abbrev nBuf : Space → Nat
  | .hbm => 144
  | .vmem => 4
  | .smem => 4
  | _ => 0

abbrev hbmTy0_0 (i : Nat) : BufTy := match i % 128 with
  | 0 => ⟨S4x256x200x200, .f32⟩
  | 1 => ⟨S1024x5, .f32⟩
  | 2 => ⟨S_, .f32⟩
  | 3 => ⟨S4x200x200x256, .f32⟩
  | 4 => ⟨S4x200x200x256, .bf16⟩
  | 5 => ⟨S5120, .f32⟩
  | 6 => ⟨S1, .f32⟩
  | 7 => ⟨S1024x1, .f32⟩
  | 8 => ⟨S1024, .f32⟩
  | 9 => ⟨S1024, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S_, .i32⟩
  | 17 => ⟨S1024, .i32⟩
  | 18 => ⟨S1024, .i32⟩
  | 19 => ⟨S1024, .i32⟩
  | 20 => ⟨S1024x1, .i32⟩
  | 21 => ⟨S1024, .i32⟩
  | 22 => ⟨S_, .i32⟩
  | 23 => ⟨S4, .i32⟩
  | 24 => ⟨S_, .i32⟩
  | 25 => ⟨S_, .i32⟩
  | 26 => ⟨S1024, .i32⟩
  | 27 => ⟨S1024, .i32⟩
  | 28 => ⟨S_, .i32⟩
  | 29 => ⟨S1024, .i32⟩
  | 30 => ⟨S1024, .i1⟩
  | 31 => ⟨S_, .i32⟩
  | 32 => ⟨S1024, .i32⟩
  | 33 => ⟨S1024, .i32⟩
  | 34 => ⟨S1024, .i32⟩
  | 35 => ⟨S1024x1, .i32⟩
  | 36 => ⟨S_, .i32⟩
  | 37 => ⟨S1024, .i32⟩
  | 38 => ⟨S4, .i32⟩
  | 39 => ⟨S_, .i32⟩
  | 40 => ⟨S4, .i32⟩
  | 41 => ⟨S4, .i32⟩
  | 42 => ⟨S_, .i32⟩
  | 43 => ⟨S4, .i32⟩
  | 44 => ⟨S4, .i32⟩
  | 45 => ⟨S_, .i32⟩
  | 46 => ⟨S_, .i32⟩
  | 47 => ⟨S4, .i32⟩
  | 48 => ⟨S4, .i32⟩
  | 49 => ⟨S4, .i32⟩
  | 50 => ⟨S_, .i32⟩
  | 51 => ⟨S4, .i32⟩
  | 52 => ⟨S4, .i1⟩
  | 53 => ⟨S4, .i32⟩
  | 54 => ⟨S4, .i32⟩
  | 55 => ⟨S_, .i32⟩
  | 56 => ⟨S4, .i32⟩
  | 57 => ⟨S4, .i1⟩
  | 58 => ⟨S4, .i1⟩
  | 59 => ⟨S_, .i32⟩
  | 60 => ⟨S4, .i32⟩
  | 61 => ⟨S4, .i32⟩
  | 62 => ⟨S4, .i32⟩
  | 63 => ⟨S_, .i32⟩
  | 64 => ⟨S_, .i32⟩
  | 65 => ⟨S4, .i32⟩
  | 66 => ⟨S_, .i32⟩
  | 67 => ⟨S1, .i32⟩
  | 68 => ⟨S3, .i32⟩
  | 69 => ⟨S4, .i32⟩
  | 70 => ⟨S_, .i32⟩
  | 71 => ⟨S4, .i32⟩
  | 72 => ⟨S4, .i32⟩
  | 73 => ⟨S_, .i32⟩
  | 74 => ⟨S1, .i32⟩
  | 75 => ⟨S_, .i32⟩
  | 76 => ⟨S_, .i32⟩
  | 77 => ⟨S4, .i32⟩
  | 78 => ⟨S3, .i32⟩
  | 79 => ⟨S4, .i32⟩
  | 80 => ⟨S1024, .i32⟩
  | 81 => ⟨S_, .i32⟩
  | 82 => ⟨S1024, .i32⟩
  | 83 => ⟨S1024, .i1⟩
  | 84 => ⟨S_, .i32⟩
  | 85 => ⟨S1024, .i32⟩
  | 86 => ⟨S1024, .i32⟩
  | 87 => ⟨S1024, .i32⟩
  | 88 => ⟨S1024x1, .i32⟩
  | 89 => ⟨S1024, .i32⟩
  | 90 => ⟨S_, .i32⟩
  | 91 => ⟨S1024, .i32⟩
  | 92 => ⟨S1024, .i1⟩
  | 93 => ⟨S_, .i32⟩
  | 94 => ⟨S1024, .i32⟩
  | 95 => ⟨S1024, .i32⟩
  | 96 => ⟨S1024, .i32⟩
  | 97 => ⟨S1024x1, .i32⟩
  | 98 => ⟨S1024, .i32⟩
  | 99 => ⟨S1024, .i32⟩
  | 100 => ⟨S1024, .i32⟩
  | 101 => ⟨S_, .i32⟩
  | 102 => ⟨S1536, .i32⟩
  | 103 => ⟨S_, .i32⟩
  | 104 => ⟨S1024, .i32⟩
  | 105 => ⟨S1024, .i1⟩
  | 106 => ⟨S_, .i32⟩
  | 107 => ⟨S1024, .i32⟩
  | 108 => ⟨S1024, .i32⟩
  | 109 => ⟨S1024, .i32⟩
  | 110 => ⟨S1024x1, .i32⟩
  | 111 => ⟨S1x4, .i32⟩
  | 112 => ⟨S12, .i32⟩
  | 113 => ⟨S12x1, .i32⟩
  | 114 => ⟨S12x4, .i32⟩
  | 115 => ⟨S12x4, .i32⟩
  | 116 => ⟨S12x4, .i1⟩
  | 117 => ⟨S12x4, .i32⟩
  | 118 => ⟨S_, .i32⟩
  | 119 => ⟨S12, .i32⟩
  | 120 => ⟨S_, .i32⟩
  | 121 => ⟨S12, .i32⟩
  | 122 => ⟨S_, .i32⟩
  | 123 => ⟨S1024, .i32⟩
  | 124 => ⟨S_, .i32⟩
  | 125 => ⟨S1024, .i32⟩
  | 126 => ⟨S1024, .i1⟩
  | 127 => ⟨S_, .i32⟩
  | _ => ⟨S4x256x200x200, .f32⟩

abbrev hbmTy0_1 (i : Nat) : BufTy := match i % 128 with
  | 0 => ⟨S1024, .i32⟩
  | 1 => ⟨S1024, .i32⟩
  | 2 => ⟨S1024, .i32⟩
  | 3 => ⟨S1024x1, .i32⟩
  | 4 => ⟨S1024, .i32⟩
  | 5 => ⟨S1536x7x7x256, .f32⟩
  | 6 => ⟨S_, .i32⟩
  | 7 => ⟨S1024, .i32⟩
  | 8 => ⟨S1024, .i1⟩
  | 9 => ⟨S_, .i32⟩
  | 10 => ⟨S1024, .i32⟩
  | 11 => ⟨S1024, .i32⟩
  | 12 => ⟨S1024, .i32⟩
  | 13 => ⟨S1024x1, .i32⟩
  | 14 => ⟨S1024x7x7x256, .f32⟩
  | 15 => ⟨S1024x256x7x7, .f32⟩
  | _ => ⟨S4x256x200x200, .f32⟩

abbrev hbmTy (i : Nat) : BufTy := match i / 128 with
  | 0 => hbmTy0_0 i
  | 1 => hbmTy0_1 i
  | _ => ⟨S4x256x200x200, .f32⟩

abbrev bufTy : (tb : Table) → Fin (tcTables nBuf tb) → BufTy
  | .hbm, ⟨i, _⟩ => hbmTy i
  | .local _ .vmem, ⟨0, _⟩ => ⟨S1x200x200x256, .bf16⟩
  | .local _ .vmem, ⟨1, _⟩ => ⟨S1x200x200x256, .bf16⟩
  | .local _ .vmem, ⟨2, _⟩ => ⟨S128x7x7x256, .f32⟩
  | .local _ .vmem, ⟨3, _⟩ => ⟨S128x7x7x256, .f32⟩
  | .local _ .smem, ⟨0, _⟩ => ⟨S12, .i32⟩
  | .local _ .smem, ⟨1, _⟩ => ⟨S1536, .i32⟩
  | .local _ .smem, ⟨2, _⟩ => ⟨S1, .f32⟩
  | .local _ .smem, ⟨3, _⟩ => ⟨S5120, .f32⟩
  | _, _ => ⟨S4x256x200x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1_0 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_c_8 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v29 : Ref sig .tc := ⟨.hbm, 62, rfl⟩
abbrev main_call3_call0_c : Ref sig .tc := ⟨.hbm, 63, rfl⟩
abbrev main_call3_call0_v0 : Ref sig .tc := ⟨.hbm, 64, rfl⟩
abbrev main_v30 : Ref sig .tc := ⟨.hbm, 65, rfl⟩
abbrev main_c_9 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_10 : Ref sig .tc := ⟨.hbm, 70, rfl⟩
abbrev main_v34 : Ref sig .tc := ⟨.hbm, 71, rfl⟩
abbrev main_v35 : Ref sig .tc := ⟨.hbm, 72, rfl⟩
abbrev main_c_11 : Ref sig .tc := ⟨.hbm, 73, rfl⟩
abbrev main_v36 : Ref sig .tc := ⟨.hbm, 74, rfl⟩
abbrev main_call4_call0_c : Ref sig .tc := ⟨.hbm, 75, rfl⟩
abbrev main_call4_call0_v0 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_c_12 : Ref sig .tc := ⟨.hbm, 81, rfl⟩
abbrev main_v41 : Ref sig .tc := ⟨.hbm, 82, rfl⟩
abbrev main_v42 : Ref sig .tc := ⟨.hbm, 83, rfl⟩
abbrev main_c_13 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_14 : Ref sig .tc := ⟨.hbm, 90, rfl⟩
abbrev main_v48 : Ref sig .tc := ⟨.hbm, 91, rfl⟩
abbrev main_v49 : Ref sig .tc := ⟨.hbm, 92, rfl⟩
abbrev main_c_15 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_c_16 : Ref sig .tc := ⟨.hbm, 101, rfl⟩
abbrev main_v57 : Ref sig .tc := ⟨.hbm, 102, rfl⟩
abbrev main_c_17 : Ref sig .tc := ⟨.hbm, 103, rfl⟩
abbrev main_v58 : Ref sig .tc := ⟨.hbm, 104, rfl⟩
abbrev main_v59 : Ref sig .tc := ⟨.hbm, 105, rfl⟩
abbrev main_c_18 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_19 : Ref sig .tc := ⟨.hbm, 118, rfl⟩
abbrev main_v72 : Ref sig .tc := ⟨.hbm, 119, rfl⟩
abbrev main_c_20 : Ref sig .tc := ⟨.hbm, 120, rfl⟩
abbrev main_v73 : Ref sig .tc := ⟨.hbm, 121, rfl⟩
abbrev main_c_21 : Ref sig .tc := ⟨.hbm, 122, rfl⟩
abbrev main_v75 : Ref sig .tc := ⟨.hbm, 123, rfl⟩
abbrev main_c_22 : Ref sig .tc := ⟨.hbm, 124, rfl⟩
abbrev main_v76 : Ref sig .tc := ⟨.hbm, 125, rfl⟩
abbrev main_v77 : Ref sig .tc := ⟨.hbm, 126, rfl⟩
abbrev main_c_23 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_c_24 : Ref sig .tc := ⟨.hbm, 134, rfl⟩
abbrev main_v84 : Ref sig .tc := ⟨.hbm, 135, rfl⟩
abbrev main_v85 : Ref sig .tc := ⟨.hbm, 136, rfl⟩
abbrev main_c_25 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v74 : Ref sig .tc := ⟨.smem, 0, rfl⟩
abbrev main_v64 : Ref sig .tc := ⟨.smem, 1, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg0_0 : Ref sig .tc := ⟨.smem, 2, rfl⟩
abbrev cc0_stg1_0 : Ref sig .tc := ⟨.smem, 3, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![12], ![false]⟩

abbrev pre0 : Pipeline.Prefetch sig := ⟨2, ![main_v74.idx, main_v64.idx], fun | 0 => main_v74.names | 1 => main_v64.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c8_i32 : BitVec 32 := 8#32
  let v14 : BitVec 32 := Scalar.addi c0_i32 c8_i32
  let c1_i32 : BitVec 32 := 1#32
  ⟨c0_i32, v14, c1_i32⟩
def k0_off2 (i : grid0.Coords) (k0_t1 : Fin k0_t1_loop.trips) : Fin 1 → Nat :=
  let arg0 : BitVec 32 := BitVec.ofNat 32 (i 0).val
  let c128_i32 : BitVec 32 := 128#32
  let v17 : BitVec 32 := Scalar.muli arg0 c128_i32
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c0_i32_3 : BitVec 32 := 0#32
  let v16 : BitVec 32 := Scalar.addi v15 c0_i32_3
  let v18 : BitVec 32 := Scalar.addi v17 v16
  let v19 : Index := Scalar.indexCast v18
  ![v19.toNat]
def k0_off3 (v20 : BitVec 32) (c1_i32_6 : BitVec 32) : Fin 1 → Nat :=
  let c0_i32_5 : BitVec 32 := 0#32
  let v24 : BitVec 32 := Scalar.maxsi v20 c0_i32_5
  let c5_i32 : BitVec 32 := 5#32
  let v25 : BitVec 32 := Scalar.muli v24 c5_i32
  let v26 : BitVec 32 := Scalar.addi v25 c1_i32_6
  let v27 : Index := Scalar.indexCast v26
  ![v27.toNat]

def k0_chk1 (v20 : BitVec 32) : Prop :=
  (∀ (r : Fin 4), ∀ a, (k0_off3 v20 (BitVec.ofNat 32 (1 + r.val))) a + S1.size a ≤ S5120.size a)
theorem k0_off3_inb : ∀ (v20 : BitVec 32) (k0_hw1 : k0_chk1 v20), ∀ (r : Fin 4), ∀ a, (k0_off3 v20 (BitVec.ofNat 32 (1 + r.val))) a + S1.size a ≤ S5120.size a := fun v20 k0_hw1 r => k0_hw1 r

def k0_mult1 (v53 : BitVec 32) : BitVec 32 :=
  let c198_i32 : BitVec 32 := 198#32
  let c0_i32_17 : BitVec 32 := 0#32
  let v54 : BitVec 32 := Scalar.maxsi c0_i32_17 v53
  let v55 : BitVec 32 := Scalar.minsi c198_i32 v54
  let c3_i32_18 : BitVec 32 := 3#32
  let v56 : BitVec 32 := Scalar.shrsi v55 c3_i32_18
  let c3_i32_19 : BitVec 32 := 3#32
  let v57 : BitVec 32 := Scalar.shli v56 c3_i32_19
  let c152_i32 : BitVec 32 := 152#32
  let v58 : BitVec 32 := Scalar.minsi v57 c152_i32
  v58

def k0_chk2 (v53 : BitVec 32) : Prop :=
  (8 ∣ (k0_mult1 v53).toNat)
theorem k0_mult1_dvd : ∀ (v53 : BitVec 32) (k0_hw2 : k0_chk2 v53), 8 ∣ (k0_mult1 v53).toNat := fun v53 k0_hw2 => k0_hw2

def k0_off4 (v53 : BitVec 32) (v117 : BitVec 32) : Fin 4 → Nat :=
  let c0_34 : Index := 0#32
  let c198_i32_32 : BitVec 32 := 198#32
  let v118 : BitVec 32 := Scalar.minsi v117 c198_i32_32
  let c0_i32_33 : BitVec 32 := 0#32
  let v119 : BitVec 32 := Scalar.maxsi v118 c0_i32_33
  let v120 : Index := Scalar.indexCast v119
  let c198_i32 : BitVec 32 := 198#32
  let c0_i32_17 : BitVec 32 := 0#32
  let v54 : BitVec 32 := Scalar.maxsi c0_i32_17 v53
  let v55 : BitVec 32 := Scalar.minsi c198_i32 v54
  let c3_i32_18 : BitVec 32 := 3#32
  let v56 : BitVec 32 := Scalar.shrsi v55 c3_i32_18
  let c3_i32_19 : BitVec 32 := 3#32
  let v57 : BitVec 32 := Scalar.shli v56 c3_i32_19
  let c152_i32 : BitVec 32 := 152#32
  let v58 : BitVec 32 := Scalar.minsi v57 c152_i32
  let v59 : BitVec 32 := v58
  let v121 : Index := Scalar.indexCast v59
  let c0_35 : Index := 0#32
  ![0, v120.toNat, v121.toNat, 0]

def k0_chk3 (v53 : BitVec 32) (v117 : BitVec 32) : Prop :=
  (∀ a, (k0_off4 v53 v117) a + S1x2x48x256.size a ≤ S1x200x200x256.size a)
theorem k0_off4_inb : ∀ (v53 : BitVec 32) (v117 : BitVec 32) (k0_hw3 : k0_chk3 v53 v117), ∀ a, (k0_off4 v53 v117) a + S1x2x48x256.size a ≤ S1x200x200x256.size a := fun v53 v117 k0_hw3 => k0_hw3

def k0_off5 (v53 : BitVec 32) (v129 : BitVec 32) : Fin 4 → Nat :=
  let c0_40 : Index := 0#32
  let c198_i32_38 : BitVec 32 := 198#32
  let v130 : BitVec 32 := Scalar.minsi v129 c198_i32_38
  let c0_i32_39 : BitVec 32 := 0#32
  let v131 : BitVec 32 := Scalar.maxsi v130 c0_i32_39
  let v132 : Index := Scalar.indexCast v131
  let c198_i32 : BitVec 32 := 198#32
  let c0_i32_17 : BitVec 32 := 0#32
  let v54 : BitVec 32 := Scalar.maxsi c0_i32_17 v53
  let v55 : BitVec 32 := Scalar.minsi c198_i32 v54
  let c3_i32_18 : BitVec 32 := 3#32
  let v56 : BitVec 32 := Scalar.shrsi v55 c3_i32_18
  let c3_i32_19 : BitVec 32 := 3#32
  let v57 : BitVec 32 := Scalar.shli v56 c3_i32_19
  let c152_i32 : BitVec 32 := 152#32
  let v58 : BitVec 32 := Scalar.minsi v57 c152_i32
  let v59 : BitVec 32 := v58
  let v133 : Index := Scalar.indexCast v59
  let c0_41 : Index := 0#32
  ![0, v132.toNat, v133.toNat, 0]

def k0_chk4 (v53 : BitVec 32) (v129 : BitVec 32) : Prop :=
  (∀ a, (k0_off5 v53 v129) a + S1x2x48x256.size a ≤ S1x200x200x256.size a)
theorem k0_off5_inb : ∀ (v53 : BitVec 32) (v129 : BitVec 32) (k0_hw4 : k0_chk4 v53 v129), ∀ a, (k0_off5 v53 v129) a + S1x2x48x256.size a ≤ S1x200x200x256.size a := fun v53 v129 k0_hw4 => k0_hw4

def k0_off6 (v53 : BitVec 32) (v141 : BitVec 32) : Fin 4 → Nat :=
  let c0_46 : Index := 0#32
  let c198_i32_44 : BitVec 32 := 198#32
  let v142 : BitVec 32 := Scalar.minsi v141 c198_i32_44
  let c0_i32_45 : BitVec 32 := 0#32
  let v143 : BitVec 32 := Scalar.maxsi v142 c0_i32_45
  let v144 : Index := Scalar.indexCast v143
  let c198_i32 : BitVec 32 := 198#32
  let c0_i32_17 : BitVec 32 := 0#32
  let v54 : BitVec 32 := Scalar.maxsi c0_i32_17 v53
  let v55 : BitVec 32 := Scalar.minsi c198_i32 v54
  let c3_i32_18 : BitVec 32 := 3#32
  let v56 : BitVec 32 := Scalar.shrsi v55 c3_i32_18
  let c3_i32_19 : BitVec 32 := 3#32
  let v57 : BitVec 32 := Scalar.shli v56 c3_i32_19
  let c152_i32 : BitVec 32 := 152#32
  let v58 : BitVec 32 := Scalar.minsi v57 c152_i32
  let v59 : BitVec 32 := v58
  let v145 : Index := Scalar.indexCast v59
  let c0_47 : Index := 0#32
  ![0, v144.toNat, v145.toNat, 0]

def k0_chk5 (v53 : BitVec 32) (v141 : BitVec 32) : Prop :=
  (∀ a, (k0_off6 v53 v141) a + S1x2x48x256.size a ≤ S1x200x200x256.size a)
theorem k0_off6_inb : ∀ (v53 : BitVec 32) (v141 : BitVec 32) (k0_hw5 : k0_chk5 v53 v141), ∀ a, (k0_off6 v53 v141) a + S1x2x48x256.size a ≤ S1x200x200x256.size a := fun v53 v141 k0_hw5 => k0_hw5

def k0_off7 (v53 : BitVec 32) (v153 : BitVec 32) : Fin 4 → Nat :=
  let c0_52 : Index := 0#32
  let c198_i32_50 : BitVec 32 := 198#32
  let v154 : BitVec 32 := Scalar.minsi v153 c198_i32_50
  let c0_i32_51 : BitVec 32 := 0#32
  let v155 : BitVec 32 := Scalar.maxsi v154 c0_i32_51
  let v156 : Index := Scalar.indexCast v155
  let c198_i32 : BitVec 32 := 198#32
  let c0_i32_17 : BitVec 32 := 0#32
  let v54 : BitVec 32 := Scalar.maxsi c0_i32_17 v53
  let v55 : BitVec 32 := Scalar.minsi c198_i32 v54
  let c3_i32_18 : BitVec 32 := 3#32
  let v56 : BitVec 32 := Scalar.shrsi v55 c3_i32_18
  let c3_i32_19 : BitVec 32 := 3#32
  let v57 : BitVec 32 := Scalar.shli v56 c3_i32_19
  let c152_i32 : BitVec 32 := 152#32
  let v58 : BitVec 32 := Scalar.minsi v57 c152_i32
  let v59 : BitVec 32 := v58
  let v157 : Index := Scalar.indexCast v59
  let c0_53 : Index := 0#32
  ![0, v156.toNat, v157.toNat, 0]

def k0_chk6 (v53 : BitVec 32) (v153 : BitVec 32) : Prop :=
  (∀ a, (k0_off7 v53 v153) a + S1x2x48x256.size a ≤ S1x200x200x256.size a)
theorem k0_off7_inb : ∀ (v53 : BitVec 32) (v153 : BitVec 32) (k0_hw6 : k0_chk6 v53 v153), ∀ a, (k0_off7 v53 v153) a + S1x2x48x256.size a ≤ S1x200x200x256.size a := fun v53 v153 k0_hw6 => k0_hw6

def k0_off8 (v53 : BitVec 32) (v165 : BitVec 32) : Fin 4 → Nat :=
  let c0_58 : Index := 0#32
  let c198_i32_56 : BitVec 32 := 198#32
  let v166 : BitVec 32 := Scalar.minsi v165 c198_i32_56
  let c0_i32_57 : BitVec 32 := 0#32
  let v167 : BitVec 32 := Scalar.maxsi v166 c0_i32_57
  let v168 : Index := Scalar.indexCast v167
  let c198_i32 : BitVec 32 := 198#32
  let c0_i32_17 : BitVec 32 := 0#32
  let v54 : BitVec 32 := Scalar.maxsi c0_i32_17 v53
  let v55 : BitVec 32 := Scalar.minsi c198_i32 v54
  let c3_i32_18 : BitVec 32 := 3#32
  let v56 : BitVec 32 := Scalar.shrsi v55 c3_i32_18
  let c3_i32_19 : BitVec 32 := 3#32
  let v57 : BitVec 32 := Scalar.shli v56 c3_i32_19
  let c152_i32 : BitVec 32 := 152#32
  let v58 : BitVec 32 := Scalar.minsi v57 c152_i32
  let v59 : BitVec 32 := v58
  let v169 : Index := Scalar.indexCast v59
  let c0_59 : Index := 0#32
  ![0, v168.toNat, v169.toNat, 0]

def k0_chk7 (v53 : BitVec 32) (v165 : BitVec 32) : Prop :=
  (∀ a, (k0_off8 v53 v165) a + S1x2x48x256.size a ≤ S1x200x200x256.size a)
theorem k0_off8_inb : ∀ (v53 : BitVec 32) (v165 : BitVec 32) (k0_hw7 : k0_chk7 v53 v165), ∀ a, (k0_off8 v53 v165) a + S1x2x48x256.size a ≤ S1x200x200x256.size a := fun v53 v165 k0_hw7 => k0_hw7

def k0_off9 (v53 : BitVec 32) (v177 : BitVec 32) : Fin 4 → Nat :=
  let c0_64 : Index := 0#32
  let c198_i32_62 : BitVec 32 := 198#32
  let v178 : BitVec 32 := Scalar.minsi v177 c198_i32_62
  let c0_i32_63 : BitVec 32 := 0#32
  let v179 : BitVec 32 := Scalar.maxsi v178 c0_i32_63
  let v180 : Index := Scalar.indexCast v179
  let c198_i32 : BitVec 32 := 198#32
  let c0_i32_17 : BitVec 32 := 0#32
  let v54 : BitVec 32 := Scalar.maxsi c0_i32_17 v53
  let v55 : BitVec 32 := Scalar.minsi c198_i32 v54
  let c3_i32_18 : BitVec 32 := 3#32
  let v56 : BitVec 32 := Scalar.shrsi v55 c3_i32_18
  let c3_i32_19 : BitVec 32 := 3#32
  let v57 : BitVec 32 := Scalar.shli v56 c3_i32_19
  let c152_i32 : BitVec 32 := 152#32
  let v58 : BitVec 32 := Scalar.minsi v57 c152_i32
  let v59 : BitVec 32 := v58
  let v181 : Index := Scalar.indexCast v59
  let c0_65 : Index := 0#32
  ![0, v180.toNat, v181.toNat, 0]

def k0_chk8 (v53 : BitVec 32) (v177 : BitVec 32) : Prop :=
  (∀ a, (k0_off9 v53 v177) a + S1x2x48x256.size a ≤ S1x200x200x256.size a)
theorem k0_off9_inb : ∀ (v53 : BitVec 32) (v177 : BitVec 32) (k0_hw8 : k0_chk8 v53 v177), ∀ a, (k0_off9 v53 v177) a + S1x2x48x256.size a ≤ S1x200x200x256.size a := fun v53 v177 k0_hw8 => k0_hw8

def k0_off10 (v53 : BitVec 32) (v189 : BitVec 32) : Fin 4 → Nat :=
  let c0_70 : Index := 0#32
  let c198_i32_68 : BitVec 32 := 198#32
  let v190 : BitVec 32 := Scalar.minsi v189 c198_i32_68
  let c0_i32_69 : BitVec 32 := 0#32
  let v191 : BitVec 32 := Scalar.maxsi v190 c0_i32_69
  let v192 : Index := Scalar.indexCast v191
  let c198_i32 : BitVec 32 := 198#32
  let c0_i32_17 : BitVec 32 := 0#32
  let v54 : BitVec 32 := Scalar.maxsi c0_i32_17 v53
  let v55 : BitVec 32 := Scalar.minsi c198_i32 v54
  let c3_i32_18 : BitVec 32 := 3#32
  let v56 : BitVec 32 := Scalar.shrsi v55 c3_i32_18
  let c3_i32_19 : BitVec 32 := 3#32
  let v57 : BitVec 32 := Scalar.shli v56 c3_i32_19
  let c152_i32 : BitVec 32 := 152#32
  let v58 : BitVec 32 := Scalar.minsi v57 c152_i32
  let v59 : BitVec 32 := v58
  let v193 : Index := Scalar.indexCast v59
  let c0_71 : Index := 0#32
  ![0, v192.toNat, v193.toNat, 0]

def k0_chk9 (v53 : BitVec 32) (v189 : BitVec 32) : Prop :=
  (∀ a, (k0_off10 v53 v189) a + S1x2x48x256.size a ≤ S1x200x200x256.size a)
theorem k0_off10_inb : ∀ (v53 : BitVec 32) (v189 : BitVec 32) (k0_hw9 : k0_chk9 v53 v189), ∀ a, (k0_off10 v53 v189) a + S1x2x48x256.size a ≤ S1x200x200x256.size a := fun v53 v189 k0_hw9 => k0_hw9

def k0_off11 (v53 : BitVec 32) (v201 : BitVec 32) : Fin 4 → Nat :=
  let c0_76 : Index := 0#32
  let c198_i32_74 : BitVec 32 := 198#32
  let v202 : BitVec 32 := Scalar.minsi v201 c198_i32_74
  let c0_i32_75 : BitVec 32 := 0#32
  let v203 : BitVec 32 := Scalar.maxsi v202 c0_i32_75
  let v204 : Index := Scalar.indexCast v203
  let c198_i32 : BitVec 32 := 198#32
  let c0_i32_17 : BitVec 32 := 0#32
  let v54 : BitVec 32 := Scalar.maxsi c0_i32_17 v53
  let v55 : BitVec 32 := Scalar.minsi c198_i32 v54
  let c3_i32_18 : BitVec 32 := 3#32
  let v56 : BitVec 32 := Scalar.shrsi v55 c3_i32_18
  let c3_i32_19 : BitVec 32 := 3#32
  let v57 : BitVec 32 := Scalar.shli v56 c3_i32_19
  let c152_i32 : BitVec 32 := 152#32
  let v58 : BitVec 32 := Scalar.minsi v57 c152_i32
  let v59 : BitVec 32 := v58
  let v205 : Index := Scalar.indexCast v59
  let c0_77 : Index := 0#32
  ![0, v204.toNat, v205.toNat, 0]

def k0_chk10 (v53 : BitVec 32) (v201 : BitVec 32) : Prop :=
  (∀ a, (k0_off11 v53 v201) a + S1x2x48x256.size a ≤ S1x200x200x256.size a)
theorem k0_off11_inb : ∀ (v53 : BitVec 32) (v201 : BitVec 32) (k0_hw10 : k0_chk10 v53 v201), ∀ a, (k0_off11 v53 v201) a + S1x2x48x256.size a ≤ S1x200x200x256.size a := fun v53 v201 k0_hw10 => k0_hw10

def k0_off12 (i : grid0.Coords) (k0_t1 : Fin k0_t1_loop.trips) : Fin 1 → Nat :=
  let arg0 : BitVec 32 := BitVec.ofNat 32 (i 0).val
  let c128_i32_80 : BitVec 32 := 128#32
  let v212 : BitVec 32 := Scalar.muli arg0 c128_i32_80
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c1_i32_79 : BitVec 32 := 1#32
  let v211 : BitVec 32 := Scalar.addi v15 c1_i32_79
  let v213 : BitVec 32 := Scalar.addi v212 v211
  let v214 : Index := Scalar.indexCast v213
  ![v214.toNat]
def k0_off13 (v215 : BitVec 32) (c1_i32_84 : BitVec 32) : Fin 1 → Nat :=
  let c0_i32_82 : BitVec 32 := 0#32
  let v219 : BitVec 32 := Scalar.maxsi v215 c0_i32_82
  let c5_i32_83 : BitVec 32 := 5#32
  let v220 : BitVec 32 := Scalar.muli v219 c5_i32_83
  let v221 : BitVec 32 := Scalar.addi v220 c1_i32_84
  let v222 : Index := Scalar.indexCast v221
  ![v222.toNat]

def k0_chk11 (v215 : BitVec 32) : Prop :=
  (∀ (r : Fin 4), ∀ a, (k0_off13 v215 (BitVec.ofNat 32 (1 + r.val))) a + S1.size a ≤ S5120.size a)
theorem k0_off13_inb : ∀ (v215 : BitVec 32) (k0_hw11 : k0_chk11 v215), ∀ (r : Fin 4), ∀ a, (k0_off13 v215 (BitVec.ofNat 32 (1 + r.val))) a + S1.size a ≤ S5120.size a := fun v215 k0_hw11 r => k0_hw11 r

def k0_mult2 (v248 : BitVec 32) : BitVec 32 :=
  let c198_i32_98 : BitVec 32 := 198#32
  let c0_i32_97 : BitVec 32 := 0#32
  let v249 : BitVec 32 := Scalar.maxsi c0_i32_97 v248
  let v250 : BitVec 32 := Scalar.minsi c198_i32_98 v249
  let c3_i32_99 : BitVec 32 := 3#32
  let v251 : BitVec 32 := Scalar.shrsi v250 c3_i32_99
  let c3_i32_100 : BitVec 32 := 3#32
  let v252 : BitVec 32 := Scalar.shli v251 c3_i32_100
  let c152_i32_101 : BitVec 32 := 152#32
  let v253 : BitVec 32 := Scalar.minsi v252 c152_i32_101
  v253

def k0_chk12 (v248 : BitVec 32) : Prop :=
  (8 ∣ (k0_mult2 v248).toNat)
theorem k0_mult2_dvd : ∀ (v248 : BitVec 32) (k0_hw12 : k0_chk12 v248), 8 ∣ (k0_mult2 v248).toNat := fun v248 k0_hw12 => k0_hw12

def k0_off14 (v248 : BitVec 32) (v312 : BitVec 32) : Fin 4 → Nat :=
  let c0_116 : Index := 0#32
  let c198_i32_114 : BitVec 32 := 198#32
  let v313 : BitVec 32 := Scalar.minsi v312 c198_i32_114
  let c0_i32_115 : BitVec 32 := 0#32
  let v314 : BitVec 32 := Scalar.maxsi v313 c0_i32_115
  let v315 : Index := Scalar.indexCast v314
  let c198_i32_98 : BitVec 32 := 198#32
  let c0_i32_97 : BitVec 32 := 0#32
  let v249 : BitVec 32 := Scalar.maxsi c0_i32_97 v248
  let v250 : BitVec 32 := Scalar.minsi c198_i32_98 v249
  let c3_i32_99 : BitVec 32 := 3#32
  let v251 : BitVec 32 := Scalar.shrsi v250 c3_i32_99
  let c3_i32_100 : BitVec 32 := 3#32
  let v252 : BitVec 32 := Scalar.shli v251 c3_i32_100
  let c152_i32_101 : BitVec 32 := 152#32
  let v253 : BitVec 32 := Scalar.minsi v252 c152_i32_101
  let v254 : BitVec 32 := v253
  let v316 : Index := Scalar.indexCast v254
  let c0_117 : Index := 0#32
  ![0, v315.toNat, v316.toNat, 0]

def k0_chk13 (v248 : BitVec 32) (v312 : BitVec 32) : Prop :=
  (∀ a, (k0_off14 v248 v312) a + S1x2x48x256.size a ≤ S1x200x200x256.size a)
theorem k0_off14_inb : ∀ (v248 : BitVec 32) (v312 : BitVec 32) (k0_hw13 : k0_chk13 v248 v312), ∀ a, (k0_off14 v248 v312) a + S1x2x48x256.size a ≤ S1x200x200x256.size a := fun v248 v312 k0_hw13 => k0_hw13

def k0_off15 (v248 : BitVec 32) (v324 : BitVec 32) : Fin 4 → Nat :=
  let c0_122 : Index := 0#32
  let c198_i32_120 : BitVec 32 := 198#32
  let v325 : BitVec 32 := Scalar.minsi v324 c198_i32_120
  let c0_i32_121 : BitVec 32 := 0#32
  let v326 : BitVec 32 := Scalar.maxsi v325 c0_i32_121
  let v327 : Index := Scalar.indexCast v326
  let c198_i32_98 : BitVec 32 := 198#32
  let c0_i32_97 : BitVec 32 := 0#32
  let v249 : BitVec 32 := Scalar.maxsi c0_i32_97 v248
  let v250 : BitVec 32 := Scalar.minsi c198_i32_98 v249
  let c3_i32_99 : BitVec 32 := 3#32
  let v251 : BitVec 32 := Scalar.shrsi v250 c3_i32_99
  let c3_i32_100 : BitVec 32 := 3#32
  let v252 : BitVec 32 := Scalar.shli v251 c3_i32_100
  let c152_i32_101 : BitVec 32 := 152#32
  let v253 : BitVec 32 := Scalar.minsi v252 c152_i32_101
  let v254 : BitVec 32 := v253
  let v328 : Index := Scalar.indexCast v254
  let c0_123 : Index := 0#32
  ![0, v327.toNat, v328.toNat, 0]

def k0_chk14 (v248 : BitVec 32) (v324 : BitVec 32) : Prop :=
  (∀ a, (k0_off15 v248 v324) a + S1x2x48x256.size a ≤ S1x200x200x256.size a)
theorem k0_off15_inb : ∀ (v248 : BitVec 32) (v324 : BitVec 32) (k0_hw14 : k0_chk14 v248 v324), ∀ a, (k0_off15 v248 v324) a + S1x2x48x256.size a ≤ S1x200x200x256.size a := fun v248 v324 k0_hw14 => k0_hw14

def k0_off16 (v248 : BitVec 32) (v336 : BitVec 32) : Fin 4 → Nat :=
  let c0_128 : Index := 0#32
  let c198_i32_126 : BitVec 32 := 198#32
  let v337 : BitVec 32 := Scalar.minsi v336 c198_i32_126
  let c0_i32_127 : BitVec 32 := 0#32
  let v338 : BitVec 32 := Scalar.maxsi v337 c0_i32_127
  let v339 : Index := Scalar.indexCast v338
  let c198_i32_98 : BitVec 32 := 198#32
  let c0_i32_97 : BitVec 32 := 0#32
  let v249 : BitVec 32 := Scalar.maxsi c0_i32_97 v248
  let v250 : BitVec 32 := Scalar.minsi c198_i32_98 v249
  let c3_i32_99 : BitVec 32 := 3#32
  let v251 : BitVec 32 := Scalar.shrsi v250 c3_i32_99
  let c3_i32_100 : BitVec 32 := 3#32
  let v252 : BitVec 32 := Scalar.shli v251 c3_i32_100
  let c152_i32_101 : BitVec 32 := 152#32
  let v253 : BitVec 32 := Scalar.minsi v252 c152_i32_101
  let v254 : BitVec 32 := v253
  let v340 : Index := Scalar.indexCast v254
  let c0_129 : Index := 0#32
  ![0, v339.toNat, v340.toNat, 0]

def k0_chk15 (v248 : BitVec 32) (v336 : BitVec 32) : Prop :=
  (∀ a, (k0_off16 v248 v336) a + S1x2x48x256.size a ≤ S1x200x200x256.size a)
theorem k0_off16_inb : ∀ (v248 : BitVec 32) (v336 : BitVec 32) (k0_hw15 : k0_chk15 v248 v336), ∀ a, (k0_off16 v248 v336) a + S1x2x48x256.size a ≤ S1x200x200x256.size a := fun v248 v336 k0_hw15 => k0_hw15

def k0_off17 (v248 : BitVec 32) (v348 : BitVec 32) : Fin 4 → Nat :=
  let c0_134 : Index := 0#32
  let c198_i32_132 : BitVec 32 := 198#32
  let v349 : BitVec 32 := Scalar.minsi v348 c198_i32_132
  let c0_i32_133 : BitVec 32 := 0#32
  let v350 : BitVec 32 := Scalar.maxsi v349 c0_i32_133
  let v351 : Index := Scalar.indexCast v350
  let c198_i32_98 : BitVec 32 := 198#32
  let c0_i32_97 : BitVec 32 := 0#32
  let v249 : BitVec 32 := Scalar.maxsi c0_i32_97 v248
  let v250 : BitVec 32 := Scalar.minsi c198_i32_98 v249
  let c3_i32_99 : BitVec 32 := 3#32
  let v251 : BitVec 32 := Scalar.shrsi v250 c3_i32_99
  let c3_i32_100 : BitVec 32 := 3#32
  let v252 : BitVec 32 := Scalar.shli v251 c3_i32_100
  let c152_i32_101 : BitVec 32 := 152#32
  let v253 : BitVec 32 := Scalar.minsi v252 c152_i32_101
  let v254 : BitVec 32 := v253
  let v352 : Index := Scalar.indexCast v254
  let c0_135 : Index := 0#32
  ![0, v351.toNat, v352.toNat, 0]

def k0_chk16 (v248 : BitVec 32) (v348 : BitVec 32) : Prop :=
  (∀ a, (k0_off17 v248 v348) a + S1x2x48x256.size a ≤ S1x200x200x256.size a)
theorem k0_off17_inb : ∀ (v248 : BitVec 32) (v348 : BitVec 32) (k0_hw16 : k0_chk16 v248 v348), ∀ a, (k0_off17 v248 v348) a + S1x2x48x256.size a ≤ S1x200x200x256.size a := fun v248 v348 k0_hw16 => k0_hw16

def k0_off18 (v248 : BitVec 32) (v360 : BitVec 32) : Fin 4 → Nat :=
  let c0_140 : Index := 0#32
  let c198_i32_138 : BitVec 32 := 198#32
  let v361 : BitVec 32 := Scalar.minsi v360 c198_i32_138
  let c0_i32_139 : BitVec 32 := 0#32
  let v362 : BitVec 32 := Scalar.maxsi v361 c0_i32_139
  let v363 : Index := Scalar.indexCast v362
  let c198_i32_98 : BitVec 32 := 198#32
  let c0_i32_97 : BitVec 32 := 0#32
  let v249 : BitVec 32 := Scalar.maxsi c0_i32_97 v248
  let v250 : BitVec 32 := Scalar.minsi c198_i32_98 v249
  let c3_i32_99 : BitVec 32 := 3#32
  let v251 : BitVec 32 := Scalar.shrsi v250 c3_i32_99
  let c3_i32_100 : BitVec 32 := 3#32
  let v252 : BitVec 32 := Scalar.shli v251 c3_i32_100
  let c152_i32_101 : BitVec 32 := 152#32
  let v253 : BitVec 32 := Scalar.minsi v252 c152_i32_101
  let v254 : BitVec 32 := v253
  let v364 : Index := Scalar.indexCast v254
  let c0_141 : Index := 0#32
  ![0, v363.toNat, v364.toNat, 0]

def k0_chk17 (v248 : BitVec 32) (v360 : BitVec 32) : Prop :=
  (∀ a, (k0_off18 v248 v360) a + S1x2x48x256.size a ≤ S1x200x200x256.size a)
theorem k0_off18_inb : ∀ (v248 : BitVec 32) (v360 : BitVec 32) (k0_hw17 : k0_chk17 v248 v360), ∀ a, (k0_off18 v248 v360) a + S1x2x48x256.size a ≤ S1x200x200x256.size a := fun v248 v360 k0_hw17 => k0_hw17

def k0_off19 (v248 : BitVec 32) (v372 : BitVec 32) : Fin 4 → Nat :=
  let c0_146 : Index := 0#32
  let c198_i32_144 : BitVec 32 := 198#32
  let v373 : BitVec 32 := Scalar.minsi v372 c198_i32_144
  let c0_i32_145 : BitVec 32 := 0#32
  let v374 : BitVec 32 := Scalar.maxsi v373 c0_i32_145
  let v375 : Index := Scalar.indexCast v374
  let c198_i32_98 : BitVec 32 := 198#32
  let c0_i32_97 : BitVec 32 := 0#32
  let v249 : BitVec 32 := Scalar.maxsi c0_i32_97 v248
  let v250 : BitVec 32 := Scalar.minsi c198_i32_98 v249
  let c3_i32_99 : BitVec 32 := 3#32
  let v251 : BitVec 32 := Scalar.shrsi v250 c3_i32_99
  let c3_i32_100 : BitVec 32 := 3#32
  let v252 : BitVec 32 := Scalar.shli v251 c3_i32_100
  let c152_i32_101 : BitVec 32 := 152#32
  let v253 : BitVec 32 := Scalar.minsi v252 c152_i32_101
  let v254 : BitVec 32 := v253
  let v376 : Index := Scalar.indexCast v254
  let c0_147 : Index := 0#32
  ![0, v375.toNat, v376.toNat, 0]

def k0_chk18 (v248 : BitVec 32) (v372 : BitVec 32) : Prop :=
  (∀ a, (k0_off19 v248 v372) a + S1x2x48x256.size a ≤ S1x200x200x256.size a)
theorem k0_off19_inb : ∀ (v248 : BitVec 32) (v372 : BitVec 32) (k0_hw18 : k0_chk18 v248 v372), ∀ a, (k0_off19 v248 v372) a + S1x2x48x256.size a ≤ S1x200x200x256.size a := fun v248 v372 k0_hw18 => k0_hw18

def k0_off20 (v248 : BitVec 32) (v384 : BitVec 32) : Fin 4 → Nat :=
  let c0_152 : Index := 0#32
  let c198_i32_150 : BitVec 32 := 198#32
  let v385 : BitVec 32 := Scalar.minsi v384 c198_i32_150
  let c0_i32_151 : BitVec 32 := 0#32
  let v386 : BitVec 32 := Scalar.maxsi v385 c0_i32_151
  let v387 : Index := Scalar.indexCast v386
  let c198_i32_98 : BitVec 32 := 198#32
  let c0_i32_97 : BitVec 32 := 0#32
  let v249 : BitVec 32 := Scalar.maxsi c0_i32_97 v248
  let v250 : BitVec 32 := Scalar.minsi c198_i32_98 v249
  let c3_i32_99 : BitVec 32 := 3#32
  let v251 : BitVec 32 := Scalar.shrsi v250 c3_i32_99
  let c3_i32_100 : BitVec 32 := 3#32
  let v252 : BitVec 32 := Scalar.shli v251 c3_i32_100
  let c152_i32_101 : BitVec 32 := 152#32
  let v253 : BitVec 32 := Scalar.minsi v252 c152_i32_101
  let v254 : BitVec 32 := v253
  let v388 : Index := Scalar.indexCast v254
  let c0_153 : Index := 0#32
  ![0, v387.toNat, v388.toNat, 0]

def k0_chk19 (v248 : BitVec 32) (v384 : BitVec 32) : Prop :=
  (∀ a, (k0_off20 v248 v384) a + S1x2x48x256.size a ≤ S1x200x200x256.size a)
theorem k0_off20_inb : ∀ (v248 : BitVec 32) (v384 : BitVec 32) (k0_hw19 : k0_chk19 v248 v384), ∀ a, (k0_off20 v248 v384) a + S1x2x48x256.size a ≤ S1x200x200x256.size a := fun v248 v384 k0_hw19 => k0_hw19

def k0_off21 (v248 : BitVec 32) (v396 : BitVec 32) : Fin 4 → Nat :=
  let c0_158 : Index := 0#32
  let c198_i32_156 : BitVec 32 := 198#32
  let v397 : BitVec 32 := Scalar.minsi v396 c198_i32_156
  let c0_i32_157 : BitVec 32 := 0#32
  let v398 : BitVec 32 := Scalar.maxsi v397 c0_i32_157
  let v399 : Index := Scalar.indexCast v398
  let c198_i32_98 : BitVec 32 := 198#32
  let c0_i32_97 : BitVec 32 := 0#32
  let v249 : BitVec 32 := Scalar.maxsi c0_i32_97 v248
  let v250 : BitVec 32 := Scalar.minsi c198_i32_98 v249
  let c3_i32_99 : BitVec 32 := 3#32
  let v251 : BitVec 32 := Scalar.shrsi v250 c3_i32_99
  let c3_i32_100 : BitVec 32 := 3#32
  let v252 : BitVec 32 := Scalar.shli v251 c3_i32_100
  let c152_i32_101 : BitVec 32 := 152#32
  let v253 : BitVec 32 := Scalar.minsi v252 c152_i32_101
  let v254 : BitVec 32 := v253
  let v400 : Index := Scalar.indexCast v254
  let c0_159 : Index := 0#32
  ![0, v399.toNat, v400.toNat, 0]

def k0_chk20 (v248 : BitVec 32) (v396 : BitVec 32) : Prop :=
  (∀ a, (k0_off21 v248 v396) a + S1x2x48x256.size a ≤ S1x200x200x256.size a)
theorem k0_off21_inb : ∀ (v248 : BitVec 32) (v396 : BitVec 32) (k0_hw20 : k0_chk20 v248 v396), ∀ a, (k0_off21 v248 v396) a + S1x2x48x256.size a ≤ S1x200x200x256.size a := fun v248 v396 k0_hw20 => k0_hw20

def k0_off22 (i : grid0.Coords) (k0_t1 : Fin k0_t1_loop.trips) : Fin 1 → Nat :=
  let arg0 : BitVec 32 := BitVec.ofNat 32 (i 0).val
  let c128_i32_162 : BitVec 32 := 128#32
  let v407 : BitVec 32 := Scalar.muli arg0 c128_i32_162
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c2_i32_161 : BitVec 32 := 2#32
  let v406 : BitVec 32 := Scalar.addi v15 c2_i32_161
  let v408 : BitVec 32 := Scalar.addi v407 v406
  let v409 : Index := Scalar.indexCast v408
  ![v409.toNat]
def k0_off23 (v410 : BitVec 32) (c1_i32_166 : BitVec 32) : Fin 1 → Nat :=
  let c0_i32_164 : BitVec 32 := 0#32
  let v414 : BitVec 32 := Scalar.maxsi v410 c0_i32_164
  let c5_i32_165 : BitVec 32 := 5#32
  let v415 : BitVec 32 := Scalar.muli v414 c5_i32_165
  let v416 : BitVec 32 := Scalar.addi v415 c1_i32_166
  let v417 : Index := Scalar.indexCast v416
  ![v417.toNat]

def k0_chk21 (v410 : BitVec 32) : Prop :=
  (∀ (r : Fin 4), ∀ a, (k0_off23 v410 (BitVec.ofNat 32 (1 + r.val))) a + S1.size a ≤ S5120.size a)
theorem k0_off23_inb : ∀ (v410 : BitVec 32) (k0_hw21 : k0_chk21 v410), ∀ (r : Fin 4), ∀ a, (k0_off23 v410 (BitVec.ofNat 32 (1 + r.val))) a + S1.size a ≤ S5120.size a := fun v410 k0_hw21 r => k0_hw21 r

def k0_mult3 (v443 : BitVec 32) : BitVec 32 :=
  let c198_i32_180 : BitVec 32 := 198#32
  let c0_i32_179 : BitVec 32 := 0#32
  let v444 : BitVec 32 := Scalar.maxsi c0_i32_179 v443
  let v445 : BitVec 32 := Scalar.minsi c198_i32_180 v444
  let c3_i32_181 : BitVec 32 := 3#32
  let v446 : BitVec 32 := Scalar.shrsi v445 c3_i32_181
  let c3_i32_182 : BitVec 32 := 3#32
  let v447 : BitVec 32 := Scalar.shli v446 c3_i32_182
  let c152_i32_183 : BitVec 32 := 152#32
  let v448 : BitVec 32 := Scalar.minsi v447 c152_i32_183
  v448

def k0_chk22 (v443 : BitVec 32) : Prop :=
  (8 ∣ (k0_mult3 v443).toNat)
theorem k0_mult3_dvd : ∀ (v443 : BitVec 32) (k0_hw22 : k0_chk22 v443), 8 ∣ (k0_mult3 v443).toNat := fun v443 k0_hw22 => k0_hw22

def k0_off24 (v443 : BitVec 32) (v507 : BitVec 32) : Fin 4 → Nat :=
  let c0_198 : Index := 0#32
  let c198_i32_196 : BitVec 32 := 198#32
  let v508 : BitVec 32 := Scalar.minsi v507 c198_i32_196
  let c0_i32_197 : BitVec 32 := 0#32
  let v509 : BitVec 32 := Scalar.maxsi v508 c0_i32_197
  let v510 : Index := Scalar.indexCast v509
  let c198_i32_180 : BitVec 32 := 198#32
  let c0_i32_179 : BitVec 32 := 0#32
  let v444 : BitVec 32 := Scalar.maxsi c0_i32_179 v443
  let v445 : BitVec 32 := Scalar.minsi c198_i32_180 v444
  let c3_i32_181 : BitVec 32 := 3#32
  let v446 : BitVec 32 := Scalar.shrsi v445 c3_i32_181
  let c3_i32_182 : BitVec 32 := 3#32
  let v447 : BitVec 32 := Scalar.shli v446 c3_i32_182
  let c152_i32_183 : BitVec 32 := 152#32
  let v448 : BitVec 32 := Scalar.minsi v447 c152_i32_183
  let v449 : BitVec 32 := v448
  let v511 : Index := Scalar.indexCast v449
  let c0_199 : Index := 0#32
  ![0, v510.toNat, v511.toNat, 0]

def k0_chk23 (v443 : BitVec 32) (v507 : BitVec 32) : Prop :=
  (∀ a, (k0_off24 v443 v507) a + S1x2x48x256.size a ≤ S1x200x200x256.size a)
theorem k0_off24_inb : ∀ (v443 : BitVec 32) (v507 : BitVec 32) (k0_hw23 : k0_chk23 v443 v507), ∀ a, (k0_off24 v443 v507) a + S1x2x48x256.size a ≤ S1x200x200x256.size a := fun v443 v507 k0_hw23 => k0_hw23

def k0_off25 (v443 : BitVec 32) (v519 : BitVec 32) : Fin 4 → Nat :=
  let c0_204 : Index := 0#32
  let c198_i32_202 : BitVec 32 := 198#32
  let v520 : BitVec 32 := Scalar.minsi v519 c198_i32_202
  let c0_i32_203 : BitVec 32 := 0#32
  let v521 : BitVec 32 := Scalar.maxsi v520 c0_i32_203
  let v522 : Index := Scalar.indexCast v521
  let c198_i32_180 : BitVec 32 := 198#32
  let c0_i32_179 : BitVec 32 := 0#32
  let v444 : BitVec 32 := Scalar.maxsi c0_i32_179 v443
  let v445 : BitVec 32 := Scalar.minsi c198_i32_180 v444
  let c3_i32_181 : BitVec 32 := 3#32
  let v446 : BitVec 32 := Scalar.shrsi v445 c3_i32_181
  let c3_i32_182 : BitVec 32 := 3#32
  let v447 : BitVec 32 := Scalar.shli v446 c3_i32_182
  let c152_i32_183 : BitVec 32 := 152#32
  let v448 : BitVec 32 := Scalar.minsi v447 c152_i32_183
  let v449 : BitVec 32 := v448
  let v523 : Index := Scalar.indexCast v449
  let c0_205 : Index := 0#32
  ![0, v522.toNat, v523.toNat, 0]

def k0_chk24 (v443 : BitVec 32) (v519 : BitVec 32) : Prop :=
  (∀ a, (k0_off25 v443 v519) a + S1x2x48x256.size a ≤ S1x200x200x256.size a)
theorem k0_off25_inb : ∀ (v443 : BitVec 32) (v519 : BitVec 32) (k0_hw24 : k0_chk24 v443 v519), ∀ a, (k0_off25 v443 v519) a + S1x2x48x256.size a ≤ S1x200x200x256.size a := fun v443 v519 k0_hw24 => k0_hw24

def k0_off26 (v443 : BitVec 32) (v531 : BitVec 32) : Fin 4 → Nat :=
  let c0_210 : Index := 0#32
  let c198_i32_208 : BitVec 32 := 198#32
  let v532 : BitVec 32 := Scalar.minsi v531 c198_i32_208
  let c0_i32_209 : BitVec 32 := 0#32
  let v533 : BitVec 32 := Scalar.maxsi v532 c0_i32_209
  let v534 : Index := Scalar.indexCast v533
  let c198_i32_180 : BitVec 32 := 198#32
  let c0_i32_179 : BitVec 32 := 0#32
  let v444 : BitVec 32 := Scalar.maxsi c0_i32_179 v443
  let v445 : BitVec 32 := Scalar.minsi c198_i32_180 v444
  let c3_i32_181 : BitVec 32 := 3#32
  let v446 : BitVec 32 := Scalar.shrsi v445 c3_i32_181
  let c3_i32_182 : BitVec 32 := 3#32
  let v447 : BitVec 32 := Scalar.shli v446 c3_i32_182
  let c152_i32_183 : BitVec 32 := 152#32
  let v448 : BitVec 32 := Scalar.minsi v447 c152_i32_183
  let v449 : BitVec 32 := v448
  let v535 : Index := Scalar.indexCast v449
  let c0_211 : Index := 0#32
  ![0, v534.toNat, v535.toNat, 0]

def k0_chk25 (v443 : BitVec 32) (v531 : BitVec 32) : Prop :=
  (∀ a, (k0_off26 v443 v531) a + S1x2x48x256.size a ≤ S1x200x200x256.size a)
theorem k0_off26_inb : ∀ (v443 : BitVec 32) (v531 : BitVec 32) (k0_hw25 : k0_chk25 v443 v531), ∀ a, (k0_off26 v443 v531) a + S1x2x48x256.size a ≤ S1x200x200x256.size a := fun v443 v531 k0_hw25 => k0_hw25

def k0_off27 (v443 : BitVec 32) (v543 : BitVec 32) : Fin 4 → Nat :=
  let c0_216 : Index := 0#32
  let c198_i32_214 : BitVec 32 := 198#32
  let v544 : BitVec 32 := Scalar.minsi v543 c198_i32_214
  let c0_i32_215 : BitVec 32 := 0#32
  let v545 : BitVec 32 := Scalar.maxsi v544 c0_i32_215
  let v546 : Index := Scalar.indexCast v545
  let c198_i32_180 : BitVec 32 := 198#32
  let c0_i32_179 : BitVec 32 := 0#32
  let v444 : BitVec 32 := Scalar.maxsi c0_i32_179 v443
  let v445 : BitVec 32 := Scalar.minsi c198_i32_180 v444
  let c3_i32_181 : BitVec 32 := 3#32
  let v446 : BitVec 32 := Scalar.shrsi v445 c3_i32_181
  let c3_i32_182 : BitVec 32 := 3#32
  let v447 : BitVec 32 := Scalar.shli v446 c3_i32_182
  let c152_i32_183 : BitVec 32 := 152#32
  let v448 : BitVec 32 := Scalar.minsi v447 c152_i32_183
  let v449 : BitVec 32 := v448
  let v547 : Index := Scalar.indexCast v449
  let c0_217 : Index := 0#32
  ![0, v546.toNat, v547.toNat, 0]

def k0_chk26 (v443 : BitVec 32) (v543 : BitVec 32) : Prop :=
  (∀ a, (k0_off27 v443 v543) a + S1x2x48x256.size a ≤ S1x200x200x256.size a)
theorem k0_off27_inb : ∀ (v443 : BitVec 32) (v543 : BitVec 32) (k0_hw26 : k0_chk26 v443 v543), ∀ a, (k0_off27 v443 v543) a + S1x2x48x256.size a ≤ S1x200x200x256.size a := fun v443 v543 k0_hw26 => k0_hw26

def k0_off28 (v443 : BitVec 32) (v555 : BitVec 32) : Fin 4 → Nat :=
  let c0_222 : Index := 0#32
  let c198_i32_220 : BitVec 32 := 198#32
  let v556 : BitVec 32 := Scalar.minsi v555 c198_i32_220
  let c0_i32_221 : BitVec 32 := 0#32
  let v557 : BitVec 32 := Scalar.maxsi v556 c0_i32_221
  let v558 : Index := Scalar.indexCast v557
  let c198_i32_180 : BitVec 32 := 198#32
  let c0_i32_179 : BitVec 32 := 0#32
  let v444 : BitVec 32 := Scalar.maxsi c0_i32_179 v443
  let v445 : BitVec 32 := Scalar.minsi c198_i32_180 v444
  let c3_i32_181 : BitVec 32 := 3#32
  let v446 : BitVec 32 := Scalar.shrsi v445 c3_i32_181
  let c3_i32_182 : BitVec 32 := 3#32
  let v447 : BitVec 32 := Scalar.shli v446 c3_i32_182
  let c152_i32_183 : BitVec 32 := 152#32
  let v448 : BitVec 32 := Scalar.minsi v447 c152_i32_183
  let v449 : BitVec 32 := v448
  let v559 : Index := Scalar.indexCast v449
  let c0_223 : Index := 0#32
  ![0, v558.toNat, v559.toNat, 0]

def k0_chk27 (v443 : BitVec 32) (v555 : BitVec 32) : Prop :=
  (∀ a, (k0_off28 v443 v555) a + S1x2x48x256.size a ≤ S1x200x200x256.size a)
theorem k0_off28_inb : ∀ (v443 : BitVec 32) (v555 : BitVec 32) (k0_hw27 : k0_chk27 v443 v555), ∀ a, (k0_off28 v443 v555) a + S1x2x48x256.size a ≤ S1x200x200x256.size a := fun v443 v555 k0_hw27 => k0_hw27

def k0_off29 (v443 : BitVec 32) (v567 : BitVec 32) : Fin 4 → Nat :=
  let c0_228 : Index := 0#32
  let c198_i32_226 : BitVec 32 := 198#32
  let v568 : BitVec 32 := Scalar.minsi v567 c198_i32_226
  let c0_i32_227 : BitVec 32 := 0#32
  let v569 : BitVec 32 := Scalar.maxsi v568 c0_i32_227
  let v570 : Index := Scalar.indexCast v569
  let c198_i32_180 : BitVec 32 := 198#32
  let c0_i32_179 : BitVec 32 := 0#32
  let v444 : BitVec 32 := Scalar.maxsi c0_i32_179 v443
  let v445 : BitVec 32 := Scalar.minsi c198_i32_180 v444
  let c3_i32_181 : BitVec 32 := 3#32
  let v446 : BitVec 32 := Scalar.shrsi v445 c3_i32_181
  let c3_i32_182 : BitVec 32 := 3#32
  let v447 : BitVec 32 := Scalar.shli v446 c3_i32_182
  let c152_i32_183 : BitVec 32 := 152#32
  let v448 : BitVec 32 := Scalar.minsi v447 c152_i32_183
  let v449 : BitVec 32 := v448
  let v571 : Index := Scalar.indexCast v449
  let c0_229 : Index := 0#32
  ![0, v570.toNat, v571.toNat, 0]

def k0_chk28 (v443 : BitVec 32) (v567 : BitVec 32) : Prop :=
  (∀ a, (k0_off29 v443 v567) a + S1x2x48x256.size a ≤ S1x200x200x256.size a)
theorem k0_off29_inb : ∀ (v443 : BitVec 32) (v567 : BitVec 32) (k0_hw28 : k0_chk28 v443 v567), ∀ a, (k0_off29 v443 v567) a + S1x2x48x256.size a ≤ S1x200x200x256.size a := fun v443 v567 k0_hw28 => k0_hw28

def k0_off30 (v443 : BitVec 32) (v579 : BitVec 32) : Fin 4 → Nat :=
  let c0_234 : Index := 0#32
  let c198_i32_232 : BitVec 32 := 198#32
  let v580 : BitVec 32 := Scalar.minsi v579 c198_i32_232
  let c0_i32_233 : BitVec 32 := 0#32
  let v581 : BitVec 32 := Scalar.maxsi v580 c0_i32_233
  let v582 : Index := Scalar.indexCast v581
  let c198_i32_180 : BitVec 32 := 198#32
  let c0_i32_179 : BitVec 32 := 0#32
  let v444 : BitVec 32 := Scalar.maxsi c0_i32_179 v443
  let v445 : BitVec 32 := Scalar.minsi c198_i32_180 v444
  let c3_i32_181 : BitVec 32 := 3#32
  let v446 : BitVec 32 := Scalar.shrsi v445 c3_i32_181
  let c3_i32_182 : BitVec 32 := 3#32
  let v447 : BitVec 32 := Scalar.shli v446 c3_i32_182
  let c152_i32_183 : BitVec 32 := 152#32
  let v448 : BitVec 32 := Scalar.minsi v447 c152_i32_183
  let v449 : BitVec 32 := v448
  let v583 : Index := Scalar.indexCast v449
  let c0_235 : Index := 0#32
  ![0, v582.toNat, v583.toNat, 0]

def k0_chk29 (v443 : BitVec 32) (v579 : BitVec 32) : Prop :=
  (∀ a, (k0_off30 v443 v579) a + S1x2x48x256.size a ≤ S1x200x200x256.size a)
theorem k0_off30_inb : ∀ (v443 : BitVec 32) (v579 : BitVec 32) (k0_hw29 : k0_chk29 v443 v579), ∀ a, (k0_off30 v443 v579) a + S1x2x48x256.size a ≤ S1x200x200x256.size a := fun v443 v579 k0_hw29 => k0_hw29

def k0_off31 (v443 : BitVec 32) (v591 : BitVec 32) : Fin 4 → Nat :=
  let c0_240 : Index := 0#32
  let c198_i32_238 : BitVec 32 := 198#32
  let v592 : BitVec 32 := Scalar.minsi v591 c198_i32_238
  let c0_i32_239 : BitVec 32 := 0#32
  let v593 : BitVec 32 := Scalar.maxsi v592 c0_i32_239
  let v594 : Index := Scalar.indexCast v593
  let c198_i32_180 : BitVec 32 := 198#32
  let c0_i32_179 : BitVec 32 := 0#32
  let v444 : BitVec 32 := Scalar.maxsi c0_i32_179 v443
  let v445 : BitVec 32 := Scalar.minsi c198_i32_180 v444
  let c3_i32_181 : BitVec 32 := 3#32
  let v446 : BitVec 32 := Scalar.shrsi v445 c3_i32_181
  let c3_i32_182 : BitVec 32 := 3#32
  let v447 : BitVec 32 := Scalar.shli v446 c3_i32_182
  let c152_i32_183 : BitVec 32 := 152#32
  let v448 : BitVec 32 := Scalar.minsi v447 c152_i32_183
  let v449 : BitVec 32 := v448
  let v595 : Index := Scalar.indexCast v449
  let c0_241 : Index := 0#32
  ![0, v594.toNat, v595.toNat, 0]

def k0_chk30 (v443 : BitVec 32) (v591 : BitVec 32) : Prop :=
  (∀ a, (k0_off31 v443 v591) a + S1x2x48x256.size a ≤ S1x200x200x256.size a)
theorem k0_off31_inb : ∀ (v443 : BitVec 32) (v591 : BitVec 32) (k0_hw30 : k0_chk30 v443 v591), ∀ a, (k0_off31 v443 v591) a + S1x2x48x256.size a ≤ S1x200x200x256.size a := fun v443 v591 k0_hw30 => k0_hw30

def k0_off32 (i : grid0.Coords) (k0_t1 : Fin k0_t1_loop.trips) : Fin 1 → Nat :=
  let arg0 : BitVec 32 := BitVec.ofNat 32 (i 0).val
  let c128_i32_244 : BitVec 32 := 128#32
  let v602 : BitVec 32 := Scalar.muli arg0 c128_i32_244
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c3_i32_243 : BitVec 32 := 3#32
  let v601 : BitVec 32 := Scalar.addi v15 c3_i32_243
  let v603 : BitVec 32 := Scalar.addi v602 v601
  let v604 : Index := Scalar.indexCast v603
  ![v604.toNat]
def k0_off33 (v605 : BitVec 32) (c1_i32_248 : BitVec 32) : Fin 1 → Nat :=
  let c0_i32_246 : BitVec 32 := 0#32
  let v609 : BitVec 32 := Scalar.maxsi v605 c0_i32_246
  let c5_i32_247 : BitVec 32 := 5#32
  let v610 : BitVec 32 := Scalar.muli v609 c5_i32_247
  let v611 : BitVec 32 := Scalar.addi v610 c1_i32_248
  let v612 : Index := Scalar.indexCast v611
  ![v612.toNat]

def k0_chk31 (v605 : BitVec 32) : Prop :=
  (∀ (r : Fin 4), ∀ a, (k0_off33 v605 (BitVec.ofNat 32 (1 + r.val))) a + S1.size a ≤ S5120.size a)
theorem k0_off33_inb : ∀ (v605 : BitVec 32) (k0_hw31 : k0_chk31 v605), ∀ (r : Fin 4), ∀ a, (k0_off33 v605 (BitVec.ofNat 32 (1 + r.val))) a + S1.size a ≤ S5120.size a := fun v605 k0_hw31 r => k0_hw31 r

def k0_mult4 (v638 : BitVec 32) : BitVec 32 :=
  let c198_i32_262 : BitVec 32 := 198#32
  let c0_i32_261 : BitVec 32 := 0#32
  let v639 : BitVec 32 := Scalar.maxsi c0_i32_261 v638
  let v640 : BitVec 32 := Scalar.minsi c198_i32_262 v639
  let c3_i32_263 : BitVec 32 := 3#32
  let v641 : BitVec 32 := Scalar.shrsi v640 c3_i32_263
  let c3_i32_264 : BitVec 32 := 3#32
  let v642 : BitVec 32 := Scalar.shli v641 c3_i32_264
  let c152_i32_265 : BitVec 32 := 152#32
  let v643 : BitVec 32 := Scalar.minsi v642 c152_i32_265
  v643

def k0_chk32 (v638 : BitVec 32) : Prop :=
  (8 ∣ (k0_mult4 v638).toNat)
theorem k0_mult4_dvd : ∀ (v638 : BitVec 32) (k0_hw32 : k0_chk32 v638), 8 ∣ (k0_mult4 v638).toNat := fun v638 k0_hw32 => k0_hw32

def k0_off34 (v638 : BitVec 32) (v702 : BitVec 32) : Fin 4 → Nat :=
  let c0_280 : Index := 0#32
  let c198_i32_278 : BitVec 32 := 198#32
  let v703 : BitVec 32 := Scalar.minsi v702 c198_i32_278
  let c0_i32_279 : BitVec 32 := 0#32
  let v704 : BitVec 32 := Scalar.maxsi v703 c0_i32_279
  let v705 : Index := Scalar.indexCast v704
  let c198_i32_262 : BitVec 32 := 198#32
  let c0_i32_261 : BitVec 32 := 0#32
  let v639 : BitVec 32 := Scalar.maxsi c0_i32_261 v638
  let v640 : BitVec 32 := Scalar.minsi c198_i32_262 v639
  let c3_i32_263 : BitVec 32 := 3#32
  let v641 : BitVec 32 := Scalar.shrsi v640 c3_i32_263
  let c3_i32_264 : BitVec 32 := 3#32
  let v642 : BitVec 32 := Scalar.shli v641 c3_i32_264
  let c152_i32_265 : BitVec 32 := 152#32
  let v643 : BitVec 32 := Scalar.minsi v642 c152_i32_265
  let v644 : BitVec 32 := v643
  let v706 : Index := Scalar.indexCast v644
  let c0_281 : Index := 0#32
  ![0, v705.toNat, v706.toNat, 0]

def k0_chk33 (v638 : BitVec 32) (v702 : BitVec 32) : Prop :=
  (∀ a, (k0_off34 v638 v702) a + S1x2x48x256.size a ≤ S1x200x200x256.size a)
theorem k0_off34_inb : ∀ (v638 : BitVec 32) (v702 : BitVec 32) (k0_hw33 : k0_chk33 v638 v702), ∀ a, (k0_off34 v638 v702) a + S1x2x48x256.size a ≤ S1x200x200x256.size a := fun v638 v702 k0_hw33 => k0_hw33

def k0_off35 (v638 : BitVec 32) (v714 : BitVec 32) : Fin 4 → Nat :=
  let c0_286 : Index := 0#32
  let c198_i32_284 : BitVec 32 := 198#32
  let v715 : BitVec 32 := Scalar.minsi v714 c198_i32_284
  let c0_i32_285 : BitVec 32 := 0#32
  let v716 : BitVec 32 := Scalar.maxsi v715 c0_i32_285
  let v717 : Index := Scalar.indexCast v716
  let c198_i32_262 : BitVec 32 := 198#32
  let c0_i32_261 : BitVec 32 := 0#32
  let v639 : BitVec 32 := Scalar.maxsi c0_i32_261 v638
  let v640 : BitVec 32 := Scalar.minsi c198_i32_262 v639
  let c3_i32_263 : BitVec 32 := 3#32
  let v641 : BitVec 32 := Scalar.shrsi v640 c3_i32_263
  let c3_i32_264 : BitVec 32 := 3#32
  let v642 : BitVec 32 := Scalar.shli v641 c3_i32_264
  let c152_i32_265 : BitVec 32 := 152#32
  let v643 : BitVec 32 := Scalar.minsi v642 c152_i32_265
  let v644 : BitVec 32 := v643
  let v718 : Index := Scalar.indexCast v644
  let c0_287 : Index := 0#32
  ![0, v717.toNat, v718.toNat, 0]

def k0_chk34 (v638 : BitVec 32) (v714 : BitVec 32) : Prop :=
  (∀ a, (k0_off35 v638 v714) a + S1x2x48x256.size a ≤ S1x200x200x256.size a)
theorem k0_off35_inb : ∀ (v638 : BitVec 32) (v714 : BitVec 32) (k0_hw34 : k0_chk34 v638 v714), ∀ a, (k0_off35 v638 v714) a + S1x2x48x256.size a ≤ S1x200x200x256.size a := fun v638 v714 k0_hw34 => k0_hw34

def k0_off36 (v638 : BitVec 32) (v726 : BitVec 32) : Fin 4 → Nat :=
  let c0_292 : Index := 0#32
  let c198_i32_290 : BitVec 32 := 198#32
  let v727 : BitVec 32 := Scalar.minsi v726 c198_i32_290
  let c0_i32_291 : BitVec 32 := 0#32
  let v728 : BitVec 32 := Scalar.maxsi v727 c0_i32_291
  let v729 : Index := Scalar.indexCast v728
  let c198_i32_262 : BitVec 32 := 198#32
  let c0_i32_261 : BitVec 32 := 0#32
  let v639 : BitVec 32 := Scalar.maxsi c0_i32_261 v638
  let v640 : BitVec 32 := Scalar.minsi c198_i32_262 v639
  let c3_i32_263 : BitVec 32 := 3#32
  let v641 : BitVec 32 := Scalar.shrsi v640 c3_i32_263
  let c3_i32_264 : BitVec 32 := 3#32
  let v642 : BitVec 32 := Scalar.shli v641 c3_i32_264
  let c152_i32_265 : BitVec 32 := 152#32
  let v643 : BitVec 32 := Scalar.minsi v642 c152_i32_265
  let v644 : BitVec 32 := v643
  let v730 : Index := Scalar.indexCast v644
  let c0_293 : Index := 0#32
  ![0, v729.toNat, v730.toNat, 0]

def k0_chk35 (v638 : BitVec 32) (v726 : BitVec 32) : Prop :=
  (∀ a, (k0_off36 v638 v726) a + S1x2x48x256.size a ≤ S1x200x200x256.size a)
theorem k0_off36_inb : ∀ (v638 : BitVec 32) (v726 : BitVec 32) (k0_hw35 : k0_chk35 v638 v726), ∀ a, (k0_off36 v638 v726) a + S1x2x48x256.size a ≤ S1x200x200x256.size a := fun v638 v726 k0_hw35 => k0_hw35

def k0_off37 (v638 : BitVec 32) (v738 : BitVec 32) : Fin 4 → Nat :=
  let c0_298 : Index := 0#32
  let c198_i32_296 : BitVec 32 := 198#32
  let v739 : BitVec 32 := Scalar.minsi v738 c198_i32_296
  let c0_i32_297 : BitVec 32 := 0#32
  let v740 : BitVec 32 := Scalar.maxsi v739 c0_i32_297
  let v741 : Index := Scalar.indexCast v740
  let c198_i32_262 : BitVec 32 := 198#32
  let c0_i32_261 : BitVec 32 := 0#32
  let v639 : BitVec 32 := Scalar.maxsi c0_i32_261 v638
  let v640 : BitVec 32 := Scalar.minsi c198_i32_262 v639
  let c3_i32_263 : BitVec 32 := 3#32
  let v641 : BitVec 32 := Scalar.shrsi v640 c3_i32_263
  let c3_i32_264 : BitVec 32 := 3#32
  let v642 : BitVec 32 := Scalar.shli v641 c3_i32_264
  let c152_i32_265 : BitVec 32 := 152#32
  let v643 : BitVec 32 := Scalar.minsi v642 c152_i32_265
  let v644 : BitVec 32 := v643
  let v742 : Index := Scalar.indexCast v644
  let c0_299 : Index := 0#32
  ![0, v741.toNat, v742.toNat, 0]

def k0_chk36 (v638 : BitVec 32) (v738 : BitVec 32) : Prop :=
  (∀ a, (k0_off37 v638 v738) a + S1x2x48x256.size a ≤ S1x200x200x256.size a)
theorem k0_off37_inb : ∀ (v638 : BitVec 32) (v738 : BitVec 32) (k0_hw36 : k0_chk36 v638 v738), ∀ a, (k0_off37 v638 v738) a + S1x2x48x256.size a ≤ S1x200x200x256.size a := fun v638 v738 k0_hw36 => k0_hw36

def k0_off38 (v638 : BitVec 32) (v750 : BitVec 32) : Fin 4 → Nat :=
  let c0_304 : Index := 0#32
  let c198_i32_302 : BitVec 32 := 198#32
  let v751 : BitVec 32 := Scalar.minsi v750 c198_i32_302
  let c0_i32_303 : BitVec 32 := 0#32
  let v752 : BitVec 32 := Scalar.maxsi v751 c0_i32_303
  let v753 : Index := Scalar.indexCast v752
  let c198_i32_262 : BitVec 32 := 198#32
  let c0_i32_261 : BitVec 32 := 0#32
  let v639 : BitVec 32 := Scalar.maxsi c0_i32_261 v638
  let v640 : BitVec 32 := Scalar.minsi c198_i32_262 v639
  let c3_i32_263 : BitVec 32 := 3#32
  let v641 : BitVec 32 := Scalar.shrsi v640 c3_i32_263
  let c3_i32_264 : BitVec 32 := 3#32
  let v642 : BitVec 32 := Scalar.shli v641 c3_i32_264
  let c152_i32_265 : BitVec 32 := 152#32
  let v643 : BitVec 32 := Scalar.minsi v642 c152_i32_265
  let v644 : BitVec 32 := v643
  let v754 : Index := Scalar.indexCast v644
  let c0_305 : Index := 0#32
  ![0, v753.toNat, v754.toNat, 0]

def k0_chk37 (v638 : BitVec 32) (v750 : BitVec 32) : Prop :=
  (∀ a, (k0_off38 v638 v750) a + S1x2x48x256.size a ≤ S1x200x200x256.size a)
theorem k0_off38_inb : ∀ (v638 : BitVec 32) (v750 : BitVec 32) (k0_hw37 : k0_chk37 v638 v750), ∀ a, (k0_off38 v638 v750) a + S1x2x48x256.size a ≤ S1x200x200x256.size a := fun v638 v750 k0_hw37 => k0_hw37

def k0_off39 (v638 : BitVec 32) (v762 : BitVec 32) : Fin 4 → Nat :=
  let c0_310 : Index := 0#32
  let c198_i32_308 : BitVec 32 := 198#32
  let v763 : BitVec 32 := Scalar.minsi v762 c198_i32_308
  let c0_i32_309 : BitVec 32 := 0#32
  let v764 : BitVec 32 := Scalar.maxsi v763 c0_i32_309
  let v765 : Index := Scalar.indexCast v764
  let c198_i32_262 : BitVec 32 := 198#32
  let c0_i32_261 : BitVec 32 := 0#32
  let v639 : BitVec 32 := Scalar.maxsi c0_i32_261 v638
  let v640 : BitVec 32 := Scalar.minsi c198_i32_262 v639
  let c3_i32_263 : BitVec 32 := 3#32
  let v641 : BitVec 32 := Scalar.shrsi v640 c3_i32_263
  let c3_i32_264 : BitVec 32 := 3#32
  let v642 : BitVec 32 := Scalar.shli v641 c3_i32_264
  let c152_i32_265 : BitVec 32 := 152#32
  let v643 : BitVec 32 := Scalar.minsi v642 c152_i32_265
  let v644 : BitVec 32 := v643
  let v766 : Index := Scalar.indexCast v644
  let c0_311 : Index := 0#32
  ![0, v765.toNat, v766.toNat, 0]

def k0_chk38 (v638 : BitVec 32) (v762 : BitVec 32) : Prop :=
  (∀ a, (k0_off39 v638 v762) a + S1x2x48x256.size a ≤ S1x200x200x256.size a)
theorem k0_off39_inb : ∀ (v638 : BitVec 32) (v762 : BitVec 32) (k0_hw38 : k0_chk38 v638 v762), ∀ a, (k0_off39 v638 v762) a + S1x2x48x256.size a ≤ S1x200x200x256.size a := fun v638 v762 k0_hw38 => k0_hw38

def k0_off40 (v638 : BitVec 32) (v774 : BitVec 32) : Fin 4 → Nat :=
  let c0_316 : Index := 0#32
  let c198_i32_314 : BitVec 32 := 198#32
  let v775 : BitVec 32 := Scalar.minsi v774 c198_i32_314
  let c0_i32_315 : BitVec 32 := 0#32
  let v776 : BitVec 32 := Scalar.maxsi v775 c0_i32_315
  let v777 : Index := Scalar.indexCast v776
  let c198_i32_262 : BitVec 32 := 198#32
  let c0_i32_261 : BitVec 32 := 0#32
  let v639 : BitVec 32 := Scalar.maxsi c0_i32_261 v638
  let v640 : BitVec 32 := Scalar.minsi c198_i32_262 v639
  let c3_i32_263 : BitVec 32 := 3#32
  let v641 : BitVec 32 := Scalar.shrsi v640 c3_i32_263
  let c3_i32_264 : BitVec 32 := 3#32
  let v642 : BitVec 32 := Scalar.shli v641 c3_i32_264
  let c152_i32_265 : BitVec 32 := 152#32
  let v643 : BitVec 32 := Scalar.minsi v642 c152_i32_265
  let v644 : BitVec 32 := v643
  let v778 : Index := Scalar.indexCast v644
  let c0_317 : Index := 0#32
  ![0, v777.toNat, v778.toNat, 0]

def k0_chk39 (v638 : BitVec 32) (v774 : BitVec 32) : Prop :=
  (∀ a, (k0_off40 v638 v774) a + S1x2x48x256.size a ≤ S1x200x200x256.size a)
theorem k0_off40_inb : ∀ (v638 : BitVec 32) (v774 : BitVec 32) (k0_hw39 : k0_chk39 v638 v774), ∀ a, (k0_off40 v638 v774) a + S1x2x48x256.size a ≤ S1x200x200x256.size a := fun v638 v774 k0_hw39 => k0_hw39

def k0_off41 (v638 : BitVec 32) (v786 : BitVec 32) : Fin 4 → Nat :=
  let c0_322 : Index := 0#32
  let c198_i32_320 : BitVec 32 := 198#32
  let v787 : BitVec 32 := Scalar.minsi v786 c198_i32_320
  let c0_i32_321 : BitVec 32 := 0#32
  let v788 : BitVec 32 := Scalar.maxsi v787 c0_i32_321
  let v789 : Index := Scalar.indexCast v788
  let c198_i32_262 : BitVec 32 := 198#32
  let c0_i32_261 : BitVec 32 := 0#32
  let v639 : BitVec 32 := Scalar.maxsi c0_i32_261 v638
  let v640 : BitVec 32 := Scalar.minsi c198_i32_262 v639
  let c3_i32_263 : BitVec 32 := 3#32
  let v641 : BitVec 32 := Scalar.shrsi v640 c3_i32_263
  let c3_i32_264 : BitVec 32 := 3#32
  let v642 : BitVec 32 := Scalar.shli v641 c3_i32_264
  let c152_i32_265 : BitVec 32 := 152#32
  let v643 : BitVec 32 := Scalar.minsi v642 c152_i32_265
  let v644 : BitVec 32 := v643
  let v790 : Index := Scalar.indexCast v644
  let c0_323 : Index := 0#32
  ![0, v789.toNat, v790.toNat, 0]

def k0_chk40 (v638 : BitVec 32) (v786 : BitVec 32) : Prop :=
  (∀ a, (k0_off41 v638 v786) a + S1x2x48x256.size a ≤ S1x200x200x256.size a)
theorem k0_off41_inb : ∀ (v638 : BitVec 32) (v786 : BitVec 32) (k0_hw40 : k0_chk40 v638 v786), ∀ a, (k0_off41 v638 v786) a + S1x2x48x256.size a ≤ S1x200x200x256.size a := fun v638 v786 k0_hw40 => k0_hw40

def k0_off42 (i : grid0.Coords) (k0_t1 : Fin k0_t1_loop.trips) : Fin 1 → Nat :=
  let arg0 : BitVec 32 := BitVec.ofNat 32 (i 0).val
  let c128_i32_326 : BitVec 32 := 128#32
  let v797 : BitVec 32 := Scalar.muli arg0 c128_i32_326
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c4_i32_325 : BitVec 32 := 4#32
  let v796 : BitVec 32 := Scalar.addi v15 c4_i32_325
  let v798 : BitVec 32 := Scalar.addi v797 v796
  let v799 : Index := Scalar.indexCast v798
  ![v799.toNat]
def k0_off43 (v800 : BitVec 32) (c1_i32_330 : BitVec 32) : Fin 1 → Nat :=
  let c0_i32_328 : BitVec 32 := 0#32
  let v804 : BitVec 32 := Scalar.maxsi v800 c0_i32_328
  let c5_i32_329 : BitVec 32 := 5#32
  let v805 : BitVec 32 := Scalar.muli v804 c5_i32_329
  let v806 : BitVec 32 := Scalar.addi v805 c1_i32_330
  let v807 : Index := Scalar.indexCast v806
  ![v807.toNat]

def k0_chk41 (v800 : BitVec 32) : Prop :=
  (∀ (r : Fin 4), ∀ a, (k0_off43 v800 (BitVec.ofNat 32 (1 + r.val))) a + S1.size a ≤ S5120.size a)
theorem k0_off43_inb : ∀ (v800 : BitVec 32) (k0_hw41 : k0_chk41 v800), ∀ (r : Fin 4), ∀ a, (k0_off43 v800 (BitVec.ofNat 32 (1 + r.val))) a + S1.size a ≤ S5120.size a := fun v800 k0_hw41 r => k0_hw41 r

def k0_mult5 (v833 : BitVec 32) : BitVec 32 :=
  let c198_i32_344 : BitVec 32 := 198#32
  let c0_i32_343 : BitVec 32 := 0#32
  let v834 : BitVec 32 := Scalar.maxsi c0_i32_343 v833
  let v835 : BitVec 32 := Scalar.minsi c198_i32_344 v834
  let c3_i32_345 : BitVec 32 := 3#32
  let v836 : BitVec 32 := Scalar.shrsi v835 c3_i32_345
  let c3_i32_346 : BitVec 32 := 3#32
  let v837 : BitVec 32 := Scalar.shli v836 c3_i32_346
  let c152_i32_347 : BitVec 32 := 152#32
  let v838 : BitVec 32 := Scalar.minsi v837 c152_i32_347
  v838

def k0_chk42 (v833 : BitVec 32) : Prop :=
  (8 ∣ (k0_mult5 v833).toNat)
theorem k0_mult5_dvd : ∀ (v833 : BitVec 32) (k0_hw42 : k0_chk42 v833), 8 ∣ (k0_mult5 v833).toNat := fun v833 k0_hw42 => k0_hw42

def k0_off44 (v833 : BitVec 32) (v897 : BitVec 32) : Fin 4 → Nat :=
  let c0_362 : Index := 0#32
  let c198_i32_360 : BitVec 32 := 198#32
  let v898 : BitVec 32 := Scalar.minsi v897 c198_i32_360
  let c0_i32_361 : BitVec 32 := 0#32
  let v899 : BitVec 32 := Scalar.maxsi v898 c0_i32_361
  let v900 : Index := Scalar.indexCast v899
  let c198_i32_344 : BitVec 32 := 198#32
  let c0_i32_343 : BitVec 32 := 0#32
  let v834 : BitVec 32 := Scalar.maxsi c0_i32_343 v833
  let v835 : BitVec 32 := Scalar.minsi c198_i32_344 v834
  let c3_i32_345 : BitVec 32 := 3#32
  let v836 : BitVec 32 := Scalar.shrsi v835 c3_i32_345
  let c3_i32_346 : BitVec 32 := 3#32
  let v837 : BitVec 32 := Scalar.shli v836 c3_i32_346
  let c152_i32_347 : BitVec 32 := 152#32
  let v838 : BitVec 32 := Scalar.minsi v837 c152_i32_347
  let v839 : BitVec 32 := v838
  let v901 : Index := Scalar.indexCast v839
  let c0_363 : Index := 0#32
  ![0, v900.toNat, v901.toNat, 0]

def k0_chk43 (v833 : BitVec 32) (v897 : BitVec 32) : Prop :=
  (∀ a, (k0_off44 v833 v897) a + S1x2x48x256.size a ≤ S1x200x200x256.size a)
theorem k0_off44_inb : ∀ (v833 : BitVec 32) (v897 : BitVec 32) (k0_hw43 : k0_chk43 v833 v897), ∀ a, (k0_off44 v833 v897) a + S1x2x48x256.size a ≤ S1x200x200x256.size a := fun v833 v897 k0_hw43 => k0_hw43

def k0_off45 (v833 : BitVec 32) (v909 : BitVec 32) : Fin 4 → Nat :=
  let c0_368 : Index := 0#32
  let c198_i32_366 : BitVec 32 := 198#32
  let v910 : BitVec 32 := Scalar.minsi v909 c198_i32_366
  let c0_i32_367 : BitVec 32 := 0#32
  let v911 : BitVec 32 := Scalar.maxsi v910 c0_i32_367
  let v912 : Index := Scalar.indexCast v911
  let c198_i32_344 : BitVec 32 := 198#32
  let c0_i32_343 : BitVec 32 := 0#32
  let v834 : BitVec 32 := Scalar.maxsi c0_i32_343 v833
  let v835 : BitVec 32 := Scalar.minsi c198_i32_344 v834
  let c3_i32_345 : BitVec 32 := 3#32
  let v836 : BitVec 32 := Scalar.shrsi v835 c3_i32_345
  let c3_i32_346 : BitVec 32 := 3#32
  let v837 : BitVec 32 := Scalar.shli v836 c3_i32_346
  let c152_i32_347 : BitVec 32 := 152#32
  let v838 : BitVec 32 := Scalar.minsi v837 c152_i32_347
  let v839 : BitVec 32 := v838
  let v913 : Index := Scalar.indexCast v839
  let c0_369 : Index := 0#32
  ![0, v912.toNat, v913.toNat, 0]

def k0_chk44 (v833 : BitVec 32) (v909 : BitVec 32) : Prop :=
  (∀ a, (k0_off45 v833 v909) a + S1x2x48x256.size a ≤ S1x200x200x256.size a)
theorem k0_off45_inb : ∀ (v833 : BitVec 32) (v909 : BitVec 32) (k0_hw44 : k0_chk44 v833 v909), ∀ a, (k0_off45 v833 v909) a + S1x2x48x256.size a ≤ S1x200x200x256.size a := fun v833 v909 k0_hw44 => k0_hw44

def k0_off46 (v833 : BitVec 32) (v921 : BitVec 32) : Fin 4 → Nat :=
  let c0_374 : Index := 0#32
  let c198_i32_372 : BitVec 32 := 198#32
  let v922 : BitVec 32 := Scalar.minsi v921 c198_i32_372
  let c0_i32_373 : BitVec 32 := 0#32
  let v923 : BitVec 32 := Scalar.maxsi v922 c0_i32_373
  let v924 : Index := Scalar.indexCast v923
  let c198_i32_344 : BitVec 32 := 198#32
  let c0_i32_343 : BitVec 32 := 0#32
  let v834 : BitVec 32 := Scalar.maxsi c0_i32_343 v833
  let v835 : BitVec 32 := Scalar.minsi c198_i32_344 v834
  let c3_i32_345 : BitVec 32 := 3#32
  let v836 : BitVec 32 := Scalar.shrsi v835 c3_i32_345
  let c3_i32_346 : BitVec 32 := 3#32
  let v837 : BitVec 32 := Scalar.shli v836 c3_i32_346
  let c152_i32_347 : BitVec 32 := 152#32
  let v838 : BitVec 32 := Scalar.minsi v837 c152_i32_347
  let v839 : BitVec 32 := v838
  let v925 : Index := Scalar.indexCast v839
  let c0_375 : Index := 0#32
  ![0, v924.toNat, v925.toNat, 0]

def k0_chk45 (v833 : BitVec 32) (v921 : BitVec 32) : Prop :=
  (∀ a, (k0_off46 v833 v921) a + S1x2x48x256.size a ≤ S1x200x200x256.size a)
theorem k0_off46_inb : ∀ (v833 : BitVec 32) (v921 : BitVec 32) (k0_hw45 : k0_chk45 v833 v921), ∀ a, (k0_off46 v833 v921) a + S1x2x48x256.size a ≤ S1x200x200x256.size a := fun v833 v921 k0_hw45 => k0_hw45

def k0_off47 (v833 : BitVec 32) (v933 : BitVec 32) : Fin 4 → Nat :=
  let c0_380 : Index := 0#32
  let c198_i32_378 : BitVec 32 := 198#32
  let v934 : BitVec 32 := Scalar.minsi v933 c198_i32_378
  let c0_i32_379 : BitVec 32 := 0#32
  let v935 : BitVec 32 := Scalar.maxsi v934 c0_i32_379
  let v936 : Index := Scalar.indexCast v935
  let c198_i32_344 : BitVec 32 := 198#32
  let c0_i32_343 : BitVec 32 := 0#32
  let v834 : BitVec 32 := Scalar.maxsi c0_i32_343 v833
  let v835 : BitVec 32 := Scalar.minsi c198_i32_344 v834
  let c3_i32_345 : BitVec 32 := 3#32
  let v836 : BitVec 32 := Scalar.shrsi v835 c3_i32_345
  let c3_i32_346 : BitVec 32 := 3#32
  let v837 : BitVec 32 := Scalar.shli v836 c3_i32_346
  let c152_i32_347 : BitVec 32 := 152#32
  let v838 : BitVec 32 := Scalar.minsi v837 c152_i32_347
  let v839 : BitVec 32 := v838
  let v937 : Index := Scalar.indexCast v839
  let c0_381 : Index := 0#32
  ![0, v936.toNat, v937.toNat, 0]

def k0_chk46 (v833 : BitVec 32) (v933 : BitVec 32) : Prop :=
  (∀ a, (k0_off47 v833 v933) a + S1x2x48x256.size a ≤ S1x200x200x256.size a)
theorem k0_off47_inb : ∀ (v833 : BitVec 32) (v933 : BitVec 32) (k0_hw46 : k0_chk46 v833 v933), ∀ a, (k0_off47 v833 v933) a + S1x2x48x256.size a ≤ S1x200x200x256.size a := fun v833 v933 k0_hw46 => k0_hw46

def k0_off48 (v833 : BitVec 32) (v945 : BitVec 32) : Fin 4 → Nat :=
  let c0_386 : Index := 0#32
  let c198_i32_384 : BitVec 32 := 198#32
  let v946 : BitVec 32 := Scalar.minsi v945 c198_i32_384
  let c0_i32_385 : BitVec 32 := 0#32
  let v947 : BitVec 32 := Scalar.maxsi v946 c0_i32_385
  let v948 : Index := Scalar.indexCast v947
  let c198_i32_344 : BitVec 32 := 198#32
  let c0_i32_343 : BitVec 32 := 0#32
  let v834 : BitVec 32 := Scalar.maxsi c0_i32_343 v833
  let v835 : BitVec 32 := Scalar.minsi c198_i32_344 v834
  let c3_i32_345 : BitVec 32 := 3#32
  let v836 : BitVec 32 := Scalar.shrsi v835 c3_i32_345
  let c3_i32_346 : BitVec 32 := 3#32
  let v837 : BitVec 32 := Scalar.shli v836 c3_i32_346
  let c152_i32_347 : BitVec 32 := 152#32
  let v838 : BitVec 32 := Scalar.minsi v837 c152_i32_347
  let v839 : BitVec 32 := v838
  let v949 : Index := Scalar.indexCast v839
  let c0_387 : Index := 0#32
  ![0, v948.toNat, v949.toNat, 0]

def k0_chk47 (v833 : BitVec 32) (v945 : BitVec 32) : Prop :=
  (∀ a, (k0_off48 v833 v945) a + S1x2x48x256.size a ≤ S1x200x200x256.size a)
theorem k0_off48_inb : ∀ (v833 : BitVec 32) (v945 : BitVec 32) (k0_hw47 : k0_chk47 v833 v945), ∀ a, (k0_off48 v833 v945) a + S1x2x48x256.size a ≤ S1x200x200x256.size a := fun v833 v945 k0_hw47 => k0_hw47

def k0_off49 (v833 : BitVec 32) (v957 : BitVec 32) : Fin 4 → Nat :=
  let c0_392 : Index := 0#32
  let c198_i32_390 : BitVec 32 := 198#32
  let v958 : BitVec 32 := Scalar.minsi v957 c198_i32_390
  let c0_i32_391 : BitVec 32 := 0#32
  let v959 : BitVec 32 := Scalar.maxsi v958 c0_i32_391
  let v960 : Index := Scalar.indexCast v959
  let c198_i32_344 : BitVec 32 := 198#32
  let c0_i32_343 : BitVec 32 := 0#32
  let v834 : BitVec 32 := Scalar.maxsi c0_i32_343 v833
  let v835 : BitVec 32 := Scalar.minsi c198_i32_344 v834
  let c3_i32_345 : BitVec 32 := 3#32
  let v836 : BitVec 32 := Scalar.shrsi v835 c3_i32_345
  let c3_i32_346 : BitVec 32 := 3#32
  let v837 : BitVec 32 := Scalar.shli v836 c3_i32_346
  let c152_i32_347 : BitVec 32 := 152#32
  let v838 : BitVec 32 := Scalar.minsi v837 c152_i32_347
  let v839 : BitVec 32 := v838
  let v961 : Index := Scalar.indexCast v839
  let c0_393 : Index := 0#32
  ![0, v960.toNat, v961.toNat, 0]

def k0_chk48 (v833 : BitVec 32) (v957 : BitVec 32) : Prop :=
  (∀ a, (k0_off49 v833 v957) a + S1x2x48x256.size a ≤ S1x200x200x256.size a)
theorem k0_off49_inb : ∀ (v833 : BitVec 32) (v957 : BitVec 32) (k0_hw48 : k0_chk48 v833 v957), ∀ a, (k0_off49 v833 v957) a + S1x2x48x256.size a ≤ S1x200x200x256.size a := fun v833 v957 k0_hw48 => k0_hw48

def k0_off50 (v833 : BitVec 32) (v969 : BitVec 32) : Fin 4 → Nat :=
  let c0_398 : Index := 0#32
  let c198_i32_396 : BitVec 32 := 198#32
  let v970 : BitVec 32 := Scalar.minsi v969 c198_i32_396
  let c0_i32_397 : BitVec 32 := 0#32
  let v971 : BitVec 32 := Scalar.maxsi v970 c0_i32_397
  let v972 : Index := Scalar.indexCast v971
  let c198_i32_344 : BitVec 32 := 198#32
  let c0_i32_343 : BitVec 32 := 0#32
  let v834 : BitVec 32 := Scalar.maxsi c0_i32_343 v833
  let v835 : BitVec 32 := Scalar.minsi c198_i32_344 v834
  let c3_i32_345 : BitVec 32 := 3#32
  let v836 : BitVec 32 := Scalar.shrsi v835 c3_i32_345
  let c3_i32_346 : BitVec 32 := 3#32
  let v837 : BitVec 32 := Scalar.shli v836 c3_i32_346
  let c152_i32_347 : BitVec 32 := 152#32
  let v838 : BitVec 32 := Scalar.minsi v837 c152_i32_347
  let v839 : BitVec 32 := v838
  let v973 : Index := Scalar.indexCast v839
  let c0_399 : Index := 0#32
  ![0, v972.toNat, v973.toNat, 0]

def k0_chk49 (v833 : BitVec 32) (v969 : BitVec 32) : Prop :=
  (∀ a, (k0_off50 v833 v969) a + S1x2x48x256.size a ≤ S1x200x200x256.size a)
theorem k0_off50_inb : ∀ (v833 : BitVec 32) (v969 : BitVec 32) (k0_hw49 : k0_chk49 v833 v969), ∀ a, (k0_off50 v833 v969) a + S1x2x48x256.size a ≤ S1x200x200x256.size a := fun v833 v969 k0_hw49 => k0_hw49

def k0_off51 (v833 : BitVec 32) (v981 : BitVec 32) : Fin 4 → Nat :=
  let c0_404 : Index := 0#32
  let c198_i32_402 : BitVec 32 := 198#32
  let v982 : BitVec 32 := Scalar.minsi v981 c198_i32_402
  let c0_i32_403 : BitVec 32 := 0#32
  let v983 : BitVec 32 := Scalar.maxsi v982 c0_i32_403
  let v984 : Index := Scalar.indexCast v983
  let c198_i32_344 : BitVec 32 := 198#32
  let c0_i32_343 : BitVec 32 := 0#32
  let v834 : BitVec 32 := Scalar.maxsi c0_i32_343 v833
  let v835 : BitVec 32 := Scalar.minsi c198_i32_344 v834
  let c3_i32_345 : BitVec 32 := 3#32
  let v836 : BitVec 32 := Scalar.shrsi v835 c3_i32_345
  let c3_i32_346 : BitVec 32 := 3#32
  let v837 : BitVec 32 := Scalar.shli v836 c3_i32_346
  let c152_i32_347 : BitVec 32 := 152#32
  let v838 : BitVec 32 := Scalar.minsi v837 c152_i32_347
  let v839 : BitVec 32 := v838
  let v985 : Index := Scalar.indexCast v839
  let c0_405 : Index := 0#32
  ![0, v984.toNat, v985.toNat, 0]

def k0_chk50 (v833 : BitVec 32) (v981 : BitVec 32) : Prop :=
  (∀ a, (k0_off51 v833 v981) a + S1x2x48x256.size a ≤ S1x200x200x256.size a)
theorem k0_off51_inb : ∀ (v833 : BitVec 32) (v981 : BitVec 32) (k0_hw50 : k0_chk50 v833 v981), ∀ a, (k0_off51 v833 v981) a + S1x2x48x256.size a ≤ S1x200x200x256.size a := fun v833 v981 k0_hw50 => k0_hw50

def k0_off52 (i : grid0.Coords) (k0_t1 : Fin k0_t1_loop.trips) : Fin 1 → Nat :=
  let arg0 : BitVec 32 := BitVec.ofNat 32 (i 0).val
  let c128_i32_408 : BitVec 32 := 128#32
  let v992 : BitVec 32 := Scalar.muli arg0 c128_i32_408
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c5_i32_407 : BitVec 32 := 5#32
  let v991 : BitVec 32 := Scalar.addi v15 c5_i32_407
  let v993 : BitVec 32 := Scalar.addi v992 v991
  let v994 : Index := Scalar.indexCast v993
  ![v994.toNat]
def k0_off53 (v995 : BitVec 32) (c1_i32_412 : BitVec 32) : Fin 1 → Nat :=
  let c0_i32_410 : BitVec 32 := 0#32
  let v999 : BitVec 32 := Scalar.maxsi v995 c0_i32_410
  let c5_i32_411 : BitVec 32 := 5#32
  let v1000 : BitVec 32 := Scalar.muli v999 c5_i32_411
  let v1001 : BitVec 32 := Scalar.addi v1000 c1_i32_412
  let v1002 : Index := Scalar.indexCast v1001
  ![v1002.toNat]

def k0_chk51 (v995 : BitVec 32) : Prop :=
  (∀ (r : Fin 4), ∀ a, (k0_off53 v995 (BitVec.ofNat 32 (1 + r.val))) a + S1.size a ≤ S5120.size a)
theorem k0_off53_inb : ∀ (v995 : BitVec 32) (k0_hw51 : k0_chk51 v995), ∀ (r : Fin 4), ∀ a, (k0_off53 v995 (BitVec.ofNat 32 (1 + r.val))) a + S1.size a ≤ S5120.size a := fun v995 k0_hw51 r => k0_hw51 r

def k0_mult6 (v1028 : BitVec 32) : BitVec 32 :=
  let c198_i32_426 : BitVec 32 := 198#32
  let c0_i32_425 : BitVec 32 := 0#32
  let v1029 : BitVec 32 := Scalar.maxsi c0_i32_425 v1028
  let v1030 : BitVec 32 := Scalar.minsi c198_i32_426 v1029
  let c3_i32_427 : BitVec 32 := 3#32
  let v1031 : BitVec 32 := Scalar.shrsi v1030 c3_i32_427
  let c3_i32_428 : BitVec 32 := 3#32
  let v1032 : BitVec 32 := Scalar.shli v1031 c3_i32_428
  let c152_i32_429 : BitVec 32 := 152#32
  let v1033 : BitVec 32 := Scalar.minsi v1032 c152_i32_429
  v1033

def k0_chk52 (v1028 : BitVec 32) : Prop :=
  (8 ∣ (k0_mult6 v1028).toNat)
theorem k0_mult6_dvd : ∀ (v1028 : BitVec 32) (k0_hw52 : k0_chk52 v1028), 8 ∣ (k0_mult6 v1028).toNat := fun v1028 k0_hw52 => k0_hw52

def k0_off54 (v1028 : BitVec 32) (v1092 : BitVec 32) : Fin 4 → Nat :=
  let c0_444 : Index := 0#32
  let c198_i32_442 : BitVec 32 := 198#32
  let v1093 : BitVec 32 := Scalar.minsi v1092 c198_i32_442
  let c0_i32_443 : BitVec 32 := 0#32
  let v1094 : BitVec 32 := Scalar.maxsi v1093 c0_i32_443
  let v1095 : Index := Scalar.indexCast v1094
  let c198_i32_426 : BitVec 32 := 198#32
  let c0_i32_425 : BitVec 32 := 0#32
  let v1029 : BitVec 32 := Scalar.maxsi c0_i32_425 v1028
  let v1030 : BitVec 32 := Scalar.minsi c198_i32_426 v1029
  let c3_i32_427 : BitVec 32 := 3#32
  let v1031 : BitVec 32 := Scalar.shrsi v1030 c3_i32_427
  let c3_i32_428 : BitVec 32 := 3#32
  let v1032 : BitVec 32 := Scalar.shli v1031 c3_i32_428
  let c152_i32_429 : BitVec 32 := 152#32
  let v1033 : BitVec 32 := Scalar.minsi v1032 c152_i32_429
  let v1034 : BitVec 32 := v1033
  let v1096 : Index := Scalar.indexCast v1034
  let c0_445 : Index := 0#32
  ![0, v1095.toNat, v1096.toNat, 0]

def k0_chk53 (v1028 : BitVec 32) (v1092 : BitVec 32) : Prop :=
  (∀ a, (k0_off54 v1028 v1092) a + S1x2x48x256.size a ≤ S1x200x200x256.size a)
theorem k0_off54_inb : ∀ (v1028 : BitVec 32) (v1092 : BitVec 32) (k0_hw53 : k0_chk53 v1028 v1092), ∀ a, (k0_off54 v1028 v1092) a + S1x2x48x256.size a ≤ S1x200x200x256.size a := fun v1028 v1092 k0_hw53 => k0_hw53

def k0_off55 (v1028 : BitVec 32) (v1104 : BitVec 32) : Fin 4 → Nat :=
  let c0_450 : Index := 0#32
  let c198_i32_448 : BitVec 32 := 198#32
  let v1105 : BitVec 32 := Scalar.minsi v1104 c198_i32_448
  let c0_i32_449 : BitVec 32 := 0#32
  let v1106 : BitVec 32 := Scalar.maxsi v1105 c0_i32_449
  let v1107 : Index := Scalar.indexCast v1106
  let c198_i32_426 : BitVec 32 := 198#32
  let c0_i32_425 : BitVec 32 := 0#32
  let v1029 : BitVec 32 := Scalar.maxsi c0_i32_425 v1028
  let v1030 : BitVec 32 := Scalar.minsi c198_i32_426 v1029
  let c3_i32_427 : BitVec 32 := 3#32
  let v1031 : BitVec 32 := Scalar.shrsi v1030 c3_i32_427
  let c3_i32_428 : BitVec 32 := 3#32
  let v1032 : BitVec 32 := Scalar.shli v1031 c3_i32_428
  let c152_i32_429 : BitVec 32 := 152#32
  let v1033 : BitVec 32 := Scalar.minsi v1032 c152_i32_429
  let v1034 : BitVec 32 := v1033
  let v1108 : Index := Scalar.indexCast v1034
  let c0_451 : Index := 0#32
  ![0, v1107.toNat, v1108.toNat, 0]

def k0_chk54 (v1028 : BitVec 32) (v1104 : BitVec 32) : Prop :=
  (∀ a, (k0_off55 v1028 v1104) a + S1x2x48x256.size a ≤ S1x200x200x256.size a)
theorem k0_off55_inb : ∀ (v1028 : BitVec 32) (v1104 : BitVec 32) (k0_hw54 : k0_chk54 v1028 v1104), ∀ a, (k0_off55 v1028 v1104) a + S1x2x48x256.size a ≤ S1x200x200x256.size a := fun v1028 v1104 k0_hw54 => k0_hw54

def k0_off56 (v1028 : BitVec 32) (v1116 : BitVec 32) : Fin 4 → Nat :=
  let c0_456 : Index := 0#32
  let c198_i32_454 : BitVec 32 := 198#32
  let v1117 : BitVec 32 := Scalar.minsi v1116 c198_i32_454
  let c0_i32_455 : BitVec 32 := 0#32
  let v1118 : BitVec 32 := Scalar.maxsi v1117 c0_i32_455
  let v1119 : Index := Scalar.indexCast v1118
  let c198_i32_426 : BitVec 32 := 198#32
  let c0_i32_425 : BitVec 32 := 0#32
  let v1029 : BitVec 32 := Scalar.maxsi c0_i32_425 v1028
  let v1030 : BitVec 32 := Scalar.minsi c198_i32_426 v1029
  let c3_i32_427 : BitVec 32 := 3#32
  let v1031 : BitVec 32 := Scalar.shrsi v1030 c3_i32_427
  let c3_i32_428 : BitVec 32 := 3#32
  let v1032 : BitVec 32 := Scalar.shli v1031 c3_i32_428
  let c152_i32_429 : BitVec 32 := 152#32
  let v1033 : BitVec 32 := Scalar.minsi v1032 c152_i32_429
  let v1034 : BitVec 32 := v1033
  let v1120 : Index := Scalar.indexCast v1034
  let c0_457 : Index := 0#32
  ![0, v1119.toNat, v1120.toNat, 0]

def k0_chk55 (v1028 : BitVec 32) (v1116 : BitVec 32) : Prop :=
  (∀ a, (k0_off56 v1028 v1116) a + S1x2x48x256.size a ≤ S1x200x200x256.size a)
theorem k0_off56_inb : ∀ (v1028 : BitVec 32) (v1116 : BitVec 32) (k0_hw55 : k0_chk55 v1028 v1116), ∀ a, (k0_off56 v1028 v1116) a + S1x2x48x256.size a ≤ S1x200x200x256.size a := fun v1028 v1116 k0_hw55 => k0_hw55

def k0_off57 (v1028 : BitVec 32) (v1128 : BitVec 32) : Fin 4 → Nat :=
  let c0_462 : Index := 0#32
  let c198_i32_460 : BitVec 32 := 198#32
  let v1129 : BitVec 32 := Scalar.minsi v1128 c198_i32_460
  let c0_i32_461 : BitVec 32 := 0#32
  let v1130 : BitVec 32 := Scalar.maxsi v1129 c0_i32_461
  let v1131 : Index := Scalar.indexCast v1130
  let c198_i32_426 : BitVec 32 := 198#32
  let c0_i32_425 : BitVec 32 := 0#32
  let v1029 : BitVec 32 := Scalar.maxsi c0_i32_425 v1028
  let v1030 : BitVec 32 := Scalar.minsi c198_i32_426 v1029
  let c3_i32_427 : BitVec 32 := 3#32
  let v1031 : BitVec 32 := Scalar.shrsi v1030 c3_i32_427
  let c3_i32_428 : BitVec 32 := 3#32
  let v1032 : BitVec 32 := Scalar.shli v1031 c3_i32_428
  let c152_i32_429 : BitVec 32 := 152#32
  let v1033 : BitVec 32 := Scalar.minsi v1032 c152_i32_429
  let v1034 : BitVec 32 := v1033
  let v1132 : Index := Scalar.indexCast v1034
  let c0_463 : Index := 0#32
  ![0, v1131.toNat, v1132.toNat, 0]

def k0_chk56 (v1028 : BitVec 32) (v1128 : BitVec 32) : Prop :=
  (∀ a, (k0_off57 v1028 v1128) a + S1x2x48x256.size a ≤ S1x200x200x256.size a)
theorem k0_off57_inb : ∀ (v1028 : BitVec 32) (v1128 : BitVec 32) (k0_hw56 : k0_chk56 v1028 v1128), ∀ a, (k0_off57 v1028 v1128) a + S1x2x48x256.size a ≤ S1x200x200x256.size a := fun v1028 v1128 k0_hw56 => k0_hw56

def k0_off58 (v1028 : BitVec 32) (v1140 : BitVec 32) : Fin 4 → Nat :=
  let c0_468 : Index := 0#32
  let c198_i32_466 : BitVec 32 := 198#32
  let v1141 : BitVec 32 := Scalar.minsi v1140 c198_i32_466
  let c0_i32_467 : BitVec 32 := 0#32
  let v1142 : BitVec 32 := Scalar.maxsi v1141 c0_i32_467
  let v1143 : Index := Scalar.indexCast v1142
  let c198_i32_426 : BitVec 32 := 198#32
  let c0_i32_425 : BitVec 32 := 0#32
  let v1029 : BitVec 32 := Scalar.maxsi c0_i32_425 v1028
  let v1030 : BitVec 32 := Scalar.minsi c198_i32_426 v1029
  let c3_i32_427 : BitVec 32 := 3#32
  let v1031 : BitVec 32 := Scalar.shrsi v1030 c3_i32_427
  let c3_i32_428 : BitVec 32 := 3#32
  let v1032 : BitVec 32 := Scalar.shli v1031 c3_i32_428
  let c152_i32_429 : BitVec 32 := 152#32
  let v1033 : BitVec 32 := Scalar.minsi v1032 c152_i32_429
  let v1034 : BitVec 32 := v1033
  let v1144 : Index := Scalar.indexCast v1034
  let c0_469 : Index := 0#32
  ![0, v1143.toNat, v1144.toNat, 0]

def k0_chk57 (v1028 : BitVec 32) (v1140 : BitVec 32) : Prop :=
  (∀ a, (k0_off58 v1028 v1140) a + S1x2x48x256.size a ≤ S1x200x200x256.size a)
theorem k0_off58_inb : ∀ (v1028 : BitVec 32) (v1140 : BitVec 32) (k0_hw57 : k0_chk57 v1028 v1140), ∀ a, (k0_off58 v1028 v1140) a + S1x2x48x256.size a ≤ S1x200x200x256.size a := fun v1028 v1140 k0_hw57 => k0_hw57

def k0_off59 (v1028 : BitVec 32) (v1152 : BitVec 32) : Fin 4 → Nat :=
  let c0_474 : Index := 0#32
  let c198_i32_472 : BitVec 32 := 198#32
  let v1153 : BitVec 32 := Scalar.minsi v1152 c198_i32_472
  let c0_i32_473 : BitVec 32 := 0#32
  let v1154 : BitVec 32 := Scalar.maxsi v1153 c0_i32_473
  let v1155 : Index := Scalar.indexCast v1154
  let c198_i32_426 : BitVec 32 := 198#32
  let c0_i32_425 : BitVec 32 := 0#32
  let v1029 : BitVec 32 := Scalar.maxsi c0_i32_425 v1028
  let v1030 : BitVec 32 := Scalar.minsi c198_i32_426 v1029
  let c3_i32_427 : BitVec 32 := 3#32
  let v1031 : BitVec 32 := Scalar.shrsi v1030 c3_i32_427
  let c3_i32_428 : BitVec 32 := 3#32
  let v1032 : BitVec 32 := Scalar.shli v1031 c3_i32_428
  let c152_i32_429 : BitVec 32 := 152#32
  let v1033 : BitVec 32 := Scalar.minsi v1032 c152_i32_429
  let v1034 : BitVec 32 := v1033
  let v1156 : Index := Scalar.indexCast v1034
  let c0_475 : Index := 0#32
  ![0, v1155.toNat, v1156.toNat, 0]

def k0_chk58 (v1028 : BitVec 32) (v1152 : BitVec 32) : Prop :=
  (∀ a, (k0_off59 v1028 v1152) a + S1x2x48x256.size a ≤ S1x200x200x256.size a)
theorem k0_off59_inb : ∀ (v1028 : BitVec 32) (v1152 : BitVec 32) (k0_hw58 : k0_chk58 v1028 v1152), ∀ a, (k0_off59 v1028 v1152) a + S1x2x48x256.size a ≤ S1x200x200x256.size a := fun v1028 v1152 k0_hw58 => k0_hw58

def k0_off60 (v1028 : BitVec 32) (v1164 : BitVec 32) : Fin 4 → Nat :=
  let c0_480 : Index := 0#32
  let c198_i32_478 : BitVec 32 := 198#32
  let v1165 : BitVec 32 := Scalar.minsi v1164 c198_i32_478
  let c0_i32_479 : BitVec 32 := 0#32
  let v1166 : BitVec 32 := Scalar.maxsi v1165 c0_i32_479
  let v1167 : Index := Scalar.indexCast v1166
  let c198_i32_426 : BitVec 32 := 198#32
  let c0_i32_425 : BitVec 32 := 0#32
  let v1029 : BitVec 32 := Scalar.maxsi c0_i32_425 v1028
  let v1030 : BitVec 32 := Scalar.minsi c198_i32_426 v1029
  let c3_i32_427 : BitVec 32 := 3#32
  let v1031 : BitVec 32 := Scalar.shrsi v1030 c3_i32_427
  let c3_i32_428 : BitVec 32 := 3#32
  let v1032 : BitVec 32 := Scalar.shli v1031 c3_i32_428
  let c152_i32_429 : BitVec 32 := 152#32
  let v1033 : BitVec 32 := Scalar.minsi v1032 c152_i32_429
  let v1034 : BitVec 32 := v1033
  let v1168 : Index := Scalar.indexCast v1034
  let c0_481 : Index := 0#32
  ![0, v1167.toNat, v1168.toNat, 0]

def k0_chk59 (v1028 : BitVec 32) (v1164 : BitVec 32) : Prop :=
  (∀ a, (k0_off60 v1028 v1164) a + S1x2x48x256.size a ≤ S1x200x200x256.size a)
theorem k0_off60_inb : ∀ (v1028 : BitVec 32) (v1164 : BitVec 32) (k0_hw59 : k0_chk59 v1028 v1164), ∀ a, (k0_off60 v1028 v1164) a + S1x2x48x256.size a ≤ S1x200x200x256.size a := fun v1028 v1164 k0_hw59 => k0_hw59

def k0_off61 (v1028 : BitVec 32) (v1176 : BitVec 32) : Fin 4 → Nat :=
  let c0_486 : Index := 0#32
  let c198_i32_484 : BitVec 32 := 198#32
  let v1177 : BitVec 32 := Scalar.minsi v1176 c198_i32_484
  let c0_i32_485 : BitVec 32 := 0#32
  let v1178 : BitVec 32 := Scalar.maxsi v1177 c0_i32_485
  let v1179 : Index := Scalar.indexCast v1178
  let c198_i32_426 : BitVec 32 := 198#32
  let c0_i32_425 : BitVec 32 := 0#32
  let v1029 : BitVec 32 := Scalar.maxsi c0_i32_425 v1028
  let v1030 : BitVec 32 := Scalar.minsi c198_i32_426 v1029
  let c3_i32_427 : BitVec 32 := 3#32
  let v1031 : BitVec 32 := Scalar.shrsi v1030 c3_i32_427
  let c3_i32_428 : BitVec 32 := 3#32
  let v1032 : BitVec 32 := Scalar.shli v1031 c3_i32_428
  let c152_i32_429 : BitVec 32 := 152#32
  let v1033 : BitVec 32 := Scalar.minsi v1032 c152_i32_429
  let v1034 : BitVec 32 := v1033
  let v1180 : Index := Scalar.indexCast v1034
  let c0_487 : Index := 0#32
  ![0, v1179.toNat, v1180.toNat, 0]

def k0_chk60 (v1028 : BitVec 32) (v1176 : BitVec 32) : Prop :=
  (∀ a, (k0_off61 v1028 v1176) a + S1x2x48x256.size a ≤ S1x200x200x256.size a)
theorem k0_off61_inb : ∀ (v1028 : BitVec 32) (v1176 : BitVec 32) (k0_hw60 : k0_chk60 v1028 v1176), ∀ a, (k0_off61 v1028 v1176) a + S1x2x48x256.size a ≤ S1x200x200x256.size a := fun v1028 v1176 k0_hw60 => k0_hw60

def k0_off62 (i : grid0.Coords) (k0_t1 : Fin k0_t1_loop.trips) : Fin 1 → Nat :=
  let arg0 : BitVec 32 := BitVec.ofNat 32 (i 0).val
  let c128_i32_489 : BitVec 32 := 128#32
  let v1187 : BitVec 32 := Scalar.muli arg0 c128_i32_489
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c6_i32 : BitVec 32 := 6#32
  let v1186 : BitVec 32 := Scalar.addi v15 c6_i32
  let v1188 : BitVec 32 := Scalar.addi v1187 v1186
  let v1189 : Index := Scalar.indexCast v1188
  ![v1189.toNat]
def k0_off63 (v1190 : BitVec 32) (c1_i32_493 : BitVec 32) : Fin 1 → Nat :=
  let c0_i32_491 : BitVec 32 := 0#32
  let v1194 : BitVec 32 := Scalar.maxsi v1190 c0_i32_491
  let c5_i32_492 : BitVec 32 := 5#32
  let v1195 : BitVec 32 := Scalar.muli v1194 c5_i32_492
  let v1196 : BitVec 32 := Scalar.addi v1195 c1_i32_493
  let v1197 : Index := Scalar.indexCast v1196
  ![v1197.toNat]

def k0_chk61 (v1190 : BitVec 32) : Prop :=
  (∀ (r : Fin 4), ∀ a, (k0_off63 v1190 (BitVec.ofNat 32 (1 + r.val))) a + S1.size a ≤ S5120.size a)
theorem k0_off63_inb : ∀ (v1190 : BitVec 32) (k0_hw61 : k0_chk61 v1190), ∀ (r : Fin 4), ∀ a, (k0_off63 v1190 (BitVec.ofNat 32 (1 + r.val))) a + S1.size a ≤ S5120.size a := fun v1190 k0_hw61 r => k0_hw61 r

def k0_mult7 (v1223 : BitVec 32) : BitVec 32 :=
  let c198_i32_507 : BitVec 32 := 198#32
  let c0_i32_506 : BitVec 32 := 0#32
  let v1224 : BitVec 32 := Scalar.maxsi c0_i32_506 v1223
  let v1225 : BitVec 32 := Scalar.minsi c198_i32_507 v1224
  let c3_i32_508 : BitVec 32 := 3#32
  let v1226 : BitVec 32 := Scalar.shrsi v1225 c3_i32_508
  let c3_i32_509 : BitVec 32 := 3#32
  let v1227 : BitVec 32 := Scalar.shli v1226 c3_i32_509
  let c152_i32_510 : BitVec 32 := 152#32
  let v1228 : BitVec 32 := Scalar.minsi v1227 c152_i32_510
  v1228

def k0_chk62 (v1223 : BitVec 32) : Prop :=
  (8 ∣ (k0_mult7 v1223).toNat)
theorem k0_mult7_dvd : ∀ (v1223 : BitVec 32) (k0_hw62 : k0_chk62 v1223), 8 ∣ (k0_mult7 v1223).toNat := fun v1223 k0_hw62 => k0_hw62

def k0_off64 (v1223 : BitVec 32) (v1287 : BitVec 32) : Fin 4 → Nat :=
  let c0_525 : Index := 0#32
  let c198_i32_523 : BitVec 32 := 198#32
  let v1288 : BitVec 32 := Scalar.minsi v1287 c198_i32_523
  let c0_i32_524 : BitVec 32 := 0#32
  let v1289 : BitVec 32 := Scalar.maxsi v1288 c0_i32_524
  let v1290 : Index := Scalar.indexCast v1289
  let c198_i32_507 : BitVec 32 := 198#32
  let c0_i32_506 : BitVec 32 := 0#32
  let v1224 : BitVec 32 := Scalar.maxsi c0_i32_506 v1223
  let v1225 : BitVec 32 := Scalar.minsi c198_i32_507 v1224
  let c3_i32_508 : BitVec 32 := 3#32
  let v1226 : BitVec 32 := Scalar.shrsi v1225 c3_i32_508
  let c3_i32_509 : BitVec 32 := 3#32
  let v1227 : BitVec 32 := Scalar.shli v1226 c3_i32_509
  let c152_i32_510 : BitVec 32 := 152#32
  let v1228 : BitVec 32 := Scalar.minsi v1227 c152_i32_510
  let v1229 : BitVec 32 := v1228
  let v1291 : Index := Scalar.indexCast v1229
  let c0_526 : Index := 0#32
  ![0, v1290.toNat, v1291.toNat, 0]

def k0_chk63 (v1223 : BitVec 32) (v1287 : BitVec 32) : Prop :=
  (∀ a, (k0_off64 v1223 v1287) a + S1x2x48x256.size a ≤ S1x200x200x256.size a)
theorem k0_off64_inb : ∀ (v1223 : BitVec 32) (v1287 : BitVec 32) (k0_hw63 : k0_chk63 v1223 v1287), ∀ a, (k0_off64 v1223 v1287) a + S1x2x48x256.size a ≤ S1x200x200x256.size a := fun v1223 v1287 k0_hw63 => k0_hw63

def k0_off65 (v1223 : BitVec 32) (v1299 : BitVec 32) : Fin 4 → Nat :=
  let c0_531 : Index := 0#32
  let c198_i32_529 : BitVec 32 := 198#32
  let v1300 : BitVec 32 := Scalar.minsi v1299 c198_i32_529
  let c0_i32_530 : BitVec 32 := 0#32
  let v1301 : BitVec 32 := Scalar.maxsi v1300 c0_i32_530
  let v1302 : Index := Scalar.indexCast v1301
  let c198_i32_507 : BitVec 32 := 198#32
  let c0_i32_506 : BitVec 32 := 0#32
  let v1224 : BitVec 32 := Scalar.maxsi c0_i32_506 v1223
  let v1225 : BitVec 32 := Scalar.minsi c198_i32_507 v1224
  let c3_i32_508 : BitVec 32 := 3#32
  let v1226 : BitVec 32 := Scalar.shrsi v1225 c3_i32_508
  let c3_i32_509 : BitVec 32 := 3#32
  let v1227 : BitVec 32 := Scalar.shli v1226 c3_i32_509
  let c152_i32_510 : BitVec 32 := 152#32
  let v1228 : BitVec 32 := Scalar.minsi v1227 c152_i32_510
  let v1229 : BitVec 32 := v1228
  let v1303 : Index := Scalar.indexCast v1229
  let c0_532 : Index := 0#32
  ![0, v1302.toNat, v1303.toNat, 0]

def k0_chk64 (v1223 : BitVec 32) (v1299 : BitVec 32) : Prop :=
  (∀ a, (k0_off65 v1223 v1299) a + S1x2x48x256.size a ≤ S1x200x200x256.size a)
theorem k0_off65_inb : ∀ (v1223 : BitVec 32) (v1299 : BitVec 32) (k0_hw64 : k0_chk64 v1223 v1299), ∀ a, (k0_off65 v1223 v1299) a + S1x2x48x256.size a ≤ S1x200x200x256.size a := fun v1223 v1299 k0_hw64 => k0_hw64

def k0_off66 (v1223 : BitVec 32) (v1311 : BitVec 32) : Fin 4 → Nat :=
  let c0_537 : Index := 0#32
  let c198_i32_535 : BitVec 32 := 198#32
  let v1312 : BitVec 32 := Scalar.minsi v1311 c198_i32_535
  let c0_i32_536 : BitVec 32 := 0#32
  let v1313 : BitVec 32 := Scalar.maxsi v1312 c0_i32_536
  let v1314 : Index := Scalar.indexCast v1313
  let c198_i32_507 : BitVec 32 := 198#32
  let c0_i32_506 : BitVec 32 := 0#32
  let v1224 : BitVec 32 := Scalar.maxsi c0_i32_506 v1223
  let v1225 : BitVec 32 := Scalar.minsi c198_i32_507 v1224
  let c3_i32_508 : BitVec 32 := 3#32
  let v1226 : BitVec 32 := Scalar.shrsi v1225 c3_i32_508
  let c3_i32_509 : BitVec 32 := 3#32
  let v1227 : BitVec 32 := Scalar.shli v1226 c3_i32_509
  let c152_i32_510 : BitVec 32 := 152#32
  let v1228 : BitVec 32 := Scalar.minsi v1227 c152_i32_510
  let v1229 : BitVec 32 := v1228
  let v1315 : Index := Scalar.indexCast v1229
  let c0_538 : Index := 0#32
  ![0, v1314.toNat, v1315.toNat, 0]

def k0_chk65 (v1223 : BitVec 32) (v1311 : BitVec 32) : Prop :=
  (∀ a, (k0_off66 v1223 v1311) a + S1x2x48x256.size a ≤ S1x200x200x256.size a)
theorem k0_off66_inb : ∀ (v1223 : BitVec 32) (v1311 : BitVec 32) (k0_hw65 : k0_chk65 v1223 v1311), ∀ a, (k0_off66 v1223 v1311) a + S1x2x48x256.size a ≤ S1x200x200x256.size a := fun v1223 v1311 k0_hw65 => k0_hw65

def k0_off67 (v1223 : BitVec 32) (v1323 : BitVec 32) : Fin 4 → Nat :=
  let c0_543 : Index := 0#32
  let c198_i32_541 : BitVec 32 := 198#32
  let v1324 : BitVec 32 := Scalar.minsi v1323 c198_i32_541
  let c0_i32_542 : BitVec 32 := 0#32
  let v1325 : BitVec 32 := Scalar.maxsi v1324 c0_i32_542
  let v1326 : Index := Scalar.indexCast v1325
  let c198_i32_507 : BitVec 32 := 198#32
  let c0_i32_506 : BitVec 32 := 0#32
  let v1224 : BitVec 32 := Scalar.maxsi c0_i32_506 v1223
  let v1225 : BitVec 32 := Scalar.minsi c198_i32_507 v1224
  let c3_i32_508 : BitVec 32 := 3#32
  let v1226 : BitVec 32 := Scalar.shrsi v1225 c3_i32_508
  let c3_i32_509 : BitVec 32 := 3#32
  let v1227 : BitVec 32 := Scalar.shli v1226 c3_i32_509
  let c152_i32_510 : BitVec 32 := 152#32
  let v1228 : BitVec 32 := Scalar.minsi v1227 c152_i32_510
  let v1229 : BitVec 32 := v1228
  let v1327 : Index := Scalar.indexCast v1229
  let c0_544 : Index := 0#32
  ![0, v1326.toNat, v1327.toNat, 0]

def k0_chk66 (v1223 : BitVec 32) (v1323 : BitVec 32) : Prop :=
  (∀ a, (k0_off67 v1223 v1323) a + S1x2x48x256.size a ≤ S1x200x200x256.size a)
theorem k0_off67_inb : ∀ (v1223 : BitVec 32) (v1323 : BitVec 32) (k0_hw66 : k0_chk66 v1223 v1323), ∀ a, (k0_off67 v1223 v1323) a + S1x2x48x256.size a ≤ S1x200x200x256.size a := fun v1223 v1323 k0_hw66 => k0_hw66

def k0_off68 (v1223 : BitVec 32) (v1335 : BitVec 32) : Fin 4 → Nat :=
  let c0_549 : Index := 0#32
  let c198_i32_547 : BitVec 32 := 198#32
  let v1336 : BitVec 32 := Scalar.minsi v1335 c198_i32_547
  let c0_i32_548 : BitVec 32 := 0#32
  let v1337 : BitVec 32 := Scalar.maxsi v1336 c0_i32_548
  let v1338 : Index := Scalar.indexCast v1337
  let c198_i32_507 : BitVec 32 := 198#32
  let c0_i32_506 : BitVec 32 := 0#32
  let v1224 : BitVec 32 := Scalar.maxsi c0_i32_506 v1223
  let v1225 : BitVec 32 := Scalar.minsi c198_i32_507 v1224
  let c3_i32_508 : BitVec 32 := 3#32
  let v1226 : BitVec 32 := Scalar.shrsi v1225 c3_i32_508
  let c3_i32_509 : BitVec 32 := 3#32
  let v1227 : BitVec 32 := Scalar.shli v1226 c3_i32_509
  let c152_i32_510 : BitVec 32 := 152#32
  let v1228 : BitVec 32 := Scalar.minsi v1227 c152_i32_510
  let v1229 : BitVec 32 := v1228
  let v1339 : Index := Scalar.indexCast v1229
  let c0_550 : Index := 0#32
  ![0, v1338.toNat, v1339.toNat, 0]

def k0_chk67 (v1223 : BitVec 32) (v1335 : BitVec 32) : Prop :=
  (∀ a, (k0_off68 v1223 v1335) a + S1x2x48x256.size a ≤ S1x200x200x256.size a)
theorem k0_off68_inb : ∀ (v1223 : BitVec 32) (v1335 : BitVec 32) (k0_hw67 : k0_chk67 v1223 v1335), ∀ a, (k0_off68 v1223 v1335) a + S1x2x48x256.size a ≤ S1x200x200x256.size a := fun v1223 v1335 k0_hw67 => k0_hw67

def k0_off69 (v1223 : BitVec 32) (v1347 : BitVec 32) : Fin 4 → Nat :=
  let c0_555 : Index := 0#32
  let c198_i32_553 : BitVec 32 := 198#32
  let v1348 : BitVec 32 := Scalar.minsi v1347 c198_i32_553
  let c0_i32_554 : BitVec 32 := 0#32
  let v1349 : BitVec 32 := Scalar.maxsi v1348 c0_i32_554
  let v1350 : Index := Scalar.indexCast v1349
  let c198_i32_507 : BitVec 32 := 198#32
  let c0_i32_506 : BitVec 32 := 0#32
  let v1224 : BitVec 32 := Scalar.maxsi c0_i32_506 v1223
  let v1225 : BitVec 32 := Scalar.minsi c198_i32_507 v1224
  let c3_i32_508 : BitVec 32 := 3#32
  let v1226 : BitVec 32 := Scalar.shrsi v1225 c3_i32_508
  let c3_i32_509 : BitVec 32 := 3#32
  let v1227 : BitVec 32 := Scalar.shli v1226 c3_i32_509
  let c152_i32_510 : BitVec 32 := 152#32
  let v1228 : BitVec 32 := Scalar.minsi v1227 c152_i32_510
  let v1229 : BitVec 32 := v1228
  let v1351 : Index := Scalar.indexCast v1229
  let c0_556 : Index := 0#32
  ![0, v1350.toNat, v1351.toNat, 0]

def k0_chk68 (v1223 : BitVec 32) (v1347 : BitVec 32) : Prop :=
  (∀ a, (k0_off69 v1223 v1347) a + S1x2x48x256.size a ≤ S1x200x200x256.size a)
theorem k0_off69_inb : ∀ (v1223 : BitVec 32) (v1347 : BitVec 32) (k0_hw68 : k0_chk68 v1223 v1347), ∀ a, (k0_off69 v1223 v1347) a + S1x2x48x256.size a ≤ S1x200x200x256.size a := fun v1223 v1347 k0_hw68 => k0_hw68

def k0_off70 (v1223 : BitVec 32) (v1359 : BitVec 32) : Fin 4 → Nat :=
  let c0_561 : Index := 0#32
  let c198_i32_559 : BitVec 32 := 198#32
  let v1360 : BitVec 32 := Scalar.minsi v1359 c198_i32_559
  let c0_i32_560 : BitVec 32 := 0#32
  let v1361 : BitVec 32 := Scalar.maxsi v1360 c0_i32_560
  let v1362 : Index := Scalar.indexCast v1361
  let c198_i32_507 : BitVec 32 := 198#32
  let c0_i32_506 : BitVec 32 := 0#32
  let v1224 : BitVec 32 := Scalar.maxsi c0_i32_506 v1223
  let v1225 : BitVec 32 := Scalar.minsi c198_i32_507 v1224
  let c3_i32_508 : BitVec 32 := 3#32
  let v1226 : BitVec 32 := Scalar.shrsi v1225 c3_i32_508
  let c3_i32_509 : BitVec 32 := 3#32
  let v1227 : BitVec 32 := Scalar.shli v1226 c3_i32_509
  let c152_i32_510 : BitVec 32 := 152#32
  let v1228 : BitVec 32 := Scalar.minsi v1227 c152_i32_510
  let v1229 : BitVec 32 := v1228
  let v1363 : Index := Scalar.indexCast v1229
  let c0_562 : Index := 0#32
  ![0, v1362.toNat, v1363.toNat, 0]

def k0_chk69 (v1223 : BitVec 32) (v1359 : BitVec 32) : Prop :=
  (∀ a, (k0_off70 v1223 v1359) a + S1x2x48x256.size a ≤ S1x200x200x256.size a)
theorem k0_off70_inb : ∀ (v1223 : BitVec 32) (v1359 : BitVec 32) (k0_hw69 : k0_chk69 v1223 v1359), ∀ a, (k0_off70 v1223 v1359) a + S1x2x48x256.size a ≤ S1x200x200x256.size a := fun v1223 v1359 k0_hw69 => k0_hw69

def k0_off71 (v1223 : BitVec 32) (v1371 : BitVec 32) : Fin 4 → Nat :=
  let c0_567 : Index := 0#32
  let c198_i32_565 : BitVec 32 := 198#32
  let v1372 : BitVec 32 := Scalar.minsi v1371 c198_i32_565
  let c0_i32_566 : BitVec 32 := 0#32
  let v1373 : BitVec 32 := Scalar.maxsi v1372 c0_i32_566
  let v1374 : Index := Scalar.indexCast v1373
  let c198_i32_507 : BitVec 32 := 198#32
  let c0_i32_506 : BitVec 32 := 0#32
  let v1224 : BitVec 32 := Scalar.maxsi c0_i32_506 v1223
  let v1225 : BitVec 32 := Scalar.minsi c198_i32_507 v1224
  let c3_i32_508 : BitVec 32 := 3#32
  let v1226 : BitVec 32 := Scalar.shrsi v1225 c3_i32_508
  let c3_i32_509 : BitVec 32 := 3#32
  let v1227 : BitVec 32 := Scalar.shli v1226 c3_i32_509
  let c152_i32_510 : BitVec 32 := 152#32
  let v1228 : BitVec 32 := Scalar.minsi v1227 c152_i32_510
  let v1229 : BitVec 32 := v1228
  let v1375 : Index := Scalar.indexCast v1229
  let c0_568 : Index := 0#32
  ![0, v1374.toNat, v1375.toNat, 0]

def k0_chk70 (v1223 : BitVec 32) (v1371 : BitVec 32) : Prop :=
  (∀ a, (k0_off71 v1223 v1371) a + S1x2x48x256.size a ≤ S1x200x200x256.size a)
theorem k0_off71_inb : ∀ (v1223 : BitVec 32) (v1371 : BitVec 32) (k0_hw70 : k0_chk70 v1223 v1371), ∀ a, (k0_off71 v1223 v1371) a + S1x2x48x256.size a ≤ S1x200x200x256.size a := fun v1223 v1371 k0_hw70 => k0_hw70

def k0_off72 (i : grid0.Coords) (k0_t1 : Fin k0_t1_loop.trips) : Fin 1 → Nat :=
  let arg0 : BitVec 32 := BitVec.ofNat 32 (i 0).val
  let c128_i32_571 : BitVec 32 := 128#32
  let v1382 : BitVec 32 := Scalar.muli arg0 c128_i32_571
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c7_i32_570 : BitVec 32 := 7#32
  let v1381 : BitVec 32 := Scalar.addi v15 c7_i32_570
  let v1383 : BitVec 32 := Scalar.addi v1382 v1381
  let v1384 : Index := Scalar.indexCast v1383
  ![v1384.toNat]
def k0_off73 (v1385 : BitVec 32) (c1_i32_575 : BitVec 32) : Fin 1 → Nat :=
  let c0_i32_573 : BitVec 32 := 0#32
  let v1389 : BitVec 32 := Scalar.maxsi v1385 c0_i32_573
  let c5_i32_574 : BitVec 32 := 5#32
  let v1390 : BitVec 32 := Scalar.muli v1389 c5_i32_574
  let v1391 : BitVec 32 := Scalar.addi v1390 c1_i32_575
  let v1392 : Index := Scalar.indexCast v1391
  ![v1392.toNat]

def k0_chk71 (v1385 : BitVec 32) : Prop :=
  (∀ (r : Fin 4), ∀ a, (k0_off73 v1385 (BitVec.ofNat 32 (1 + r.val))) a + S1.size a ≤ S5120.size a)
theorem k0_off73_inb : ∀ (v1385 : BitVec 32) (k0_hw71 : k0_chk71 v1385), ∀ (r : Fin 4), ∀ a, (k0_off73 v1385 (BitVec.ofNat 32 (1 + r.val))) a + S1.size a ≤ S5120.size a := fun v1385 k0_hw71 r => k0_hw71 r

def k0_mult8 (v1418 : BitVec 32) : BitVec 32 :=
  let c198_i32_589 : BitVec 32 := 198#32
  let c0_i32_588 : BitVec 32 := 0#32
  let v1419 : BitVec 32 := Scalar.maxsi c0_i32_588 v1418
  let v1420 : BitVec 32 := Scalar.minsi c198_i32_589 v1419
  let c3_i32_590 : BitVec 32 := 3#32
  let v1421 : BitVec 32 := Scalar.shrsi v1420 c3_i32_590
  let c3_i32_591 : BitVec 32 := 3#32
  let v1422 : BitVec 32 := Scalar.shli v1421 c3_i32_591
  let c152_i32_592 : BitVec 32 := 152#32
  let v1423 : BitVec 32 := Scalar.minsi v1422 c152_i32_592
  v1423

def k0_chk72 (v1418 : BitVec 32) : Prop :=
  (8 ∣ (k0_mult8 v1418).toNat)
theorem k0_mult8_dvd : ∀ (v1418 : BitVec 32) (k0_hw72 : k0_chk72 v1418), 8 ∣ (k0_mult8 v1418).toNat := fun v1418 k0_hw72 => k0_hw72

def k0_off74 (v1418 : BitVec 32) (v1482 : BitVec 32) : Fin 4 → Nat :=
  let c0_607 : Index := 0#32
  let c198_i32_605 : BitVec 32 := 198#32
  let v1483 : BitVec 32 := Scalar.minsi v1482 c198_i32_605
  let c0_i32_606 : BitVec 32 := 0#32
  let v1484 : BitVec 32 := Scalar.maxsi v1483 c0_i32_606
  let v1485 : Index := Scalar.indexCast v1484
  let c198_i32_589 : BitVec 32 := 198#32
  let c0_i32_588 : BitVec 32 := 0#32
  let v1419 : BitVec 32 := Scalar.maxsi c0_i32_588 v1418
  let v1420 : BitVec 32 := Scalar.minsi c198_i32_589 v1419
  let c3_i32_590 : BitVec 32 := 3#32
  let v1421 : BitVec 32 := Scalar.shrsi v1420 c3_i32_590
  let c3_i32_591 : BitVec 32 := 3#32
  let v1422 : BitVec 32 := Scalar.shli v1421 c3_i32_591
  let c152_i32_592 : BitVec 32 := 152#32
  let v1423 : BitVec 32 := Scalar.minsi v1422 c152_i32_592
  let v1424 : BitVec 32 := v1423
  let v1486 : Index := Scalar.indexCast v1424
  let c0_608 : Index := 0#32
  ![0, v1485.toNat, v1486.toNat, 0]

def k0_chk73 (v1418 : BitVec 32) (v1482 : BitVec 32) : Prop :=
  (∀ a, (k0_off74 v1418 v1482) a + S1x2x48x256.size a ≤ S1x200x200x256.size a)
theorem k0_off74_inb : ∀ (v1418 : BitVec 32) (v1482 : BitVec 32) (k0_hw73 : k0_chk73 v1418 v1482), ∀ a, (k0_off74 v1418 v1482) a + S1x2x48x256.size a ≤ S1x200x200x256.size a := fun v1418 v1482 k0_hw73 => k0_hw73

def k0_off75 (v1418 : BitVec 32) (v1494 : BitVec 32) : Fin 4 → Nat :=
  let c0_613 : Index := 0#32
  let c198_i32_611 : BitVec 32 := 198#32
  let v1495 : BitVec 32 := Scalar.minsi v1494 c198_i32_611
  let c0_i32_612 : BitVec 32 := 0#32
  let v1496 : BitVec 32 := Scalar.maxsi v1495 c0_i32_612
  let v1497 : Index := Scalar.indexCast v1496
  let c198_i32_589 : BitVec 32 := 198#32
  let c0_i32_588 : BitVec 32 := 0#32
  let v1419 : BitVec 32 := Scalar.maxsi c0_i32_588 v1418
  let v1420 : BitVec 32 := Scalar.minsi c198_i32_589 v1419
  let c3_i32_590 : BitVec 32 := 3#32
  let v1421 : BitVec 32 := Scalar.shrsi v1420 c3_i32_590
  let c3_i32_591 : BitVec 32 := 3#32
  let v1422 : BitVec 32 := Scalar.shli v1421 c3_i32_591
  let c152_i32_592 : BitVec 32 := 152#32
  let v1423 : BitVec 32 := Scalar.minsi v1422 c152_i32_592
  let v1424 : BitVec 32 := v1423
  let v1498 : Index := Scalar.indexCast v1424
  let c0_614 : Index := 0#32
  ![0, v1497.toNat, v1498.toNat, 0]

def k0_chk74 (v1418 : BitVec 32) (v1494 : BitVec 32) : Prop :=
  (∀ a, (k0_off75 v1418 v1494) a + S1x2x48x256.size a ≤ S1x200x200x256.size a)
theorem k0_off75_inb : ∀ (v1418 : BitVec 32) (v1494 : BitVec 32) (k0_hw74 : k0_chk74 v1418 v1494), ∀ a, (k0_off75 v1418 v1494) a + S1x2x48x256.size a ≤ S1x200x200x256.size a := fun v1418 v1494 k0_hw74 => k0_hw74

def k0_off76 (v1418 : BitVec 32) (v1506 : BitVec 32) : Fin 4 → Nat :=
  let c0_619 : Index := 0#32
  let c198_i32_617 : BitVec 32 := 198#32
  let v1507 : BitVec 32 := Scalar.minsi v1506 c198_i32_617
  let c0_i32_618 : BitVec 32 := 0#32
  let v1508 : BitVec 32 := Scalar.maxsi v1507 c0_i32_618
  let v1509 : Index := Scalar.indexCast v1508
  let c198_i32_589 : BitVec 32 := 198#32
  let c0_i32_588 : BitVec 32 := 0#32
  let v1419 : BitVec 32 := Scalar.maxsi c0_i32_588 v1418
  let v1420 : BitVec 32 := Scalar.minsi c198_i32_589 v1419
  let c3_i32_590 : BitVec 32 := 3#32
  let v1421 : BitVec 32 := Scalar.shrsi v1420 c3_i32_590
  let c3_i32_591 : BitVec 32 := 3#32
  let v1422 : BitVec 32 := Scalar.shli v1421 c3_i32_591
  let c152_i32_592 : BitVec 32 := 152#32
  let v1423 : BitVec 32 := Scalar.minsi v1422 c152_i32_592
  let v1424 : BitVec 32 := v1423
  let v1510 : Index := Scalar.indexCast v1424
  let c0_620 : Index := 0#32
  ![0, v1509.toNat, v1510.toNat, 0]

def k0_chk75 (v1418 : BitVec 32) (v1506 : BitVec 32) : Prop :=
  (∀ a, (k0_off76 v1418 v1506) a + S1x2x48x256.size a ≤ S1x200x200x256.size a)
theorem k0_off76_inb : ∀ (v1418 : BitVec 32) (v1506 : BitVec 32) (k0_hw75 : k0_chk75 v1418 v1506), ∀ a, (k0_off76 v1418 v1506) a + S1x2x48x256.size a ≤ S1x200x200x256.size a := fun v1418 v1506 k0_hw75 => k0_hw75

def k0_off77 (v1418 : BitVec 32) (v1518 : BitVec 32) : Fin 4 → Nat :=
  let c0_625 : Index := 0#32
  let c198_i32_623 : BitVec 32 := 198#32
  let v1519 : BitVec 32 := Scalar.minsi v1518 c198_i32_623
  let c0_i32_624 : BitVec 32 := 0#32
  let v1520 : BitVec 32 := Scalar.maxsi v1519 c0_i32_624
  let v1521 : Index := Scalar.indexCast v1520
  let c198_i32_589 : BitVec 32 := 198#32
  let c0_i32_588 : BitVec 32 := 0#32
  let v1419 : BitVec 32 := Scalar.maxsi c0_i32_588 v1418
  let v1420 : BitVec 32 := Scalar.minsi c198_i32_589 v1419
  let c3_i32_590 : BitVec 32 := 3#32
  let v1421 : BitVec 32 := Scalar.shrsi v1420 c3_i32_590
  let c3_i32_591 : BitVec 32 := 3#32
  let v1422 : BitVec 32 := Scalar.shli v1421 c3_i32_591
  let c152_i32_592 : BitVec 32 := 152#32
  let v1423 : BitVec 32 := Scalar.minsi v1422 c152_i32_592
  let v1424 : BitVec 32 := v1423
  let v1522 : Index := Scalar.indexCast v1424
  let c0_626 : Index := 0#32
  ![0, v1521.toNat, v1522.toNat, 0]

def k0_chk76 (v1418 : BitVec 32) (v1518 : BitVec 32) : Prop :=
  (∀ a, (k0_off77 v1418 v1518) a + S1x2x48x256.size a ≤ S1x200x200x256.size a)
theorem k0_off77_inb : ∀ (v1418 : BitVec 32) (v1518 : BitVec 32) (k0_hw76 : k0_chk76 v1418 v1518), ∀ a, (k0_off77 v1418 v1518) a + S1x2x48x256.size a ≤ S1x200x200x256.size a := fun v1418 v1518 k0_hw76 => k0_hw76

def k0_off78 (v1418 : BitVec 32) (v1530 : BitVec 32) : Fin 4 → Nat :=
  let c0_631 : Index := 0#32
  let c198_i32_629 : BitVec 32 := 198#32
  let v1531 : BitVec 32 := Scalar.minsi v1530 c198_i32_629
  let c0_i32_630 : BitVec 32 := 0#32
  let v1532 : BitVec 32 := Scalar.maxsi v1531 c0_i32_630
  let v1533 : Index := Scalar.indexCast v1532
  let c198_i32_589 : BitVec 32 := 198#32
  let c0_i32_588 : BitVec 32 := 0#32
  let v1419 : BitVec 32 := Scalar.maxsi c0_i32_588 v1418
  let v1420 : BitVec 32 := Scalar.minsi c198_i32_589 v1419
  let c3_i32_590 : BitVec 32 := 3#32
  let v1421 : BitVec 32 := Scalar.shrsi v1420 c3_i32_590
  let c3_i32_591 : BitVec 32 := 3#32
  let v1422 : BitVec 32 := Scalar.shli v1421 c3_i32_591
  let c152_i32_592 : BitVec 32 := 152#32
  let v1423 : BitVec 32 := Scalar.minsi v1422 c152_i32_592
  let v1424 : BitVec 32 := v1423
  let v1534 : Index := Scalar.indexCast v1424
  let c0_632 : Index := 0#32
  ![0, v1533.toNat, v1534.toNat, 0]

def k0_chk77 (v1418 : BitVec 32) (v1530 : BitVec 32) : Prop :=
  (∀ a, (k0_off78 v1418 v1530) a + S1x2x48x256.size a ≤ S1x200x200x256.size a)
theorem k0_off78_inb : ∀ (v1418 : BitVec 32) (v1530 : BitVec 32) (k0_hw77 : k0_chk77 v1418 v1530), ∀ a, (k0_off78 v1418 v1530) a + S1x2x48x256.size a ≤ S1x200x200x256.size a := fun v1418 v1530 k0_hw77 => k0_hw77

def k0_off79 (v1418 : BitVec 32) (v1542 : BitVec 32) : Fin 4 → Nat :=
  let c0_637 : Index := 0#32
  let c198_i32_635 : BitVec 32 := 198#32
  let v1543 : BitVec 32 := Scalar.minsi v1542 c198_i32_635
  let c0_i32_636 : BitVec 32 := 0#32
  let v1544 : BitVec 32 := Scalar.maxsi v1543 c0_i32_636
  let v1545 : Index := Scalar.indexCast v1544
  let c198_i32_589 : BitVec 32 := 198#32
  let c0_i32_588 : BitVec 32 := 0#32
  let v1419 : BitVec 32 := Scalar.maxsi c0_i32_588 v1418
  let v1420 : BitVec 32 := Scalar.minsi c198_i32_589 v1419
  let c3_i32_590 : BitVec 32 := 3#32
  let v1421 : BitVec 32 := Scalar.shrsi v1420 c3_i32_590
  let c3_i32_591 : BitVec 32 := 3#32
  let v1422 : BitVec 32 := Scalar.shli v1421 c3_i32_591
  let c152_i32_592 : BitVec 32 := 152#32
  let v1423 : BitVec 32 := Scalar.minsi v1422 c152_i32_592
  let v1424 : BitVec 32 := v1423
  let v1546 : Index := Scalar.indexCast v1424
  let c0_638 : Index := 0#32
  ![0, v1545.toNat, v1546.toNat, 0]

def k0_chk78 (v1418 : BitVec 32) (v1542 : BitVec 32) : Prop :=
  (∀ a, (k0_off79 v1418 v1542) a + S1x2x48x256.size a ≤ S1x200x200x256.size a)
theorem k0_off79_inb : ∀ (v1418 : BitVec 32) (v1542 : BitVec 32) (k0_hw78 : k0_chk78 v1418 v1542), ∀ a, (k0_off79 v1418 v1542) a + S1x2x48x256.size a ≤ S1x200x200x256.size a := fun v1418 v1542 k0_hw78 => k0_hw78

def k0_off80 (v1418 : BitVec 32) (v1554 : BitVec 32) : Fin 4 → Nat :=
  let c0_643 : Index := 0#32
  let c198_i32_641 : BitVec 32 := 198#32
  let v1555 : BitVec 32 := Scalar.minsi v1554 c198_i32_641
  let c0_i32_642 : BitVec 32 := 0#32
  let v1556 : BitVec 32 := Scalar.maxsi v1555 c0_i32_642
  let v1557 : Index := Scalar.indexCast v1556
  let c198_i32_589 : BitVec 32 := 198#32
  let c0_i32_588 : BitVec 32 := 0#32
  let v1419 : BitVec 32 := Scalar.maxsi c0_i32_588 v1418
  let v1420 : BitVec 32 := Scalar.minsi c198_i32_589 v1419
  let c3_i32_590 : BitVec 32 := 3#32
  let v1421 : BitVec 32 := Scalar.shrsi v1420 c3_i32_590
  let c3_i32_591 : BitVec 32 := 3#32
  let v1422 : BitVec 32 := Scalar.shli v1421 c3_i32_591
  let c152_i32_592 : BitVec 32 := 152#32
  let v1423 : BitVec 32 := Scalar.minsi v1422 c152_i32_592
  let v1424 : BitVec 32 := v1423
  let v1558 : Index := Scalar.indexCast v1424
  let c0_644 : Index := 0#32
  ![0, v1557.toNat, v1558.toNat, 0]

def k0_chk79 (v1418 : BitVec 32) (v1554 : BitVec 32) : Prop :=
  (∀ a, (k0_off80 v1418 v1554) a + S1x2x48x256.size a ≤ S1x200x200x256.size a)
theorem k0_off80_inb : ∀ (v1418 : BitVec 32) (v1554 : BitVec 32) (k0_hw79 : k0_chk79 v1418 v1554), ∀ a, (k0_off80 v1418 v1554) a + S1x2x48x256.size a ≤ S1x200x200x256.size a := fun v1418 v1554 k0_hw79 => k0_hw79

def k0_off81 (v1418 : BitVec 32) (v1566 : BitVec 32) : Fin 4 → Nat :=
  let c0_649 : Index := 0#32
  let c198_i32_647 : BitVec 32 := 198#32
  let v1567 : BitVec 32 := Scalar.minsi v1566 c198_i32_647
  let c0_i32_648 : BitVec 32 := 0#32
  let v1568 : BitVec 32 := Scalar.maxsi v1567 c0_i32_648
  let v1569 : Index := Scalar.indexCast v1568
  let c198_i32_589 : BitVec 32 := 198#32
  let c0_i32_588 : BitVec 32 := 0#32
  let v1419 : BitVec 32 := Scalar.maxsi c0_i32_588 v1418
  let v1420 : BitVec 32 := Scalar.minsi c198_i32_589 v1419
  let c3_i32_590 : BitVec 32 := 3#32
  let v1421 : BitVec 32 := Scalar.shrsi v1420 c3_i32_590
  let c3_i32_591 : BitVec 32 := 3#32
  let v1422 : BitVec 32 := Scalar.shli v1421 c3_i32_591
  let c152_i32_592 : BitVec 32 := 152#32
  let v1423 : BitVec 32 := Scalar.minsi v1422 c152_i32_592
  let v1424 : BitVec 32 := v1423
  let v1570 : Index := Scalar.indexCast v1424
  let c0_650 : Index := 0#32
  ![0, v1569.toNat, v1570.toNat, 0]

def k0_chk80 (v1418 : BitVec 32) (v1566 : BitVec 32) : Prop :=
  (∀ a, (k0_off81 v1418 v1566) a + S1x2x48x256.size a ≤ S1x200x200x256.size a)
theorem k0_off81_inb : ∀ (v1418 : BitVec 32) (v1566 : BitVec 32) (k0_hw80 : k0_chk80 v1418 v1566), ∀ a, (k0_off81 v1418 v1566) a + S1x2x48x256.size a ≤ S1x200x200x256.size a := fun v1418 v1566 k0_hw80 => k0_hw80

def k0_off82 (i : grid0.Coords) (k0_t1 : Fin k0_t1_loop.trips) : Fin 1 → Nat :=
  let arg0 : BitVec 32 := BitVec.ofNat 32 (i 0).val
  let c128_i32_653 : BitVec 32 := 128#32
  let v1577 : BitVec 32 := Scalar.muli arg0 c128_i32_653
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c8_i32_652 : BitVec 32 := 8#32
  let v1576 : BitVec 32 := Scalar.addi v15 c8_i32_652
  let v1578 : BitVec 32 := Scalar.addi v1577 v1576
  let v1579 : Index := Scalar.indexCast v1578
  ![v1579.toNat]
def k0_off83 (v1580 : BitVec 32) (c1_i32_657 : BitVec 32) : Fin 1 → Nat :=
  let c0_i32_655 : BitVec 32 := 0#32
  let v1584 : BitVec 32 := Scalar.maxsi v1580 c0_i32_655
  let c5_i32_656 : BitVec 32 := 5#32
  let v1585 : BitVec 32 := Scalar.muli v1584 c5_i32_656
  let v1586 : BitVec 32 := Scalar.addi v1585 c1_i32_657
  let v1587 : Index := Scalar.indexCast v1586
  ![v1587.toNat]

def k0_chk81 (v1580 : BitVec 32) : Prop :=
  (∀ (r : Fin 4), ∀ a, (k0_off83 v1580 (BitVec.ofNat 32 (1 + r.val))) a + S1.size a ≤ S5120.size a)
theorem k0_off83_inb : ∀ (v1580 : BitVec 32) (k0_hw81 : k0_chk81 v1580), ∀ (r : Fin 4), ∀ a, (k0_off83 v1580 (BitVec.ofNat 32 (1 + r.val))) a + S1.size a ≤ S5120.size a := fun v1580 k0_hw81 r => k0_hw81 r

def k0_mult9 (v1613 : BitVec 32) : BitVec 32 :=
  let c198_i32_671 : BitVec 32 := 198#32
  let c0_i32_670 : BitVec 32 := 0#32
  let v1614 : BitVec 32 := Scalar.maxsi c0_i32_670 v1613
  let v1615 : BitVec 32 := Scalar.minsi c198_i32_671 v1614
  let c3_i32_672 : BitVec 32 := 3#32
  let v1616 : BitVec 32 := Scalar.shrsi v1615 c3_i32_672
  let c3_i32_673 : BitVec 32 := 3#32
  let v1617 : BitVec 32 := Scalar.shli v1616 c3_i32_673
  let c152_i32_674 : BitVec 32 := 152#32
  let v1618 : BitVec 32 := Scalar.minsi v1617 c152_i32_674
  v1618

def k0_chk82 (v1613 : BitVec 32) : Prop :=
  (8 ∣ (k0_mult9 v1613).toNat)
theorem k0_mult9_dvd : ∀ (v1613 : BitVec 32) (k0_hw82 : k0_chk82 v1613), 8 ∣ (k0_mult9 v1613).toNat := fun v1613 k0_hw82 => k0_hw82

def k0_off84 (v1613 : BitVec 32) (v1677 : BitVec 32) : Fin 4 → Nat :=
  let c0_689 : Index := 0#32
  let c198_i32_687 : BitVec 32 := 198#32
  let v1678 : BitVec 32 := Scalar.minsi v1677 c198_i32_687
  let c0_i32_688 : BitVec 32 := 0#32
  let v1679 : BitVec 32 := Scalar.maxsi v1678 c0_i32_688
  let v1680 : Index := Scalar.indexCast v1679
  let c198_i32_671 : BitVec 32 := 198#32
  let c0_i32_670 : BitVec 32 := 0#32
  let v1614 : BitVec 32 := Scalar.maxsi c0_i32_670 v1613
  let v1615 : BitVec 32 := Scalar.minsi c198_i32_671 v1614
  let c3_i32_672 : BitVec 32 := 3#32
  let v1616 : BitVec 32 := Scalar.shrsi v1615 c3_i32_672
  let c3_i32_673 : BitVec 32 := 3#32
  let v1617 : BitVec 32 := Scalar.shli v1616 c3_i32_673
  let c152_i32_674 : BitVec 32 := 152#32
  let v1618 : BitVec 32 := Scalar.minsi v1617 c152_i32_674
  let v1619 : BitVec 32 := v1618
  let v1681 : Index := Scalar.indexCast v1619
  let c0_690 : Index := 0#32
  ![0, v1680.toNat, v1681.toNat, 0]

def k0_chk83 (v1613 : BitVec 32) (v1677 : BitVec 32) : Prop :=
  (∀ a, (k0_off84 v1613 v1677) a + S1x2x48x256.size a ≤ S1x200x200x256.size a)
theorem k0_off84_inb : ∀ (v1613 : BitVec 32) (v1677 : BitVec 32) (k0_hw83 : k0_chk83 v1613 v1677), ∀ a, (k0_off84 v1613 v1677) a + S1x2x48x256.size a ≤ S1x200x200x256.size a := fun v1613 v1677 k0_hw83 => k0_hw83

def k0_off85 (v1613 : BitVec 32) (v1689 : BitVec 32) : Fin 4 → Nat :=
  let c0_695 : Index := 0#32
  let c198_i32_693 : BitVec 32 := 198#32
  let v1690 : BitVec 32 := Scalar.minsi v1689 c198_i32_693
  let c0_i32_694 : BitVec 32 := 0#32
  let v1691 : BitVec 32 := Scalar.maxsi v1690 c0_i32_694
  let v1692 : Index := Scalar.indexCast v1691
  let c198_i32_671 : BitVec 32 := 198#32
  let c0_i32_670 : BitVec 32 := 0#32
  let v1614 : BitVec 32 := Scalar.maxsi c0_i32_670 v1613
  let v1615 : BitVec 32 := Scalar.minsi c198_i32_671 v1614
  let c3_i32_672 : BitVec 32 := 3#32
  let v1616 : BitVec 32 := Scalar.shrsi v1615 c3_i32_672
  let c3_i32_673 : BitVec 32 := 3#32
  let v1617 : BitVec 32 := Scalar.shli v1616 c3_i32_673
  let c152_i32_674 : BitVec 32 := 152#32
  let v1618 : BitVec 32 := Scalar.minsi v1617 c152_i32_674
  let v1619 : BitVec 32 := v1618
  let v1693 : Index := Scalar.indexCast v1619
  let c0_696 : Index := 0#32
  ![0, v1692.toNat, v1693.toNat, 0]

def k0_chk84 (v1613 : BitVec 32) (v1689 : BitVec 32) : Prop :=
  (∀ a, (k0_off85 v1613 v1689) a + S1x2x48x256.size a ≤ S1x200x200x256.size a)
theorem k0_off85_inb : ∀ (v1613 : BitVec 32) (v1689 : BitVec 32) (k0_hw84 : k0_chk84 v1613 v1689), ∀ a, (k0_off85 v1613 v1689) a + S1x2x48x256.size a ≤ S1x200x200x256.size a := fun v1613 v1689 k0_hw84 => k0_hw84

def k0_off86 (v1613 : BitVec 32) (v1701 : BitVec 32) : Fin 4 → Nat :=
  let c0_701 : Index := 0#32
  let c198_i32_699 : BitVec 32 := 198#32
  let v1702 : BitVec 32 := Scalar.minsi v1701 c198_i32_699
  let c0_i32_700 : BitVec 32 := 0#32
  let v1703 : BitVec 32 := Scalar.maxsi v1702 c0_i32_700
  let v1704 : Index := Scalar.indexCast v1703
  let c198_i32_671 : BitVec 32 := 198#32
  let c0_i32_670 : BitVec 32 := 0#32
  let v1614 : BitVec 32 := Scalar.maxsi c0_i32_670 v1613
  let v1615 : BitVec 32 := Scalar.minsi c198_i32_671 v1614
  let c3_i32_672 : BitVec 32 := 3#32
  let v1616 : BitVec 32 := Scalar.shrsi v1615 c3_i32_672
  let c3_i32_673 : BitVec 32 := 3#32
  let v1617 : BitVec 32 := Scalar.shli v1616 c3_i32_673
  let c152_i32_674 : BitVec 32 := 152#32
  let v1618 : BitVec 32 := Scalar.minsi v1617 c152_i32_674
  let v1619 : BitVec 32 := v1618
  let v1705 : Index := Scalar.indexCast v1619
  let c0_702 : Index := 0#32
  ![0, v1704.toNat, v1705.toNat, 0]

def k0_chk85 (v1613 : BitVec 32) (v1701 : BitVec 32) : Prop :=
  (∀ a, (k0_off86 v1613 v1701) a + S1x2x48x256.size a ≤ S1x200x200x256.size a)
theorem k0_off86_inb : ∀ (v1613 : BitVec 32) (v1701 : BitVec 32) (k0_hw85 : k0_chk85 v1613 v1701), ∀ a, (k0_off86 v1613 v1701) a + S1x2x48x256.size a ≤ S1x200x200x256.size a := fun v1613 v1701 k0_hw85 => k0_hw85

def k0_off87 (v1613 : BitVec 32) (v1713 : BitVec 32) : Fin 4 → Nat :=
  let c0_707 : Index := 0#32
  let c198_i32_705 : BitVec 32 := 198#32
  let v1714 : BitVec 32 := Scalar.minsi v1713 c198_i32_705
  let c0_i32_706 : BitVec 32 := 0#32
  let v1715 : BitVec 32 := Scalar.maxsi v1714 c0_i32_706
  let v1716 : Index := Scalar.indexCast v1715
  let c198_i32_671 : BitVec 32 := 198#32
  let c0_i32_670 : BitVec 32 := 0#32
  let v1614 : BitVec 32 := Scalar.maxsi c0_i32_670 v1613
  let v1615 : BitVec 32 := Scalar.minsi c198_i32_671 v1614
  let c3_i32_672 : BitVec 32 := 3#32
  let v1616 : BitVec 32 := Scalar.shrsi v1615 c3_i32_672
  let c3_i32_673 : BitVec 32 := 3#32
  let v1617 : BitVec 32 := Scalar.shli v1616 c3_i32_673
  let c152_i32_674 : BitVec 32 := 152#32
  let v1618 : BitVec 32 := Scalar.minsi v1617 c152_i32_674
  let v1619 : BitVec 32 := v1618
  let v1717 : Index := Scalar.indexCast v1619
  let c0_708 : Index := 0#32
  ![0, v1716.toNat, v1717.toNat, 0]

def k0_chk86 (v1613 : BitVec 32) (v1713 : BitVec 32) : Prop :=
  (∀ a, (k0_off87 v1613 v1713) a + S1x2x48x256.size a ≤ S1x200x200x256.size a)
theorem k0_off87_inb : ∀ (v1613 : BitVec 32) (v1713 : BitVec 32) (k0_hw86 : k0_chk86 v1613 v1713), ∀ a, (k0_off87 v1613 v1713) a + S1x2x48x256.size a ≤ S1x200x200x256.size a := fun v1613 v1713 k0_hw86 => k0_hw86

def k0_off88 (v1613 : BitVec 32) (v1725 : BitVec 32) : Fin 4 → Nat :=
  let c0_713 : Index := 0#32
  let c198_i32_711 : BitVec 32 := 198#32
  let v1726 : BitVec 32 := Scalar.minsi v1725 c198_i32_711
  let c0_i32_712 : BitVec 32 := 0#32
  let v1727 : BitVec 32 := Scalar.maxsi v1726 c0_i32_712
  let v1728 : Index := Scalar.indexCast v1727
  let c198_i32_671 : BitVec 32 := 198#32
  let c0_i32_670 : BitVec 32 := 0#32
  let v1614 : BitVec 32 := Scalar.maxsi c0_i32_670 v1613
  let v1615 : BitVec 32 := Scalar.minsi c198_i32_671 v1614
  let c3_i32_672 : BitVec 32 := 3#32
  let v1616 : BitVec 32 := Scalar.shrsi v1615 c3_i32_672
  let c3_i32_673 : BitVec 32 := 3#32
  let v1617 : BitVec 32 := Scalar.shli v1616 c3_i32_673
  let c152_i32_674 : BitVec 32 := 152#32
  let v1618 : BitVec 32 := Scalar.minsi v1617 c152_i32_674
  let v1619 : BitVec 32 := v1618
  let v1729 : Index := Scalar.indexCast v1619
  let c0_714 : Index := 0#32
  ![0, v1728.toNat, v1729.toNat, 0]

def k0_chk87 (v1613 : BitVec 32) (v1725 : BitVec 32) : Prop :=
  (∀ a, (k0_off88 v1613 v1725) a + S1x2x48x256.size a ≤ S1x200x200x256.size a)
theorem k0_off88_inb : ∀ (v1613 : BitVec 32) (v1725 : BitVec 32) (k0_hw87 : k0_chk87 v1613 v1725), ∀ a, (k0_off88 v1613 v1725) a + S1x2x48x256.size a ≤ S1x200x200x256.size a := fun v1613 v1725 k0_hw87 => k0_hw87

def k0_off89 (v1613 : BitVec 32) (v1737 : BitVec 32) : Fin 4 → Nat :=
  let c0_719 : Index := 0#32
  let c198_i32_717 : BitVec 32 := 198#32
  let v1738 : BitVec 32 := Scalar.minsi v1737 c198_i32_717
  let c0_i32_718 : BitVec 32 := 0#32
  let v1739 : BitVec 32 := Scalar.maxsi v1738 c0_i32_718
  let v1740 : Index := Scalar.indexCast v1739
  let c198_i32_671 : BitVec 32 := 198#32
  let c0_i32_670 : BitVec 32 := 0#32
  let v1614 : BitVec 32 := Scalar.maxsi c0_i32_670 v1613
  let v1615 : BitVec 32 := Scalar.minsi c198_i32_671 v1614
  let c3_i32_672 : BitVec 32 := 3#32
  let v1616 : BitVec 32 := Scalar.shrsi v1615 c3_i32_672
  let c3_i32_673 : BitVec 32 := 3#32
  let v1617 : BitVec 32 := Scalar.shli v1616 c3_i32_673
  let c152_i32_674 : BitVec 32 := 152#32
  let v1618 : BitVec 32 := Scalar.minsi v1617 c152_i32_674
  let v1619 : BitVec 32 := v1618
  let v1741 : Index := Scalar.indexCast v1619
  let c0_720 : Index := 0#32
  ![0, v1740.toNat, v1741.toNat, 0]

def k0_chk88 (v1613 : BitVec 32) (v1737 : BitVec 32) : Prop :=
  (∀ a, (k0_off89 v1613 v1737) a + S1x2x48x256.size a ≤ S1x200x200x256.size a)
theorem k0_off89_inb : ∀ (v1613 : BitVec 32) (v1737 : BitVec 32) (k0_hw88 : k0_chk88 v1613 v1737), ∀ a, (k0_off89 v1613 v1737) a + S1x2x48x256.size a ≤ S1x200x200x256.size a := fun v1613 v1737 k0_hw88 => k0_hw88

def k0_off90 (v1613 : BitVec 32) (v1749 : BitVec 32) : Fin 4 → Nat :=
  let c0_725 : Index := 0#32
  let c198_i32_723 : BitVec 32 := 198#32
  let v1750 : BitVec 32 := Scalar.minsi v1749 c198_i32_723
  let c0_i32_724 : BitVec 32 := 0#32
  let v1751 : BitVec 32 := Scalar.maxsi v1750 c0_i32_724
  let v1752 : Index := Scalar.indexCast v1751
  let c198_i32_671 : BitVec 32 := 198#32
  let c0_i32_670 : BitVec 32 := 0#32
  let v1614 : BitVec 32 := Scalar.maxsi c0_i32_670 v1613
  let v1615 : BitVec 32 := Scalar.minsi c198_i32_671 v1614
  let c3_i32_672 : BitVec 32 := 3#32
  let v1616 : BitVec 32 := Scalar.shrsi v1615 c3_i32_672
  let c3_i32_673 : BitVec 32 := 3#32
  let v1617 : BitVec 32 := Scalar.shli v1616 c3_i32_673
  let c152_i32_674 : BitVec 32 := 152#32
  let v1618 : BitVec 32 := Scalar.minsi v1617 c152_i32_674
  let v1619 : BitVec 32 := v1618
  let v1753 : Index := Scalar.indexCast v1619
  let c0_726 : Index := 0#32
  ![0, v1752.toNat, v1753.toNat, 0]

def k0_chk89 (v1613 : BitVec 32) (v1749 : BitVec 32) : Prop :=
  (∀ a, (k0_off90 v1613 v1749) a + S1x2x48x256.size a ≤ S1x200x200x256.size a)
theorem k0_off90_inb : ∀ (v1613 : BitVec 32) (v1749 : BitVec 32) (k0_hw89 : k0_chk89 v1613 v1749), ∀ a, (k0_off90 v1613 v1749) a + S1x2x48x256.size a ≤ S1x200x200x256.size a := fun v1613 v1749 k0_hw89 => k0_hw89

def k0_off91 (v1613 : BitVec 32) (v1761 : BitVec 32) : Fin 4 → Nat :=
  let c0_731 : Index := 0#32
  let c198_i32_729 : BitVec 32 := 198#32
  let v1762 : BitVec 32 := Scalar.minsi v1761 c198_i32_729
  let c0_i32_730 : BitVec 32 := 0#32
  let v1763 : BitVec 32 := Scalar.maxsi v1762 c0_i32_730
  let v1764 : Index := Scalar.indexCast v1763
  let c198_i32_671 : BitVec 32 := 198#32
  let c0_i32_670 : BitVec 32 := 0#32
  let v1614 : BitVec 32 := Scalar.maxsi c0_i32_670 v1613
  let v1615 : BitVec 32 := Scalar.minsi c198_i32_671 v1614
  let c3_i32_672 : BitVec 32 := 3#32
  let v1616 : BitVec 32 := Scalar.shrsi v1615 c3_i32_672
  let c3_i32_673 : BitVec 32 := 3#32
  let v1617 : BitVec 32 := Scalar.shli v1616 c3_i32_673
  let c152_i32_674 : BitVec 32 := 152#32
  let v1618 : BitVec 32 := Scalar.minsi v1617 c152_i32_674
  let v1619 : BitVec 32 := v1618
  let v1765 : Index := Scalar.indexCast v1619
  let c0_732 : Index := 0#32
  ![0, v1764.toNat, v1765.toNat, 0]

def k0_chk90 (v1613 : BitVec 32) (v1761 : BitVec 32) : Prop :=
  (∀ a, (k0_off91 v1613 v1761) a + S1x2x48x256.size a ≤ S1x200x200x256.size a)
theorem k0_off91_inb : ∀ (v1613 : BitVec 32) (v1761 : BitVec 32) (k0_hw90 : k0_chk90 v1613 v1761), ∀ a, (k0_off91 v1613 v1761) a + S1x2x48x256.size a ≤ S1x200x200x256.size a := fun v1613 v1761 k0_hw90 => k0_hw90

def k0_off92 (i : grid0.Coords) (k0_t1 : Fin k0_t1_loop.trips) : Fin 1 → Nat :=
  let arg0 : BitVec 32 := BitVec.ofNat 32 (i 0).val
  let c128_i32_734 : BitVec 32 := 128#32
  let v1772 : BitVec 32 := Scalar.muli arg0 c128_i32_734
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c9_i32 : BitVec 32 := 9#32
  let v1771 : BitVec 32 := Scalar.addi v15 c9_i32
  let v1773 : BitVec 32 := Scalar.addi v1772 v1771
  let v1774 : Index := Scalar.indexCast v1773
  ![v1774.toNat]
def k0_off93 (v1775 : BitVec 32) (c1_i32_738 : BitVec 32) : Fin 1 → Nat :=
  let c0_i32_736 : BitVec 32 := 0#32
  let v1779 : BitVec 32 := Scalar.maxsi v1775 c0_i32_736
  let c5_i32_737 : BitVec 32 := 5#32
  let v1780 : BitVec 32 := Scalar.muli v1779 c5_i32_737
  let v1781 : BitVec 32 := Scalar.addi v1780 c1_i32_738
  let v1782 : Index := Scalar.indexCast v1781
  ![v1782.toNat]

def k0_chk91 (v1775 : BitVec 32) : Prop :=
  (∀ (r : Fin 4), ∀ a, (k0_off93 v1775 (BitVec.ofNat 32 (1 + r.val))) a + S1.size a ≤ S5120.size a)
theorem k0_off93_inb : ∀ (v1775 : BitVec 32) (k0_hw91 : k0_chk91 v1775), ∀ (r : Fin 4), ∀ a, (k0_off93 v1775 (BitVec.ofNat 32 (1 + r.val))) a + S1.size a ≤ S5120.size a := fun v1775 k0_hw91 r => k0_hw91 r

def k0_mult10 (v1808 : BitVec 32) : BitVec 32 :=
  let c198_i32_752 : BitVec 32 := 198#32
  let c0_i32_751 : BitVec 32 := 0#32
  let v1809 : BitVec 32 := Scalar.maxsi c0_i32_751 v1808
  let v1810 : BitVec 32 := Scalar.minsi c198_i32_752 v1809
  let c3_i32_753 : BitVec 32 := 3#32
  let v1811 : BitVec 32 := Scalar.shrsi v1810 c3_i32_753
  let c3_i32_754 : BitVec 32 := 3#32
  let v1812 : BitVec 32 := Scalar.shli v1811 c3_i32_754
  let c152_i32_755 : BitVec 32 := 152#32
  let v1813 : BitVec 32 := Scalar.minsi v1812 c152_i32_755
  v1813

def k0_chk92 (v1808 : BitVec 32) : Prop :=
  (8 ∣ (k0_mult10 v1808).toNat)
theorem k0_mult10_dvd : ∀ (v1808 : BitVec 32) (k0_hw92 : k0_chk92 v1808), 8 ∣ (k0_mult10 v1808).toNat := fun v1808 k0_hw92 => k0_hw92

def k0_off94 (v1808 : BitVec 32) (v1872 : BitVec 32) : Fin 4 → Nat :=
  let c0_770 : Index := 0#32
  let c198_i32_768 : BitVec 32 := 198#32
  let v1873 : BitVec 32 := Scalar.minsi v1872 c198_i32_768
  let c0_i32_769 : BitVec 32 := 0#32
  let v1874 : BitVec 32 := Scalar.maxsi v1873 c0_i32_769
  let v1875 : Index := Scalar.indexCast v1874
  let c198_i32_752 : BitVec 32 := 198#32
  let c0_i32_751 : BitVec 32 := 0#32
  let v1809 : BitVec 32 := Scalar.maxsi c0_i32_751 v1808
  let v1810 : BitVec 32 := Scalar.minsi c198_i32_752 v1809
  let c3_i32_753 : BitVec 32 := 3#32
  let v1811 : BitVec 32 := Scalar.shrsi v1810 c3_i32_753
  let c3_i32_754 : BitVec 32 := 3#32
  let v1812 : BitVec 32 := Scalar.shli v1811 c3_i32_754
  let c152_i32_755 : BitVec 32 := 152#32
  let v1813 : BitVec 32 := Scalar.minsi v1812 c152_i32_755
  let v1814 : BitVec 32 := v1813
  let v1876 : Index := Scalar.indexCast v1814
  let c0_771 : Index := 0#32
  ![0, v1875.toNat, v1876.toNat, 0]

def k0_chk93 (v1808 : BitVec 32) (v1872 : BitVec 32) : Prop :=
  (∀ a, (k0_off94 v1808 v1872) a + S1x2x48x256.size a ≤ S1x200x200x256.size a)
theorem k0_off94_inb : ∀ (v1808 : BitVec 32) (v1872 : BitVec 32) (k0_hw93 : k0_chk93 v1808 v1872), ∀ a, (k0_off94 v1808 v1872) a + S1x2x48x256.size a ≤ S1x200x200x256.size a := fun v1808 v1872 k0_hw93 => k0_hw93

def k0_off95 (v1808 : BitVec 32) (v1884 : BitVec 32) : Fin 4 → Nat :=
  let c0_776 : Index := 0#32
  let c198_i32_774 : BitVec 32 := 198#32
  let v1885 : BitVec 32 := Scalar.minsi v1884 c198_i32_774
  let c0_i32_775 : BitVec 32 := 0#32
  let v1886 : BitVec 32 := Scalar.maxsi v1885 c0_i32_775
  let v1887 : Index := Scalar.indexCast v1886
  let c198_i32_752 : BitVec 32 := 198#32
  let c0_i32_751 : BitVec 32 := 0#32
  let v1809 : BitVec 32 := Scalar.maxsi c0_i32_751 v1808
  let v1810 : BitVec 32 := Scalar.minsi c198_i32_752 v1809
  let c3_i32_753 : BitVec 32 := 3#32
  let v1811 : BitVec 32 := Scalar.shrsi v1810 c3_i32_753
  let c3_i32_754 : BitVec 32 := 3#32
  let v1812 : BitVec 32 := Scalar.shli v1811 c3_i32_754
  let c152_i32_755 : BitVec 32 := 152#32
  let v1813 : BitVec 32 := Scalar.minsi v1812 c152_i32_755
  let v1814 : BitVec 32 := v1813
  let v1888 : Index := Scalar.indexCast v1814
  let c0_777 : Index := 0#32
  ![0, v1887.toNat, v1888.toNat, 0]

def k0_chk94 (v1808 : BitVec 32) (v1884 : BitVec 32) : Prop :=
  (∀ a, (k0_off95 v1808 v1884) a + S1x2x48x256.size a ≤ S1x200x200x256.size a)
theorem k0_off95_inb : ∀ (v1808 : BitVec 32) (v1884 : BitVec 32) (k0_hw94 : k0_chk94 v1808 v1884), ∀ a, (k0_off95 v1808 v1884) a + S1x2x48x256.size a ≤ S1x200x200x256.size a := fun v1808 v1884 k0_hw94 => k0_hw94

def k0_off96 (v1808 : BitVec 32) (v1896 : BitVec 32) : Fin 4 → Nat :=
  let c0_782 : Index := 0#32
  let c198_i32_780 : BitVec 32 := 198#32
  let v1897 : BitVec 32 := Scalar.minsi v1896 c198_i32_780
  let c0_i32_781 : BitVec 32 := 0#32
  let v1898 : BitVec 32 := Scalar.maxsi v1897 c0_i32_781
  let v1899 : Index := Scalar.indexCast v1898
  let c198_i32_752 : BitVec 32 := 198#32
  let c0_i32_751 : BitVec 32 := 0#32
  let v1809 : BitVec 32 := Scalar.maxsi c0_i32_751 v1808
  let v1810 : BitVec 32 := Scalar.minsi c198_i32_752 v1809
  let c3_i32_753 : BitVec 32 := 3#32
  let v1811 : BitVec 32 := Scalar.shrsi v1810 c3_i32_753
  let c3_i32_754 : BitVec 32 := 3#32
  let v1812 : BitVec 32 := Scalar.shli v1811 c3_i32_754
  let c152_i32_755 : BitVec 32 := 152#32
  let v1813 : BitVec 32 := Scalar.minsi v1812 c152_i32_755
  let v1814 : BitVec 32 := v1813
  let v1900 : Index := Scalar.indexCast v1814
  let c0_783 : Index := 0#32
  ![0, v1899.toNat, v1900.toNat, 0]

def k0_chk95 (v1808 : BitVec 32) (v1896 : BitVec 32) : Prop :=
  (∀ a, (k0_off96 v1808 v1896) a + S1x2x48x256.size a ≤ S1x200x200x256.size a)
theorem k0_off96_inb : ∀ (v1808 : BitVec 32) (v1896 : BitVec 32) (k0_hw95 : k0_chk95 v1808 v1896), ∀ a, (k0_off96 v1808 v1896) a + S1x2x48x256.size a ≤ S1x200x200x256.size a := fun v1808 v1896 k0_hw95 => k0_hw95

def k0_off97 (v1808 : BitVec 32) (v1908 : BitVec 32) : Fin 4 → Nat :=
  let c0_788 : Index := 0#32
  let c198_i32_786 : BitVec 32 := 198#32
  let v1909 : BitVec 32 := Scalar.minsi v1908 c198_i32_786
  let c0_i32_787 : BitVec 32 := 0#32
  let v1910 : BitVec 32 := Scalar.maxsi v1909 c0_i32_787
  let v1911 : Index := Scalar.indexCast v1910
  let c198_i32_752 : BitVec 32 := 198#32
  let c0_i32_751 : BitVec 32 := 0#32
  let v1809 : BitVec 32 := Scalar.maxsi c0_i32_751 v1808
  let v1810 : BitVec 32 := Scalar.minsi c198_i32_752 v1809
  let c3_i32_753 : BitVec 32 := 3#32
  let v1811 : BitVec 32 := Scalar.shrsi v1810 c3_i32_753
  let c3_i32_754 : BitVec 32 := 3#32
  let v1812 : BitVec 32 := Scalar.shli v1811 c3_i32_754
  let c152_i32_755 : BitVec 32 := 152#32
  let v1813 : BitVec 32 := Scalar.minsi v1812 c152_i32_755
  let v1814 : BitVec 32 := v1813
  let v1912 : Index := Scalar.indexCast v1814
  let c0_789 : Index := 0#32
  ![0, v1911.toNat, v1912.toNat, 0]

def k0_chk96 (v1808 : BitVec 32) (v1908 : BitVec 32) : Prop :=
  (∀ a, (k0_off97 v1808 v1908) a + S1x2x48x256.size a ≤ S1x200x200x256.size a)
theorem k0_off97_inb : ∀ (v1808 : BitVec 32) (v1908 : BitVec 32) (k0_hw96 : k0_chk96 v1808 v1908), ∀ a, (k0_off97 v1808 v1908) a + S1x2x48x256.size a ≤ S1x200x200x256.size a := fun v1808 v1908 k0_hw96 => k0_hw96

def k0_off98 (v1808 : BitVec 32) (v1920 : BitVec 32) : Fin 4 → Nat :=
  let c0_794 : Index := 0#32
  let c198_i32_792 : BitVec 32 := 198#32
  let v1921 : BitVec 32 := Scalar.minsi v1920 c198_i32_792
  let c0_i32_793 : BitVec 32 := 0#32
  let v1922 : BitVec 32 := Scalar.maxsi v1921 c0_i32_793
  let v1923 : Index := Scalar.indexCast v1922
  let c198_i32_752 : BitVec 32 := 198#32
  let c0_i32_751 : BitVec 32 := 0#32
  let v1809 : BitVec 32 := Scalar.maxsi c0_i32_751 v1808
  let v1810 : BitVec 32 := Scalar.minsi c198_i32_752 v1809
  let c3_i32_753 : BitVec 32 := 3#32
  let v1811 : BitVec 32 := Scalar.shrsi v1810 c3_i32_753
  let c3_i32_754 : BitVec 32 := 3#32
  let v1812 : BitVec 32 := Scalar.shli v1811 c3_i32_754
  let c152_i32_755 : BitVec 32 := 152#32
  let v1813 : BitVec 32 := Scalar.minsi v1812 c152_i32_755
  let v1814 : BitVec 32 := v1813
  let v1924 : Index := Scalar.indexCast v1814
  let c0_795 : Index := 0#32
  ![0, v1923.toNat, v1924.toNat, 0]

def k0_chk97 (v1808 : BitVec 32) (v1920 : BitVec 32) : Prop :=
  (∀ a, (k0_off98 v1808 v1920) a + S1x2x48x256.size a ≤ S1x200x200x256.size a)
theorem k0_off98_inb : ∀ (v1808 : BitVec 32) (v1920 : BitVec 32) (k0_hw97 : k0_chk97 v1808 v1920), ∀ a, (k0_off98 v1808 v1920) a + S1x2x48x256.size a ≤ S1x200x200x256.size a := fun v1808 v1920 k0_hw97 => k0_hw97

def k0_off99 (v1808 : BitVec 32) (v1932 : BitVec 32) : Fin 4 → Nat :=
  let c0_800 : Index := 0#32
  let c198_i32_798 : BitVec 32 := 198#32
  let v1933 : BitVec 32 := Scalar.minsi v1932 c198_i32_798
  let c0_i32_799 : BitVec 32 := 0#32
  let v1934 : BitVec 32 := Scalar.maxsi v1933 c0_i32_799
  let v1935 : Index := Scalar.indexCast v1934
  let c198_i32_752 : BitVec 32 := 198#32
  let c0_i32_751 : BitVec 32 := 0#32
  let v1809 : BitVec 32 := Scalar.maxsi c0_i32_751 v1808
  let v1810 : BitVec 32 := Scalar.minsi c198_i32_752 v1809
  let c3_i32_753 : BitVec 32 := 3#32
  let v1811 : BitVec 32 := Scalar.shrsi v1810 c3_i32_753
  let c3_i32_754 : BitVec 32 := 3#32
  let v1812 : BitVec 32 := Scalar.shli v1811 c3_i32_754
  let c152_i32_755 : BitVec 32 := 152#32
  let v1813 : BitVec 32 := Scalar.minsi v1812 c152_i32_755
  let v1814 : BitVec 32 := v1813
  let v1936 : Index := Scalar.indexCast v1814
  let c0_801 : Index := 0#32
  ![0, v1935.toNat, v1936.toNat, 0]

def k0_chk98 (v1808 : BitVec 32) (v1932 : BitVec 32) : Prop :=
  (∀ a, (k0_off99 v1808 v1932) a + S1x2x48x256.size a ≤ S1x200x200x256.size a)
theorem k0_off99_inb : ∀ (v1808 : BitVec 32) (v1932 : BitVec 32) (k0_hw98 : k0_chk98 v1808 v1932), ∀ a, (k0_off99 v1808 v1932) a + S1x2x48x256.size a ≤ S1x200x200x256.size a := fun v1808 v1932 k0_hw98 => k0_hw98

def k0_off100 (v1808 : BitVec 32) (v1944 : BitVec 32) : Fin 4 → Nat :=
  let c0_806 : Index := 0#32
  let c198_i32_804 : BitVec 32 := 198#32
  let v1945 : BitVec 32 := Scalar.minsi v1944 c198_i32_804
  let c0_i32_805 : BitVec 32 := 0#32
  let v1946 : BitVec 32 := Scalar.maxsi v1945 c0_i32_805
  let v1947 : Index := Scalar.indexCast v1946
  let c198_i32_752 : BitVec 32 := 198#32
  let c0_i32_751 : BitVec 32 := 0#32
  let v1809 : BitVec 32 := Scalar.maxsi c0_i32_751 v1808
  let v1810 : BitVec 32 := Scalar.minsi c198_i32_752 v1809
  let c3_i32_753 : BitVec 32 := 3#32
  let v1811 : BitVec 32 := Scalar.shrsi v1810 c3_i32_753
  let c3_i32_754 : BitVec 32 := 3#32
  let v1812 : BitVec 32 := Scalar.shli v1811 c3_i32_754
  let c152_i32_755 : BitVec 32 := 152#32
  let v1813 : BitVec 32 := Scalar.minsi v1812 c152_i32_755
  let v1814 : BitVec 32 := v1813
  let v1948 : Index := Scalar.indexCast v1814
  let c0_807 : Index := 0#32
  ![0, v1947.toNat, v1948.toNat, 0]

def k0_chk99 (v1808 : BitVec 32) (v1944 : BitVec 32) : Prop :=
  (∀ a, (k0_off100 v1808 v1944) a + S1x2x48x256.size a ≤ S1x200x200x256.size a)
theorem k0_off100_inb : ∀ (v1808 : BitVec 32) (v1944 : BitVec 32) (k0_hw99 : k0_chk99 v1808 v1944), ∀ a, (k0_off100 v1808 v1944) a + S1x2x48x256.size a ≤ S1x200x200x256.size a := fun v1808 v1944 k0_hw99 => k0_hw99

def k0_off101 (v1808 : BitVec 32) (v1956 : BitVec 32) : Fin 4 → Nat :=
  let c0_812 : Index := 0#32
  let c198_i32_810 : BitVec 32 := 198#32
  let v1957 : BitVec 32 := Scalar.minsi v1956 c198_i32_810
  let c0_i32_811 : BitVec 32 := 0#32
  let v1958 : BitVec 32 := Scalar.maxsi v1957 c0_i32_811
  let v1959 : Index := Scalar.indexCast v1958
  let c198_i32_752 : BitVec 32 := 198#32
  let c0_i32_751 : BitVec 32 := 0#32
  let v1809 : BitVec 32 := Scalar.maxsi c0_i32_751 v1808
  let v1810 : BitVec 32 := Scalar.minsi c198_i32_752 v1809
  let c3_i32_753 : BitVec 32 := 3#32
  let v1811 : BitVec 32 := Scalar.shrsi v1810 c3_i32_753
  let c3_i32_754 : BitVec 32 := 3#32
  let v1812 : BitVec 32 := Scalar.shli v1811 c3_i32_754
  let c152_i32_755 : BitVec 32 := 152#32
  let v1813 : BitVec 32 := Scalar.minsi v1812 c152_i32_755
  let v1814 : BitVec 32 := v1813
  let v1960 : Index := Scalar.indexCast v1814
  let c0_813 : Index := 0#32
  ![0, v1959.toNat, v1960.toNat, 0]

def k0_chk100 (v1808 : BitVec 32) (v1956 : BitVec 32) : Prop :=
  (∀ a, (k0_off101 v1808 v1956) a + S1x2x48x256.size a ≤ S1x200x200x256.size a)
theorem k0_off101_inb : ∀ (v1808 : BitVec 32) (v1956 : BitVec 32) (k0_hw100 : k0_chk100 v1808 v1956), ∀ a, (k0_off101 v1808 v1956) a + S1x2x48x256.size a ≤ S1x200x200x256.size a := fun v1808 v1956 k0_hw100 => k0_hw100

def k0_off102 (i : grid0.Coords) (k0_t1 : Fin k0_t1_loop.trips) : Fin 1 → Nat :=
  let arg0 : BitVec 32 := BitVec.ofNat 32 (i 0).val
  let c128_i32_815 : BitVec 32 := 128#32
  let v1967 : BitVec 32 := Scalar.muli arg0 c128_i32_815
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c10_i32 : BitVec 32 := 10#32
  let v1966 : BitVec 32 := Scalar.addi v15 c10_i32
  let v1968 : BitVec 32 := Scalar.addi v1967 v1966
  let v1969 : Index := Scalar.indexCast v1968
  ![v1969.toNat]
def k0_off103 (v1970 : BitVec 32) (c1_i32_819 : BitVec 32) : Fin 1 → Nat :=
  let c0_i32_817 : BitVec 32 := 0#32
  let v1974 : BitVec 32 := Scalar.maxsi v1970 c0_i32_817
  let c5_i32_818 : BitVec 32 := 5#32
  let v1975 : BitVec 32 := Scalar.muli v1974 c5_i32_818
  let v1976 : BitVec 32 := Scalar.addi v1975 c1_i32_819
  let v1977 : Index := Scalar.indexCast v1976
  ![v1977.toNat]

def k0_chk101 (v1970 : BitVec 32) : Prop :=
  (∀ (r : Fin 4), ∀ a, (k0_off103 v1970 (BitVec.ofNat 32 (1 + r.val))) a + S1.size a ≤ S5120.size a)
theorem k0_off103_inb : ∀ (v1970 : BitVec 32) (k0_hw101 : k0_chk101 v1970), ∀ (r : Fin 4), ∀ a, (k0_off103 v1970 (BitVec.ofNat 32 (1 + r.val))) a + S1.size a ≤ S5120.size a := fun v1970 k0_hw101 r => k0_hw101 r

def k0_mult11 (v2003 : BitVec 32) : BitVec 32 :=
  let c198_i32_833 : BitVec 32 := 198#32
  let c0_i32_832 : BitVec 32 := 0#32
  let v2004 : BitVec 32 := Scalar.maxsi c0_i32_832 v2003
  let v2005 : BitVec 32 := Scalar.minsi c198_i32_833 v2004
  let c3_i32_834 : BitVec 32 := 3#32
  let v2006 : BitVec 32 := Scalar.shrsi v2005 c3_i32_834
  let c3_i32_835 : BitVec 32 := 3#32
  let v2007 : BitVec 32 := Scalar.shli v2006 c3_i32_835
  let c152_i32_836 : BitVec 32 := 152#32
  let v2008 : BitVec 32 := Scalar.minsi v2007 c152_i32_836
  v2008

def k0_chk102 (v2003 : BitVec 32) : Prop :=
  (8 ∣ (k0_mult11 v2003).toNat)
theorem k0_mult11_dvd : ∀ (v2003 : BitVec 32) (k0_hw102 : k0_chk102 v2003), 8 ∣ (k0_mult11 v2003).toNat := fun v2003 k0_hw102 => k0_hw102

def k0_off104 (v2003 : BitVec 32) (v2067 : BitVec 32) : Fin 4 → Nat :=
  let c0_851 : Index := 0#32
  let c198_i32_849 : BitVec 32 := 198#32
  let v2068 : BitVec 32 := Scalar.minsi v2067 c198_i32_849
  let c0_i32_850 : BitVec 32 := 0#32
  let v2069 : BitVec 32 := Scalar.maxsi v2068 c0_i32_850
  let v2070 : Index := Scalar.indexCast v2069
  let c198_i32_833 : BitVec 32 := 198#32
  let c0_i32_832 : BitVec 32 := 0#32
  let v2004 : BitVec 32 := Scalar.maxsi c0_i32_832 v2003
  let v2005 : BitVec 32 := Scalar.minsi c198_i32_833 v2004
  let c3_i32_834 : BitVec 32 := 3#32
  let v2006 : BitVec 32 := Scalar.shrsi v2005 c3_i32_834
  let c3_i32_835 : BitVec 32 := 3#32
  let v2007 : BitVec 32 := Scalar.shli v2006 c3_i32_835
  let c152_i32_836 : BitVec 32 := 152#32
  let v2008 : BitVec 32 := Scalar.minsi v2007 c152_i32_836
  let v2009 : BitVec 32 := v2008
  let v2071 : Index := Scalar.indexCast v2009
  let c0_852 : Index := 0#32
  ![0, v2070.toNat, v2071.toNat, 0]

def k0_chk103 (v2003 : BitVec 32) (v2067 : BitVec 32) : Prop :=
  (∀ a, (k0_off104 v2003 v2067) a + S1x2x48x256.size a ≤ S1x200x200x256.size a)
theorem k0_off104_inb : ∀ (v2003 : BitVec 32) (v2067 : BitVec 32) (k0_hw103 : k0_chk103 v2003 v2067), ∀ a, (k0_off104 v2003 v2067) a + S1x2x48x256.size a ≤ S1x200x200x256.size a := fun v2003 v2067 k0_hw103 => k0_hw103

def k0_off105 (v2003 : BitVec 32) (v2079 : BitVec 32) : Fin 4 → Nat :=
  let c0_857 : Index := 0#32
  let c198_i32_855 : BitVec 32 := 198#32
  let v2080 : BitVec 32 := Scalar.minsi v2079 c198_i32_855
  let c0_i32_856 : BitVec 32 := 0#32
  let v2081 : BitVec 32 := Scalar.maxsi v2080 c0_i32_856
  let v2082 : Index := Scalar.indexCast v2081
  let c198_i32_833 : BitVec 32 := 198#32
  let c0_i32_832 : BitVec 32 := 0#32
  let v2004 : BitVec 32 := Scalar.maxsi c0_i32_832 v2003
  let v2005 : BitVec 32 := Scalar.minsi c198_i32_833 v2004
  let c3_i32_834 : BitVec 32 := 3#32
  let v2006 : BitVec 32 := Scalar.shrsi v2005 c3_i32_834
  let c3_i32_835 : BitVec 32 := 3#32
  let v2007 : BitVec 32 := Scalar.shli v2006 c3_i32_835
  let c152_i32_836 : BitVec 32 := 152#32
  let v2008 : BitVec 32 := Scalar.minsi v2007 c152_i32_836
  let v2009 : BitVec 32 := v2008
  let v2083 : Index := Scalar.indexCast v2009
  let c0_858 : Index := 0#32
  ![0, v2082.toNat, v2083.toNat, 0]

def k0_chk104 (v2003 : BitVec 32) (v2079 : BitVec 32) : Prop :=
  (∀ a, (k0_off105 v2003 v2079) a + S1x2x48x256.size a ≤ S1x200x200x256.size a)
theorem k0_off105_inb : ∀ (v2003 : BitVec 32) (v2079 : BitVec 32) (k0_hw104 : k0_chk104 v2003 v2079), ∀ a, (k0_off105 v2003 v2079) a + S1x2x48x256.size a ≤ S1x200x200x256.size a := fun v2003 v2079 k0_hw104 => k0_hw104

def k0_off106 (v2003 : BitVec 32) (v2091 : BitVec 32) : Fin 4 → Nat :=
  let c0_863 : Index := 0#32
  let c198_i32_861 : BitVec 32 := 198#32
  let v2092 : BitVec 32 := Scalar.minsi v2091 c198_i32_861
  let c0_i32_862 : BitVec 32 := 0#32
  let v2093 : BitVec 32 := Scalar.maxsi v2092 c0_i32_862
  let v2094 : Index := Scalar.indexCast v2093
  let c198_i32_833 : BitVec 32 := 198#32
  let c0_i32_832 : BitVec 32 := 0#32
  let v2004 : BitVec 32 := Scalar.maxsi c0_i32_832 v2003
  let v2005 : BitVec 32 := Scalar.minsi c198_i32_833 v2004
  let c3_i32_834 : BitVec 32 := 3#32
  let v2006 : BitVec 32 := Scalar.shrsi v2005 c3_i32_834
  let c3_i32_835 : BitVec 32 := 3#32
  let v2007 : BitVec 32 := Scalar.shli v2006 c3_i32_835
  let c152_i32_836 : BitVec 32 := 152#32
  let v2008 : BitVec 32 := Scalar.minsi v2007 c152_i32_836
  let v2009 : BitVec 32 := v2008
  let v2095 : Index := Scalar.indexCast v2009
  let c0_864 : Index := 0#32
  ![0, v2094.toNat, v2095.toNat, 0]

def k0_chk105 (v2003 : BitVec 32) (v2091 : BitVec 32) : Prop :=
  (∀ a, (k0_off106 v2003 v2091) a + S1x2x48x256.size a ≤ S1x200x200x256.size a)
theorem k0_off106_inb : ∀ (v2003 : BitVec 32) (v2091 : BitVec 32) (k0_hw105 : k0_chk105 v2003 v2091), ∀ a, (k0_off106 v2003 v2091) a + S1x2x48x256.size a ≤ S1x200x200x256.size a := fun v2003 v2091 k0_hw105 => k0_hw105

def k0_off107 (v2003 : BitVec 32) (v2103 : BitVec 32) : Fin 4 → Nat :=
  let c0_869 : Index := 0#32
  let c198_i32_867 : BitVec 32 := 198#32
  let v2104 : BitVec 32 := Scalar.minsi v2103 c198_i32_867
  let c0_i32_868 : BitVec 32 := 0#32
  let v2105 : BitVec 32 := Scalar.maxsi v2104 c0_i32_868
  let v2106 : Index := Scalar.indexCast v2105
  let c198_i32_833 : BitVec 32 := 198#32
  let c0_i32_832 : BitVec 32 := 0#32
  let v2004 : BitVec 32 := Scalar.maxsi c0_i32_832 v2003
  let v2005 : BitVec 32 := Scalar.minsi c198_i32_833 v2004
  let c3_i32_834 : BitVec 32 := 3#32
  let v2006 : BitVec 32 := Scalar.shrsi v2005 c3_i32_834
  let c3_i32_835 : BitVec 32 := 3#32
  let v2007 : BitVec 32 := Scalar.shli v2006 c3_i32_835
  let c152_i32_836 : BitVec 32 := 152#32
  let v2008 : BitVec 32 := Scalar.minsi v2007 c152_i32_836
  let v2009 : BitVec 32 := v2008
  let v2107 : Index := Scalar.indexCast v2009
  let c0_870 : Index := 0#32
  ![0, v2106.toNat, v2107.toNat, 0]

def k0_chk106 (v2003 : BitVec 32) (v2103 : BitVec 32) : Prop :=
  (∀ a, (k0_off107 v2003 v2103) a + S1x2x48x256.size a ≤ S1x200x200x256.size a)
theorem k0_off107_inb : ∀ (v2003 : BitVec 32) (v2103 : BitVec 32) (k0_hw106 : k0_chk106 v2003 v2103), ∀ a, (k0_off107 v2003 v2103) a + S1x2x48x256.size a ≤ S1x200x200x256.size a := fun v2003 v2103 k0_hw106 => k0_hw106

def k0_off108 (v2003 : BitVec 32) (v2115 : BitVec 32) : Fin 4 → Nat :=
  let c0_875 : Index := 0#32
  let c198_i32_873 : BitVec 32 := 198#32
  let v2116 : BitVec 32 := Scalar.minsi v2115 c198_i32_873
  let c0_i32_874 : BitVec 32 := 0#32
  let v2117 : BitVec 32 := Scalar.maxsi v2116 c0_i32_874
  let v2118 : Index := Scalar.indexCast v2117
  let c198_i32_833 : BitVec 32 := 198#32
  let c0_i32_832 : BitVec 32 := 0#32
  let v2004 : BitVec 32 := Scalar.maxsi c0_i32_832 v2003
  let v2005 : BitVec 32 := Scalar.minsi c198_i32_833 v2004
  let c3_i32_834 : BitVec 32 := 3#32
  let v2006 : BitVec 32 := Scalar.shrsi v2005 c3_i32_834
  let c3_i32_835 : BitVec 32 := 3#32
  let v2007 : BitVec 32 := Scalar.shli v2006 c3_i32_835
  let c152_i32_836 : BitVec 32 := 152#32
  let v2008 : BitVec 32 := Scalar.minsi v2007 c152_i32_836
  let v2009 : BitVec 32 := v2008
  let v2119 : Index := Scalar.indexCast v2009
  let c0_876 : Index := 0#32
  ![0, v2118.toNat, v2119.toNat, 0]

def k0_chk107 (v2003 : BitVec 32) (v2115 : BitVec 32) : Prop :=
  (∀ a, (k0_off108 v2003 v2115) a + S1x2x48x256.size a ≤ S1x200x200x256.size a)
theorem k0_off108_inb : ∀ (v2003 : BitVec 32) (v2115 : BitVec 32) (k0_hw107 : k0_chk107 v2003 v2115), ∀ a, (k0_off108 v2003 v2115) a + S1x2x48x256.size a ≤ S1x200x200x256.size a := fun v2003 v2115 k0_hw107 => k0_hw107

def k0_off109 (v2003 : BitVec 32) (v2127 : BitVec 32) : Fin 4 → Nat :=
  let c0_881 : Index := 0#32
  let c198_i32_879 : BitVec 32 := 198#32
  let v2128 : BitVec 32 := Scalar.minsi v2127 c198_i32_879
  let c0_i32_880 : BitVec 32 := 0#32
  let v2129 : BitVec 32 := Scalar.maxsi v2128 c0_i32_880
  let v2130 : Index := Scalar.indexCast v2129
  let c198_i32_833 : BitVec 32 := 198#32
  let c0_i32_832 : BitVec 32 := 0#32
  let v2004 : BitVec 32 := Scalar.maxsi c0_i32_832 v2003
  let v2005 : BitVec 32 := Scalar.minsi c198_i32_833 v2004
  let c3_i32_834 : BitVec 32 := 3#32
  let v2006 : BitVec 32 := Scalar.shrsi v2005 c3_i32_834
  let c3_i32_835 : BitVec 32 := 3#32
  let v2007 : BitVec 32 := Scalar.shli v2006 c3_i32_835
  let c152_i32_836 : BitVec 32 := 152#32
  let v2008 : BitVec 32 := Scalar.minsi v2007 c152_i32_836
  let v2009 : BitVec 32 := v2008
  let v2131 : Index := Scalar.indexCast v2009
  let c0_882 : Index := 0#32
  ![0, v2130.toNat, v2131.toNat, 0]

def k0_chk108 (v2003 : BitVec 32) (v2127 : BitVec 32) : Prop :=
  (∀ a, (k0_off109 v2003 v2127) a + S1x2x48x256.size a ≤ S1x200x200x256.size a)
theorem k0_off109_inb : ∀ (v2003 : BitVec 32) (v2127 : BitVec 32) (k0_hw108 : k0_chk108 v2003 v2127), ∀ a, (k0_off109 v2003 v2127) a + S1x2x48x256.size a ≤ S1x200x200x256.size a := fun v2003 v2127 k0_hw108 => k0_hw108

def k0_off110 (v2003 : BitVec 32) (v2139 : BitVec 32) : Fin 4 → Nat :=
  let c0_887 : Index := 0#32
  let c198_i32_885 : BitVec 32 := 198#32
  let v2140 : BitVec 32 := Scalar.minsi v2139 c198_i32_885
  let c0_i32_886 : BitVec 32 := 0#32
  let v2141 : BitVec 32 := Scalar.maxsi v2140 c0_i32_886
  let v2142 : Index := Scalar.indexCast v2141
  let c198_i32_833 : BitVec 32 := 198#32
  let c0_i32_832 : BitVec 32 := 0#32
  let v2004 : BitVec 32 := Scalar.maxsi c0_i32_832 v2003
  let v2005 : BitVec 32 := Scalar.minsi c198_i32_833 v2004
  let c3_i32_834 : BitVec 32 := 3#32
  let v2006 : BitVec 32 := Scalar.shrsi v2005 c3_i32_834
  let c3_i32_835 : BitVec 32 := 3#32
  let v2007 : BitVec 32 := Scalar.shli v2006 c3_i32_835
  let c152_i32_836 : BitVec 32 := 152#32
  let v2008 : BitVec 32 := Scalar.minsi v2007 c152_i32_836
  let v2009 : BitVec 32 := v2008
  let v2143 : Index := Scalar.indexCast v2009
  let c0_888 : Index := 0#32
  ![0, v2142.toNat, v2143.toNat, 0]

def k0_chk109 (v2003 : BitVec 32) (v2139 : BitVec 32) : Prop :=
  (∀ a, (k0_off110 v2003 v2139) a + S1x2x48x256.size a ≤ S1x200x200x256.size a)
theorem k0_off110_inb : ∀ (v2003 : BitVec 32) (v2139 : BitVec 32) (k0_hw109 : k0_chk109 v2003 v2139), ∀ a, (k0_off110 v2003 v2139) a + S1x2x48x256.size a ≤ S1x200x200x256.size a := fun v2003 v2139 k0_hw109 => k0_hw109

def k0_off111 (v2003 : BitVec 32) (v2151 : BitVec 32) : Fin 4 → Nat :=
  let c0_893 : Index := 0#32
  let c198_i32_891 : BitVec 32 := 198#32
  let v2152 : BitVec 32 := Scalar.minsi v2151 c198_i32_891
  let c0_i32_892 : BitVec 32 := 0#32
  let v2153 : BitVec 32 := Scalar.maxsi v2152 c0_i32_892
  let v2154 : Index := Scalar.indexCast v2153
  let c198_i32_833 : BitVec 32 := 198#32
  let c0_i32_832 : BitVec 32 := 0#32
  let v2004 : BitVec 32 := Scalar.maxsi c0_i32_832 v2003
  let v2005 : BitVec 32 := Scalar.minsi c198_i32_833 v2004
  let c3_i32_834 : BitVec 32 := 3#32
  let v2006 : BitVec 32 := Scalar.shrsi v2005 c3_i32_834
  let c3_i32_835 : BitVec 32 := 3#32
  let v2007 : BitVec 32 := Scalar.shli v2006 c3_i32_835
  let c152_i32_836 : BitVec 32 := 152#32
  let v2008 : BitVec 32 := Scalar.minsi v2007 c152_i32_836
  let v2009 : BitVec 32 := v2008
  let v2155 : Index := Scalar.indexCast v2009
  let c0_894 : Index := 0#32
  ![0, v2154.toNat, v2155.toNat, 0]

def k0_chk110 (v2003 : BitVec 32) (v2151 : BitVec 32) : Prop :=
  (∀ a, (k0_off111 v2003 v2151) a + S1x2x48x256.size a ≤ S1x200x200x256.size a)
theorem k0_off111_inb : ∀ (v2003 : BitVec 32) (v2151 : BitVec 32) (k0_hw110 : k0_chk110 v2003 v2151), ∀ a, (k0_off111 v2003 v2151) a + S1x2x48x256.size a ≤ S1x200x200x256.size a := fun v2003 v2151 k0_hw110 => k0_hw110

def k0_off112 (i : grid0.Coords) (k0_t1 : Fin k0_t1_loop.trips) : Fin 1 → Nat :=
  let arg0 : BitVec 32 := BitVec.ofNat 32 (i 0).val
  let c128_i32_896 : BitVec 32 := 128#32
  let v2162 : BitVec 32 := Scalar.muli arg0 c128_i32_896
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c11_i32 : BitVec 32 := 11#32
  let v2161 : BitVec 32 := Scalar.addi v15 c11_i32
  let v2163 : BitVec 32 := Scalar.addi v2162 v2161
  let v2164 : Index := Scalar.indexCast v2163
  ![v2164.toNat]
def k0_off113 (v2165 : BitVec 32) (c1_i32_900 : BitVec 32) : Fin 1 → Nat :=
  let c0_i32_898 : BitVec 32 := 0#32
  let v2169 : BitVec 32 := Scalar.maxsi v2165 c0_i32_898
  let c5_i32_899 : BitVec 32 := 5#32
  let v2170 : BitVec 32 := Scalar.muli v2169 c5_i32_899
  let v2171 : BitVec 32 := Scalar.addi v2170 c1_i32_900
  let v2172 : Index := Scalar.indexCast v2171
  ![v2172.toNat]

def k0_chk111 (v2165 : BitVec 32) : Prop :=
  (∀ (r : Fin 4), ∀ a, (k0_off113 v2165 (BitVec.ofNat 32 (1 + r.val))) a + S1.size a ≤ S5120.size a)
theorem k0_off113_inb : ∀ (v2165 : BitVec 32) (k0_hw111 : k0_chk111 v2165), ∀ (r : Fin 4), ∀ a, (k0_off113 v2165 (BitVec.ofNat 32 (1 + r.val))) a + S1.size a ≤ S5120.size a := fun v2165 k0_hw111 r => k0_hw111 r

def k0_mult12 (v2198 : BitVec 32) : BitVec 32 :=
  let c198_i32_914 : BitVec 32 := 198#32
  let c0_i32_913 : BitVec 32 := 0#32
  let v2199 : BitVec 32 := Scalar.maxsi c0_i32_913 v2198
  let v2200 : BitVec 32 := Scalar.minsi c198_i32_914 v2199
  let c3_i32_915 : BitVec 32 := 3#32
  let v2201 : BitVec 32 := Scalar.shrsi v2200 c3_i32_915
  let c3_i32_916 : BitVec 32 := 3#32
  let v2202 : BitVec 32 := Scalar.shli v2201 c3_i32_916
  let c152_i32_917 : BitVec 32 := 152#32
  let v2203 : BitVec 32 := Scalar.minsi v2202 c152_i32_917
  v2203

def k0_chk112 (v2198 : BitVec 32) : Prop :=
  (8 ∣ (k0_mult12 v2198).toNat)
theorem k0_mult12_dvd : ∀ (v2198 : BitVec 32) (k0_hw112 : k0_chk112 v2198), 8 ∣ (k0_mult12 v2198).toNat := fun v2198 k0_hw112 => k0_hw112

def k0_off114 (v2198 : BitVec 32) (v2262 : BitVec 32) : Fin 4 → Nat :=
  let c0_932 : Index := 0#32
  let c198_i32_930 : BitVec 32 := 198#32
  let v2263 : BitVec 32 := Scalar.minsi v2262 c198_i32_930
  let c0_i32_931 : BitVec 32 := 0#32
  let v2264 : BitVec 32 := Scalar.maxsi v2263 c0_i32_931
  let v2265 : Index := Scalar.indexCast v2264
  let c198_i32_914 : BitVec 32 := 198#32
  let c0_i32_913 : BitVec 32 := 0#32
  let v2199 : BitVec 32 := Scalar.maxsi c0_i32_913 v2198
  let v2200 : BitVec 32 := Scalar.minsi c198_i32_914 v2199
  let c3_i32_915 : BitVec 32 := 3#32
  let v2201 : BitVec 32 := Scalar.shrsi v2200 c3_i32_915
  let c3_i32_916 : BitVec 32 := 3#32
  let v2202 : BitVec 32 := Scalar.shli v2201 c3_i32_916
  let c152_i32_917 : BitVec 32 := 152#32
  let v2203 : BitVec 32 := Scalar.minsi v2202 c152_i32_917
  let v2204 : BitVec 32 := v2203
  let v2266 : Index := Scalar.indexCast v2204
  let c0_933 : Index := 0#32
  ![0, v2265.toNat, v2266.toNat, 0]

def k0_chk113 (v2198 : BitVec 32) (v2262 : BitVec 32) : Prop :=
  (∀ a, (k0_off114 v2198 v2262) a + S1x2x48x256.size a ≤ S1x200x200x256.size a)
theorem k0_off114_inb : ∀ (v2198 : BitVec 32) (v2262 : BitVec 32) (k0_hw113 : k0_chk113 v2198 v2262), ∀ a, (k0_off114 v2198 v2262) a + S1x2x48x256.size a ≤ S1x200x200x256.size a := fun v2198 v2262 k0_hw113 => k0_hw113

def k0_off115 (v2198 : BitVec 32) (v2274 : BitVec 32) : Fin 4 → Nat :=
  let c0_938 : Index := 0#32
  let c198_i32_936 : BitVec 32 := 198#32
  let v2275 : BitVec 32 := Scalar.minsi v2274 c198_i32_936
  let c0_i32_937 : BitVec 32 := 0#32
  let v2276 : BitVec 32 := Scalar.maxsi v2275 c0_i32_937
  let v2277 : Index := Scalar.indexCast v2276
  let c198_i32_914 : BitVec 32 := 198#32
  let c0_i32_913 : BitVec 32 := 0#32
  let v2199 : BitVec 32 := Scalar.maxsi c0_i32_913 v2198
  let v2200 : BitVec 32 := Scalar.minsi c198_i32_914 v2199
  let c3_i32_915 : BitVec 32 := 3#32
  let v2201 : BitVec 32 := Scalar.shrsi v2200 c3_i32_915
  let c3_i32_916 : BitVec 32 := 3#32
  let v2202 : BitVec 32 := Scalar.shli v2201 c3_i32_916
  let c152_i32_917 : BitVec 32 := 152#32
  let v2203 : BitVec 32 := Scalar.minsi v2202 c152_i32_917
  let v2204 : BitVec 32 := v2203
  let v2278 : Index := Scalar.indexCast v2204
  let c0_939 : Index := 0#32
  ![0, v2277.toNat, v2278.toNat, 0]

def k0_chk114 (v2198 : BitVec 32) (v2274 : BitVec 32) : Prop :=
  (∀ a, (k0_off115 v2198 v2274) a + S1x2x48x256.size a ≤ S1x200x200x256.size a)
theorem k0_off115_inb : ∀ (v2198 : BitVec 32) (v2274 : BitVec 32) (k0_hw114 : k0_chk114 v2198 v2274), ∀ a, (k0_off115 v2198 v2274) a + S1x2x48x256.size a ≤ S1x200x200x256.size a := fun v2198 v2274 k0_hw114 => k0_hw114

def k0_off116 (v2198 : BitVec 32) (v2286 : BitVec 32) : Fin 4 → Nat :=
  let c0_944 : Index := 0#32
  let c198_i32_942 : BitVec 32 := 198#32
  let v2287 : BitVec 32 := Scalar.minsi v2286 c198_i32_942
  let c0_i32_943 : BitVec 32 := 0#32
  let v2288 : BitVec 32 := Scalar.maxsi v2287 c0_i32_943
  let v2289 : Index := Scalar.indexCast v2288
  let c198_i32_914 : BitVec 32 := 198#32
  let c0_i32_913 : BitVec 32 := 0#32
  let v2199 : BitVec 32 := Scalar.maxsi c0_i32_913 v2198
  let v2200 : BitVec 32 := Scalar.minsi c198_i32_914 v2199
  let c3_i32_915 : BitVec 32 := 3#32
  let v2201 : BitVec 32 := Scalar.shrsi v2200 c3_i32_915
  let c3_i32_916 : BitVec 32 := 3#32
  let v2202 : BitVec 32 := Scalar.shli v2201 c3_i32_916
  let c152_i32_917 : BitVec 32 := 152#32
  let v2203 : BitVec 32 := Scalar.minsi v2202 c152_i32_917
  let v2204 : BitVec 32 := v2203
  let v2290 : Index := Scalar.indexCast v2204
  let c0_945 : Index := 0#32
  ![0, v2289.toNat, v2290.toNat, 0]

def k0_chk115 (v2198 : BitVec 32) (v2286 : BitVec 32) : Prop :=
  (∀ a, (k0_off116 v2198 v2286) a + S1x2x48x256.size a ≤ S1x200x200x256.size a)
theorem k0_off116_inb : ∀ (v2198 : BitVec 32) (v2286 : BitVec 32) (k0_hw115 : k0_chk115 v2198 v2286), ∀ a, (k0_off116 v2198 v2286) a + S1x2x48x256.size a ≤ S1x200x200x256.size a := fun v2198 v2286 k0_hw115 => k0_hw115

def k0_off117 (v2198 : BitVec 32) (v2298 : BitVec 32) : Fin 4 → Nat :=
  let c0_950 : Index := 0#32
  let c198_i32_948 : BitVec 32 := 198#32
  let v2299 : BitVec 32 := Scalar.minsi v2298 c198_i32_948
  let c0_i32_949 : BitVec 32 := 0#32
  let v2300 : BitVec 32 := Scalar.maxsi v2299 c0_i32_949
  let v2301 : Index := Scalar.indexCast v2300
  let c198_i32_914 : BitVec 32 := 198#32
  let c0_i32_913 : BitVec 32 := 0#32
  let v2199 : BitVec 32 := Scalar.maxsi c0_i32_913 v2198
  let v2200 : BitVec 32 := Scalar.minsi c198_i32_914 v2199
  let c3_i32_915 : BitVec 32 := 3#32
  let v2201 : BitVec 32 := Scalar.shrsi v2200 c3_i32_915
  let c3_i32_916 : BitVec 32 := 3#32
  let v2202 : BitVec 32 := Scalar.shli v2201 c3_i32_916
  let c152_i32_917 : BitVec 32 := 152#32
  let v2203 : BitVec 32 := Scalar.minsi v2202 c152_i32_917
  let v2204 : BitVec 32 := v2203
  let v2302 : Index := Scalar.indexCast v2204
  let c0_951 : Index := 0#32
  ![0, v2301.toNat, v2302.toNat, 0]

def k0_chk116 (v2198 : BitVec 32) (v2298 : BitVec 32) : Prop :=
  (∀ a, (k0_off117 v2198 v2298) a + S1x2x48x256.size a ≤ S1x200x200x256.size a)
theorem k0_off117_inb : ∀ (v2198 : BitVec 32) (v2298 : BitVec 32) (k0_hw116 : k0_chk116 v2198 v2298), ∀ a, (k0_off117 v2198 v2298) a + S1x2x48x256.size a ≤ S1x200x200x256.size a := fun v2198 v2298 k0_hw116 => k0_hw116

def k0_off118 (v2198 : BitVec 32) (v2310 : BitVec 32) : Fin 4 → Nat :=
  let c0_956 : Index := 0#32
  let c198_i32_954 : BitVec 32 := 198#32
  let v2311 : BitVec 32 := Scalar.minsi v2310 c198_i32_954
  let c0_i32_955 : BitVec 32 := 0#32
  let v2312 : BitVec 32 := Scalar.maxsi v2311 c0_i32_955
  let v2313 : Index := Scalar.indexCast v2312
  let c198_i32_914 : BitVec 32 := 198#32
  let c0_i32_913 : BitVec 32 := 0#32
  let v2199 : BitVec 32 := Scalar.maxsi c0_i32_913 v2198
  let v2200 : BitVec 32 := Scalar.minsi c198_i32_914 v2199
  let c3_i32_915 : BitVec 32 := 3#32
  let v2201 : BitVec 32 := Scalar.shrsi v2200 c3_i32_915
  let c3_i32_916 : BitVec 32 := 3#32
  let v2202 : BitVec 32 := Scalar.shli v2201 c3_i32_916
  let c152_i32_917 : BitVec 32 := 152#32
  let v2203 : BitVec 32 := Scalar.minsi v2202 c152_i32_917
  let v2204 : BitVec 32 := v2203
  let v2314 : Index := Scalar.indexCast v2204
  let c0_957 : Index := 0#32
  ![0, v2313.toNat, v2314.toNat, 0]

def k0_chk117 (v2198 : BitVec 32) (v2310 : BitVec 32) : Prop :=
  (∀ a, (k0_off118 v2198 v2310) a + S1x2x48x256.size a ≤ S1x200x200x256.size a)
theorem k0_off118_inb : ∀ (v2198 : BitVec 32) (v2310 : BitVec 32) (k0_hw117 : k0_chk117 v2198 v2310), ∀ a, (k0_off118 v2198 v2310) a + S1x2x48x256.size a ≤ S1x200x200x256.size a := fun v2198 v2310 k0_hw117 => k0_hw117

def k0_off119 (v2198 : BitVec 32) (v2322 : BitVec 32) : Fin 4 → Nat :=
  let c0_962 : Index := 0#32
  let c198_i32_960 : BitVec 32 := 198#32
  let v2323 : BitVec 32 := Scalar.minsi v2322 c198_i32_960
  let c0_i32_961 : BitVec 32 := 0#32
  let v2324 : BitVec 32 := Scalar.maxsi v2323 c0_i32_961
  let v2325 : Index := Scalar.indexCast v2324
  let c198_i32_914 : BitVec 32 := 198#32
  let c0_i32_913 : BitVec 32 := 0#32
  let v2199 : BitVec 32 := Scalar.maxsi c0_i32_913 v2198
  let v2200 : BitVec 32 := Scalar.minsi c198_i32_914 v2199
  let c3_i32_915 : BitVec 32 := 3#32
  let v2201 : BitVec 32 := Scalar.shrsi v2200 c3_i32_915
  let c3_i32_916 : BitVec 32 := 3#32
  let v2202 : BitVec 32 := Scalar.shli v2201 c3_i32_916
  let c152_i32_917 : BitVec 32 := 152#32
  let v2203 : BitVec 32 := Scalar.minsi v2202 c152_i32_917
  let v2204 : BitVec 32 := v2203
  let v2326 : Index := Scalar.indexCast v2204
  let c0_963 : Index := 0#32
  ![0, v2325.toNat, v2326.toNat, 0]

def k0_chk118 (v2198 : BitVec 32) (v2322 : BitVec 32) : Prop :=
  (∀ a, (k0_off119 v2198 v2322) a + S1x2x48x256.size a ≤ S1x200x200x256.size a)
theorem k0_off119_inb : ∀ (v2198 : BitVec 32) (v2322 : BitVec 32) (k0_hw118 : k0_chk118 v2198 v2322), ∀ a, (k0_off119 v2198 v2322) a + S1x2x48x256.size a ≤ S1x200x200x256.size a := fun v2198 v2322 k0_hw118 => k0_hw118

def k0_off120 (v2198 : BitVec 32) (v2334 : BitVec 32) : Fin 4 → Nat :=
  let c0_968 : Index := 0#32
  let c198_i32_966 : BitVec 32 := 198#32
  let v2335 : BitVec 32 := Scalar.minsi v2334 c198_i32_966
  let c0_i32_967 : BitVec 32 := 0#32
  let v2336 : BitVec 32 := Scalar.maxsi v2335 c0_i32_967
  let v2337 : Index := Scalar.indexCast v2336
  let c198_i32_914 : BitVec 32 := 198#32
  let c0_i32_913 : BitVec 32 := 0#32
  let v2199 : BitVec 32 := Scalar.maxsi c0_i32_913 v2198
  let v2200 : BitVec 32 := Scalar.minsi c198_i32_914 v2199
  let c3_i32_915 : BitVec 32 := 3#32
  let v2201 : BitVec 32 := Scalar.shrsi v2200 c3_i32_915
  let c3_i32_916 : BitVec 32 := 3#32
  let v2202 : BitVec 32 := Scalar.shli v2201 c3_i32_916
  let c152_i32_917 : BitVec 32 := 152#32
  let v2203 : BitVec 32 := Scalar.minsi v2202 c152_i32_917
  let v2204 : BitVec 32 := v2203
  let v2338 : Index := Scalar.indexCast v2204
  let c0_969 : Index := 0#32
  ![0, v2337.toNat, v2338.toNat, 0]

def k0_chk119 (v2198 : BitVec 32) (v2334 : BitVec 32) : Prop :=
  (∀ a, (k0_off120 v2198 v2334) a + S1x2x48x256.size a ≤ S1x200x200x256.size a)
theorem k0_off120_inb : ∀ (v2198 : BitVec 32) (v2334 : BitVec 32) (k0_hw119 : k0_chk119 v2198 v2334), ∀ a, (k0_off120 v2198 v2334) a + S1x2x48x256.size a ≤ S1x200x200x256.size a := fun v2198 v2334 k0_hw119 => k0_hw119

def k0_off121 (v2198 : BitVec 32) (v2346 : BitVec 32) : Fin 4 → Nat :=
  let c0_974 : Index := 0#32
  let c198_i32_972 : BitVec 32 := 198#32
  let v2347 : BitVec 32 := Scalar.minsi v2346 c198_i32_972
  let c0_i32_973 : BitVec 32 := 0#32
  let v2348 : BitVec 32 := Scalar.maxsi v2347 c0_i32_973
  let v2349 : Index := Scalar.indexCast v2348
  let c198_i32_914 : BitVec 32 := 198#32
  let c0_i32_913 : BitVec 32 := 0#32
  let v2199 : BitVec 32 := Scalar.maxsi c0_i32_913 v2198
  let v2200 : BitVec 32 := Scalar.minsi c198_i32_914 v2199
  let c3_i32_915 : BitVec 32 := 3#32
  let v2201 : BitVec 32 := Scalar.shrsi v2200 c3_i32_915
  let c3_i32_916 : BitVec 32 := 3#32
  let v2202 : BitVec 32 := Scalar.shli v2201 c3_i32_916
  let c152_i32_917 : BitVec 32 := 152#32
  let v2203 : BitVec 32 := Scalar.minsi v2202 c152_i32_917
  let v2204 : BitVec 32 := v2203
  let v2350 : Index := Scalar.indexCast v2204
  let c0_975 : Index := 0#32
  ![0, v2349.toNat, v2350.toNat, 0]

def k0_chk120 (v2198 : BitVec 32) (v2346 : BitVec 32) : Prop :=
  (∀ a, (k0_off121 v2198 v2346) a + S1x2x48x256.size a ≤ S1x200x200x256.size a)
theorem k0_off121_inb : ∀ (v2198 : BitVec 32) (v2346 : BitVec 32) (k0_hw120 : k0_chk120 v2198 v2346), ∀ a, (k0_off121 v2198 v2346) a + S1x2x48x256.size a ≤ S1x200x200x256.size a := fun v2198 v2346 k0_hw120 => k0_hw120

def k0_off122 (i : grid0.Coords) (k0_t1 : Fin k0_t1_loop.trips) : Fin 1 → Nat :=
  let arg0 : BitVec 32 := BitVec.ofNat 32 (i 0).val
  let c128_i32_977 : BitVec 32 := 128#32
  let v2357 : BitVec 32 := Scalar.muli arg0 c128_i32_977
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c12_i32 : BitVec 32 := 12#32
  let v2356 : BitVec 32 := Scalar.addi v15 c12_i32
  let v2358 : BitVec 32 := Scalar.addi v2357 v2356
  let v2359 : Index := Scalar.indexCast v2358
  ![v2359.toNat]
def k0_off123 (v2360 : BitVec 32) (c1_i32_981 : BitVec 32) : Fin 1 → Nat :=
  let c0_i32_979 : BitVec 32 := 0#32
  let v2364 : BitVec 32 := Scalar.maxsi v2360 c0_i32_979
  let c5_i32_980 : BitVec 32 := 5#32
  let v2365 : BitVec 32 := Scalar.muli v2364 c5_i32_980
  let v2366 : BitVec 32 := Scalar.addi v2365 c1_i32_981
  let v2367 : Index := Scalar.indexCast v2366
  ![v2367.toNat]

def k0_chk121 (v2360 : BitVec 32) : Prop :=
  (∀ (r : Fin 4), ∀ a, (k0_off123 v2360 (BitVec.ofNat 32 (1 + r.val))) a + S1.size a ≤ S5120.size a)
theorem k0_off123_inb : ∀ (v2360 : BitVec 32) (k0_hw121 : k0_chk121 v2360), ∀ (r : Fin 4), ∀ a, (k0_off123 v2360 (BitVec.ofNat 32 (1 + r.val))) a + S1.size a ≤ S5120.size a := fun v2360 k0_hw121 r => k0_hw121 r

def k0_mult13 (v2393 : BitVec 32) : BitVec 32 :=
  let c198_i32_995 : BitVec 32 := 198#32
  let c0_i32_994 : BitVec 32 := 0#32
  let v2394 : BitVec 32 := Scalar.maxsi c0_i32_994 v2393
  let v2395 : BitVec 32 := Scalar.minsi c198_i32_995 v2394
  let c3_i32_996 : BitVec 32 := 3#32
  let v2396 : BitVec 32 := Scalar.shrsi v2395 c3_i32_996
  let c3_i32_997 : BitVec 32 := 3#32
  let v2397 : BitVec 32 := Scalar.shli v2396 c3_i32_997
  let c152_i32_998 : BitVec 32 := 152#32
  let v2398 : BitVec 32 := Scalar.minsi v2397 c152_i32_998
  v2398

def k0_chk122 (v2393 : BitVec 32) : Prop :=
  (8 ∣ (k0_mult13 v2393).toNat)
theorem k0_mult13_dvd : ∀ (v2393 : BitVec 32) (k0_hw122 : k0_chk122 v2393), 8 ∣ (k0_mult13 v2393).toNat := fun v2393 k0_hw122 => k0_hw122

def k0_off124 (v2393 : BitVec 32) (v2457 : BitVec 32) : Fin 4 → Nat :=
  let c0_1013 : Index := 0#32
  let c198_i32_1011 : BitVec 32 := 198#32
  let v2458 : BitVec 32 := Scalar.minsi v2457 c198_i32_1011
  let c0_i32_1012 : BitVec 32 := 0#32
  let v2459 : BitVec 32 := Scalar.maxsi v2458 c0_i32_1012
  let v2460 : Index := Scalar.indexCast v2459
  let c198_i32_995 : BitVec 32 := 198#32
  let c0_i32_994 : BitVec 32 := 0#32
  let v2394 : BitVec 32 := Scalar.maxsi c0_i32_994 v2393
  let v2395 : BitVec 32 := Scalar.minsi c198_i32_995 v2394
  let c3_i32_996 : BitVec 32 := 3#32
  let v2396 : BitVec 32 := Scalar.shrsi v2395 c3_i32_996
  let c3_i32_997 : BitVec 32 := 3#32
  let v2397 : BitVec 32 := Scalar.shli v2396 c3_i32_997
  let c152_i32_998 : BitVec 32 := 152#32
  let v2398 : BitVec 32 := Scalar.minsi v2397 c152_i32_998
  let v2399 : BitVec 32 := v2398
  let v2461 : Index := Scalar.indexCast v2399
  let c0_1014 : Index := 0#32
  ![0, v2460.toNat, v2461.toNat, 0]

def k0_chk123 (v2393 : BitVec 32) (v2457 : BitVec 32) : Prop :=
  (∀ a, (k0_off124 v2393 v2457) a + S1x2x48x256.size a ≤ S1x200x200x256.size a)
theorem k0_off124_inb : ∀ (v2393 : BitVec 32) (v2457 : BitVec 32) (k0_hw123 : k0_chk123 v2393 v2457), ∀ a, (k0_off124 v2393 v2457) a + S1x2x48x256.size a ≤ S1x200x200x256.size a := fun v2393 v2457 k0_hw123 => k0_hw123

def k0_off125 (v2393 : BitVec 32) (v2469 : BitVec 32) : Fin 4 → Nat :=
  let c0_1019 : Index := 0#32
  let c198_i32_1017 : BitVec 32 := 198#32
  let v2470 : BitVec 32 := Scalar.minsi v2469 c198_i32_1017
  let c0_i32_1018 : BitVec 32 := 0#32
  let v2471 : BitVec 32 := Scalar.maxsi v2470 c0_i32_1018
  let v2472 : Index := Scalar.indexCast v2471
  let c198_i32_995 : BitVec 32 := 198#32
  let c0_i32_994 : BitVec 32 := 0#32
  let v2394 : BitVec 32 := Scalar.maxsi c0_i32_994 v2393
  let v2395 : BitVec 32 := Scalar.minsi c198_i32_995 v2394
  let c3_i32_996 : BitVec 32 := 3#32
  let v2396 : BitVec 32 := Scalar.shrsi v2395 c3_i32_996
  let c3_i32_997 : BitVec 32 := 3#32
  let v2397 : BitVec 32 := Scalar.shli v2396 c3_i32_997
  let c152_i32_998 : BitVec 32 := 152#32
  let v2398 : BitVec 32 := Scalar.minsi v2397 c152_i32_998
  let v2399 : BitVec 32 := v2398
  let v2473 : Index := Scalar.indexCast v2399
  let c0_1020 : Index := 0#32
  ![0, v2472.toNat, v2473.toNat, 0]

def k0_chk124 (v2393 : BitVec 32) (v2469 : BitVec 32) : Prop :=
  (∀ a, (k0_off125 v2393 v2469) a + S1x2x48x256.size a ≤ S1x200x200x256.size a)
theorem k0_off125_inb : ∀ (v2393 : BitVec 32) (v2469 : BitVec 32) (k0_hw124 : k0_chk124 v2393 v2469), ∀ a, (k0_off125 v2393 v2469) a + S1x2x48x256.size a ≤ S1x200x200x256.size a := fun v2393 v2469 k0_hw124 => k0_hw124

def k0_off126 (v2393 : BitVec 32) (v2481 : BitVec 32) : Fin 4 → Nat :=
  let c0_1025 : Index := 0#32
  let c198_i32_1023 : BitVec 32 := 198#32
  let v2482 : BitVec 32 := Scalar.minsi v2481 c198_i32_1023
  let c0_i32_1024 : BitVec 32 := 0#32
  let v2483 : BitVec 32 := Scalar.maxsi v2482 c0_i32_1024
  let v2484 : Index := Scalar.indexCast v2483
  let c198_i32_995 : BitVec 32 := 198#32
  let c0_i32_994 : BitVec 32 := 0#32
  let v2394 : BitVec 32 := Scalar.maxsi c0_i32_994 v2393
  let v2395 : BitVec 32 := Scalar.minsi c198_i32_995 v2394
  let c3_i32_996 : BitVec 32 := 3#32
  let v2396 : BitVec 32 := Scalar.shrsi v2395 c3_i32_996
  let c3_i32_997 : BitVec 32 := 3#32
  let v2397 : BitVec 32 := Scalar.shli v2396 c3_i32_997
  let c152_i32_998 : BitVec 32 := 152#32
  let v2398 : BitVec 32 := Scalar.minsi v2397 c152_i32_998
  let v2399 : BitVec 32 := v2398
  let v2485 : Index := Scalar.indexCast v2399
  let c0_1026 : Index := 0#32
  ![0, v2484.toNat, v2485.toNat, 0]

def k0_chk125 (v2393 : BitVec 32) (v2481 : BitVec 32) : Prop :=
  (∀ a, (k0_off126 v2393 v2481) a + S1x2x48x256.size a ≤ S1x200x200x256.size a)
theorem k0_off126_inb : ∀ (v2393 : BitVec 32) (v2481 : BitVec 32) (k0_hw125 : k0_chk125 v2393 v2481), ∀ a, (k0_off126 v2393 v2481) a + S1x2x48x256.size a ≤ S1x200x200x256.size a := fun v2393 v2481 k0_hw125 => k0_hw125

def k0_off127 (v2393 : BitVec 32) (v2493 : BitVec 32) : Fin 4 → Nat :=
  let c0_1031 : Index := 0#32
  let c198_i32_1029 : BitVec 32 := 198#32
  let v2494 : BitVec 32 := Scalar.minsi v2493 c198_i32_1029
  let c0_i32_1030 : BitVec 32 := 0#32
  let v2495 : BitVec 32 := Scalar.maxsi v2494 c0_i32_1030
  let v2496 : Index := Scalar.indexCast v2495
  let c198_i32_995 : BitVec 32 := 198#32
  let c0_i32_994 : BitVec 32 := 0#32
  let v2394 : BitVec 32 := Scalar.maxsi c0_i32_994 v2393
  let v2395 : BitVec 32 := Scalar.minsi c198_i32_995 v2394
  let c3_i32_996 : BitVec 32 := 3#32
  let v2396 : BitVec 32 := Scalar.shrsi v2395 c3_i32_996
  let c3_i32_997 : BitVec 32 := 3#32
  let v2397 : BitVec 32 := Scalar.shli v2396 c3_i32_997
  let c152_i32_998 : BitVec 32 := 152#32
  let v2398 : BitVec 32 := Scalar.minsi v2397 c152_i32_998
  let v2399 : BitVec 32 := v2398
  let v2497 : Index := Scalar.indexCast v2399
  let c0_1032 : Index := 0#32
  ![0, v2496.toNat, v2497.toNat, 0]

def k0_chk126 (v2393 : BitVec 32) (v2493 : BitVec 32) : Prop :=
  (∀ a, (k0_off127 v2393 v2493) a + S1x2x48x256.size a ≤ S1x200x200x256.size a)
theorem k0_off127_inb : ∀ (v2393 : BitVec 32) (v2493 : BitVec 32) (k0_hw126 : k0_chk126 v2393 v2493), ∀ a, (k0_off127 v2393 v2493) a + S1x2x48x256.size a ≤ S1x200x200x256.size a := fun v2393 v2493 k0_hw126 => k0_hw126

def k0_off128 (v2393 : BitVec 32) (v2505 : BitVec 32) : Fin 4 → Nat :=
  let c0_1037 : Index := 0#32
  let c198_i32_1035 : BitVec 32 := 198#32
  let v2506 : BitVec 32 := Scalar.minsi v2505 c198_i32_1035
  let c0_i32_1036 : BitVec 32 := 0#32
  let v2507 : BitVec 32 := Scalar.maxsi v2506 c0_i32_1036
  let v2508 : Index := Scalar.indexCast v2507
  let c198_i32_995 : BitVec 32 := 198#32
  let c0_i32_994 : BitVec 32 := 0#32
  let v2394 : BitVec 32 := Scalar.maxsi c0_i32_994 v2393
  let v2395 : BitVec 32 := Scalar.minsi c198_i32_995 v2394
  let c3_i32_996 : BitVec 32 := 3#32
  let v2396 : BitVec 32 := Scalar.shrsi v2395 c3_i32_996
  let c3_i32_997 : BitVec 32 := 3#32
  let v2397 : BitVec 32 := Scalar.shli v2396 c3_i32_997
  let c152_i32_998 : BitVec 32 := 152#32
  let v2398 : BitVec 32 := Scalar.minsi v2397 c152_i32_998
  let v2399 : BitVec 32 := v2398
  let v2509 : Index := Scalar.indexCast v2399
  let c0_1038 : Index := 0#32
  ![0, v2508.toNat, v2509.toNat, 0]

def k0_chk127 (v2393 : BitVec 32) (v2505 : BitVec 32) : Prop :=
  (∀ a, (k0_off128 v2393 v2505) a + S1x2x48x256.size a ≤ S1x200x200x256.size a)
theorem k0_off128_inb : ∀ (v2393 : BitVec 32) (v2505 : BitVec 32) (k0_hw127 : k0_chk127 v2393 v2505), ∀ a, (k0_off128 v2393 v2505) a + S1x2x48x256.size a ≤ S1x200x200x256.size a := fun v2393 v2505 k0_hw127 => k0_hw127

def k0_off129 (v2393 : BitVec 32) (v2517 : BitVec 32) : Fin 4 → Nat :=
  let c0_1043 : Index := 0#32
  let c198_i32_1041 : BitVec 32 := 198#32
  let v2518 : BitVec 32 := Scalar.minsi v2517 c198_i32_1041
  let c0_i32_1042 : BitVec 32 := 0#32
  let v2519 : BitVec 32 := Scalar.maxsi v2518 c0_i32_1042
  let v2520 : Index := Scalar.indexCast v2519
  let c198_i32_995 : BitVec 32 := 198#32
  let c0_i32_994 : BitVec 32 := 0#32
  let v2394 : BitVec 32 := Scalar.maxsi c0_i32_994 v2393
  let v2395 : BitVec 32 := Scalar.minsi c198_i32_995 v2394
  let c3_i32_996 : BitVec 32 := 3#32
  let v2396 : BitVec 32 := Scalar.shrsi v2395 c3_i32_996
  let c3_i32_997 : BitVec 32 := 3#32
  let v2397 : BitVec 32 := Scalar.shli v2396 c3_i32_997
  let c152_i32_998 : BitVec 32 := 152#32
  let v2398 : BitVec 32 := Scalar.minsi v2397 c152_i32_998
  let v2399 : BitVec 32 := v2398
  let v2521 : Index := Scalar.indexCast v2399
  let c0_1044 : Index := 0#32
  ![0, v2520.toNat, v2521.toNat, 0]

def k0_chk128 (v2393 : BitVec 32) (v2517 : BitVec 32) : Prop :=
  (∀ a, (k0_off129 v2393 v2517) a + S1x2x48x256.size a ≤ S1x200x200x256.size a)
theorem k0_off129_inb : ∀ (v2393 : BitVec 32) (v2517 : BitVec 32) (k0_hw128 : k0_chk128 v2393 v2517), ∀ a, (k0_off129 v2393 v2517) a + S1x2x48x256.size a ≤ S1x200x200x256.size a := fun v2393 v2517 k0_hw128 => k0_hw128

def k0_off130 (v2393 : BitVec 32) (v2529 : BitVec 32) : Fin 4 → Nat :=
  let c0_1049 : Index := 0#32
  let c198_i32_1047 : BitVec 32 := 198#32
  let v2530 : BitVec 32 := Scalar.minsi v2529 c198_i32_1047
  let c0_i32_1048 : BitVec 32 := 0#32
  let v2531 : BitVec 32 := Scalar.maxsi v2530 c0_i32_1048
  let v2532 : Index := Scalar.indexCast v2531
  let c198_i32_995 : BitVec 32 := 198#32
  let c0_i32_994 : BitVec 32 := 0#32
  let v2394 : BitVec 32 := Scalar.maxsi c0_i32_994 v2393
  let v2395 : BitVec 32 := Scalar.minsi c198_i32_995 v2394
  let c3_i32_996 : BitVec 32 := 3#32
  let v2396 : BitVec 32 := Scalar.shrsi v2395 c3_i32_996
  let c3_i32_997 : BitVec 32 := 3#32
  let v2397 : BitVec 32 := Scalar.shli v2396 c3_i32_997
  let c152_i32_998 : BitVec 32 := 152#32
  let v2398 : BitVec 32 := Scalar.minsi v2397 c152_i32_998
  let v2399 : BitVec 32 := v2398
  let v2533 : Index := Scalar.indexCast v2399
  let c0_1050 : Index := 0#32
  ![0, v2532.toNat, v2533.toNat, 0]

def k0_chk129 (v2393 : BitVec 32) (v2529 : BitVec 32) : Prop :=
  (∀ a, (k0_off130 v2393 v2529) a + S1x2x48x256.size a ≤ S1x200x200x256.size a)
theorem k0_off130_inb : ∀ (v2393 : BitVec 32) (v2529 : BitVec 32) (k0_hw129 : k0_chk129 v2393 v2529), ∀ a, (k0_off130 v2393 v2529) a + S1x2x48x256.size a ≤ S1x200x200x256.size a := fun v2393 v2529 k0_hw129 => k0_hw129

def k0_off131 (v2393 : BitVec 32) (v2541 : BitVec 32) : Fin 4 → Nat :=
  let c0_1055 : Index := 0#32
  let c198_i32_1053 : BitVec 32 := 198#32
  let v2542 : BitVec 32 := Scalar.minsi v2541 c198_i32_1053
  let c0_i32_1054 : BitVec 32 := 0#32
  let v2543 : BitVec 32 := Scalar.maxsi v2542 c0_i32_1054
  let v2544 : Index := Scalar.indexCast v2543
  let c198_i32_995 : BitVec 32 := 198#32
  let c0_i32_994 : BitVec 32 := 0#32
  let v2394 : BitVec 32 := Scalar.maxsi c0_i32_994 v2393
  let v2395 : BitVec 32 := Scalar.minsi c198_i32_995 v2394
  let c3_i32_996 : BitVec 32 := 3#32
  let v2396 : BitVec 32 := Scalar.shrsi v2395 c3_i32_996
  let c3_i32_997 : BitVec 32 := 3#32
  let v2397 : BitVec 32 := Scalar.shli v2396 c3_i32_997
  let c152_i32_998 : BitVec 32 := 152#32
  let v2398 : BitVec 32 := Scalar.minsi v2397 c152_i32_998
  let v2399 : BitVec 32 := v2398
  let v2545 : Index := Scalar.indexCast v2399
  let c0_1056 : Index := 0#32
  ![0, v2544.toNat, v2545.toNat, 0]

def k0_chk130 (v2393 : BitVec 32) (v2541 : BitVec 32) : Prop :=
  (∀ a, (k0_off131 v2393 v2541) a + S1x2x48x256.size a ≤ S1x200x200x256.size a)
theorem k0_off131_inb : ∀ (v2393 : BitVec 32) (v2541 : BitVec 32) (k0_hw130 : k0_chk130 v2393 v2541), ∀ a, (k0_off131 v2393 v2541) a + S1x2x48x256.size a ≤ S1x200x200x256.size a := fun v2393 v2541 k0_hw130 => k0_hw130

def k0_off132 (i : grid0.Coords) (k0_t1 : Fin k0_t1_loop.trips) : Fin 1 → Nat :=
  let arg0 : BitVec 32 := BitVec.ofNat 32 (i 0).val
  let c128_i32_1058 : BitVec 32 := 128#32
  let v2552 : BitVec 32 := Scalar.muli arg0 c128_i32_1058
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c13_i32 : BitVec 32 := 13#32
  let v2551 : BitVec 32 := Scalar.addi v15 c13_i32
  let v2553 : BitVec 32 := Scalar.addi v2552 v2551
  let v2554 : Index := Scalar.indexCast v2553
  ![v2554.toNat]
def k0_off133 (v2555 : BitVec 32) (c1_i32_1062 : BitVec 32) : Fin 1 → Nat :=
  let c0_i32_1060 : BitVec 32 := 0#32
  let v2559 : BitVec 32 := Scalar.maxsi v2555 c0_i32_1060
  let c5_i32_1061 : BitVec 32 := 5#32
  let v2560 : BitVec 32 := Scalar.muli v2559 c5_i32_1061
  let v2561 : BitVec 32 := Scalar.addi v2560 c1_i32_1062
  let v2562 : Index := Scalar.indexCast v2561
  ![v2562.toNat]

def k0_chk131 (v2555 : BitVec 32) : Prop :=
  (∀ (r : Fin 4), ∀ a, (k0_off133 v2555 (BitVec.ofNat 32 (1 + r.val))) a + S1.size a ≤ S5120.size a)
theorem k0_off133_inb : ∀ (v2555 : BitVec 32) (k0_hw131 : k0_chk131 v2555), ∀ (r : Fin 4), ∀ a, (k0_off133 v2555 (BitVec.ofNat 32 (1 + r.val))) a + S1.size a ≤ S5120.size a := fun v2555 k0_hw131 r => k0_hw131 r

def k0_mult14 (v2588 : BitVec 32) : BitVec 32 :=
  let c198_i32_1076 : BitVec 32 := 198#32
  let c0_i32_1075 : BitVec 32 := 0#32
  let v2589 : BitVec 32 := Scalar.maxsi c0_i32_1075 v2588
  let v2590 : BitVec 32 := Scalar.minsi c198_i32_1076 v2589
  let c3_i32_1077 : BitVec 32 := 3#32
  let v2591 : BitVec 32 := Scalar.shrsi v2590 c3_i32_1077
  let c3_i32_1078 : BitVec 32 := 3#32
  let v2592 : BitVec 32 := Scalar.shli v2591 c3_i32_1078
  let c152_i32_1079 : BitVec 32 := 152#32
  let v2593 : BitVec 32 := Scalar.minsi v2592 c152_i32_1079
  v2593

def k0_chk132 (v2588 : BitVec 32) : Prop :=
  (8 ∣ (k0_mult14 v2588).toNat)
theorem k0_mult14_dvd : ∀ (v2588 : BitVec 32) (k0_hw132 : k0_chk132 v2588), 8 ∣ (k0_mult14 v2588).toNat := fun v2588 k0_hw132 => k0_hw132

def k0_off134 (v2588 : BitVec 32) (v2652 : BitVec 32) : Fin 4 → Nat :=
  let c0_1094 : Index := 0#32
  let c198_i32_1092 : BitVec 32 := 198#32
  let v2653 : BitVec 32 := Scalar.minsi v2652 c198_i32_1092
  let c0_i32_1093 : BitVec 32 := 0#32
  let v2654 : BitVec 32 := Scalar.maxsi v2653 c0_i32_1093
  let v2655 : Index := Scalar.indexCast v2654
  let c198_i32_1076 : BitVec 32 := 198#32
  let c0_i32_1075 : BitVec 32 := 0#32
  let v2589 : BitVec 32 := Scalar.maxsi c0_i32_1075 v2588
  let v2590 : BitVec 32 := Scalar.minsi c198_i32_1076 v2589
  let c3_i32_1077 : BitVec 32 := 3#32
  let v2591 : BitVec 32 := Scalar.shrsi v2590 c3_i32_1077
  let c3_i32_1078 : BitVec 32 := 3#32
  let v2592 : BitVec 32 := Scalar.shli v2591 c3_i32_1078
  let c152_i32_1079 : BitVec 32 := 152#32
  let v2593 : BitVec 32 := Scalar.minsi v2592 c152_i32_1079
  let v2594 : BitVec 32 := v2593
  let v2656 : Index := Scalar.indexCast v2594
  let c0_1095 : Index := 0#32
  ![0, v2655.toNat, v2656.toNat, 0]

def k0_chk133 (v2588 : BitVec 32) (v2652 : BitVec 32) : Prop :=
  (∀ a, (k0_off134 v2588 v2652) a + S1x2x48x256.size a ≤ S1x200x200x256.size a)
theorem k0_off134_inb : ∀ (v2588 : BitVec 32) (v2652 : BitVec 32) (k0_hw133 : k0_chk133 v2588 v2652), ∀ a, (k0_off134 v2588 v2652) a + S1x2x48x256.size a ≤ S1x200x200x256.size a := fun v2588 v2652 k0_hw133 => k0_hw133

def k0_off135 (v2588 : BitVec 32) (v2664 : BitVec 32) : Fin 4 → Nat :=
  let c0_1100 : Index := 0#32
  let c198_i32_1098 : BitVec 32 := 198#32
  let v2665 : BitVec 32 := Scalar.minsi v2664 c198_i32_1098
  let c0_i32_1099 : BitVec 32 := 0#32
  let v2666 : BitVec 32 := Scalar.maxsi v2665 c0_i32_1099
  let v2667 : Index := Scalar.indexCast v2666
  let c198_i32_1076 : BitVec 32 := 198#32
  let c0_i32_1075 : BitVec 32 := 0#32
  let v2589 : BitVec 32 := Scalar.maxsi c0_i32_1075 v2588
  let v2590 : BitVec 32 := Scalar.minsi c198_i32_1076 v2589
  let c3_i32_1077 : BitVec 32 := 3#32
  let v2591 : BitVec 32 := Scalar.shrsi v2590 c3_i32_1077
  let c3_i32_1078 : BitVec 32 := 3#32
  let v2592 : BitVec 32 := Scalar.shli v2591 c3_i32_1078
  let c152_i32_1079 : BitVec 32 := 152#32
  let v2593 : BitVec 32 := Scalar.minsi v2592 c152_i32_1079
  let v2594 : BitVec 32 := v2593
  let v2668 : Index := Scalar.indexCast v2594
  let c0_1101 : Index := 0#32
  ![0, v2667.toNat, v2668.toNat, 0]

def k0_chk134 (v2588 : BitVec 32) (v2664 : BitVec 32) : Prop :=
  (∀ a, (k0_off135 v2588 v2664) a + S1x2x48x256.size a ≤ S1x200x200x256.size a)
theorem k0_off135_inb : ∀ (v2588 : BitVec 32) (v2664 : BitVec 32) (k0_hw134 : k0_chk134 v2588 v2664), ∀ a, (k0_off135 v2588 v2664) a + S1x2x48x256.size a ≤ S1x200x200x256.size a := fun v2588 v2664 k0_hw134 => k0_hw134

def k0_off136 (v2588 : BitVec 32) (v2676 : BitVec 32) : Fin 4 → Nat :=
  let c0_1106 : Index := 0#32
  let c198_i32_1104 : BitVec 32 := 198#32
  let v2677 : BitVec 32 := Scalar.minsi v2676 c198_i32_1104
  let c0_i32_1105 : BitVec 32 := 0#32
  let v2678 : BitVec 32 := Scalar.maxsi v2677 c0_i32_1105
  let v2679 : Index := Scalar.indexCast v2678
  let c198_i32_1076 : BitVec 32 := 198#32
  let c0_i32_1075 : BitVec 32 := 0#32
  let v2589 : BitVec 32 := Scalar.maxsi c0_i32_1075 v2588
  let v2590 : BitVec 32 := Scalar.minsi c198_i32_1076 v2589
  let c3_i32_1077 : BitVec 32 := 3#32
  let v2591 : BitVec 32 := Scalar.shrsi v2590 c3_i32_1077
  let c3_i32_1078 : BitVec 32 := 3#32
  let v2592 : BitVec 32 := Scalar.shli v2591 c3_i32_1078
  let c152_i32_1079 : BitVec 32 := 152#32
  let v2593 : BitVec 32 := Scalar.minsi v2592 c152_i32_1079
  let v2594 : BitVec 32 := v2593
  let v2680 : Index := Scalar.indexCast v2594
  let c0_1107 : Index := 0#32
  ![0, v2679.toNat, v2680.toNat, 0]

def k0_chk135 (v2588 : BitVec 32) (v2676 : BitVec 32) : Prop :=
  (∀ a, (k0_off136 v2588 v2676) a + S1x2x48x256.size a ≤ S1x200x200x256.size a)
theorem k0_off136_inb : ∀ (v2588 : BitVec 32) (v2676 : BitVec 32) (k0_hw135 : k0_chk135 v2588 v2676), ∀ a, (k0_off136 v2588 v2676) a + S1x2x48x256.size a ≤ S1x200x200x256.size a := fun v2588 v2676 k0_hw135 => k0_hw135

def k0_off137 (v2588 : BitVec 32) (v2688 : BitVec 32) : Fin 4 → Nat :=
  let c0_1112 : Index := 0#32
  let c198_i32_1110 : BitVec 32 := 198#32
  let v2689 : BitVec 32 := Scalar.minsi v2688 c198_i32_1110
  let c0_i32_1111 : BitVec 32 := 0#32
  let v2690 : BitVec 32 := Scalar.maxsi v2689 c0_i32_1111
  let v2691 : Index := Scalar.indexCast v2690
  let c198_i32_1076 : BitVec 32 := 198#32
  let c0_i32_1075 : BitVec 32 := 0#32
  let v2589 : BitVec 32 := Scalar.maxsi c0_i32_1075 v2588
  let v2590 : BitVec 32 := Scalar.minsi c198_i32_1076 v2589
  let c3_i32_1077 : BitVec 32 := 3#32
  let v2591 : BitVec 32 := Scalar.shrsi v2590 c3_i32_1077
  let c3_i32_1078 : BitVec 32 := 3#32
  let v2592 : BitVec 32 := Scalar.shli v2591 c3_i32_1078
  let c152_i32_1079 : BitVec 32 := 152#32
  let v2593 : BitVec 32 := Scalar.minsi v2592 c152_i32_1079
  let v2594 : BitVec 32 := v2593
  let v2692 : Index := Scalar.indexCast v2594
  let c0_1113 : Index := 0#32
  ![0, v2691.toNat, v2692.toNat, 0]

def k0_chk136 (v2588 : BitVec 32) (v2688 : BitVec 32) : Prop :=
  (∀ a, (k0_off137 v2588 v2688) a + S1x2x48x256.size a ≤ S1x200x200x256.size a)
theorem k0_off137_inb : ∀ (v2588 : BitVec 32) (v2688 : BitVec 32) (k0_hw136 : k0_chk136 v2588 v2688), ∀ a, (k0_off137 v2588 v2688) a + S1x2x48x256.size a ≤ S1x200x200x256.size a := fun v2588 v2688 k0_hw136 => k0_hw136

def k0_off138 (v2588 : BitVec 32) (v2700 : BitVec 32) : Fin 4 → Nat :=
  let c0_1118 : Index := 0#32
  let c198_i32_1116 : BitVec 32 := 198#32
  let v2701 : BitVec 32 := Scalar.minsi v2700 c198_i32_1116
  let c0_i32_1117 : BitVec 32 := 0#32
  let v2702 : BitVec 32 := Scalar.maxsi v2701 c0_i32_1117
  let v2703 : Index := Scalar.indexCast v2702
  let c198_i32_1076 : BitVec 32 := 198#32
  let c0_i32_1075 : BitVec 32 := 0#32
  let v2589 : BitVec 32 := Scalar.maxsi c0_i32_1075 v2588
  let v2590 : BitVec 32 := Scalar.minsi c198_i32_1076 v2589
  let c3_i32_1077 : BitVec 32 := 3#32
  let v2591 : BitVec 32 := Scalar.shrsi v2590 c3_i32_1077
  let c3_i32_1078 : BitVec 32 := 3#32
  let v2592 : BitVec 32 := Scalar.shli v2591 c3_i32_1078
  let c152_i32_1079 : BitVec 32 := 152#32
  let v2593 : BitVec 32 := Scalar.minsi v2592 c152_i32_1079
  let v2594 : BitVec 32 := v2593
  let v2704 : Index := Scalar.indexCast v2594
  let c0_1119 : Index := 0#32
  ![0, v2703.toNat, v2704.toNat, 0]

def k0_chk137 (v2588 : BitVec 32) (v2700 : BitVec 32) : Prop :=
  (∀ a, (k0_off138 v2588 v2700) a + S1x2x48x256.size a ≤ S1x200x200x256.size a)
theorem k0_off138_inb : ∀ (v2588 : BitVec 32) (v2700 : BitVec 32) (k0_hw137 : k0_chk137 v2588 v2700), ∀ a, (k0_off138 v2588 v2700) a + S1x2x48x256.size a ≤ S1x200x200x256.size a := fun v2588 v2700 k0_hw137 => k0_hw137

def k0_off139 (v2588 : BitVec 32) (v2712 : BitVec 32) : Fin 4 → Nat :=
  let c0_1124 : Index := 0#32
  let c198_i32_1122 : BitVec 32 := 198#32
  let v2713 : BitVec 32 := Scalar.minsi v2712 c198_i32_1122
  let c0_i32_1123 : BitVec 32 := 0#32
  let v2714 : BitVec 32 := Scalar.maxsi v2713 c0_i32_1123
  let v2715 : Index := Scalar.indexCast v2714
  let c198_i32_1076 : BitVec 32 := 198#32
  let c0_i32_1075 : BitVec 32 := 0#32
  let v2589 : BitVec 32 := Scalar.maxsi c0_i32_1075 v2588
  let v2590 : BitVec 32 := Scalar.minsi c198_i32_1076 v2589
  let c3_i32_1077 : BitVec 32 := 3#32
  let v2591 : BitVec 32 := Scalar.shrsi v2590 c3_i32_1077
  let c3_i32_1078 : BitVec 32 := 3#32
  let v2592 : BitVec 32 := Scalar.shli v2591 c3_i32_1078
  let c152_i32_1079 : BitVec 32 := 152#32
  let v2593 : BitVec 32 := Scalar.minsi v2592 c152_i32_1079
  let v2594 : BitVec 32 := v2593
  let v2716 : Index := Scalar.indexCast v2594
  let c0_1125 : Index := 0#32
  ![0, v2715.toNat, v2716.toNat, 0]

def k0_chk138 (v2588 : BitVec 32) (v2712 : BitVec 32) : Prop :=
  (∀ a, (k0_off139 v2588 v2712) a + S1x2x48x256.size a ≤ S1x200x200x256.size a)
theorem k0_off139_inb : ∀ (v2588 : BitVec 32) (v2712 : BitVec 32) (k0_hw138 : k0_chk138 v2588 v2712), ∀ a, (k0_off139 v2588 v2712) a + S1x2x48x256.size a ≤ S1x200x200x256.size a := fun v2588 v2712 k0_hw138 => k0_hw138

def k0_off140 (v2588 : BitVec 32) (v2724 : BitVec 32) : Fin 4 → Nat :=
  let c0_1130 : Index := 0#32
  let c198_i32_1128 : BitVec 32 := 198#32
  let v2725 : BitVec 32 := Scalar.minsi v2724 c198_i32_1128
  let c0_i32_1129 : BitVec 32 := 0#32
  let v2726 : BitVec 32 := Scalar.maxsi v2725 c0_i32_1129
  let v2727 : Index := Scalar.indexCast v2726
  let c198_i32_1076 : BitVec 32 := 198#32
  let c0_i32_1075 : BitVec 32 := 0#32
  let v2589 : BitVec 32 := Scalar.maxsi c0_i32_1075 v2588
  let v2590 : BitVec 32 := Scalar.minsi c198_i32_1076 v2589
  let c3_i32_1077 : BitVec 32 := 3#32
  let v2591 : BitVec 32 := Scalar.shrsi v2590 c3_i32_1077
  let c3_i32_1078 : BitVec 32 := 3#32
  let v2592 : BitVec 32 := Scalar.shli v2591 c3_i32_1078
  let c152_i32_1079 : BitVec 32 := 152#32
  let v2593 : BitVec 32 := Scalar.minsi v2592 c152_i32_1079
  let v2594 : BitVec 32 := v2593
  let v2728 : Index := Scalar.indexCast v2594
  let c0_1131 : Index := 0#32
  ![0, v2727.toNat, v2728.toNat, 0]

def k0_chk139 (v2588 : BitVec 32) (v2724 : BitVec 32) : Prop :=
  (∀ a, (k0_off140 v2588 v2724) a + S1x2x48x256.size a ≤ S1x200x200x256.size a)
theorem k0_off140_inb : ∀ (v2588 : BitVec 32) (v2724 : BitVec 32) (k0_hw139 : k0_chk139 v2588 v2724), ∀ a, (k0_off140 v2588 v2724) a + S1x2x48x256.size a ≤ S1x200x200x256.size a := fun v2588 v2724 k0_hw139 => k0_hw139

def k0_off141 (v2588 : BitVec 32) (v2736 : BitVec 32) : Fin 4 → Nat :=
  let c0_1136 : Index := 0#32
  let c198_i32_1134 : BitVec 32 := 198#32
  let v2737 : BitVec 32 := Scalar.minsi v2736 c198_i32_1134
  let c0_i32_1135 : BitVec 32 := 0#32
  let v2738 : BitVec 32 := Scalar.maxsi v2737 c0_i32_1135
  let v2739 : Index := Scalar.indexCast v2738
  let c198_i32_1076 : BitVec 32 := 198#32
  let c0_i32_1075 : BitVec 32 := 0#32
  let v2589 : BitVec 32 := Scalar.maxsi c0_i32_1075 v2588
  let v2590 : BitVec 32 := Scalar.minsi c198_i32_1076 v2589
  let c3_i32_1077 : BitVec 32 := 3#32
  let v2591 : BitVec 32 := Scalar.shrsi v2590 c3_i32_1077
  let c3_i32_1078 : BitVec 32 := 3#32
  let v2592 : BitVec 32 := Scalar.shli v2591 c3_i32_1078
  let c152_i32_1079 : BitVec 32 := 152#32
  let v2593 : BitVec 32 := Scalar.minsi v2592 c152_i32_1079
  let v2594 : BitVec 32 := v2593
  let v2740 : Index := Scalar.indexCast v2594
  let c0_1137 : Index := 0#32
  ![0, v2739.toNat, v2740.toNat, 0]

def k0_chk140 (v2588 : BitVec 32) (v2736 : BitVec 32) : Prop :=
  (∀ a, (k0_off141 v2588 v2736) a + S1x2x48x256.size a ≤ S1x200x200x256.size a)
theorem k0_off141_inb : ∀ (v2588 : BitVec 32) (v2736 : BitVec 32) (k0_hw140 : k0_chk140 v2588 v2736), ∀ a, (k0_off141 v2588 v2736) a + S1x2x48x256.size a ≤ S1x200x200x256.size a := fun v2588 v2736 k0_hw140 => k0_hw140

def k0_off142 (i : grid0.Coords) (k0_t1 : Fin k0_t1_loop.trips) : Fin 1 → Nat :=
  let arg0 : BitVec 32 := BitVec.ofNat 32 (i 0).val
  let c128_i32_1139 : BitVec 32 := 128#32
  let v2747 : BitVec 32 := Scalar.muli arg0 c128_i32_1139
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c14_i32 : BitVec 32 := 14#32
  let v2746 : BitVec 32 := Scalar.addi v15 c14_i32
  let v2748 : BitVec 32 := Scalar.addi v2747 v2746
  let v2749 : Index := Scalar.indexCast v2748
  ![v2749.toNat]
def k0_off143 (v2750 : BitVec 32) (c1_i32_1143 : BitVec 32) : Fin 1 → Nat :=
  let c0_i32_1141 : BitVec 32 := 0#32
  let v2754 : BitVec 32 := Scalar.maxsi v2750 c0_i32_1141
  let c5_i32_1142 : BitVec 32 := 5#32
  let v2755 : BitVec 32 := Scalar.muli v2754 c5_i32_1142
  let v2756 : BitVec 32 := Scalar.addi v2755 c1_i32_1143
  let v2757 : Index := Scalar.indexCast v2756
  ![v2757.toNat]

def k0_chk141 (v2750 : BitVec 32) : Prop :=
  (∀ (r : Fin 4), ∀ a, (k0_off143 v2750 (BitVec.ofNat 32 (1 + r.val))) a + S1.size a ≤ S5120.size a)
theorem k0_off143_inb : ∀ (v2750 : BitVec 32) (k0_hw141 : k0_chk141 v2750), ∀ (r : Fin 4), ∀ a, (k0_off143 v2750 (BitVec.ofNat 32 (1 + r.val))) a + S1.size a ≤ S5120.size a := fun v2750 k0_hw141 r => k0_hw141 r

def k0_mult15 (v2783 : BitVec 32) : BitVec 32 :=
  let c198_i32_1157 : BitVec 32 := 198#32
  let c0_i32_1156 : BitVec 32 := 0#32
  let v2784 : BitVec 32 := Scalar.maxsi c0_i32_1156 v2783
  let v2785 : BitVec 32 := Scalar.minsi c198_i32_1157 v2784
  let c3_i32_1158 : BitVec 32 := 3#32
  let v2786 : BitVec 32 := Scalar.shrsi v2785 c3_i32_1158
  let c3_i32_1159 : BitVec 32 := 3#32
  let v2787 : BitVec 32 := Scalar.shli v2786 c3_i32_1159
  let c152_i32_1160 : BitVec 32 := 152#32
  let v2788 : BitVec 32 := Scalar.minsi v2787 c152_i32_1160
  v2788

def k0_chk142 (v2783 : BitVec 32) : Prop :=
  (8 ∣ (k0_mult15 v2783).toNat)
theorem k0_mult15_dvd : ∀ (v2783 : BitVec 32) (k0_hw142 : k0_chk142 v2783), 8 ∣ (k0_mult15 v2783).toNat := fun v2783 k0_hw142 => k0_hw142

def k0_off144 (v2783 : BitVec 32) (v2847 : BitVec 32) : Fin 4 → Nat :=
  let c0_1175 : Index := 0#32
  let c198_i32_1173 : BitVec 32 := 198#32
  let v2848 : BitVec 32 := Scalar.minsi v2847 c198_i32_1173
  let c0_i32_1174 : BitVec 32 := 0#32
  let v2849 : BitVec 32 := Scalar.maxsi v2848 c0_i32_1174
  let v2850 : Index := Scalar.indexCast v2849
  let c198_i32_1157 : BitVec 32 := 198#32
  let c0_i32_1156 : BitVec 32 := 0#32
  let v2784 : BitVec 32 := Scalar.maxsi c0_i32_1156 v2783
  let v2785 : BitVec 32 := Scalar.minsi c198_i32_1157 v2784
  let c3_i32_1158 : BitVec 32 := 3#32
  let v2786 : BitVec 32 := Scalar.shrsi v2785 c3_i32_1158
  let c3_i32_1159 : BitVec 32 := 3#32
  let v2787 : BitVec 32 := Scalar.shli v2786 c3_i32_1159
  let c152_i32_1160 : BitVec 32 := 152#32
  let v2788 : BitVec 32 := Scalar.minsi v2787 c152_i32_1160
  let v2789 : BitVec 32 := v2788
  let v2851 : Index := Scalar.indexCast v2789
  let c0_1176 : Index := 0#32
  ![0, v2850.toNat, v2851.toNat, 0]

def k0_chk143 (v2783 : BitVec 32) (v2847 : BitVec 32) : Prop :=
  (∀ a, (k0_off144 v2783 v2847) a + S1x2x48x256.size a ≤ S1x200x200x256.size a)
theorem k0_off144_inb : ∀ (v2783 : BitVec 32) (v2847 : BitVec 32) (k0_hw143 : k0_chk143 v2783 v2847), ∀ a, (k0_off144 v2783 v2847) a + S1x2x48x256.size a ≤ S1x200x200x256.size a := fun v2783 v2847 k0_hw143 => k0_hw143

def k0_off145 (v2783 : BitVec 32) (v2859 : BitVec 32) : Fin 4 → Nat :=
  let c0_1181 : Index := 0#32
  let c198_i32_1179 : BitVec 32 := 198#32
  let v2860 : BitVec 32 := Scalar.minsi v2859 c198_i32_1179
  let c0_i32_1180 : BitVec 32 := 0#32
  let v2861 : BitVec 32 := Scalar.maxsi v2860 c0_i32_1180
  let v2862 : Index := Scalar.indexCast v2861
  let c198_i32_1157 : BitVec 32 := 198#32
  let c0_i32_1156 : BitVec 32 := 0#32
  let v2784 : BitVec 32 := Scalar.maxsi c0_i32_1156 v2783
  let v2785 : BitVec 32 := Scalar.minsi c198_i32_1157 v2784
  let c3_i32_1158 : BitVec 32 := 3#32
  let v2786 : BitVec 32 := Scalar.shrsi v2785 c3_i32_1158
  let c3_i32_1159 : BitVec 32 := 3#32
  let v2787 : BitVec 32 := Scalar.shli v2786 c3_i32_1159
  let c152_i32_1160 : BitVec 32 := 152#32
  let v2788 : BitVec 32 := Scalar.minsi v2787 c152_i32_1160
  let v2789 : BitVec 32 := v2788
  let v2863 : Index := Scalar.indexCast v2789
  let c0_1182 : Index := 0#32
  ![0, v2862.toNat, v2863.toNat, 0]

def k0_chk144 (v2783 : BitVec 32) (v2859 : BitVec 32) : Prop :=
  (∀ a, (k0_off145 v2783 v2859) a + S1x2x48x256.size a ≤ S1x200x200x256.size a)
theorem k0_off145_inb : ∀ (v2783 : BitVec 32) (v2859 : BitVec 32) (k0_hw144 : k0_chk144 v2783 v2859), ∀ a, (k0_off145 v2783 v2859) a + S1x2x48x256.size a ≤ S1x200x200x256.size a := fun v2783 v2859 k0_hw144 => k0_hw144

def k0_off146 (v2783 : BitVec 32) (v2871 : BitVec 32) : Fin 4 → Nat :=
  let c0_1187 : Index := 0#32
  let c198_i32_1185 : BitVec 32 := 198#32
  let v2872 : BitVec 32 := Scalar.minsi v2871 c198_i32_1185
  let c0_i32_1186 : BitVec 32 := 0#32
  let v2873 : BitVec 32 := Scalar.maxsi v2872 c0_i32_1186
  let v2874 : Index := Scalar.indexCast v2873
  let c198_i32_1157 : BitVec 32 := 198#32
  let c0_i32_1156 : BitVec 32 := 0#32
  let v2784 : BitVec 32 := Scalar.maxsi c0_i32_1156 v2783
  let v2785 : BitVec 32 := Scalar.minsi c198_i32_1157 v2784
  let c3_i32_1158 : BitVec 32 := 3#32
  let v2786 : BitVec 32 := Scalar.shrsi v2785 c3_i32_1158
  let c3_i32_1159 : BitVec 32 := 3#32
  let v2787 : BitVec 32 := Scalar.shli v2786 c3_i32_1159
  let c152_i32_1160 : BitVec 32 := 152#32
  let v2788 : BitVec 32 := Scalar.minsi v2787 c152_i32_1160
  let v2789 : BitVec 32 := v2788
  let v2875 : Index := Scalar.indexCast v2789
  let c0_1188 : Index := 0#32
  ![0, v2874.toNat, v2875.toNat, 0]

def k0_chk145 (v2783 : BitVec 32) (v2871 : BitVec 32) : Prop :=
  (∀ a, (k0_off146 v2783 v2871) a + S1x2x48x256.size a ≤ S1x200x200x256.size a)
theorem k0_off146_inb : ∀ (v2783 : BitVec 32) (v2871 : BitVec 32) (k0_hw145 : k0_chk145 v2783 v2871), ∀ a, (k0_off146 v2783 v2871) a + S1x2x48x256.size a ≤ S1x200x200x256.size a := fun v2783 v2871 k0_hw145 => k0_hw145

def k0_off147 (v2783 : BitVec 32) (v2883 : BitVec 32) : Fin 4 → Nat :=
  let c0_1193 : Index := 0#32
  let c198_i32_1191 : BitVec 32 := 198#32
  let v2884 : BitVec 32 := Scalar.minsi v2883 c198_i32_1191
  let c0_i32_1192 : BitVec 32 := 0#32
  let v2885 : BitVec 32 := Scalar.maxsi v2884 c0_i32_1192
  let v2886 : Index := Scalar.indexCast v2885
  let c198_i32_1157 : BitVec 32 := 198#32
  let c0_i32_1156 : BitVec 32 := 0#32
  let v2784 : BitVec 32 := Scalar.maxsi c0_i32_1156 v2783
  let v2785 : BitVec 32 := Scalar.minsi c198_i32_1157 v2784
  let c3_i32_1158 : BitVec 32 := 3#32
  let v2786 : BitVec 32 := Scalar.shrsi v2785 c3_i32_1158
  let c3_i32_1159 : BitVec 32 := 3#32
  let v2787 : BitVec 32 := Scalar.shli v2786 c3_i32_1159
  let c152_i32_1160 : BitVec 32 := 152#32
  let v2788 : BitVec 32 := Scalar.minsi v2787 c152_i32_1160
  let v2789 : BitVec 32 := v2788
  let v2887 : Index := Scalar.indexCast v2789
  let c0_1194 : Index := 0#32
  ![0, v2886.toNat, v2887.toNat, 0]

def k0_chk146 (v2783 : BitVec 32) (v2883 : BitVec 32) : Prop :=
  (∀ a, (k0_off147 v2783 v2883) a + S1x2x48x256.size a ≤ S1x200x200x256.size a)
theorem k0_off147_inb : ∀ (v2783 : BitVec 32) (v2883 : BitVec 32) (k0_hw146 : k0_chk146 v2783 v2883), ∀ a, (k0_off147 v2783 v2883) a + S1x2x48x256.size a ≤ S1x200x200x256.size a := fun v2783 v2883 k0_hw146 => k0_hw146

def k0_off148 (v2783 : BitVec 32) (v2895 : BitVec 32) : Fin 4 → Nat :=
  let c0_1199 : Index := 0#32
  let c198_i32_1197 : BitVec 32 := 198#32
  let v2896 : BitVec 32 := Scalar.minsi v2895 c198_i32_1197
  let c0_i32_1198 : BitVec 32 := 0#32
  let v2897 : BitVec 32 := Scalar.maxsi v2896 c0_i32_1198
  let v2898 : Index := Scalar.indexCast v2897
  let c198_i32_1157 : BitVec 32 := 198#32
  let c0_i32_1156 : BitVec 32 := 0#32
  let v2784 : BitVec 32 := Scalar.maxsi c0_i32_1156 v2783
  let v2785 : BitVec 32 := Scalar.minsi c198_i32_1157 v2784
  let c3_i32_1158 : BitVec 32 := 3#32
  let v2786 : BitVec 32 := Scalar.shrsi v2785 c3_i32_1158
  let c3_i32_1159 : BitVec 32 := 3#32
  let v2787 : BitVec 32 := Scalar.shli v2786 c3_i32_1159
  let c152_i32_1160 : BitVec 32 := 152#32
  let v2788 : BitVec 32 := Scalar.minsi v2787 c152_i32_1160
  let v2789 : BitVec 32 := v2788
  let v2899 : Index := Scalar.indexCast v2789
  let c0_1200 : Index := 0#32
  ![0, v2898.toNat, v2899.toNat, 0]

def k0_chk147 (v2783 : BitVec 32) (v2895 : BitVec 32) : Prop :=
  (∀ a, (k0_off148 v2783 v2895) a + S1x2x48x256.size a ≤ S1x200x200x256.size a)
theorem k0_off148_inb : ∀ (v2783 : BitVec 32) (v2895 : BitVec 32) (k0_hw147 : k0_chk147 v2783 v2895), ∀ a, (k0_off148 v2783 v2895) a + S1x2x48x256.size a ≤ S1x200x200x256.size a := fun v2783 v2895 k0_hw147 => k0_hw147

def k0_off149 (v2783 : BitVec 32) (v2907 : BitVec 32) : Fin 4 → Nat :=
  let c0_1205 : Index := 0#32
  let c198_i32_1203 : BitVec 32 := 198#32
  let v2908 : BitVec 32 := Scalar.minsi v2907 c198_i32_1203
  let c0_i32_1204 : BitVec 32 := 0#32
  let v2909 : BitVec 32 := Scalar.maxsi v2908 c0_i32_1204
  let v2910 : Index := Scalar.indexCast v2909
  let c198_i32_1157 : BitVec 32 := 198#32
  let c0_i32_1156 : BitVec 32 := 0#32
  let v2784 : BitVec 32 := Scalar.maxsi c0_i32_1156 v2783
  let v2785 : BitVec 32 := Scalar.minsi c198_i32_1157 v2784
  let c3_i32_1158 : BitVec 32 := 3#32
  let v2786 : BitVec 32 := Scalar.shrsi v2785 c3_i32_1158
  let c3_i32_1159 : BitVec 32 := 3#32
  let v2787 : BitVec 32 := Scalar.shli v2786 c3_i32_1159
  let c152_i32_1160 : BitVec 32 := 152#32
  let v2788 : BitVec 32 := Scalar.minsi v2787 c152_i32_1160
  let v2789 : BitVec 32 := v2788
  let v2911 : Index := Scalar.indexCast v2789
  let c0_1206 : Index := 0#32
  ![0, v2910.toNat, v2911.toNat, 0]

def k0_chk148 (v2783 : BitVec 32) (v2907 : BitVec 32) : Prop :=
  (∀ a, (k0_off149 v2783 v2907) a + S1x2x48x256.size a ≤ S1x200x200x256.size a)
theorem k0_off149_inb : ∀ (v2783 : BitVec 32) (v2907 : BitVec 32) (k0_hw148 : k0_chk148 v2783 v2907), ∀ a, (k0_off149 v2783 v2907) a + S1x2x48x256.size a ≤ S1x200x200x256.size a := fun v2783 v2907 k0_hw148 => k0_hw148

def k0_off150 (v2783 : BitVec 32) (v2919 : BitVec 32) : Fin 4 → Nat :=
  let c0_1211 : Index := 0#32
  let c198_i32_1209 : BitVec 32 := 198#32
  let v2920 : BitVec 32 := Scalar.minsi v2919 c198_i32_1209
  let c0_i32_1210 : BitVec 32 := 0#32
  let v2921 : BitVec 32 := Scalar.maxsi v2920 c0_i32_1210
  let v2922 : Index := Scalar.indexCast v2921
  let c198_i32_1157 : BitVec 32 := 198#32
  let c0_i32_1156 : BitVec 32 := 0#32
  let v2784 : BitVec 32 := Scalar.maxsi c0_i32_1156 v2783
  let v2785 : BitVec 32 := Scalar.minsi c198_i32_1157 v2784
  let c3_i32_1158 : BitVec 32 := 3#32
  let v2786 : BitVec 32 := Scalar.shrsi v2785 c3_i32_1158
  let c3_i32_1159 : BitVec 32 := 3#32
  let v2787 : BitVec 32 := Scalar.shli v2786 c3_i32_1159
  let c152_i32_1160 : BitVec 32 := 152#32
  let v2788 : BitVec 32 := Scalar.minsi v2787 c152_i32_1160
  let v2789 : BitVec 32 := v2788
  let v2923 : Index := Scalar.indexCast v2789
  let c0_1212 : Index := 0#32
  ![0, v2922.toNat, v2923.toNat, 0]

def k0_chk149 (v2783 : BitVec 32) (v2919 : BitVec 32) : Prop :=
  (∀ a, (k0_off150 v2783 v2919) a + S1x2x48x256.size a ≤ S1x200x200x256.size a)
theorem k0_off150_inb : ∀ (v2783 : BitVec 32) (v2919 : BitVec 32) (k0_hw149 : k0_chk149 v2783 v2919), ∀ a, (k0_off150 v2783 v2919) a + S1x2x48x256.size a ≤ S1x200x200x256.size a := fun v2783 v2919 k0_hw149 => k0_hw149

def k0_off151 (v2783 : BitVec 32) (v2931 : BitVec 32) : Fin 4 → Nat :=
  let c0_1217 : Index := 0#32
  let c198_i32_1215 : BitVec 32 := 198#32
  let v2932 : BitVec 32 := Scalar.minsi v2931 c198_i32_1215
  let c0_i32_1216 : BitVec 32 := 0#32
  let v2933 : BitVec 32 := Scalar.maxsi v2932 c0_i32_1216
  let v2934 : Index := Scalar.indexCast v2933
  let c198_i32_1157 : BitVec 32 := 198#32
  let c0_i32_1156 : BitVec 32 := 0#32
  let v2784 : BitVec 32 := Scalar.maxsi c0_i32_1156 v2783
  let v2785 : BitVec 32 := Scalar.minsi c198_i32_1157 v2784
  let c3_i32_1158 : BitVec 32 := 3#32
  let v2786 : BitVec 32 := Scalar.shrsi v2785 c3_i32_1158
  let c3_i32_1159 : BitVec 32 := 3#32
  let v2787 : BitVec 32 := Scalar.shli v2786 c3_i32_1159
  let c152_i32_1160 : BitVec 32 := 152#32
  let v2788 : BitVec 32 := Scalar.minsi v2787 c152_i32_1160
  let v2789 : BitVec 32 := v2788
  let v2935 : Index := Scalar.indexCast v2789
  let c0_1218 : Index := 0#32
  ![0, v2934.toNat, v2935.toNat, 0]

def k0_chk150 (v2783 : BitVec 32) (v2931 : BitVec 32) : Prop :=
  (∀ a, (k0_off151 v2783 v2931) a + S1x2x48x256.size a ≤ S1x200x200x256.size a)
theorem k0_off151_inb : ∀ (v2783 : BitVec 32) (v2931 : BitVec 32) (k0_hw150 : k0_chk150 v2783 v2931), ∀ a, (k0_off151 v2783 v2931) a + S1x2x48x256.size a ≤ S1x200x200x256.size a := fun v2783 v2931 k0_hw150 => k0_hw150

def k0_off152 (i : grid0.Coords) (k0_t1 : Fin k0_t1_loop.trips) : Fin 1 → Nat :=
  let arg0 : BitVec 32 := BitVec.ofNat 32 (i 0).val
  let c128_i32_1220 : BitVec 32 := 128#32
  let v2942 : BitVec 32 := Scalar.muli arg0 c128_i32_1220
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let c15_i32 : BitVec 32 := 15#32
  let v2941 : BitVec 32 := Scalar.addi v15 c15_i32
  let v2943 : BitVec 32 := Scalar.addi v2942 v2941
  let v2944 : Index := Scalar.indexCast v2943
  ![v2944.toNat]
def k0_off153 (v2945 : BitVec 32) (c1_i32_1224 : BitVec 32) : Fin 1 → Nat :=
  let c0_i32_1222 : BitVec 32 := 0#32
  let v2949 : BitVec 32 := Scalar.maxsi v2945 c0_i32_1222
  let c5_i32_1223 : BitVec 32 := 5#32
  let v2950 : BitVec 32 := Scalar.muli v2949 c5_i32_1223
  let v2951 : BitVec 32 := Scalar.addi v2950 c1_i32_1224
  let v2952 : Index := Scalar.indexCast v2951
  ![v2952.toNat]

def k0_chk151 (v2945 : BitVec 32) : Prop :=
  (∀ (r : Fin 4), ∀ a, (k0_off153 v2945 (BitVec.ofNat 32 (1 + r.val))) a + S1.size a ≤ S5120.size a)
theorem k0_off153_inb : ∀ (v2945 : BitVec 32) (k0_hw151 : k0_chk151 v2945), ∀ (r : Fin 4), ∀ a, (k0_off153 v2945 (BitVec.ofNat 32 (1 + r.val))) a + S1.size a ≤ S5120.size a := fun v2945 k0_hw151 r => k0_hw151 r

def k0_mult16 (v2978 : BitVec 32) : BitVec 32 :=
  let c198_i32_1238 : BitVec 32 := 198#32
  let c0_i32_1237 : BitVec 32 := 0#32
  let v2979 : BitVec 32 := Scalar.maxsi c0_i32_1237 v2978
  let v2980 : BitVec 32 := Scalar.minsi c198_i32_1238 v2979
  let c3_i32_1239 : BitVec 32 := 3#32
  let v2981 : BitVec 32 := Scalar.shrsi v2980 c3_i32_1239
  let c3_i32_1240 : BitVec 32 := 3#32
  let v2982 : BitVec 32 := Scalar.shli v2981 c3_i32_1240
  let c152_i32_1241 : BitVec 32 := 152#32
  let v2983 : BitVec 32 := Scalar.minsi v2982 c152_i32_1241
  v2983

def k0_chk152 (v2978 : BitVec 32) : Prop :=
  (8 ∣ (k0_mult16 v2978).toNat)
theorem k0_mult16_dvd : ∀ (v2978 : BitVec 32) (k0_hw152 : k0_chk152 v2978), 8 ∣ (k0_mult16 v2978).toNat := fun v2978 k0_hw152 => k0_hw152

def k0_off154 (v2978 : BitVec 32) (v3042 : BitVec 32) : Fin 4 → Nat :=
  let c0_1256 : Index := 0#32
  let c198_i32_1254 : BitVec 32 := 198#32
  let v3043 : BitVec 32 := Scalar.minsi v3042 c198_i32_1254
  let c0_i32_1255 : BitVec 32 := 0#32
  let v3044 : BitVec 32 := Scalar.maxsi v3043 c0_i32_1255
  let v3045 : Index := Scalar.indexCast v3044
  let c198_i32_1238 : BitVec 32 := 198#32
  let c0_i32_1237 : BitVec 32 := 0#32
  let v2979 : BitVec 32 := Scalar.maxsi c0_i32_1237 v2978
  let v2980 : BitVec 32 := Scalar.minsi c198_i32_1238 v2979
  let c3_i32_1239 : BitVec 32 := 3#32
  let v2981 : BitVec 32 := Scalar.shrsi v2980 c3_i32_1239
  let c3_i32_1240 : BitVec 32 := 3#32
  let v2982 : BitVec 32 := Scalar.shli v2981 c3_i32_1240
  let c152_i32_1241 : BitVec 32 := 152#32
  let v2983 : BitVec 32 := Scalar.minsi v2982 c152_i32_1241
  let v2984 : BitVec 32 := v2983
  let v3046 : Index := Scalar.indexCast v2984
  let c0_1257 : Index := 0#32
  ![0, v3045.toNat, v3046.toNat, 0]

def k0_chk153 (v2978 : BitVec 32) (v3042 : BitVec 32) : Prop :=
  (∀ a, (k0_off154 v2978 v3042) a + S1x2x48x256.size a ≤ S1x200x200x256.size a)
theorem k0_off154_inb : ∀ (v2978 : BitVec 32) (v3042 : BitVec 32) (k0_hw153 : k0_chk153 v2978 v3042), ∀ a, (k0_off154 v2978 v3042) a + S1x2x48x256.size a ≤ S1x200x200x256.size a := fun v2978 v3042 k0_hw153 => k0_hw153

def k0_off155 (v2978 : BitVec 32) (v3054 : BitVec 32) : Fin 4 → Nat :=
  let c0_1262 : Index := 0#32
  let c198_i32_1260 : BitVec 32 := 198#32
  let v3055 : BitVec 32 := Scalar.minsi v3054 c198_i32_1260
  let c0_i32_1261 : BitVec 32 := 0#32
  let v3056 : BitVec 32 := Scalar.maxsi v3055 c0_i32_1261
  let v3057 : Index := Scalar.indexCast v3056
  let c198_i32_1238 : BitVec 32 := 198#32
  let c0_i32_1237 : BitVec 32 := 0#32
  let v2979 : BitVec 32 := Scalar.maxsi c0_i32_1237 v2978
  let v2980 : BitVec 32 := Scalar.minsi c198_i32_1238 v2979
  let c3_i32_1239 : BitVec 32 := 3#32
  let v2981 : BitVec 32 := Scalar.shrsi v2980 c3_i32_1239
  let c3_i32_1240 : BitVec 32 := 3#32
  let v2982 : BitVec 32 := Scalar.shli v2981 c3_i32_1240
  let c152_i32_1241 : BitVec 32 := 152#32
  let v2983 : BitVec 32 := Scalar.minsi v2982 c152_i32_1241
  let v2984 : BitVec 32 := v2983
  let v3058 : Index := Scalar.indexCast v2984
  let c0_1263 : Index := 0#32
  ![0, v3057.toNat, v3058.toNat, 0]

def k0_chk154 (v2978 : BitVec 32) (v3054 : BitVec 32) : Prop :=
  (∀ a, (k0_off155 v2978 v3054) a + S1x2x48x256.size a ≤ S1x200x200x256.size a)
theorem k0_off155_inb : ∀ (v2978 : BitVec 32) (v3054 : BitVec 32) (k0_hw154 : k0_chk154 v2978 v3054), ∀ a, (k0_off155 v2978 v3054) a + S1x2x48x256.size a ≤ S1x200x200x256.size a := fun v2978 v3054 k0_hw154 => k0_hw154

def k0_off156 (v2978 : BitVec 32) (v3066 : BitVec 32) : Fin 4 → Nat :=
  let c0_1268 : Index := 0#32
  let c198_i32_1266 : BitVec 32 := 198#32
  let v3067 : BitVec 32 := Scalar.minsi v3066 c198_i32_1266
  let c0_i32_1267 : BitVec 32 := 0#32
  let v3068 : BitVec 32 := Scalar.maxsi v3067 c0_i32_1267
  let v3069 : Index := Scalar.indexCast v3068
  let c198_i32_1238 : BitVec 32 := 198#32
  let c0_i32_1237 : BitVec 32 := 0#32
  let v2979 : BitVec 32 := Scalar.maxsi c0_i32_1237 v2978
  let v2980 : BitVec 32 := Scalar.minsi c198_i32_1238 v2979
  let c3_i32_1239 : BitVec 32 := 3#32
  let v2981 : BitVec 32 := Scalar.shrsi v2980 c3_i32_1239
  let c3_i32_1240 : BitVec 32 := 3#32
  let v2982 : BitVec 32 := Scalar.shli v2981 c3_i32_1240
  let c152_i32_1241 : BitVec 32 := 152#32
  let v2983 : BitVec 32 := Scalar.minsi v2982 c152_i32_1241
  let v2984 : BitVec 32 := v2983
  let v3070 : Index := Scalar.indexCast v2984
  let c0_1269 : Index := 0#32
  ![0, v3069.toNat, v3070.toNat, 0]

def k0_chk155 (v2978 : BitVec 32) (v3066 : BitVec 32) : Prop :=
  (∀ a, (k0_off156 v2978 v3066) a + S1x2x48x256.size a ≤ S1x200x200x256.size a)
theorem k0_off156_inb : ∀ (v2978 : BitVec 32) (v3066 : BitVec 32) (k0_hw155 : k0_chk155 v2978 v3066), ∀ a, (k0_off156 v2978 v3066) a + S1x2x48x256.size a ≤ S1x200x200x256.size a := fun v2978 v3066 k0_hw155 => k0_hw155

def k0_off157 (v2978 : BitVec 32) (v3078 : BitVec 32) : Fin 4 → Nat :=
  let c0_1274 : Index := 0#32
  let c198_i32_1272 : BitVec 32 := 198#32
  let v3079 : BitVec 32 := Scalar.minsi v3078 c198_i32_1272
  let c0_i32_1273 : BitVec 32 := 0#32
  let v3080 : BitVec 32 := Scalar.maxsi v3079 c0_i32_1273
  let v3081 : Index := Scalar.indexCast v3080
  let c198_i32_1238 : BitVec 32 := 198#32
  let c0_i32_1237 : BitVec 32 := 0#32
  let v2979 : BitVec 32 := Scalar.maxsi c0_i32_1237 v2978
  let v2980 : BitVec 32 := Scalar.minsi c198_i32_1238 v2979
  let c3_i32_1239 : BitVec 32 := 3#32
  let v2981 : BitVec 32 := Scalar.shrsi v2980 c3_i32_1239
  let c3_i32_1240 : BitVec 32 := 3#32
  let v2982 : BitVec 32 := Scalar.shli v2981 c3_i32_1240
  let c152_i32_1241 : BitVec 32 := 152#32
  let v2983 : BitVec 32 := Scalar.minsi v2982 c152_i32_1241
  let v2984 : BitVec 32 := v2983
  let v3082 : Index := Scalar.indexCast v2984
  let c0_1275 : Index := 0#32
  ![0, v3081.toNat, v3082.toNat, 0]

def k0_chk156 (v2978 : BitVec 32) (v3078 : BitVec 32) : Prop :=
  (∀ a, (k0_off157 v2978 v3078) a + S1x2x48x256.size a ≤ S1x200x200x256.size a)
theorem k0_off157_inb : ∀ (v2978 : BitVec 32) (v3078 : BitVec 32) (k0_hw156 : k0_chk156 v2978 v3078), ∀ a, (k0_off157 v2978 v3078) a + S1x2x48x256.size a ≤ S1x200x200x256.size a := fun v2978 v3078 k0_hw156 => k0_hw156

def k0_off158 (v2978 : BitVec 32) (v3090 : BitVec 32) : Fin 4 → Nat :=
  let c0_1280 : Index := 0#32
  let c198_i32_1278 : BitVec 32 := 198#32
  let v3091 : BitVec 32 := Scalar.minsi v3090 c198_i32_1278
  let c0_i32_1279 : BitVec 32 := 0#32
  let v3092 : BitVec 32 := Scalar.maxsi v3091 c0_i32_1279
  let v3093 : Index := Scalar.indexCast v3092
  let c198_i32_1238 : BitVec 32 := 198#32
  let c0_i32_1237 : BitVec 32 := 0#32
  let v2979 : BitVec 32 := Scalar.maxsi c0_i32_1237 v2978
  let v2980 : BitVec 32 := Scalar.minsi c198_i32_1238 v2979
  let c3_i32_1239 : BitVec 32 := 3#32
  let v2981 : BitVec 32 := Scalar.shrsi v2980 c3_i32_1239
  let c3_i32_1240 : BitVec 32 := 3#32
  let v2982 : BitVec 32 := Scalar.shli v2981 c3_i32_1240
  let c152_i32_1241 : BitVec 32 := 152#32
  let v2983 : BitVec 32 := Scalar.minsi v2982 c152_i32_1241
  let v2984 : BitVec 32 := v2983
  let v3094 : Index := Scalar.indexCast v2984
  let c0_1281 : Index := 0#32
  ![0, v3093.toNat, v3094.toNat, 0]

def k0_chk157 (v2978 : BitVec 32) (v3090 : BitVec 32) : Prop :=
  (∀ a, (k0_off158 v2978 v3090) a + S1x2x48x256.size a ≤ S1x200x200x256.size a)
theorem k0_off158_inb : ∀ (v2978 : BitVec 32) (v3090 : BitVec 32) (k0_hw157 : k0_chk157 v2978 v3090), ∀ a, (k0_off158 v2978 v3090) a + S1x2x48x256.size a ≤ S1x200x200x256.size a := fun v2978 v3090 k0_hw157 => k0_hw157

def k0_off159 (v2978 : BitVec 32) (v3102 : BitVec 32) : Fin 4 → Nat :=
  let c0_1286 : Index := 0#32
  let c198_i32_1284 : BitVec 32 := 198#32
  let v3103 : BitVec 32 := Scalar.minsi v3102 c198_i32_1284
  let c0_i32_1285 : BitVec 32 := 0#32
  let v3104 : BitVec 32 := Scalar.maxsi v3103 c0_i32_1285
  let v3105 : Index := Scalar.indexCast v3104
  let c198_i32_1238 : BitVec 32 := 198#32
  let c0_i32_1237 : BitVec 32 := 0#32
  let v2979 : BitVec 32 := Scalar.maxsi c0_i32_1237 v2978
  let v2980 : BitVec 32 := Scalar.minsi c198_i32_1238 v2979
  let c3_i32_1239 : BitVec 32 := 3#32
  let v2981 : BitVec 32 := Scalar.shrsi v2980 c3_i32_1239
  let c3_i32_1240 : BitVec 32 := 3#32
  let v2982 : BitVec 32 := Scalar.shli v2981 c3_i32_1240
  let c152_i32_1241 : BitVec 32 := 152#32
  let v2983 : BitVec 32 := Scalar.minsi v2982 c152_i32_1241
  let v2984 : BitVec 32 := v2983
  let v3106 : Index := Scalar.indexCast v2984
  let c0_1287 : Index := 0#32
  ![0, v3105.toNat, v3106.toNat, 0]

def k0_chk158 (v2978 : BitVec 32) (v3102 : BitVec 32) : Prop :=
  (∀ a, (k0_off159 v2978 v3102) a + S1x2x48x256.size a ≤ S1x200x200x256.size a)
theorem k0_off159_inb : ∀ (v2978 : BitVec 32) (v3102 : BitVec 32) (k0_hw158 : k0_chk158 v2978 v3102), ∀ a, (k0_off159 v2978 v3102) a + S1x2x48x256.size a ≤ S1x200x200x256.size a := fun v2978 v3102 k0_hw158 => k0_hw158

def k0_off160 (v2978 : BitVec 32) (v3114 : BitVec 32) : Fin 4 → Nat :=
  let c0_1292 : Index := 0#32
  let c198_i32_1290 : BitVec 32 := 198#32
  let v3115 : BitVec 32 := Scalar.minsi v3114 c198_i32_1290
  let c0_i32_1291 : BitVec 32 := 0#32
  let v3116 : BitVec 32 := Scalar.maxsi v3115 c0_i32_1291
  let v3117 : Index := Scalar.indexCast v3116
  let c198_i32_1238 : BitVec 32 := 198#32
  let c0_i32_1237 : BitVec 32 := 0#32
  let v2979 : BitVec 32 := Scalar.maxsi c0_i32_1237 v2978
  let v2980 : BitVec 32 := Scalar.minsi c198_i32_1238 v2979
  let c3_i32_1239 : BitVec 32 := 3#32
  let v2981 : BitVec 32 := Scalar.shrsi v2980 c3_i32_1239
  let c3_i32_1240 : BitVec 32 := 3#32
  let v2982 : BitVec 32 := Scalar.shli v2981 c3_i32_1240
  let c152_i32_1241 : BitVec 32 := 152#32
  let v2983 : BitVec 32 := Scalar.minsi v2982 c152_i32_1241
  let v2984 : BitVec 32 := v2983
  let v3118 : Index := Scalar.indexCast v2984
  let c0_1293 : Index := 0#32
  ![0, v3117.toNat, v3118.toNat, 0]

def k0_chk159 (v2978 : BitVec 32) (v3114 : BitVec 32) : Prop :=
  (∀ a, (k0_off160 v2978 v3114) a + S1x2x48x256.size a ≤ S1x200x200x256.size a)
theorem k0_off160_inb : ∀ (v2978 : BitVec 32) (v3114 : BitVec 32) (k0_hw159 : k0_chk159 v2978 v3114), ∀ a, (k0_off160 v2978 v3114) a + S1x2x48x256.size a ≤ S1x200x200x256.size a := fun v2978 v3114 k0_hw159 => k0_hw159

def k0_off161 (v2978 : BitVec 32) (v3126 : BitVec 32) : Fin 4 → Nat :=
  let c0_1298 : Index := 0#32
  let c198_i32_1296 : BitVec 32 := 198#32
  let v3127 : BitVec 32 := Scalar.minsi v3126 c198_i32_1296
  let c0_i32_1297 : BitVec 32 := 0#32
  let v3128 : BitVec 32 := Scalar.maxsi v3127 c0_i32_1297
  let v3129 : Index := Scalar.indexCast v3128
  let c198_i32_1238 : BitVec 32 := 198#32
  let c0_i32_1237 : BitVec 32 := 0#32
  let v2979 : BitVec 32 := Scalar.maxsi c0_i32_1237 v2978
  let v2980 : BitVec 32 := Scalar.minsi c198_i32_1238 v2979
  let c3_i32_1239 : BitVec 32 := 3#32
  let v2981 : BitVec 32 := Scalar.shrsi v2980 c3_i32_1239
  let c3_i32_1240 : BitVec 32 := 3#32
  let v2982 : BitVec 32 := Scalar.shli v2981 c3_i32_1240
  let c152_i32_1241 : BitVec 32 := 152#32
  let v2983 : BitVec 32 := Scalar.minsi v2982 c152_i32_1241
  let v2984 : BitVec 32 := v2983
  let v3130 : Index := Scalar.indexCast v2984
  let c0_1299 : Index := 0#32
  ![0, v3129.toNat, v3130.toNat, 0]

def k0_chk160 (v2978 : BitVec 32) (v3126 : BitVec 32) : Prop :=
  (∀ a, (k0_off161 v2978 v3126) a + S1x2x48x256.size a ≤ S1x200x200x256.size a)
theorem k0_off161_inb : ∀ (v2978 : BitVec 32) (v3126 : BitVec 32) (k0_hw160 : k0_chk160 v2978 v3126), ∀ a, (k0_off161 v2978 v3126) a + S1x2x48x256.size a ≤ S1x200x200x256.size a := fun v2978 v3126 k0_hw160 => k0_hw160

def k0_off162 (k0_t1 : Fin k0_t1_loop.trips) (c0_i32_1302 : BitVec 32) : Fin 4 → Nat :=
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let v3142 : BitVec 32 := Scalar.addi v15 c0_i32_1302
  let v3143 : Index := Scalar.indexCast v3142
  let c0_1303 : Index := 0#32
  let c0_1304 : Index := 0#32
  let c0_1305 : Index := 0#32
  ![v3143.toNat, 0, 0, 0]
def k0_off163 (k0_t1 : Fin k0_t1_loop.trips) (c0_i32_1307 : BitVec 32) : Fin 4 → Nat :=
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let v3153 : BitVec 32 := Scalar.addi v15 c0_i32_1307
  let v3154 : Index := Scalar.indexCast v3153
  let c1 : Index := 1#32
  let c0_1308 : Index := 0#32
  let c0_1309 : Index := 0#32
  ![v3154.toNat, 1, 0, 0]
def k0_off164 (k0_t1 : Fin k0_t1_loop.trips) (c0_i32_1311 : BitVec 32) : Fin 4 → Nat :=
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let v3164 : BitVec 32 := Scalar.addi v15 c0_i32_1311
  let v3165 : Index := Scalar.indexCast v3164
  let c2 : Index := 2#32
  let c0_1312 : Index := 0#32
  let c0_1313 : Index := 0#32
  ![v3165.toNat, 2, 0, 0]
def k0_off165 (k0_t1 : Fin k0_t1_loop.trips) (c0_i32_1315 : BitVec 32) : Fin 4 → Nat :=
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let v3175 : BitVec 32 := Scalar.addi v15 c0_i32_1315
  let v3176 : Index := Scalar.indexCast v3175
  let c3 : Index := 3#32
  let c0_1316 : Index := 0#32
  let c0_1317 : Index := 0#32
  ![v3176.toNat, 3, 0, 0]
def k0_off166 (k0_t1 : Fin k0_t1_loop.trips) (c0_i32_1319 : BitVec 32) : Fin 4 → Nat :=
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let v3186 : BitVec 32 := Scalar.addi v15 c0_i32_1319
  let v3187 : Index := Scalar.indexCast v3186
  let c4 : Index := 4#32
  let c0_1320 : Index := 0#32
  let c0_1321 : Index := 0#32
  ![v3187.toNat, 4, 0, 0]
def k0_off167 (k0_t1 : Fin k0_t1_loop.trips) (c0_i32_1323 : BitVec 32) : Fin 4 → Nat :=
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let v3197 : BitVec 32 := Scalar.addi v15 c0_i32_1323
  let v3198 : Index := Scalar.indexCast v3197
  let c5 : Index := 5#32
  let c0_1324 : Index := 0#32
  let c0_1325 : Index := 0#32
  ![v3198.toNat, 5, 0, 0]
def k0_off168 (k0_t1 : Fin k0_t1_loop.trips) (c0_i32_1327 : BitVec 32) : Fin 4 → Nat :=
  let c0_i32 : BitVec 32 := 0#32
  let c1_i32 : BitVec 32 := 1#32
  let arg7 : BitVec 32 := Scf.iv c0_i32 c1_i32 k0_t1
  let c16_i32 : BitVec 32 := 16#32
  let v15 : BitVec 32 := Scalar.muli arg7 c16_i32
  let v3208 : BitVec 32 := Scalar.addi v15 c0_i32_1327
  let v3209 : Index := Scalar.indexCast v3208
  let c6 : Index := 6#32
  let c0_1328 : Index := 0#32
  let c0_1329 : Index := 0#32
  ![v3209.toNat, 6, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (k0_off1_inb : ∀ i : grid0.Coords, ∀ a, (k0_off1 i) a + S1.size a ≤ S12.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S12) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x200x200x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x7x7x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "one_seventh" => some ((7⁻¹ : ℝ) : EReal)
  | _ => none
-- ==== ReferenceIdeal.lean ====
abbrev S4x256x200x200 : Shape := ⟨4, ![4, 256, 200, 200]⟩
abbrev S1024x5 : Shape := ⟨2, ![1024, 5]⟩
abbrev S_ : Shape := ⟨0, ![]⟩
abbrev S1024x1 : Shape := ⟨2, ![1024, 1]⟩
abbrev S1024 : Shape := ⟨1, ![1024]⟩
abbrev S8 : Shape := ⟨1, ![8]⟩
abbrev S1x8 : Shape := ⟨2, ![1, 8]⟩
abbrev S1024x8 : Shape := ⟨2, ![1024, 8]⟩
abbrev S1024x8x1 : Shape := ⟨3, ![1024, 8, 1]⟩
abbrev S1024x1x8 : Shape := ⟨3, ![1024, 1, 8]⟩
abbrev S1024x8x8 : Shape := ⟨3, ![1024, 8, 8]⟩
abbrev S1024x1x1 : Shape := ⟨3, ![1024, 1, 1]⟩
abbrev S1024x8x1x1 : Shape := ⟨4, ![1024, 8, 1, 1]⟩
abbrev S1024x1x8x1 : Shape := ⟨4, ![1024, 1, 8, 1]⟩
abbrev S1024x8x8x1 : Shape := ⟨4, ![1024, 8, 8, 1]⟩
abbrev S1024x8x8x3 : Shape := ⟨4, ![1024, 8, 8, 3]⟩
abbrev S1024x8x8x256 : Shape := ⟨4, ![1024, 8, 8, 256]⟩
abbrev S1024x256x8x8 : Shape := ⟨4, ![1024, 256, 8, 8]⟩
abbrev S1024x256x7x7 : Shape := ⟨4, ![1024, 256, 7, 7]⟩

abbrev nBuf : Space → Nat
  | .hbm => 292
  | .vmem => 0
  | .smem => 0
  | _ => 0

abbrev hbmTy0_0 (i : Nat) : BufTy := match i % 128 with
  | 0 => ⟨S4x256x200x200, .f32⟩
  | 1 => ⟨S1024x5, .f32⟩
  | 2 => ⟨S_, .f32⟩
  | 3 => ⟨S1024x1, .f32⟩
  | 4 => ⟨S1024, .f32⟩
  | 5 => ⟨S1024, .i32⟩
  | 6 => ⟨S1024x1, .f32⟩
  | 7 => ⟨S1024, .f32⟩
  | 8 => ⟨S1024, .f32⟩
  | 9 => ⟨S1024, .f32⟩
  | 10 => ⟨S1024x1, .f32⟩
  | 11 => ⟨S1024, .f32⟩
  | 12 => ⟨S1024, .f32⟩
  | 13 => ⟨S1024, .f32⟩
  | 14 => ⟨S1024x1, .f32⟩
  | 15 => ⟨S1024, .f32⟩
  | 16 => ⟨S1024, .f32⟩
  | 17 => ⟨S1024, .f32⟩
  | 18 => ⟨S1024x1, .f32⟩
  | 19 => ⟨S1024, .f32⟩
  | 20 => ⟨S1024, .f32⟩
  | 21 => ⟨S1024, .f32⟩
  | 22 => ⟨S1024, .f32⟩
  | 23 => ⟨S_, .f32⟩
  | 24 => ⟨S1024, .f32⟩
  | 25 => ⟨S1024, .f32⟩
  | 26 => ⟨S_, .f32⟩
  | 27 => ⟨S1024, .f32⟩
  | 28 => ⟨S1024, .f32⟩
  | 29 => ⟨S_, .f32⟩
  | 30 => ⟨S1024, .f32⟩
  | 31 => ⟨S1024, .f32⟩
  | 32 => ⟨S1024, .f32⟩
  | 33 => ⟨S_, .f32⟩
  | 34 => ⟨S1024, .f32⟩
  | 35 => ⟨S1024, .f32⟩
  | 36 => ⟨S_, .f32⟩
  | 37 => ⟨S1024, .f32⟩
  | 38 => ⟨S1024, .f32⟩
  | 39 => ⟨S_, .f32⟩
  | 40 => ⟨S1024, .f32⟩
  | 41 => ⟨S1024, .f32⟩
  | 42 => ⟨S8, .f32⟩
  | 43 => ⟨S8, .f32⟩
  | 44 => ⟨S1024x1, .f32⟩
  | 45 => ⟨S1024x1, .f32⟩
  | 46 => ⟨S1x8, .f32⟩
  | 47 => ⟨S1024x8, .f32⟩
  | 48 => ⟨S1024x8, .f32⟩
  | 49 => ⟨S1024x8, .f32⟩
  | 50 => ⟨S1024x8, .f32⟩
  | 51 => ⟨S1024x8, .f32⟩
  | 52 => ⟨S1024x1, .f32⟩
  | 53 => ⟨S1024x1, .f32⟩
  | 54 => ⟨S1x8, .f32⟩
  | 55 => ⟨S1024x8, .f32⟩
  | 56 => ⟨S1024x8, .f32⟩
  | 57 => ⟨S1024x8, .f32⟩
  | 58 => ⟨S1024x8, .f32⟩
  | 59 => ⟨S1024x8, .f32⟩
  | 60 => ⟨S1024x8, .f32⟩
  | 61 => ⟨S_, .f32⟩
  | 62 => ⟨S1024x8, .f32⟩
  | 63 => ⟨S1024x8, .f32⟩
  | 64 => ⟨S1024x8, .f32⟩
  | 65 => ⟨S_, .f32⟩
  | 66 => ⟨S1024x8, .f32⟩
  | 67 => ⟨S1024x8, .f32⟩
  | 68 => ⟨S1024x8, .f32⟩
  | 69 => ⟨S1024x8, .f32⟩
  | 70 => ⟨S_, .f32⟩
  | 71 => ⟨S_, .f32⟩
  | 72 => ⟨S1024x8, .f32⟩
  | 73 => ⟨S1024x8, .f32⟩
  | 74 => ⟨S1024x8, .i32⟩
  | 75 => ⟨S_, .f32⟩
  | 76 => ⟨S_, .f32⟩
  | 77 => ⟨S1024x8, .f32⟩
  | 78 => ⟨S1024x8, .f32⟩
  | 79 => ⟨S1024x8, .i32⟩
  | 80 => ⟨S_, .f32⟩
  | 81 => ⟨S1024x8, .f32⟩
  | 82 => ⟨S1024x8, .i1⟩
  | 83 => ⟨S_, .f32⟩
  | 84 => ⟨S1024x8, .f32⟩
  | 85 => ⟨S1024x8, .i1⟩
  | 86 => ⟨S1024x8, .i1⟩
  | 87 => ⟨S1024x8x1, .i1⟩
  | 88 => ⟨S_, .f32⟩
  | 89 => ⟨S1024x8, .f32⟩
  | 90 => ⟨S1024x8, .i1⟩
  | 91 => ⟨S_, .f32⟩
  | 92 => ⟨S1024x8, .f32⟩
  | 93 => ⟨S1024x8, .i1⟩
  | 94 => ⟨S1024x8, .i1⟩
  | 95 => ⟨S1024x1x8, .i1⟩
  | 96 => ⟨S1024x8x8, .i1⟩
  | 97 => ⟨S1024x8x8, .i1⟩
  | 98 => ⟨S1024x8x8, .i1⟩
  | 99 => ⟨S1024x1x1, .i32⟩
  | 100 => ⟨S1024x8x1, .i32⟩
  | 101 => ⟨S1024x1x8, .i32⟩
  | 102 => ⟨S1024x8x1x1, .f32⟩
  | 103 => ⟨S1024x1x8x1, .f32⟩
  | 104 => ⟨S_, .i32⟩
  | 105 => ⟨S1024x8x1, .i32⟩
  | 106 => ⟨S1024x8x1, .i32⟩
  | 107 => ⟨S_, .i32⟩
  | 108 => ⟨S1024x1x8, .i32⟩
  | 109 => ⟨S1024x1x8, .i32⟩
  | 110 => ⟨S_, .i32⟩
  | 111 => ⟨S1024x1x1, .i32⟩
  | 112 => ⟨S1024x1x1, .i1⟩
  | 113 => ⟨S_, .i32⟩
  | 114 => ⟨S1024x1x1, .i32⟩
  | 115 => ⟨S1024x1x1, .i32⟩
  | 116 => ⟨S1024x1x1, .i32⟩
  | 117 => ⟨S_, .i32⟩
  | 118 => ⟨S1024x8x1, .i32⟩
  | 119 => ⟨S1024x8x1, .i1⟩
  | 120 => ⟨S_, .i32⟩
  | 121 => ⟨S1024x8x1, .i32⟩
  | 122 => ⟨S1024x8x1, .i32⟩
  | 123 => ⟨S1024x8x1, .i32⟩
  | 124 => ⟨S_, .i32⟩
  | 125 => ⟨S1024x1x8, .i32⟩
  | 126 => ⟨S1024x1x8, .i1⟩
  | 127 => ⟨S_, .i32⟩
  | _ => ⟨S4x256x200x200, .f32⟩

abbrev hbmTy0_1 (i : Nat) : BufTy := match i % 128 with
  | 0 => ⟨S1024x1x8, .i32⟩
  | 1 => ⟨S1024x1x8, .i32⟩
  | 2 => ⟨S1024x1x8, .i32⟩
  | 3 => ⟨S1024x8x8, .i32⟩
  | 4 => ⟨S1024x8x8, .i32⟩
  | 5 => ⟨S1024x8x8, .i32⟩
  | 6 => ⟨S1024x8x8x1, .i32⟩
  | 7 => ⟨S1024x8x8x1, .i32⟩
  | 8 => ⟨S1024x8x8x1, .i32⟩
  | 9 => ⟨S1024x8x8x3, .i32⟩
  | 10 => ⟨S1024x8x8x256, .f32⟩
  | 11 => ⟨S_, .f32⟩
  | 12 => ⟨S1024x8x1x1, .f32⟩
  | 13 => ⟨S1024x8x1x1, .f32⟩
  | 14 => ⟨S1024x8x8x256, .f32⟩
  | 15 => ⟨S1024x8x8x256, .f32⟩
  | 16 => ⟨S_, .f32⟩
  | 17 => ⟨S1024x1x8x1, .f32⟩
  | 18 => ⟨S1024x1x8x1, .f32⟩
  | 19 => ⟨S1024x8x8x256, .f32⟩
  | 20 => ⟨S1024x8x8x256, .f32⟩
  | 21 => ⟨S_, .i32⟩
  | 22 => ⟨S1024x8x1, .i32⟩
  | 23 => ⟨S1024x8x1, .i32⟩
  | 24 => ⟨S_, .i32⟩
  | 25 => ⟨S1024x1x8, .i32⟩
  | 26 => ⟨S1024x1x8, .i32⟩
  | 27 => ⟨S_, .i32⟩
  | 28 => ⟨S1024x1x1, .i32⟩
  | 29 => ⟨S1024x1x1, .i1⟩
  | 30 => ⟨S_, .i32⟩
  | 31 => ⟨S1024x1x1, .i32⟩
  | 32 => ⟨S1024x1x1, .i32⟩
  | 33 => ⟨S1024x1x1, .i32⟩
  | 34 => ⟨S_, .i32⟩
  | 35 => ⟨S1024x8x1, .i32⟩
  | 36 => ⟨S1024x8x1, .i1⟩
  | 37 => ⟨S_, .i32⟩
  | 38 => ⟨S1024x8x1, .i32⟩
  | 39 => ⟨S1024x8x1, .i32⟩
  | 40 => ⟨S1024x8x1, .i32⟩
  | 41 => ⟨S_, .i32⟩
  | 42 => ⟨S1024x1x8, .i32⟩
  | 43 => ⟨S1024x1x8, .i1⟩
  | 44 => ⟨S_, .i32⟩
  | 45 => ⟨S1024x1x8, .i32⟩
  | 46 => ⟨S1024x1x8, .i32⟩
  | 47 => ⟨S1024x1x8, .i32⟩
  | 48 => ⟨S1024x8x8, .i32⟩
  | 49 => ⟨S1024x8x8, .i32⟩
  | 50 => ⟨S1024x8x8, .i32⟩
  | 51 => ⟨S1024x8x8x1, .i32⟩
  | 52 => ⟨S1024x8x8x1, .i32⟩
  | 53 => ⟨S1024x8x8x1, .i32⟩
  | 54 => ⟨S1024x8x8x3, .i32⟩
  | 55 => ⟨S1024x8x8x256, .f32⟩
  | 56 => ⟨S_, .f32⟩
  | 57 => ⟨S1024x8x1x1, .f32⟩
  | 58 => ⟨S1024x8x1x1, .f32⟩
  | 59 => ⟨S1024x8x8x256, .f32⟩
  | 60 => ⟨S1024x8x8x256, .f32⟩
  | 61 => ⟨S1024x8x8x256, .f32⟩
  | 62 => ⟨S1024x8x8x256, .f32⟩
  | 63 => ⟨S1024x8x8x256, .f32⟩
  | 64 => ⟨S_, .i32⟩
  | 65 => ⟨S1024x8x1, .i32⟩
  | 66 => ⟨S1024x8x1, .i32⟩
  | 67 => ⟨S_, .i32⟩
  | 68 => ⟨S1024x1x8, .i32⟩
  | 69 => ⟨S1024x1x8, .i32⟩
  | 70 => ⟨S_, .i32⟩
  | 71 => ⟨S1024x1x1, .i32⟩
  | 72 => ⟨S1024x1x1, .i1⟩
  | 73 => ⟨S_, .i32⟩
  | 74 => ⟨S1024x1x1, .i32⟩
  | 75 => ⟨S1024x1x1, .i32⟩
  | 76 => ⟨S1024x1x1, .i32⟩
  | 77 => ⟨S_, .i32⟩
  | 78 => ⟨S1024x8x1, .i32⟩
  | 79 => ⟨S1024x8x1, .i1⟩
  | 80 => ⟨S_, .i32⟩
  | 81 => ⟨S1024x8x1, .i32⟩
  | 82 => ⟨S1024x8x1, .i32⟩
  | 83 => ⟨S1024x8x1, .i32⟩
  | 84 => ⟨S_, .i32⟩
  | 85 => ⟨S1024x1x8, .i32⟩
  | 86 => ⟨S1024x1x8, .i1⟩
  | 87 => ⟨S_, .i32⟩
  | 88 => ⟨S1024x1x8, .i32⟩
  | 89 => ⟨S1024x1x8, .i32⟩
  | 90 => ⟨S1024x1x8, .i32⟩
  | 91 => ⟨S1024x8x8, .i32⟩
  | 92 => ⟨S1024x8x8, .i32⟩
  | 93 => ⟨S1024x8x8, .i32⟩
  | 94 => ⟨S1024x8x8x1, .i32⟩
  | 95 => ⟨S1024x8x8x1, .i32⟩
  | 96 => ⟨S1024x8x8x1, .i32⟩
  | 97 => ⟨S1024x8x8x3, .i32⟩
  | 98 => ⟨S1024x8x8x256, .f32⟩
  | 99 => ⟨S1024x8x8x256, .f32⟩
  | 100 => ⟨S1024x8x8x256, .f32⟩
  | 101 => ⟨S_, .f32⟩
  | 102 => ⟨S1024x1x8x1, .f32⟩
  | 103 => ⟨S1024x1x8x1, .f32⟩
  | 104 => ⟨S1024x8x8x256, .f32⟩
  | 105 => ⟨S1024x8x8x256, .f32⟩
  | 106 => ⟨S1024x8x8x256, .f32⟩
  | 107 => ⟨S_, .i32⟩
  | 108 => ⟨S1024x8x1, .i32⟩
  | 109 => ⟨S1024x8x1, .i32⟩
  | 110 => ⟨S_, .i32⟩
  | 111 => ⟨S1024x1x8, .i32⟩
  | 112 => ⟨S1024x1x8, .i32⟩
  | 113 => ⟨S_, .i32⟩
  | 114 => ⟨S1024x1x1, .i32⟩
  | 115 => ⟨S1024x1x1, .i1⟩
  | 116 => ⟨S_, .i32⟩
  | 117 => ⟨S1024x1x1, .i32⟩
  | 118 => ⟨S1024x1x1, .i32⟩
  | 119 => ⟨S1024x1x1, .i32⟩
  | 120 => ⟨S_, .i32⟩
  | 121 => ⟨S1024x8x1, .i32⟩
  | 122 => ⟨S1024x8x1, .i1⟩
  | 123 => ⟨S_, .i32⟩
  | 124 => ⟨S1024x8x1, .i32⟩
  | 125 => ⟨S1024x8x1, .i32⟩
  | 126 => ⟨S1024x8x1, .i32⟩
  | 127 => ⟨S_, .i32⟩
  | _ => ⟨S4x256x200x200, .f32⟩

abbrev hbmTy0_2 (i : Nat) : BufTy := match i % 128 with
  | 0 => ⟨S1024x1x8, .i32⟩
  | 1 => ⟨S1024x1x8, .i1⟩
  | 2 => ⟨S_, .i32⟩
  | 3 => ⟨S1024x1x8, .i32⟩
  | 4 => ⟨S1024x1x8, .i32⟩
  | 5 => ⟨S1024x1x8, .i32⟩
  | 6 => ⟨S1024x8x8, .i32⟩
  | 7 => ⟨S1024x8x8, .i32⟩
  | 8 => ⟨S1024x8x8, .i32⟩
  | 9 => ⟨S1024x8x8x1, .i32⟩
  | 10 => ⟨S1024x8x8x1, .i32⟩
  | 11 => ⟨S1024x8x8x1, .i32⟩
  | 12 => ⟨S1024x8x8x3, .i32⟩
  | 13 => ⟨S1024x8x8x256, .f32⟩
  | 14 => ⟨S1024x8x8x256, .f32⟩
  | 15 => ⟨S1024x8x8x256, .f32⟩
  | 16 => ⟨S1024x8x8x256, .f32⟩
  | 17 => ⟨S1024x8x8x256, .f32⟩
  | 18 => ⟨S1024x8x8x256, .f32⟩
  | 19 => ⟨S1024x8x8x1, .i1⟩
  | 20 => ⟨S_, .f32⟩
  | 21 => ⟨S_, .f32⟩
  | 22 => ⟨S1024x8x8x256, .i1⟩
  | 23 => ⟨S1024x8x8x256, .f32⟩
  | 24 => ⟨S1024x8x8x256, .f32⟩
  | 25 => ⟨S1024x256x8x8, .f32⟩
  | 26 => ⟨S1024x256x7x7, .f32⟩
  | 27 => ⟨S1024x256x7x7, .f32⟩
  | 28 => ⟨S1024x256x7x7, .f32⟩
  | 29 => ⟨S1024x256x7x7, .f32⟩
  | 30 => ⟨S1024x256x7x7, .f32⟩
  | 31 => ⟨S1024x256x7x7, .f32⟩
  | 32 => ⟨S1024x256x7x7, .f32⟩
  | 33 => ⟨S_, .f32⟩
  | 34 => ⟨S1024x256x7x7, .f32⟩
  | 35 => ⟨S1024x256x7x7, .f32⟩
  | _ => ⟨S4x256x200x200, .f32⟩

abbrev hbmTy (i : Nat) : BufTy := match i / 128 with
  | 0 => hbmTy0_0 i
  | 1 => hbmTy0_1 i
  | 2 => hbmTy0_2 i
  | _ => ⟨S4x256x200x200, .f32⟩

abbrev bufTy : (tb : Table) → Fin (tcTables nBuf tb) → BufTy
  | .hbm, ⟨i, _⟩ => hbmTy i
  | _, _ => ⟨S4x256x200x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_6 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_7 : Ref sig .tc := ⟨.hbm, 70, rfl⟩
abbrev main_call0_v0 : Ref sig .tc := ⟨.hbm, 71, rfl⟩
abbrev main_call0_v1 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_call1_v0 : Ref sig .tc := ⟨.hbm, 76, rfl⟩
abbrev main_call1_v1 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_11 : Ref sig .tc := ⟨.hbm, 88, rfl⟩
abbrev main_v69 : Ref sig .tc := ⟨.hbm, 89, rfl⟩
abbrev main_v70 : Ref sig .tc := ⟨.hbm, 90, rfl⟩
abbrev main_cst_12 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_c : Ref sig .tc := ⟨.hbm, 104, rfl⟩
abbrev main_v83 : Ref sig .tc := ⟨.hbm, 105, rfl⟩
abbrev main_v84 : Ref sig .tc := ⟨.hbm, 106, rfl⟩
abbrev main_c_13 : Ref sig .tc := ⟨.hbm, 107, rfl⟩
abbrev main_v85 : Ref sig .tc := ⟨.hbm, 108, rfl⟩
abbrev main_v86 : Ref sig .tc := ⟨.hbm, 109, rfl⟩
abbrev main_c_14 : Ref sig .tc := ⟨.hbm, 110, rfl⟩
abbrev main_v87 : Ref sig .tc := ⟨.hbm, 111, rfl⟩
abbrev main_v88 : Ref sig .tc := ⟨.hbm, 112, rfl⟩
abbrev main_c_15 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_c_16 : Ref sig .tc := ⟨.hbm, 117, rfl⟩
abbrev main_v92 : Ref sig .tc := ⟨.hbm, 118, rfl⟩
abbrev main_v93 : Ref sig .tc := ⟨.hbm, 119, rfl⟩
abbrev main_c_17 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_c_18 : Ref sig .tc := ⟨.hbm, 124, rfl⟩
abbrev main_v97 : Ref sig .tc := ⟨.hbm, 125, rfl⟩
abbrev main_v98 : Ref sig .tc := ⟨.hbm, 126, rfl⟩
abbrev main_c_19 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_20 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_21 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_c_22 : Ref sig .tc := ⟨.hbm, 149, rfl⟩
abbrev main_v118 : Ref sig .tc := ⟨.hbm, 150, rfl⟩
abbrev main_v119 : Ref sig .tc := ⟨.hbm, 151, rfl⟩
abbrev main_c_23 : Ref sig .tc := ⟨.hbm, 152, rfl⟩
abbrev main_v120 : Ref sig .tc := ⟨.hbm, 153, rfl⟩
abbrev main_v121 : Ref sig .tc := ⟨.hbm, 154, rfl⟩
abbrev main_c_24 : Ref sig .tc := ⟨.hbm, 155, rfl⟩
abbrev main_v122 : Ref sig .tc := ⟨.hbm, 156, rfl⟩
abbrev main_v123 : Ref sig .tc := ⟨.hbm, 157, rfl⟩
abbrev main_c_25 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_c_26 : Ref sig .tc := ⟨.hbm, 162, rfl⟩
abbrev main_v127 : Ref sig .tc := ⟨.hbm, 163, rfl⟩
abbrev main_v128 : Ref sig .tc := ⟨.hbm, 164, rfl⟩
abbrev main_c_27 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_c_28 : Ref sig .tc := ⟨.hbm, 169, rfl⟩
abbrev main_v132 : Ref sig .tc := ⟨.hbm, 170, rfl⟩
abbrev main_v133 : Ref sig .tc := ⟨.hbm, 171, rfl⟩
abbrev main_c_29 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_30 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_c_31 : Ref sig .tc := ⟨.hbm, 192, rfl⟩
abbrev main_v152 : Ref sig .tc := ⟨.hbm, 193, rfl⟩
abbrev main_v153 : Ref sig .tc := ⟨.hbm, 194, rfl⟩
abbrev main_c_32 : Ref sig .tc := ⟨.hbm, 195, rfl⟩
abbrev main_v154 : Ref sig .tc := ⟨.hbm, 196, rfl⟩
abbrev main_v155 : Ref sig .tc := ⟨.hbm, 197, rfl⟩
abbrev main_c_33 : Ref sig .tc := ⟨.hbm, 198, rfl⟩
abbrev main_v156 : Ref sig .tc := ⟨.hbm, 199, rfl⟩
abbrev main_v157 : Ref sig .tc := ⟨.hbm, 200, rfl⟩
abbrev main_c_34 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_c_35 : Ref sig .tc := ⟨.hbm, 205, rfl⟩
abbrev main_v161 : Ref sig .tc := ⟨.hbm, 206, rfl⟩
abbrev main_v162 : Ref sig .tc := ⟨.hbm, 207, rfl⟩
abbrev main_c_36 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_c_37 : Ref sig .tc := ⟨.hbm, 212, rfl⟩
abbrev main_v166 : Ref sig .tc := ⟨.hbm, 213, rfl⟩
abbrev main_v167 : Ref sig .tc := ⟨.hbm, 214, rfl⟩
abbrev main_c_38 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_cst_39 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_c_40 : Ref sig .tc := ⟨.hbm, 235, rfl⟩
abbrev main_v186 : Ref sig .tc := ⟨.hbm, 236, rfl⟩
abbrev main_v187 : Ref sig .tc := ⟨.hbm, 237, rfl⟩
abbrev main_c_41 : Ref sig .tc := ⟨.hbm, 238, rfl⟩
abbrev main_v188 : Ref sig .tc := ⟨.hbm, 239, rfl⟩
abbrev main_v189 : Ref sig .tc := ⟨.hbm, 240, rfl⟩
abbrev main_c_42 : Ref sig .tc := ⟨.hbm, 241, rfl⟩
abbrev main_v190 : Ref sig .tc := ⟨.hbm, 242, rfl⟩
abbrev main_v191 : Ref sig .tc := ⟨.hbm, 243, rfl⟩
abbrev main_c_43 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_c_44 : Ref sig .tc := ⟨.hbm, 248, rfl⟩
abbrev main_v195 : Ref sig .tc := ⟨.hbm, 249, rfl⟩
abbrev main_v196 : Ref sig .tc := ⟨.hbm, 250, rfl⟩
abbrev main_c_45 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_c_46 : Ref sig .tc := ⟨.hbm, 255, rfl⟩
abbrev main_v200 : Ref sig .tc := ⟨.hbm, 256, rfl⟩
abbrev main_v201 : Ref sig .tc := ⟨.hbm, 257, rfl⟩
abbrev main_c_47 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_cst_48 : Ref sig .tc := ⟨.hbm, 276, rfl⟩
abbrev main_call2_v0 : Ref sig .tc := ⟨.hbm, 277, rfl⟩
abbrev main_call2_v1 : Ref sig .tc := ⟨.hbm, 278, rfl⟩
abbrev main_call2_v2 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_cst_49 : Ref sig .tc := ⟨.hbm, 289, rfl⟩
abbrev main_v228 : Ref sig .tc := ⟨.hbm, 290, rfl⟩
abbrev main_v229 : Ref sig .tc := ⟨.hbm, 291, rfl⟩

abbrev nD : Nat := 1
abbrev τ : Topo := Topo.v7x

variable {F : FTy → Type} [FloatOps F]
-- ==== Proof.PI.Prog.lean ====
/- The body of the kernel's loop, written again as sixteen visits of a region and 112 stores of a strip: the same
   memory operations in the same order, so that what one region needs is proved once. -/
module

public import proofs.«01_k».proof.Proof.Gen.KernelIdeal.Skeleton

@[expose] public section

noncomputable section

namespace Cert.KernelIdeal.Roi

open Cert.KernelIdeal Cert.KernelIdeal.Gen
open Idealize.ShloMosaic Idealize.SL.Sem

variable {F : FTy → Type} [FloatOps F] [Named F]

/-- The eight strips a region's dots produce, one for each row pair of the sampling grid. -/
abbrev Strips (F : FTy → Type) : Type := Fin 8 → FVec F S8x256 .f32

/-- The loop body's programs. -/
abbrev P (F : FTy → Type) : Type 1 := Prog (TpuEff nD τ sig (Elt F) Λ₀ .tc) Unit

/-- The image row a row of the sampling grid falls in: the truncation of `y1 + w * binh`, `w` the row's number as a word. -/
def hrow (y1 bh : F .f32) (w : BitVec 32) : BitVec 32 :=
  Scalar.fptosi 32 (Scalar.addf y1 (Scalar.mulf (Scalar.ofBits .f32 w) bh))

/-- The dot of eight rows of the weights, from row `o` on, with the two image rows read. -/
def dotAt (o : Nat) (ho : S64x96.Slices ![o, 0] S8x96) (m2 : FVec F S64x96 .bf16) (rows : Vec F S1x2x48x256 .bf16) :
    FVec F S8x256 .f32 :=
  matmul dot_S8x96_S96x256_S8x256_1_0_0_1_n_n none (extractStridedSlice S8x96 ![o, 0] m2 ho)
    (shapeCast S96x256 (shapeCast S2x48x256 rows shapeCasts_S1x2x48x256_S2x48x256) shapeCasts_S2x48x256_S96x256)
    (constant S8x256 .f32 0x00000000#32)

/-- The weights of one region, from the scale `s`, its word and its four corners. -/
def wts (s : F .f32) (w : BitVec 32) (x1 y1 x2 y2 : F .f32) : FVec F S64x96 .bf16 :=
  k0_pay14 k0_pay1 (Scalar.ofBits .f32 0x43480000#32) (k0_pay6 (F := F) w)
    (k0_pay11 k0_pay2 k0_pay4 (Scalar.ofBits .f32 0x43480000#32) (k0_pay7 s x1) (k0_pay10 s x1 x2)
      (Scalar.fptosi 32 (k0_pay7 s x1)))
    (k0_pay12 k0_pay3 (k0_pay8 s y1) (k0_pay9 s y1 y2)) (k0_pay13 k0_pay3 (k0_pay8 s y1) (k0_pay9 s y1 y2))

/-- Where a trip finds the word of its `u`-th region. -/
def idxOff (i : grid0.Coords) (k : Fin k0_t1_loop.trips) (u : Nat) : Fin 1 → Nat :=
  ![(Scalar.indexCast (Scalar.addi (Scalar.muli (BitVec.ofNat 32 (i 0).val) 128#32)
      (Scalar.addi (Scalar.muli (Scf.iv 0#32 1#32 k) 16#32) (BitVec.ofNat 32 u)))).toNat]

/-- It lies inside the table. -/
theorem idxOff_inb : ∀ (i : grid0.Coords) (k : Fin k0_t1_loop.trips) (u : Fin 16), ∀ a, idxOff i k u.val a + S1.size a ≤ S1536.size a := by
  decide +kernel

/-- Where a trip stores the `ii`-th strip of its `u`-th region. -/
def outOff (k : Fin k0_t1_loop.trips) (u ii : Nat) : Fin 4 → Nat :=
  ![(Scalar.indexCast (Scalar.addi (Scalar.muli (Scf.iv 0#32 1#32 k) 16#32) (BitVec.ofNat 32 u))).toNat, ii, 0, 0]

/-- It lies inside the block. -/
theorem outOff_inb : ∀ (k : Fin k0_t1_loop.trips) (u : Fin 16) (ii : Fin 7), ∀ a, outOff k u.val ii.val a + S1x1x7x256.size a ≤ S128x7x7x256.size a := by
  decide +kernel

/-- A strip of the pooled result, from two neighbouring strips of dots. -/
def pool2 (a b : FVec F S8x256 .f32) : FVec F S1x1x7x256 .f32 :=
  shapeCast S1x1x7x256
    (mulf (addf (extractStridedSlice S7x256 ![0, 0] (addf a b) slices_S8x256_o0_0_S7x256)
        (extractStridedSlice S7x256 ![1, 0] (addf a b) slices_S8x256_o1_0_S7x256))
      (broadcast S7x256 (Scalar.ofBits .f32 0x3E800000#32)))
    shapeCasts_S7x256_S1x1x7x256

/-- Read two image rows. -/
def rowK (arg5 : Memref sig .tc .vmem S1x200x200x256 .bf16) (v53 h : BitVec 32) (K : Vec F S1x2x48x256 .bf16 → P F) : P F :=
  .op (.assume (k0_chk3 v53 h) (k0_chk3.dec v53 h)) fun hw =>
  .op (.load arg5 (Rect.unit (s := S1x200x200x256) (k0_off4 v53 h) S1x2x48x256.size (k0_off4_inb v53 h hw.down)).toLoadRect
    (View.loadsAt_vmem h_S1x2x48x256)) K

/-- Read one word of the regions' table. -/
def cornerK (arg4 : Memref sig .tc .smem S5120 .f32) (w : BitVec 32) (hw : k0_chk1 w) (r : Fin 4) (K : Elt F .f32 → P F) : P F :=
  smemLoadElt arg4 (Rect.unit (s := S5120) (k0_off3 w (BitVec.ofNat 32 (1 + r.val))) S1.size (k0_off3_inb w hw r))
    (View.loads_smem_one rfl numel1_S1) (Shape.Idx.first (numel1_S1.symm ▸ Nat.one_pos)) K

/-- Visit one region: read its word and its corners, then eight pairs of image rows, and hand on the eight strips. -/
def roiK (arg2 : Memref sig .tc .smem S1536 .i32) (arg4 : Memref sig .tc .smem S5120 .f32)
    (arg5 : Memref sig .tc .vmem S1x200x200x256 .bf16) (s : F .f32) (i : grid0.Coords) (k : Fin k0_t1_loop.trips) (u : Fin 16)
    (K : Strips F → P F) : P F :=
  smemLoadElt arg2 (Rect.unit (s := S1536) (idxOff i k u.val) S1.size (idxOff_inb i k u))
    (View.loads_smem_one rfl numel1_S1) (Shape.Idx.first (numel1_S1.symm ▸ Nat.one_pos)) fun w =>
  .op (.assume (k0_chk1 w) (k0_chk1.dec w)) fun hw =>
  cornerK arg4 w hw.down 0 fun x1 =>
  cornerK arg4 w hw.down 1 fun y1 =>
  cornerK arg4 w hw.down 2 fun x2 =>
  cornerK arg4 w hw.down 3 fun y2 =>
  .op (.assume (k0_chk2 (Scalar.fptosi 32 (k0_pay7 s x1))) (k0_chk2.dec _)) fun _ =>
  rowK arg5 (Scalar.fptosi 32 (k0_pay7 s x1)) (hrow (k0_pay8 s y1) (k0_pay9 s y1 y2) 0x00000000#32) fun r0 =>
  rowK arg5 (Scalar.fptosi 32 (k0_pay7 s x1)) (hrow (k0_pay8 s y1) (k0_pay9 s y1 y2) 0x3F800000#32) fun r1 =>
  rowK arg5 (Scalar.fptosi 32 (k0_pay7 s x1)) (hrow (k0_pay8 s y1) (k0_pay9 s y1 y2) 0x40000000#32) fun r2 =>
  rowK arg5 (Scalar.fptosi 32 (k0_pay7 s x1)) (hrow (k0_pay8 s y1) (k0_pay9 s y1 y2) 0x40400000#32) fun r3 =>
  rowK arg5 (Scalar.fptosi 32 (k0_pay7 s x1)) (hrow (k0_pay8 s y1) (k0_pay9 s y1 y2) 0x40800000#32) fun r4 =>
  rowK arg5 (Scalar.fptosi 32 (k0_pay7 s x1)) (hrow (k0_pay8 s y1) (k0_pay9 s y1 y2) 0x40A00000#32) fun r5 =>
  rowK arg5 (Scalar.fptosi 32 (k0_pay7 s x1)) (hrow (k0_pay8 s y1) (k0_pay9 s y1 y2) 0x40C00000#32) fun r6 =>
  rowK arg5 (Scalar.fptosi 32 (k0_pay7 s x1)) (hrow (k0_pay8 s y1) (k0_pay9 s y1 y2) 0x40E00000#32) fun r7 =>
  K ![dotAt 0 slices_S64x96_o0_0_S8x96 (wts s w x1 y1 x2 y2) r0, dotAt 8 slices_S64x96_o8_0_S8x96 (wts s w x1 y1 x2 y2) r1,
    dotAt 16 slices_S64x96_o16_0_S8x96 (wts s w x1 y1 x2 y2) r2, dotAt 24 slices_S64x96_o24_0_S8x96 (wts s w x1 y1 x2 y2) r3,
    dotAt 32 slices_S64x96_o32_0_S8x96 (wts s w x1 y1 x2 y2) r4, dotAt 40 slices_S64x96_o40_0_S8x96 (wts s w x1 y1 x2 y2) r5,
    dotAt 48 slices_S64x96_o48_0_S8x96 (wts s w x1 y1 x2 y2) r6, dotAt 56 slices_S64x96_o56_0_S8x96 (wts s w x1 y1 x2 y2) r7]

/-- Store one strip (the body reads the place first and drops what it read). -/
def storeK (arg6 : Memref sig .tc .vmem S128x7x7x256 .f32) (k : Fin k0_t1_loop.trips) (u : Fin 16) (ii : Fin 7)
    (x : FVec F S1x1x7x256 .f32) (K : P F) : P F :=
  .op (.load arg6 (Rect.unit (s := S128x7x7x256) (outOff k u.val ii.val) S1x1x7x256.size (outOff_inb k u ii)).toLoadRect
    (View.loadsAt_vmem h_S1x1x7x256)) fun _ =>
  .op (.store arg6 (Rect.unit (s := S128x7x7x256) (outOff k u.val ii.val) S1x1x7x256.size (outOff_inb k u ii)) x Finset.univ
    (View.stores_vmem_bits_univ h_S1x1x7x256 rfl) (.inl rfl)) fun _ => K

/-- Make visits in turn, keeping what each hands on. -/
def visit (f : Fin 16 → (Strips F → P F) → P F) : List (Fin 16) → (Fin 16 → Strips F) → ((Fin 16 → Strips F) → P F) → P F
  | [], a, K => K a
  | u :: us, a, K => f u fun v => visit f us (Function.update a u v) K

/-- The sixteen regions of a trip, in order. -/
abbrev regions : List (Fin 16) := [0, 1, 2, 3, 4, 5, 6, 7, 8, 9, 10, 11, 12, 13, 14, 15]
/-- The seven strips of a region, in order. -/
abbrev strips : List (Fin 7) := [0, 1, 2, 3, 4, 5, 6]

/-- The stores of one region. -/
def storesK (arg6 : Memref sig .tc .vmem S128x7x7x256 .f32) (k : Fin k0_t1_loop.trips) (V : Fin 16 → Strips F) (u : Fin 16) (K : P F) : P F :=
  strips.foldr (fun ii K => storeK arg6 k u ii (pool2 (V u ii.castSucc) (V u ii.succ)) K) K

/-- The whole trip. -/
def trip (arg2 : Memref sig .tc .smem S1536 .i32) (arg4 : Memref sig .tc .smem S5120 .f32)
    (arg5 : Memref sig .tc .vmem S1x200x200x256 .bf16) (arg6 : Memref sig .tc .vmem S128x7x7x256 .f32) (s : F .f32)
    (i : grid0.Coords) (k : Fin k0_t1_loop.trips) : P F :=
  visit (roiK arg2 arg4 arg5 s i k) regions (fun _ _ => constant S8x256 .f32 0x00000000#32) fun V =>
    regions.foldr (storesK arg6 k V) (.ret ⟨⟩)

set_option maxRecDepth 1000000 in
set_option maxHeartbeats 100000000 in
/-- The kernel's trip is that program. -/
theorem t1_body_eq (i : grid0.Coords) (arg1 : Memref sig .tc .smem S12 .i32) (harg1 : arg1.IsWhole) (arg2 : Memref sig .tc .smem S1536 .i32) (harg2 : arg2.IsWhole) (arg3 : Memref sig .tc .smem S1 .f32) (harg3 : arg3.IsWhole) (arg4 : Memref sig .tc .smem S5120 .f32) (harg4 : arg4.IsWhole) (arg5 : Memref sig .tc .vmem S1x200x200x256 .bf16) (harg5 : arg5.IsWhole) (arg6 : Memref sig .tc .vmem S128x7x7x256 .f32) (harg6 : arg6.IsWhole) (v0 : Elt F .f32) (k : Fin k0_t1_loop.trips) :
    k0_t1_body (F := F) i arg1 harg1 arg2 harg2 arg3 harg3 arg4 harg4 arg5 harg5 arg6 harg6 (BitVec.ofNat 32 (i 0).val) v0 (Scalar.ofBits .f32 0x43480000#32) (Scalar.ofBits .f32 0x43480000#32) k ⟨⟩
      = trip arg2 arg4 arg5 arg6 v0 i k := by
  rfl

end Cert.KernelIdeal.Roi

end
-- ==== Proof.PI.Body.lean ====
/- What a run of the kernel's body leaves in its block: every strip of every region the block holds, as a function of
   the tables and the image it reads. -/
module

public import proofs.«01_k».proof.Proof.PI.Prog
public import proofs.«01_k».proof.Proof.Gen.KernelIdeal.Loops
public import Idealize.ShloMosaic.Lib.Writes
public import Idealize.ShloMosaic.Lib.WholeRead

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The offsets hold for every word -/

/-- The signed maximum of two words, read signed. -/
theorem toInt_max (a b : BitVec 32) : (Scalar.maxsi a b).toInt = max a.toInt b.toInt := by
  unfold Scalar.maxsi IntOp.maxsi
  split <;> rename_i h <;> rw [BitVec.slt_iff_toInt_lt] at h <;> omega

/-- The signed minimum of two words, read signed. -/
theorem toInt_min (a b : BitVec 32) : (Scalar.minsi a b).toInt = min a.toInt b.toInt := by
  unfold Scalar.minsi IntOp.minsi
  split <;> rename_i h <;> rw [BitVec.slt_iff_toInt_lt] at h <;> omega

/-- The two bounds, read signed. -/
theorem toInt_bounds : (198#32 : BitVec 32).toInt = 198 ∧ (0#32 : BitVec 32).toInt = 0 := by decide

/-- A word clipped to 0..198 is one of the 199 words there. -/
theorem clip_mem (v : BitVec 32) : ∃ n : Fin 199, Scalar.minsi 198#32 (Scalar.maxsi 0#32 v) = BitVec.ofNat 32 n.val := by
  have h : (Scalar.minsi 198#32 (Scalar.maxsi 0#32 v)).toInt = min 198 (max 0 v.toInt) := by
    rw [toInt_min, toInt_max, toInt_bounds.1, toInt_bounds.2]
  refine ⟨⟨(min 198 (max 0 v.toInt)).toNat, by omega⟩, BitVec.eq_of_toInt_eq ?_⟩
  rw [h, BitVec.toInt_ofNat']
  simp only [Int.bmod]
  omega

/-- The same with the cap taken first. -/
theorem clip_mem' (v : BitVec 32) : ∃ n : Fin 199, Scalar.maxsi (Scalar.minsi v 198#32) 0#32 = BitVec.ofNat 32 n.val := by
  have h : (Scalar.maxsi (Scalar.minsi v 198#32) 0#32).toInt = max (min v.toInt 198) 0 := by
    rw [toInt_max, toInt_min, toInt_bounds.1, toInt_bounds.2]
  refine ⟨⟨(max (min v.toInt 198) 0).toNat, by omega⟩, BitVec.eq_of_toInt_eq ?_⟩
  rw [h, BitVec.toInt_ofNat']
  simp only [Int.bmod]
  omega

/-- The window's first column is a multiple of eight, and the window fits, for each of those words. -/
theorem window_facts : ∀ n : Fin 199,
    8 ∣ (Scalar.minsi (Scalar.shli (Scalar.shrsi (BitVec.ofNat 32 n.val) 3#32) 3#32) 152#32).toNat
      ∧ (Scalar.minsi (Scalar.shli (Scalar.shrsi (BitVec.ofNat 32 n.val) 3#32) 3#32) 152#32).toNat ≤ 152
      ∧ (BitVec.ofNat 32 n.val).toNat ≤ 198 := by
  decide +kernel

/-- The window's first column is a multiple of eight. -/
theorem chk2_all (v : BitVec 32) : k0_chk2 v := by
  obtain ⟨n, hn⟩ := clip_mem v
  show 8 ∣ (Scalar.minsi (Scalar.shli (Scalar.shrsi (Scalar.minsi 198#32 (Scalar.maxsi 0#32 v)) 3#32) 3#32) 152#32).toNat
  rw [hn]
  exact (window_facts n).1

/-- The two image rows and the window's columns lie inside the image. -/
theorem chk3_all (v h : BitVec 32) : k0_chk3 v h := by
  obtain ⟨n, hn⟩ := clip_mem v
  obtain ⟨n', hn'⟩ := clip_mem' h
  have ho : k0_off4 v h = ![0, (BitVec.ofNat 32 n'.val).toNat,
      (Scalar.minsi (Scalar.shli (Scalar.shrsi (BitVec.ofNat 32 n.val) 3#32) 3#32) 152#32).toNat, 0] := by
    rw [← hn, ← hn']; rfl
  unfold k0_chk3
  rw [ho]
  have h1 := (window_facts n).2.1
  have h2 := (window_facts n').2.2
  intro a
  match a with
  | ⟨0, _⟩ => exact Nat.le_refl 1
  | ⟨1, _⟩ => exact Nat.add_le_add_right h2 2
  | ⟨2, _⟩ => exact Nat.add_le_add_right h1 48
  | ⟨3, _⟩ => exact Nat.le_refl 256

/-! ## What a visit hands on -/

/-- The word of a trip's `u`-th region. -/
def wordAt (X2 : S1536.Idx → BitVec 32) (i : grid0.Coords) (k : Fin k0_t1_loop.trips) (u : Fin 16) : BitVec 32 :=
  X2 fun a => match a with
  | ⟨0, _⟩ => ⟨idxOff i k u.val 0, idxOff_inb i k u 0⟩

/-- A corner of the region a word names. -/
def cornerAt (X4 : S5120.Idx → F .f32) (w : BitVec 32) (r : Fin 4) : F .f32 :=
  X4 fun a => match a with
  | ⟨0, _⟩ => (⟨k0_off3 w (BitVec.ofNat 32 (1 + r.val)) 0 % 5120, Nat.mod_lt _ (by decide)⟩ : Fin 5120)

/-- The two image rows a row of the grid reads, in the window. -/
def rowsAt (X5 : S1x200x200x256.Idx → F .bf16) (v53 h : BitVec 32) : Vec F S1x2x48x256 .bf16 :=
  fun x => X5 ((Rect.unit (s := S1x200x200x256) (k0_off4 v53 h) S1x2x48x256.size (chk3_all v53 h)).emb x)

/-- The eight strips of the region a word names. -/
def roiVal (X4 : S5120.Idx → F .f32) (X5 : S1x200x200x256.Idx → F .bf16) (s : F .f32) (w : BitVec 32) : Strips F :=
  let x1 := cornerAt X4 w 0
  let y1 := cornerAt X4 w 1
  let x2 := cornerAt X4 w 2
  let y2 := cornerAt X4 w 3
  let m2 := wts s w x1 y1 x2 y2
  let rows := fun h => rowsAt X5 (Scalar.fptosi 32 (k0_pay7 s x1)) (hrow (k0_pay8 s y1) (k0_pay9 s y1 y2) h)
  ![dotAt 0 slices_S64x96_o0_0_S8x96 m2 (rows 0x00000000#32), dotAt 8 slices_S64x96_o8_0_S8x96 m2 (rows 0x3F800000#32),
    dotAt 16 slices_S64x96_o16_0_S8x96 m2 (rows 0x40000000#32), dotAt 24 slices_S64x96_o24_0_S8x96 m2 (rows 0x40400000#32),
    dotAt 32 slices_S64x96_o32_0_S8x96 m2 (rows 0x40800000#32), dotAt 40 slices_S64x96_o40_0_S8x96 m2 (rows 0x40A00000#32),
    dotAt 48 slices_S64x96_o48_0_S8x96 m2 (rows 0x40C00000#32), dotAt 56 slices_S64x96_o56_0_S8x96 m2 (rows 0x40E00000#32)]

/-- An index into a strip stored. -/
def stripIdx (b : Fin 7) (d : Fin 256) : S1x1x7x256.Idx := fun a => match a with
  | ⟨0, _⟩ => (⟨0, by decide⟩ : Fin 1)
  | ⟨1, _⟩ => (⟨0, by decide⟩ : Fin 1)
  | ⟨2, _⟩ => b
  | ⟨3, _⟩ => d

/-- The pooled value of the region a word names, at row `a`, column `b`, channel `d`. -/
def roiOut (X4 : S5120.Idx → F .f32) (X5 : S1x200x200x256.Idx → F .bf16) (s : F .f32) (w : BitVec 32) (a b : Fin 7) (d : Fin 256) : F .f32 :=
  pool2 (roiVal X4 X5 s w a.castSucc) (roiVal X4 X5 s w a.succ) (stripIdx b d)

/-- The number of trips. -/
theorem trips_eq : k0_t1_loop.trips = 8 := by decide

/-- The trip that writes a place of the block. -/
def tripOf (y : S128x7x7x256.Idx) : Fin k0_t1_loop.trips :=
  ⟨(y 0).val / 16, by have h : (y 0).val < 128 := (y 0).isLt
                      have := trips_eq
                      omega⟩

/-- The visit of that trip whose region it belongs to. -/
def visitOf (y : S128x7x7x256.Idx) : Fin 16 := ⟨(y 0).val % 16, Nat.mod_lt _ (by decide)⟩

/-- The block: row `n` is the pooled result of the region of its trip's visit. -/
def blockVal (X2 : S1536.Idx → BitVec 32) (X4 : S5120.Idx → F .f32) (X5 : S1x200x200x256.Idx → F .bf16) (s : F .f32)
    (i : grid0.Coords) : S128x7x7x256.Idx → F .f32 := fun y =>
  roiOut X4 X5 s (wordAt X2 i (tripOf y) (visitOf y)) (y 1) (y 2) (y 3)

/-! ## The runs -/

section Reads

variable {nD' : ℕ} {sig' : RefSig} {τ' : Topo} {Val : EltTy → Type} {Λ : Labels} {U : Type} [RA.URA U]
  {defs : Defs nD' τ' sig' Val Λ} (c : Thread nD' τ') {sp : Space} {sh : Shape} {e : EltTy} {α : Type}

/-- A word read, at what it reads. -/
theorem wp_word {m : Memref sig' c.2.kind .smem sh e} {r : Rect sh} {hw : (m.access r).Loads} {x : r.shape.Idx}
    {k : Val e → Prog (TpuEff nD' τ' sig' Val Λ c.2) α} {q : PosShare TreeShare} {f : Buf Val (m.view.loc c)} {S : Finset (Idx (m.view.loc c))}
    {Q : α → sProp (MT nD' τ' sig' Unit Val ℕ U ℕ)} (hS : m.view.set ⊆ S) (v : Val e) (hv : m.view.read Val f (r.emb x) = v) :
    (m.view.loc c ↦[S]{q} f)
      ⊢ iprop(((m.view.loc c ↦[S]{q} f) -∗ wp frame (wpE defs Variants.none c none) Set.univ (k v) Q)
        -∗ wp frame (wpE defs Variants.none c none) Set.univ (smemLoadElt m r hw x k) Q) := by
  have h : (m.access r).read Val f x = v := hv
  rw [← h]
  exact wp_smemLoadElt (m := m) (r := r) (hw := hw) (x := x) (k := k) (S := S) (q := q) (f := f) Variants.none c none Set.univ
    ((View.set_slice_subset _ _).trans hS)

/-- A rectangle read, at what it reads. -/
theorem wp_rect {cs : CoreSpace} {m : Memref sig' c.2.kind cs sh e} {r : Rect sh} {hl : m.view.LoadsAt r}
    {k : (r.shape.Idx → Val e) → Prog (TpuEff nD' τ' sig' Val Λ c.2) α} {q : PosShare TreeShare} {f : Buf Val (m.view.loc c)}
    {Q : α → sProp (MT nD' τ' sig' Unit Val ℕ U ℕ)} (v : r.shape.Idx → Val e) (hv : (fun x => m.view.read Val f (r.emb x)) = v) :
    (m.view.loc c ↦[m.view.set]{q} f)
      ⊢ iprop(((m.view.loc c ↦[m.view.set]{q} f) -∗ wp frame (wpE defs Variants.none c none) Set.univ (k v) Q)
        -∗ wp frame (wpE defs Variants.none c none) Set.univ (.op (.load m r hl) k) Q) := by
  have h : (m.access r).read Val f = v := hv
  rw [← h]
  exact wp_load_rect (m := m) (r := r) (hl := hl) (k := k) (S := m.view.set) (q := q) (f := f) Variants.none c none Set.univ
    (View.set_slice_subset _ _)

/-- Contents that read `G` wherever `D` holds. -/
def held (m : Memref sig' c.2.kind sp sh e) (G : sh.Idx → Val e) (D : sh.Idx → Prop) : sProp (MT nD' τ' sig' Unit Val ℕ U ℕ) :=
  iprop(∃ f, ⌜∀ y, D y → m.view.read Val f y = G y⌝ ∗ (m.view.loc c ↦[m.view.set]{fullShare} f))

/-- A rectangle stored with what `G` is there: the contents read `G` there too. -/
theorem wp_put {cs : CoreSpace} {m : Memref sig' c.2.kind cs sh e} {r : Rect sh} {w : r.shape.Idx → Val e}
    {hl : m.view.LoadsAt r} {hx : (m.access r).Stores Finset.univ} {hm : Finset.univ = Finset.univ ∨ ∀ a, r.stride a = 1}
    {k : Prog (TpuEff nD' τ' sig' Val Λ c.2) α} {Q : α → sProp (MT nD' τ' sig' Unit Val ℕ U ℕ)}
    (G : sh.Idx → Val e) (D : sh.Idx → Prop) (hw : ∀ x, w x = G (r.emb x)) :
    held c m G D ⊢ iprop((held c m G (fun y => D y ∨ y ∈ r.set) -∗ wp frame (wpE defs Variants.none c none) Set.univ k Q)
        -∗ wp frame (wpE defs Variants.none c none) Set.univ
            (.op (.load m r hl) fun _ => .op (.store m r w Finset.univ hx hm) fun _ => k) Q) := by
  unfold held
  iintro ⟨%f, %hf, H⟩ HK
  iapply (wp_rect c (m := m) (r := r) (hl := hl) (f := f) _ rfl) $$ H
  iintro H
  iapply (wp_store_writes₀ (m := m) (r := r) (hx := hx) (hm := hm) (S := m.view.set) (f := f) Variants.none c none Set.univ (View.set_slice_subset _ _)) $$ H
  iintro H
  iapply HK
  iexists (m.view.writes Val f [⟨r, w⟩])
  isplitr
  · ipureintro
    intro y hy
    by_cases h : y ∈ r.set
    · obtain ⟨x, -, rfl⟩ := Finset.mem_map.1 (by rwa [Rect.map_emb_univ] : y ∈ Finset.univ.map r.emb)
      rw [View.read_writes_cons_emb, hw]
    · rw [View.read_writes_cons_miss _ _ _ _ _ h]
      exact hf y (hy.resolve_right h)
  · iexact H

end Reads

variable (c : Dev nD)

/-- The program's weakest precondition at this thread. -/
local notation "WP" => wp (M := 𝕄) (α := Unit) frame (wpE defs₀ Variants.none (c : Thread nD τ) none) Set.univ

variable {arg2 : Memref sig .tc .smem S1536 .i32} {arg4 : Memref sig .tc .smem S5120 .f32}
  {arg5 : Memref sig .tc .vmem S1x200x200x256 .bf16} {arg6 : Memref sig .tc .vmem S128x7x7x256 .f32}

/-- A corner's read hands on the corner. -/
theorem wp_cornerK {q : PosShare TreeShare} (f : Buf (Elt F) (arg4.view.loc (c : Thread nD τ))) (w : BitVec 32) (hw : k0_chk1 w) (r : Fin 4)
    {K : Elt F .f32 → P F} {Q : Unit → sProp 𝕄} :
    (arg4.view.loc (c : Thread nD τ) ↦[arg4.view.set]{q} f : sProp 𝕄)
      ⊢ iprop(((arg4.view.loc (c : Thread nD τ) ↦[arg4.view.set]{q} f) -∗ WP (K (cornerAt (arg4.view.read (Elt F) f) w r)) Q)
        -∗ WP (cornerK arg4 w hw r K) Q) := by
  unfold cornerK
  refine wp_word (c : Thread nD τ) (Finset.Subset.refl _) _ ?_
  unfold cornerAt
  refine congrArg (arg4.view.read (Elt F) f) (funext fun a => Fin.ext ?_)
  have h : k0_off3 w (BitVec.ofNat 32 (1 + r.val)) 0 + 1 ≤ 5120 := hw r 0
  match a with
  | ⟨0, _⟩ =>
    show k0_off3 w (BitVec.ofNat 32 (1 + r.val)) 0 + 1 * 0 = k0_off3 w (BitVec.ofNat 32 (1 + r.val)) 0 % 5120
    rw [Nat.mod_eq_of_lt h]
    rfl

/-- Two image rows' read hands on the rows. -/
theorem wp_rowK {q : PosShare TreeShare} (f : Buf (Elt F) (arg5.view.loc (c : Thread nD τ))) (v53 h : BitVec 32)
    {K : Vec F S1x2x48x256 .bf16 → P F} {Q : Unit → sProp 𝕄} :
    (arg5.view.loc (c : Thread nD τ) ↦[arg5.view.set]{q} f : sProp 𝕄)
      ⊢ iprop(((arg5.view.loc (c : Thread nD τ) ↦[arg5.view.set]{q} f) -∗ WP (K (rowsAt (arg5.view.read (Elt F) f) v53 h)) Q)
        -∗ WP (rowK arg5 v53 h K) Q) := by
  unfold rowK
  iintro H HK
  iapply (wp_assume Variants.none (c : Thread nD τ) none Set.univ (chk3_all v53 h))
  iapply (wp_rect (c : Thread nD τ) (rowsAt (arg5.view.read (Elt F) f) v53 h) rfl) $$ H
  iexact HK

/-- A region's visit hands on its strips. -/
theorem wp_roiK {q2 q4 q5 : PosShare TreeShare} (f2 : Buf (Elt F) (arg2.view.loc (c : Thread nD τ)))
    (f4 : Buf (Elt F) (arg4.view.loc (c : Thread nD τ))) (f5 : Buf (Elt F) (arg5.view.loc (c : Thread nD τ)))
    {S2 : Finset (Idx (arg2.view.loc (c : Thread nD τ)))} (hS2 : arg2.view.set ⊆ S2) (hX : ∀ j, k0_chk1 (arg2.view.read (Elt F) f2 j)) (s : F .f32) (i : grid0.Coords) (k : Fin k0_t1_loop.trips) (u : Fin 16)
    {K : Strips F → P F} {Q : Unit → sProp 𝕄} :
    (iprop((arg2.view.loc (c : Thread nD τ) ↦[S2]{q2} f2) ∗ (arg4.view.loc (c : Thread nD τ) ↦[arg4.view.set]{q4} f4)
        ∗ (arg5.view.loc (c : Thread nD τ) ↦[arg5.view.set]{q5} f5)) : sProp 𝕄)
      ⊢ iprop((iprop((arg2.view.loc (c : Thread nD τ) ↦[S2]{q2} f2) ∗ (arg4.view.loc (c : Thread nD τ) ↦[arg4.view.set]{q4} f4)
        ∗ (arg5.view.loc (c : Thread nD τ) ↦[arg5.view.set]{q5} f5)) -∗ WP (K (roiVal (arg4.view.read (Elt F) f4)
            (arg5.view.read (Elt F) f5) s (wordAt (arg2.view.read (Elt F) f2) i k u))) Q)
        -∗ WP (roiK arg2 arg4 arg5 s i k u K) Q) := by
  unfold roiK
  iintro ⟨H2, H4, H5⟩ HK
  iapply (wp_word (c : Thread nD τ) hS2 (wordAt (arg2.view.read (Elt F) f2) i k u)
    (congrArg (arg2.view.read (Elt F) f2) (funext fun a => by match a with | ⟨0, _⟩ => exact Fin.ext rfl))) $$ H2
  iintro H2
  iapply (wp_assume Variants.none (c : Thread nD τ) none Set.univ (hX _))
  iapply (wp_cornerK c f4 _ _ 0) $$ H4
  iintro H4
  iapply (wp_cornerK c f4 _ _ 1) $$ H4
  iintro H4
  iapply (wp_cornerK c f4 _ _ 2) $$ H4
  iintro H4
  iapply (wp_cornerK c f4 _ _ 3) $$ H4
  iintro H4
  iapply (wp_assume Variants.none (c : Thread nD τ) none Set.univ (chk2_all _))
  iapply (wp_rowK c f5 _ _) $$ H5
  iintro H5
  iapply (wp_rowK c f5 _ _) $$ H5
  iintro H5
  iapply (wp_rowK c f5 _ _) $$ H5
  iintro H5
  iapply (wp_rowK c f5 _ _) $$ H5
  iintro H5
  iapply (wp_rowK c f5 _ _) $$ H5
  iintro H5
  iapply (wp_rowK c f5 _ _) $$ H5
  iintro H5
  iapply (wp_rowK c f5 _ _) $$ H5
  iintro H5
  iapply (wp_rowK c f5 _ _) $$ H5
  iintro H5
  iapply HK
  isplitl [H2]
  · iexact H2
  isplitl [H4]
  · iexact H4
  iexact H5

/-- Visits in turn hand on the values of each, whatever the values kept so far elsewhere. -/
theorem wp_visit (R : sProp 𝕄) (f : Fin 16 → (Strips F → P F) → P F) (val : Fin 16 → Strips F) (Q : Unit → sProp 𝕄)
    (hf : ∀ u K, R ⊢ iprop((R -∗ WP (K (val u)) Q) -∗ WP (f u K) Q)) (us : List (Fin 16)) :
    ∀ (a : Fin 16 → Strips F) (K : (Fin 16 → Strips F) → P F),
      R ⊢ iprop((R -∗ WP (K (us.foldl (fun a u => Function.update a u (val u)) a)) Q) -∗ WP (visit f us a K) Q) := by
  induction us with
  | nil =>
    intro a K
    unfold visit
    iintro H HK
    iapply HK
    iexact H
  | cons u us ih =>
    intro a K
    unfold visit
    iintro H HK
    iapply (hf u _) $$ H
    iintro H
    iapply (ih _ K) $$ H
    iexact HK

/-- After the sixteen visits every value kept is a visit's own. -/
theorem foldl_regions (val a : Fin 16 → Strips F) :
    regions.foldl (fun a u => Function.update a u (val u)) a = val := by
  funext u
  simp only [List.foldl]
  fin_cases u <;> simp [Function.update]

/-- Programs in a row, each adding what it has stored. -/
theorem wp_foldr {α : Type} (A : (S128x7x7x256.Idx → Prop) → sProp 𝕄) (f : α → P F → P F) (p : α → S128x7x7x256.Idx → Prop)
    (Q : Unit → sProp 𝕄) (hf : ∀ u D K, A D ⊢ iprop((A (fun y => D y ∨ p u y) -∗ WP K Q) -∗ WP (f u K) Q)) (us : List α) :
    ∀ (D : S128x7x7x256.Idx → Prop) (K : P F),
      A D ⊢ iprop((A (fun y => D y ∨ ∃ u ∈ us, p u y) -∗ WP K Q) -∗ WP (us.foldr f K) Q) := by
  induction us with
  | nil =>
    intro D K
    simp only [List.foldr, List.not_mem_nil, false_and, exists_false, or_false]
    iintro H HK
    iapply HK
    iexact H
  | cons u us ih =>
    intro D K
    simp only [List.foldr, List.mem_cons, exists_eq_or_imp]
    iintro H HK
    iapply (hf u D _) $$ H
    iintro H
    iapply (ih _ K) $$ H
    simp only [or_assoc]
    iexact HK

/-- The place of one strip in the block. -/
abbrev stripRect (k : Fin k0_t1_loop.trips) (u : Fin 16) (ii : Fin 7) : Rect S128x7x7x256 :=
  Rect.unit (s := S128x7x7x256) (outOff k u.val ii.val) S1x1x7x256.size (outOff_inb k u ii)

/-- A trip's strips start at the row of its region. -/
theorem outOff_eq : ∀ (k : Fin k0_t1_loop.trips) (u : Fin 16) (ii : Fin 7), outOff k u.val ii.val = ![16 * k.val + u.val, ii.val, 0, 0] := by
  decide +kernel

/-- The block at a place of a strip is the strip's value there. -/
theorem blockVal_strip (X2 : S1536.Idx → BitVec 32) (X4 : S5120.Idx → F .f32) (X5 : S1x200x200x256.Idx → F .bf16) (s : F .f32)
    (i : grid0.Coords) (k : Fin k0_t1_loop.trips) (u : Fin 16) (ii : Fin 7) (x : S1x1x7x256.Idx) :
    pool2 (roiVal X4 X5 s (wordAt X2 i k u) ii.castSucc) (roiVal X4 X5 s (wordAt X2 i k u) ii.succ) x
      = blockVal X2 X4 X5 s i ((stripRect k u ii).emb x) := by
  have x0 : (x 0).val < 1 := (x 0).isLt
  have x1 : (x 1).val < 1 := (x 1).isLt
  have e : ∀ a, ((stripRect k u ii).emb x a).val = (![16 * k.val + u.val, ii.val, 0, 0] : Fin 4 → ℕ) a + 1 * (x a).val := by
    intro a
    rw [← outOff_eq]
    rfl
  have e0 : ((stripRect k u ii).emb x 0).val = 16 * k.val + u.val := by
    rw [e]; show 16 * k.val + u.val + 1 * (x 0).val = _; omega
  have e1 : (stripRect k u ii).emb x 1 = ii := Fin.ext (by rw [e]; show ii.val + 1 * (x 1).val = _; omega)
  have e2 : (stripRect k u ii).emb x 2 = x 2 := Fin.ext (by rw [e]; show 0 + 1 * (x 2).val = _; omega)
  have e3 : (stripRect k u ii).emb x 3 = x 3 := Fin.ext (by rw [e]; show 0 + 1 * (x 3).val = _; omega)
  have hu := u.isLt
  have ex : x = stripIdx (x 2) (x 3) := funext fun a => by
    match a with
    | ⟨0, _⟩ => exact Fin.ext (show (x 0).val = 0 by omega)
    | ⟨1, _⟩ => exact Fin.ext (show (x 1).val = 0 by omega)
    | ⟨2, _⟩ => rfl
    | ⟨3, _⟩ => rfl
  unfold blockVal roiOut
  have ek : tripOf ((stripRect k u ii).emb x) = k := Fin.ext (by
    show ((stripRect k u ii).emb x 0).val / 16 = k.val
    rw [e0]; omega)
  have eu : visitOf ((stripRect k u ii).emb x) = u := Fin.ext (by
    show ((stripRect k u ii).emb x 0).val % 16 = u.val
    rw [e0]; omega)
  rw [ek, eu, e1, e2, e3, ← ex]

/-- The block as one function of the buffers' contents. -/
abbrev GOf (c : Dev nD) (arg2 : Memref sig .tc .smem S1536 .i32) (arg4 : Memref sig .tc .smem S5120 .f32)
    (arg5 : Memref sig .tc .vmem S1x200x200x256 .bf16) (f2 : Buf (Elt F) (arg2.view.loc (c : Thread nD τ)))
    (f4 : Buf (Elt F) (arg4.view.loc (c : Thread nD τ))) (f5 : Buf (Elt F) (arg5.view.loc (c : Thread nD τ))) (s : F .f32)
    (i : grid0.Coords) : S128x7x7x256.Idx → F .f32 :=
  blockVal (arg2.view.read (Elt F) f2) (arg4.view.read (Elt F) f4) (arg5.view.read (Elt F) f5) s i

/-- Contents that read `G` on more places do on fewer. -/
theorem held_mono {G : S128x7x7x256.Idx → F .f32} {D D' : S128x7x7x256.Idx → Prop} (h : ∀ y, D' y → D y) :
    (held (c : Thread nD τ) arg6 G D : sProp 𝕄) ⊢ held (c : Thread nD τ) arg6 G D' := by
  unfold held
  iintro ⟨%f, %hf, H⟩
  iexists f
  isplitr
  · ipureintro
    exact fun y hy => hf y (h y hy)
  iexact H

/-- The rows done after a trip are those done before it and the trip's strips. -/
theorem trip_cover (k : Fin k0_t1_loop.trips) (y : S128x7x7x256.Idx) (hy : (y 0).val < 16 * (k.val + 1)) :
    (y 0).val < 16 * k.val ∨ ∃ u ∈ regions, ∃ ii ∈ strips, y ∈ (stripRect k u ii).set := by
  by_cases h : (y 0).val < 16 * k.val
  · exact .inl h
  refine .inr ⟨visitOf y, ?_, y 1, ?_, ?_⟩
  · have : ∀ u : Fin 16, u ∈ regions := by decide
    exact this _
  · have : ∀ u : Fin 7, u ∈ strips := by decide
    exact this _
  rw [Rect.mem_set_unit]
  intro a
  have e := outOff_eq k (visitOf y) (y 1)
  have hv : (visitOf y).val = (y 0).val % 16 := rfl
  rw [e]
  have h2 : (y 2).val < 7 := (y 2).isLt
  have h3 : (y 3).val < 256 := (y 3).isLt
  match a with
  | ⟨0, _⟩ =>
    show 16 * k.val + (visitOf y).val ≤ (y 0).val ∧ (y 0).val < 16 * k.val + (visitOf y).val + 1
    omega
  | ⟨1, _⟩ =>
    show (y 1).val ≤ (y 1).val ∧ (y 1).val < (y 1).val + 1
    omega
  | ⟨2, _⟩ =>
    show 0 ≤ (y 2).val ∧ (y 2).val < 0 + 7
    omega
  | ⟨3, _⟩ =>
    show 0 ≤ (y 3).val ∧ (y 3).val < 0 + 256
    omega

/-- A trip adds its sixteen rows to the block. -/
theorem wp_trip {q2 q4 q5 : PosShare TreeShare} (f2 : Buf (Elt F) (arg2.view.loc (c : Thread nD τ)))
    (f4 : Buf (Elt F) (arg4.view.loc (c : Thread nD τ))) (f5 : Buf (Elt F) (arg5.view.loc (c : Thread nD τ)))
    {S2 : Finset (Idx (arg2.view.loc (c : Thread nD τ)))} (hS2 : arg2.view.set ⊆ S2) (hX : ∀ j, k0_chk1 (arg2.view.read (Elt F) f2 j)) (s : F .f32) (i : grid0.Coords) (k : Fin k0_t1_loop.trips) :
    (iprop((iprop((arg2.view.loc (c : Thread nD τ) ↦[S2]{q2} f2) ∗ (arg4.view.loc (c : Thread nD τ) ↦[arg4.view.set]{q4} f4)
        ∗ (arg5.view.loc (c : Thread nD τ) ↦[arg5.view.set]{q5} f5)))
        ∗ held (c : Thread nD τ) arg6 (GOf c arg2 arg4 arg5 f2 f4 f5 s i) (fun y => (y 0).val < 16 * k.val)) : sProp 𝕄)
      ⊢ WP (trip arg2 arg4 arg5 arg6 s i k) (fun _ => iprop((iprop((arg2.view.loc (c : Thread nD τ) ↦[S2]{q2} f2) ∗ (arg4.view.loc (c : Thread nD τ) ↦[arg4.view.set]{q4} f4)
        ∗ (arg5.view.loc (c : Thread nD τ) ↦[arg5.view.set]{q5} f5)))
        ∗ held (c : Thread nD τ) arg6 (GOf c arg2 arg4 arg5 f2 f4 f5 s i) (fun y => (y 0).val < 16 * (k.val + 1)))) := by
  unfold trip
  iintro ⟨HR, H6⟩
  iapply (wp_visit c _ (roiK arg2 arg4 arg5 s i k)
    (fun u => roiVal (arg4.view.read (Elt F) f4) (arg5.view.read (Elt F) f5) s (wordAt (arg2.view.read (Elt F) f2) i k u)) _
    (fun u K => wp_roiK c f2 f4 f5 hS2 hX s i k u) regions) $$ HR
  iintro HR
  rw [foldl_regions]
  iapply (wp_foldr c (held (c : Thread nD τ) arg6 (GOf c arg2 arg4 arg5 f2 f4 f5 s i)) _
    (fun u y => ∃ ii ∈ strips, y ∈ (stripRect k u ii).set) _
    (fun u D K => wp_foldr c (held (c : Thread nD τ) arg6 (GOf c arg2 arg4 arg5 f2 f4 f5 s i)) _
      (fun ii y => y ∈ (stripRect k u ii).set) _
      (fun ii D K => wp_put (c : Thread nD τ) _ D (blockVal_strip _ _ _ s i k u ii)) strips D K) regions _ _) $$ H6
  iintro H6
  rw [wp_ret]
  imodintro
  isplitl [HR]
  · iexact HR
  iapply (held_mono c (trip_cover k)) $$ H6

/-- The loop's invariant: after `k` trips the block's first `16 k` rows are done. -/
def inv {S2 : Finset (Idx (arg2.view.loc (c : Thread nD τ)))} (q2 q4 q5 : PosShare TreeShare) (f2 : Buf (Elt F) (arg2.view.loc (c : Thread nD τ)))
    (f4 : Buf (Elt F) (arg4.view.loc (c : Thread nD τ))) (f5 : Buf (Elt F) (arg5.view.loc (c : Thread nD τ))) (s : F .f32) (i : grid0.Coords)
    (arg6 : Memref sig .tc .vmem S128x7x7x256 .f32) (k : ℕ) : sProp 𝕄 :=
  iprop((iprop((arg2.view.loc (c : Thread nD τ) ↦[S2]{q2} f2) ∗ (arg4.view.loc (c : Thread nD τ) ↦[arg4.view.set]{q4} f4)
        ∗ (arg5.view.loc (c : Thread nD τ) ↦[arg5.view.set]{q5} f5)))
        ∗ held (c : Thread nD τ) arg6 (GOf c arg2 arg4 arg5 f2 f4 f5 s i) (fun y => (y 0).val < 16 * k))

/-- The one index of a one-element vector. -/
def idx1 : S1.Idx := fun a => match a with
  | ⟨0, _⟩ => (⟨0, by decide⟩ : Fin 1)

/-- The body: the scale read, then the eight trips. -/
theorem body_eq (i : grid0.Coords) (arg1 : Memref sig .tc .smem S12 .i32) (harg1 : arg1.IsWhole) (arg2 : Memref sig .tc .smem S1536 .i32) (harg2 : arg2.IsWhole)
    (arg3 : Memref sig .tc .smem S1 .f32) (harg3 : arg3.IsWhole) (arg4 : Memref sig .tc .smem S5120 .f32) (harg4 : arg4.IsWhole)
    (arg5 : Memref sig .tc .vmem S1x200x200x256 .bf16) (harg5 : arg5.IsWhole) (arg6 : Memref sig .tc .vmem S128x7x7x256 .f32) (harg6 : arg6.IsWhole) :
    cc0_body (F := F) i arg1 harg1 arg2 harg2 arg3 harg3 arg4 harg4 arg5 harg5 arg6 harg6
      = smemLoadElt arg3 (Rect.unit (s := S1) ![0] S1.size inb_S1_S1_0) (View.loads_smem_one rfl numel1_S1)
          (Shape.Idx.first (numel1_S1.symm ▸ Nat.one_pos)) fun v0 =>
        (Scf.for k0_t1_loop.lb k0_t1_loop.ub k0_t1_loop.st k0_t1_ok () fun k _ => trip arg2 arg4 arg5 arg6 v0 i k) >>= fun _ => .ret ⟨⟩ := by
  have h : ∀ v0 : F .f32, k0_t1_body (F := F) i arg1 harg1 arg2 harg2 arg3 harg3 arg4 harg4 arg5 harg5 arg6 harg6 (BitVec.ofNat 32 (i 0).val) v0
      (Scalar.ofBits .f32 0x43480000#32) (Scalar.ofBits .f32 0x43480000#32) = fun k _ => trip arg2 arg4 arg5 arg6 v0 i k :=
    fun v0 => funext fun k => funext fun _ => t1_body_eq i arg1 harg1 arg2 harg2 arg3 harg3 arg4 harg4 arg5 harg5 arg6 harg6 v0 k
  have e : cc0_body_skel (F := F) i arg1 harg1 arg2 harg2 arg3 harg3 arg4 harg4 arg5 harg5 arg6 harg6
      = smemLoadElt arg3 (Rect.unit (s := S1) ![0] S1.size inb_S1_S1_0) (View.loads_smem_one rfl numel1_S1)
          (Shape.Idx.first (numel1_S1.symm ▸ Nat.one_pos)) fun v0 =>
        (Scf.for k0_t1_loop.lb k0_t1_loop.ub k0_t1_loop.st k0_t1_ok () (k0_t1_body (F := F) i arg1 harg1 arg2 harg2 arg3 harg3 arg4 harg4 arg5 harg5 arg6 harg6
          (BitVec.ofNat 32 (i 0).val) v0 (Scalar.ofBits .f32 0x43480000#32) (Scalar.ofBits .f32 0x43480000#32))) >>= fun _ => .ret ⟨⟩ := rfl
  rw [cc0_body_eq_skeleton, e]
  simp only [h]

/-- The body's run: from its buffers owned, to the block at the pooled results and everything else as it was. -/
theorem run (i : grid0.Coords) (arg1 : Memref sig .tc .smem S12 .i32) (harg1 : arg1.IsWhole) (arg2 : Memref sig .tc .smem S1536 .i32) (harg2 : arg2.IsWhole)
    (arg3 : Memref sig .tc .smem S1 .f32) (harg3 : arg3.IsWhole) (arg4 : Memref sig .tc .smem S5120 .f32) (harg4 : arg4.IsWhole)
    (arg5 : Memref sig .tc .vmem S1x200x200x256 .bf16) (harg5 : arg5.IsWhole) (arg6 : Memref sig .tc .vmem S128x7x7x256 .f32) (harg6 : arg6.IsWhole)
    {q2 : PosShare TreeShare} {S2 : Finset (Idx (arg2.view.loc (c : Thread nD τ)))} (hS2 : arg2.view.set ⊆ S2)
    (f2 : Buf (Elt F) (arg2.view.loc (c : Thread nD τ))) (hX : ∀ j, k0_chk1 (arg2.view.read (Elt F) f2 j))
    (X3 : S1.Idx → F .f32) (X4 : S5120.Idx → F .f32) (X5 : S1x200x200x256.Idx → F .bf16) (X6 : S128x7x7x256.Idx → F .f32) :
    (iprop((arg2.view.loc (c : Thread nD τ) ↦[S2]{q2} f2) ∗ owns (c : Thread nD τ) arg3 fullShare X3 ∗ owns (c : Thread nD τ) arg4 fullShare X4
        ∗ owns (c : Thread nD τ) arg5 fullShare X5 ∗ owns (c : Thread nD τ) arg6 fullShare X6) : sProp 𝕄)
      ⊢ WP (cc0_body (F := F) i arg1 harg1 arg2 harg2 arg3 harg3 arg4 harg4 arg5 harg5 arg6 harg6)
        (fun _ => iprop((arg2.view.loc (c : Thread nD τ) ↦[S2]{q2} f2) ∗ owns (c : Thread nD τ) arg3 fullShare X3 ∗ owns (c : Thread nD τ) arg4 fullShare X4
          ∗ owns (c : Thread nD τ) arg5 fullShare X5
          ∗ owns (c : Thread nD τ) arg6 fullShare (blockVal (arg2.view.read (Elt F) f2) X4 X5 (X3 idx1) i))) := by
  rw [body_eq]
  unfold owns
  iintro ⟨H2, ⟨%f3, %hf3, H3⟩, ⟨%f4, %hf4, H4⟩, ⟨%f5, %hf5, H5⟩, ⟨%f6, %hf6, H6⟩⟩
  subst hf3 hf4 hf5 hf6
  iapply (wp_word (c : Thread nD τ) (Finset.Subset.refl _) (arg3.view.read (Elt F) f3 idx1)
    (congrArg (arg3.view.read (Elt F) f3) (funext fun a => by match a with | ⟨0, _⟩ => exact Fin.ext rfl))) $$ H3
  iintro H3
  iapply (Scf.wp_for_bind Idealize.ShloMosaic.frame (wpE defs₀ Variants.none (c : Thread nD τ) none) Set.univ k0_t1_loop.lb k0_t1_loop.ub k0_t1_loop.st k0_t1_ok () _
    (fun k _ => inv c (S2 := S2) q2 fullShare fullShare f2 f4 f5 (arg3.view.read (Elt F) f3 idx1) i arg6 k)
    (fun k _ => wp_trip c f2 f4 f5 hS2 hX _ i k)) $$ [H2 H4 H5 H6]
  · unfold inv held
    isplitl [H2 H4 H5]
    · isplitl [H2]
      · iexact H2
      isplitl [H4]
      · iexact H4
      iexact H5
    iexists f6
    isplitr
    · ipureintro
      intro y hy
      exact absurd hy (Nat.not_lt_zero _)
    iexact H6
  iintro %acc HI
  unfold inv held
  icases HI with ⟨⟨H2, H4, H5⟩, ⟨%g, %hg, H6⟩⟩
  rw [wp_ret]
  imodintro
  isplitl [H2]
  · iexact H2
  isplitl [H3]
  · iexists f3
    isplitr
    · ipureintro; rfl
    iexact H3
  isplitl [H4]
  · iexists f4
    isplitr
    · ipureintro; rfl
    iexact H4
  isplitl [H5]
  · iexists f5
    isplitr
    · ipureintro; rfl
    iexact H5
  iexists g
  isplitr
  · ipureintro
    funext y
    have h : (y 0).val < 128 := (y 0).isLt
    exact hg y (by have : Scf.trips k0_t1_loop.lb k0_t1_loop.ub k0_t1_loop.st = 8 := trips_eq
                   rw [this]; exact h)
  iexact H6

end Cert.KernelIdeal.Roi

end
-- ==== Proof.PI.Launch.lean ====
/- The launch of the kernel: the host operations around the region, the region's windows and tables, the body at a
   point of the grid, and the run of the whole program. -/
module

public import proofs.«01_k».proof.Proof.PI.Body
public import proofs.«01_k».proof.Proof.Gen.KernelIdeal.Launch
public import Idealize.ShloMosaic.Lib.Pipeline.FrameBody
public import Idealize.ShloMosaic.Lib.Pipeline.FrameSuffix
public import Idealize.ShloMosaic.Lib.Ring
public import Idealize.ShloMosaic.Lib.Claim

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations around the region -/

/-- The host operations before the region, in their groups. -/
abbrev before : List (List (HloOp τ sig (Elt F))) :=
  [hostOps0, hostOps0_1, hostOps0_2, hostOps0_3, hostOps0_4, hostOps0_5, hostOps0_6, hostOps0_7, hostOps0_8, hostOps0_9]

/-- The buffers as the region finds them. -/
abbrev V0 (c : Dev nD) : Valuation τ sig (Elt F) := StableHlo.after (List.flatten before) (fun b => m (c, b))

/-- One of them. -/
abbrev V (c : Dev nD) (b : Ref sig .tc) : Buf (Elt F) ((c : Thread nD τ).loc b) := V0 m c (Proc.devRef .tc b)

/-- No operation of this group allocates. -/
theorem hostOps0_fresh : (hostOps0 : List (HloOp τ sig (Elt F))).Forall fun op => op.fresh = ∅ := by
  simp only [List.Forall]; repeat' constructor
/-- No operation of this group allocates. -/
theorem hostOps0_1_fresh : (hostOps0_1 : List (HloOp τ sig (Elt F))).Forall fun op => op.fresh = ∅ := by
  simp only [List.Forall]; repeat' constructor
/-- No operation of this group allocates. -/
theorem hostOps0_2_fresh : (hostOps0_2 : List (HloOp τ sig (Elt F))).Forall fun op => op.fresh = ∅ := by
  simp only [List.Forall]; repeat' constructor
/-- No operation of this group allocates. -/
theorem hostOps0_3_fresh : (hostOps0_3 : List (HloOp τ sig (Elt F))).Forall fun op => op.fresh = ∅ := by
  simp only [List.Forall]; repeat' constructor
/-- No operation of this group allocates. -/
theorem hostOps0_4_fresh : (hostOps0_4 : List (HloOp τ sig (Elt F))).Forall fun op => op.fresh = ∅ := by
  simp only [List.Forall]; repeat' constructor
/-- No operation of this group allocates. -/
theorem hostOps0_5_fresh : (hostOps0_5 : List (HloOp τ sig (Elt F))).Forall fun op => op.fresh = ∅ := by
  simp only [List.Forall]; repeat' constructor
/-- No operation of this group allocates. -/
theorem hostOps0_6_fresh : (hostOps0_6 : List (HloOp τ sig (Elt F))).Forall fun op => op.fresh = ∅ := by
  simp only [List.Forall]; repeat' constructor
/-- No operation of this group allocates. -/
theorem hostOps0_7_fresh : (hostOps0_7 : List (HloOp τ sig (Elt F))).Forall fun op => op.fresh = ∅ := by
  simp only [List.Forall]; repeat' constructor
/-- No operation of this group allocates. -/
theorem hostOps0_8_fresh : (hostOps0_8 : List (HloOp τ sig (Elt F))).Forall fun op => op.fresh = ∅ := by
  simp only [List.Forall]; repeat' constructor
/-- No operation of this group allocates. -/
theorem hostOps0_9_fresh : (hostOps0_9 : List (HloOp τ sig (Elt F))).Forall fun op => op.fresh = ∅ := by
  simp only [List.Forall]; repeat' constructor
/-- No operation of this group allocates. -/
theorem hostOps1_fresh : (hostOps1 : List (HloOp τ sig (Elt F))).Forall fun op => op.fresh = ∅ := by
  simp only [List.Forall]; repeat' constructor

set_option maxHeartbeats 4000000 in
/-- The program is the host operations, the region, and the host operations after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main before [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

set_option maxHeartbeats 4000000 in
/-- The operations after the region touch arrays of the region and buffers it leaves alone. -/
theorem sfx_sub : ∀ ops ∈ ([hostOps1] : List (List (HloOp τ sig (Elt F)))), ∀ op ∈ ops, op.bufs ⊆ Pipeline.tailRefs sig pre0 spec0 := by
  intro ops hops op hop
  obtain rfl := List.mem_singleton.mp hops
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl | rfl | rfl | rfl
  all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- They allocate nothing. -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop

set_option maxHeartbeats 4000000 in
/-- They write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  simp only [hostOps1, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- A buffer no host operation before the region writes is found as launched. -/
theorem V_keep (c : Dev nD) (b : Ref sig .tc) (h : (List.flatten (before (F := F))).Forall fun op => Proc.devRef .tc b ∉ op.writes) :
    V m c b = m ((c : Thread nD τ).loc b) :=
  StableHlo.after_of_forall_not_mem (b := Proc.devRef .tc b) _ _ (List.forall_iff_forall_mem.mp h)

set_option maxHeartbeats 4000000 in
/-- The arguments are not written before the region. -/
theorem keep_args : ∀ b ∈ [main_arg0, main_arg1, main_arg2], (List.flatten (before (F := F))).Forall fun op => Proc.devRef .tc b ∉ op.writes := by
  intro b hb
  simp only [List.mem_cons, List.mem_nil_iff, or_false] at hb
  rcases hb with rfl | rfl | rfl <;>
  (simp only [before, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide))

set_option maxHeartbeats 4000000 in
/-- Nor after it. -/
theorem keep_args' : ∀ b ∈ [main_arg0, main_arg1, main_arg2], (List.flatten [(hostOps1 : List (HloOp τ sig (Elt F)))]).Forall fun op => Proc.devRef .tc b ∉ op.writes := by
  intro b hb
  simp only [List.mem_cons, List.mem_nil_iff, or_false] at hb
  rcases hb with rfl | rfl | rfl <;>
  (simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide))

/-- No argument is an array of the region. -/
theorem arr_ne_args : ∀ b ∈ [main_arg0, main_arg1, main_arg2], ∀ w, Pipeline.arrRef spec0 w ≠ b := by decide

/-! ## The tables -/

/-- The tables' contents as the region finds them. -/
def tbl : pre0.Contents (Elt F) := fun j => V m (0 : Dev nD) (pre0.ref j)

/-- There is one device. -/
theorem V_pre (c : Dev nD) (j : Fin 2) : V m c (pre0.ref j) = tbl m j := by
  obtain rfl : c = 0 := Subsingleton.elim _ _; rfl

/-- What the region checks of the tables: every block's section is inside the features. -/
abbrev Ok : Prop := ok0 (F := F) (tbl m)

/-- The tables as contents the region admits. -/
abbrev adm (hO : Ok m) : (pcfg0 (F := F)).Adm := ⟨tbl m, hO⟩

/-- The pipeline at them. -/
abbrev cfgM (hO : Ok m) : Pipeline.Cfg sig Λ₀ := cfg0 (adm m hO)

/-- The sections' table as the body is handed it. -/
abbrev tbM0 : Memref sig .tc .smem S12 .i32 := Memref.whole main_v74
/-- The regions' table as the body is handed it. -/
abbrev tbM1 : Memref sig .tc .smem S1536 .i32 := Memref.whole main_v64

/-- The words the regions' table holds all name a row of the corners' table. -/
abbrev Words : Prop := ∀ j, k0_chk1 (tbM1.view.read (Elt F) (tbl m 1) j)

/-- A table's half. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

/-- The halves handed to the body, table by table. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- A window's block at a point. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The scale's block as a vector. -/
abbrev sblk (hO : Ok m) (c : Dev nD) (t : Fin (cfgM m hO).N) : S1.Idx → F .f32 := iblk m hO c 0 t
/-- The corners' block as a vector. -/
abbrev rblk (hO : Ok m) (c : Dev nD) (t : Fin (cfgM m hO).N) : S5120.Idx → F .f32 := iblk m hO c 1 t
/-- The image's block. -/
abbrev fblk (hO : Ok m) (c : Dev nD) (t : Fin (cfgM m hO).N) : S1x200x200x256.Idx → F .bf16 := iblk m hO c 2 t

/-- What the body leaves in its block at a point. -/
def oblk (hO : Ok m) (c : Dev nD) (t : Fin (cfgM m hO).N) : S128x7x7x256.Idx → F .f32 :=
  blockVal (tbM1.view.read (Elt F) (tbl m 1)) (rblk m hO c t) (fblk m hO c t) (sblk m hO c t idx1) (grid0.coords t)

/-- The region's data: the arrays as found; each input's buffer at its block, the result's at what the body leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => oblk m hO c t
  Φ _ := iprop(Pipeline.ΦA spec0 c ∗ Pipeline.ΦT pre0 (tbl m) c)
  q _ := fullShare
  owed _ := 0

/-- The arrays as the region finds them. -/
theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = oblk m hO c t := by dsimp only [dats]; try rfl

/-- An input's buffer holds its block at every point. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- An input's buffer holds its block at every point. -/
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- An input's buffer holds its block at every point. -/
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body at a point -/

/-- The staging buffers at a point. -/
abbrev ms0 (hO : Ok m) (t : Fin (cfgM m hO).N) : Memref sig .tc .smem S1 .f32 := spec0_0.stage ((cfgM m hO).slots t 0)
abbrev ms1 (hO : Ok m) (t : Fin (cfgM m hO).N) : Memref sig .tc .smem S5120 .f32 := spec0_1.stage ((cfgM m hO).slots t 1)
abbrev ms2 (hO : Ok m) (t : Fin (cfgM m hO).N) : Memref sig .tc .vmem S1x200x200x256 .bf16 := spec0_2.stage ((cfgM m hO).slots t 2)
abbrev ms3 (hO : Ok m) (t : Fin (cfgM m hO).N) : Memref sig .tc .vmem S128x7x7x256 .f32 := spec0_3.stage ((cfgM m hO).slots t 3)

/-- The body as the pipeline calls it at a point. -/
abbrev bodyAt (hO : Ok m) (t : Fin (cfgM m hO).N) : Prog (TpuEff nD τ sig (Elt F) Λ₀ .tc) PUnit :=
  cc0_body (grid0.coords t) tbM0 (Memref.isWhole_whole _) tbM1 (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))

/-- What the body is called with, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

/-- The body at a point meets its data. -/
theorem sound_body (hO : Ok m) (hX : Words m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2]
  rw [show (dats m hO 0 c).Φ t.succ = (dats m hO 0 c).Φ t.castSucc from rfl,
    show (dats m hO 0 c).owesAt () t.succ = (dats m hO 0 c).owesAt () t.castSucc from rfl,
    after_0, after_1, after_2, after_3]
  rw [show (dats m hO 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩⟩
  ihave HR := (run c (grid0.coords t) tbM0 (Memref.isWhole_whole _) tbM1 (Memref.isWhole_whole _) (ms0 m hO t) (hstage0_0 (((cfgM m hO).slots t 0).cast nbuf0_0))
    (ms1 m hO t) (hstage0_1 (((cfgM m hO).slots t 1).cast nbuf0_1)) (ms2 m hO t) (hstage0_2 (((cfgM m hO).slots t 2).cast nbuf0_2))
    (ms3 m hO t) (hstage0_3 (((cfgM m hO).slots t 3).cast nbuf0_3)) (Finset.subset_univ _) (tbl m 1) hX (sblk m hO c t) (rblk m hO c t) (fblk m hO c t)
    ((dats m hO 0 c).before 3 t d3)) $$ [HT1 H0 H1 H2 H3]
  · isplitl [HT1]; · iexact HT1
    isplitl [H0]; · iexact H0
    isplitl [H1]; · iexact H1
    isplitl [H2]; · iexact H2
    iexact H3
  iapply (wp_wand_r Idealize.ShloMosaic.frame (wpE (defs₀ (F := F)) Variants.none c none) Set.univ)
  isplitl [HR]
  · iexact HR
  iintro %u ⟨HT1, H0, H1, H2, H3⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  iexact H3

/-- The body table's row at a point is the body there. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body meets its data at every point. -/
theorem body_obligation (hO : Ok m) (hX : Words m) (c : Dev nD) :
    BodyObligation (dats (F := F) m hO 0 c) (defs₀ (F := F)) Variants.none () Set.univ := fun t => by
  rw [bigSep_W0, bigSep_W0, defs₀_row m hO]
  exact triple_restated (sound_body m hO hX c t) rfl .rfl fun _ => .rfl

/-! ## The run -/

set_option backward.isDefEq.respectTransparency.types false in
set_option maxHeartbeats 4000000 in
/-- The run: every array at what the region leaves, every other buffer at what the host operations leave, every counter zero. -/
theorem run_main (hO : Ok m) (hX : Words m) : θ_run defs (onTc (τ := τ) (main (F := F))) (s₀ m ρ)
    (fun r => Pipeline.FramePost (Pipeline.pin pcfgs fun _ => adm m hO) (dats m hO) 0
      (Pipeline.afterTail pcfgs (fun _ => adm m hO) (dats m hO) 0 (V0 m) [hostOps1]) r ∧ r.2.sem = fun _ => 0) :=
  Pipeline.θ_run_frameP_around (Q' := _) pcfgs (fun _ => adm m hO) (dats m hO) (0 : Fin 1) launch0 defs₀ Variants.none m ρ main
    (hbody := fun c => (body_obligation m hO hX c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- An argument ends as launched. -/
theorem tail_arg (hO : Ok m) (c : Dev nD) (b : Ref sig .tc) (hb : b ∈ [main_arg0, main_arg1, main_arg2]) :
    Pipeline.afterTail pcfgs (fun _ => adm m hO) (dats m hO) 0 (V0 m) [hostOps1] c b = m ((c : Thread nD τ).loc b) := by
  unfold Pipeline.afterTail
  rw [StableHlo.after_of_forall_not_mem (b := Proc.devRef .tc b) _ _ (List.forall_iff_forall_mem.mp (keep_args' b hb)),
    Pipeline.withArrays_of_ne _ c (V0 m c) _ b (arr_ne_args b hb)]
  exact V_keep m c b (keep_args b hb)

/-- The arguments are buffers the region leaves alone. -/
theorem args_rest : ∀ b ∈ [main_arg0, main_arg1, main_arg2], b ∈ Pipeline.restRefs sig spec0 := by decide

/-- The frame: from any memory whose tables are as the region needs them, the run ends with the arguments as launched and
    every counter zero. -/
theorem frame (hO : Ok m) (hX : Words m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => by
    have e : ∀ (c : Dev nD) (b : Ref sig .tc), b ∈ [main_arg0, main_arg1, main_arg2] →
        r.2.mem ((c.tc : Thread nD τ).loc b) = m ((c.tc : Thread nD τ).loc b) :=
      fun c b hb => ((h.1 c).2 b (args_rest b hb)).trans (tail_arg m hO c b hb)
    exact ⟨fun c => ⟨e c main_arg0 (by decide), e c main_arg1 (by decide), e c main_arg2 (by decide)⟩, h.2⟩) (run_main m ρ hO hX)

end Cert.KernelIdeal.Roi

end
-- ==== Proof.PI.Tables.lean ====
/- What the host operations before the region leave in the tables: each buffer as a function of the sections' words. -/
module

public import proofs.«01_k».proof.Proof.PI.Launch
public import Idealize.ShloMosaic.Lib.StableHlo.RunRead

@[expose] public section

set_option maxRecDepth 16384

noncomputable section

namespace Cert.KernelIdeal.Roi

open Cert.KernelIdeal Cert.KernelIdeal.Gen
open Idealize.ShloMosaic Idealize.ShloMosaic.TcCoe Idealize.ShloMosaic.StableHlo
open Idealize.SL.Sem

/-! ## The tables as functions of the sections' words -/

/-- A vector of index words as the indexing operations take it: a negative word counts from `n`. -/
def wrap (n : BitVec 32) (x : IVec S1024 32) : IVec S1024x1 32 :=
  broadcastInDim S1024x1 ![0] bcast_S1024_S1024x1_0
    (select (cmpi .slt x (broadcastInDim S1024 ![] bcast_S_S1024 (constantI S_ 32 0#32)))
      (addi x (broadcastInDim S1024 ![] bcast_S_S1024 (constantI S_ 32 n))) x)

/-- The order of the regions by section. -/
def ordW (b : IVec S1024 32) : IVec S1024 32 := (Host.sort2 S1024 0 comparator_i32_i32_d0 b (iotaInDim S1024 32 0)).2

/-- The sections in that order. -/
def srtW (b : IVec S1024 32) : IVec S1024 32 := Host.gather gather_S1024_S1024x1_S1024_n_0_n_n_0_1_1 b (wrap 1024#32 (ordW b))

/-- How many regions each section has. -/
def cntW (b : IVec S1024 32) : IVec S4 32 :=
  Host.scatter scatter_S4_S1024x1_S1024_n_0_0_1 IntOp.addi (broadcastInDim S4 ![] bcast_S_S4 (constantI S_ 32 0#32))
    (wrap 4#32 (maxsi (broadcastInDim S1024 ![] bcast_S_S1024 (constantI S_ 32 0#32)) b))
    (broadcastInDim S1024 ![] bcast_S_S1024 (constantI S_ 32 1#32))

/-- Four words divided by one, rounded down. -/
def divW (x : IVec S4 32) (k : IVec S_ 32) : IVec S4 32 :=
  select (andi (cmpi .ne (signi x) (broadcastInDim S4 ![] bcast_S_S4 (signi k)))
      (cmpi .ne (Host.remsi x (broadcastInDim S4 ![] bcast_S_S4 k)) (broadcastInDim S4 ![] bcast_S_S4 (constantI S_ 32 0#32))))
    (subi (Host.divsi x (broadcastInDim S4 ![] bcast_S_S4 k)) (broadcastInDim S4 ![] bcast_S_S4 (constantI S_ 32 1#32)))
    (Host.divsi x (broadcastInDim S4 ![] bcast_S_S4 k))

/-- How many blocks each section has. -/
def blkW (c : IVec S4 32) : IVec S4 32 :=
  divW (subi (addi c (broadcastInDim S4 ![] bcast_S_S4 (constantI S_ 32 128#32))) (broadcastInDim S4 ![] bcast_S_S4 (constantI S_ 32 1#32))) (constantI S_ 32 128#32)

/-- The running sums of four words. -/
def cumW (x : IVec S4 32) : IVec S4 32 :=
  Host.reduceWindow IntOp.addi ![4] ![1] ![3] ![0] x (broadcastInDim S_ ![] bcast_S_S_ (constantI S_ 32 0#32)) reduceWindows_S4_S4_w4s1p3_0 h_S_

/-- A word, then the first three of four. -/
def shiftV (z : IVec S1 32) (x : IVec S4 32) : IVec S4 32 :=
  concatenate S4 0 [⟨S1, z⟩, ⟨S3, extractStridedSlice S3 ![0] x slices_S4_S3_0⟩] concatenates_S1_S3_S4_d0

/-- The running sums moved one place up, from nought. -/
def shiftW (x : IVec S4 32) : IVec S4 32 := shiftV (broadcastInDim S1 ![] bcast_S_S1 (constantI S_ 32 0#32)) x

/-- Where each section starts among the slots. -/
def secW (c : IVec S4 32) : IVec S4 32 := muli (shiftW (cumW (blkW c))) (broadcastInDim S4 ![] bcast_S_S4 (constantI S_ 32 128#32))

/-- A region's slot from where its section starts, how many regions the sections before have, and its section. -/
def slotV (sec cc : IVec S4 32) (srt : IVec S1024 32) : IVec S1024 32 :=
  addi (Host.gather gather_S4_S1024x1_S1024_n_0_n_n_0_1_1 sec (wrap 4#32 srt))
    (subi (iotaInDim S1024 32 0) (Host.gather gather_S4_S1024x1_S1024_n_0_n_n_0_1_1 cc (wrap 4#32 srt)))

/-- The slot of each region, in the order by section. -/
def slotW (b : IVec S1024 32) : IVec S1024 32 := slotV (secW (cntW b)) (shiftW (cumW (cntW b))) (srtW b)

/-- The regions put at their slots, -1 elsewhere. -/
def idxV (slot ord : IVec S1024 32) : IVec S1536 32 :=
  Host.scatter scatter_S1536_S1024x1_S1024_n_0_0_1 (fun _ x => x) (broadcastInDim S1536 ![] bcast_S_S1536 (constantI S_ 32 4294967295#32))
    (wrap 1536#32 slot) ord

/-- The region each slot holds, or -1. -/
def idxW (b : IVec S1024 32) : IVec S1536 32 := idxV (slotW b) (ordW b)

/-- The section of each block from the running sums of the blocks. -/
def secOfV (cum : IVec S4 32) : IVec S12 32 :=
  minsi (Host.reduce IntOp.addi
      (extui 32 (cmpi .sle (broadcastInDim S12x4 ![0, 1] bcast_S1x4_S12x4_0_1 (broadcastInDim S1x4 ![1] bcast_S4_S1x4_1 cum))
        (broadcastInDim S12x4 ![0, 1] bcast_S12x1_S12x4_0_1 (broadcastInDim S12x1 ![0] bcast_S12_S12x1_0 (iotaInDim S12 32 0)))) natLt_1_32)
      (constantI S_ 32 0#32) reducesTo_S12x4_S12_d1 h_S_)
    (broadcastInDim S12 ![] bcast_S_S12 (constantI S_ 32 3#32))

/-- The section of each block. -/
def secOfW (b : IVec S1024 32) : IVec S12 32 := secOfV (cumW (blkW (cntW b)))

/-- The slots put at their regions. -/
def slotOfV (ord slot : IVec S1024 32) : IVec S1024 32 :=
  Host.scatter scatter_S1024_S1024x1_S1024_n_0_0_1 (fun _ x => x) (broadcastInDim S1024 ![] bcast_S_S1024 (constantI S_ 32 0#32))
    (wrap 1024#32 ord) slot

/-- The slot of each region. -/
def slotOfW (b : IVec S1024 32) : IVec S1024 32 := slotOfV (ordW b) (slotW b)

variable {F : FTy → Type} [FloatOps F] [Named F]

/-- The sections' words: the first column of the regions, truncated. -/
def secs (rois : FVec F S1024x5 .f32) : IVec S1024 32 :=
  fptosi 32 (shapeCast S1024 (extractStridedSlice S1024x1 ![0, 0] rois slices_S1024x5_S1024x1_0_0) shapeCasts_S1024x1_S1024)

/-! ## The reads -/

variable (U : Valuation τ sig (Elt F))

/-- The buffers after group 0. -/
def st0 : Valuation τ sig (Elt F) := after (hostOps0 (F := F)) U
/-- The buffers after group 1. -/
def st1 : Valuation τ sig (Elt F) := after (hostOps0_1 (F := F)) U
/-- The buffers after group 2. -/
def st2 : Valuation τ sig (Elt F) := after (hostOps0_2 (F := F)) U
/-- The buffers after group 3. -/
def st3 : Valuation τ sig (Elt F) := after (hostOps0_3 (F := F)) U
/-- The buffers after group 4. -/
def st4 : Valuation τ sig (Elt F) := after (hostOps0_4 (F := F)) U
/-- The buffers after group 5. -/
def st5 : Valuation τ sig (Elt F) := after (hostOps0_5 (F := F)) U
/-- The buffers after group 6. -/
def st6 : Valuation τ sig (Elt F) := after (hostOps0_6 (F := F)) U
/-- The buffers after group 7. -/
def st7 : Valuation τ sig (Elt F) := after (hostOps0_7 (F := F)) U
/-- The buffers after group 8. -/
def st8 : Valuation τ sig (Elt F) := after (hostOps0_8 (F := F)) U
/-- The buffers after group 9. -/
def st9 : Valuation τ sig (Elt F) := after (hostOps0_9 (F := F)) U

/-- The host operations before the region, group after group. -/
theorem before_eq : after (List.flatten (before (F := F))) U
    = st9 (st8 (st7 (st6 (st5 (st4 (st3 (st2 (st1 (st0 U))))))))) := by
  simp only [before, List.flatten_cons, List.flatten_nil, List.append_nil, after_append]
  rfl

set_option maxHeartbeats 1000000 in
theorem st0_v6 : st0 U (no_index (Proc.devRef .tc main_v6)) = secs (U (Proc.devRef .tc main_arg1)) := by
  unfold st0; after_reads_simp; try rfl
set_option maxHeartbeats 1000000 in
theorem st0_v1 : st0 U (no_index (Proc.devRef .tc main_v1)) = truncf .bf16 (transpose S4x200x200x256 [0, 2, 3, 1] (U (Proc.devRef .tc main_arg0) : FVec F S4x256x200x200 .f32) transposes_S4x256x200x200_S4x200x200x256_0_2_3_1) bitsLt_bf16_f32 := by
  unfold st0; after_reads_simp; try rfl
set_option maxHeartbeats 1000000 in
theorem st0_v2 : st0 U (no_index (Proc.devRef .tc main_v2)) = shapeCast S5120 (U (Proc.devRef .tc main_arg1) : FVec F S1024x5 .f32) shapeCasts_S1024x5_S5120 := by
  unfold st0; after_reads_simp; try rfl
set_option maxHeartbeats 1000000 in
theorem st0_v3 : st0 U (no_index (Proc.devRef .tc main_v3)) = shapeCast S1 (U (Proc.devRef .tc main_arg2) : FVec F S_ .f32) shapeCasts_S_S1 := by
  unfold st0; after_reads_simp; try rfl
theorem st1_v6 : st1 U (no_index (Proc.devRef .tc main_v6)) = U (Proc.devRef .tc main_v6) := by
  unfold st1; after_reads_simp
theorem st1_v1 : st1 U (no_index (Proc.devRef .tc main_v1)) = U (Proc.devRef .tc main_v1) := by
  unfold st1; after_reads_simp
theorem st1_v2 : st1 U (no_index (Proc.devRef .tc main_v2)) = U (Proc.devRef .tc main_v2) := by
  unfold st1; after_reads_simp
theorem st1_v3 : st1 U (no_index (Proc.devRef .tc main_v3)) = U (Proc.devRef .tc main_v3) := by
  unfold st1; after_reads_simp
set_option maxHeartbeats 1000000 in
theorem st1_v7 : st1 U (no_index (Proc.devRef .tc main_v7)) = ordW (U (Proc.devRef .tc main_v6)) := by
  unfold st1; after_reads_simp; try rfl
theorem st2_v6 : st2 U (no_index (Proc.devRef .tc main_v6)) = U (Proc.devRef .tc main_v6) := by
  unfold st2; after_reads_simp
theorem st2_v7 : st2 U (no_index (Proc.devRef .tc main_v7)) = U (Proc.devRef .tc main_v7) := by
  unfold st2; after_reads_simp
theorem st2_v1 : st2 U (no_index (Proc.devRef .tc main_v1)) = U (Proc.devRef .tc main_v1) := by
  unfold st2; after_reads_simp
theorem st2_v2 : st2 U (no_index (Proc.devRef .tc main_v2)) = U (Proc.devRef .tc main_v2) := by
  unfold st2; after_reads_simp
theorem st2_v3 : st2 U (no_index (Proc.devRef .tc main_v3)) = U (Proc.devRef .tc main_v3) := by
  unfold st2; after_reads_simp
set_option maxHeartbeats 1000000 in
theorem st2_v14 : st2 U (no_index (Proc.devRef .tc main_v14)) = Host.gather gather_S1024_S1024x1_S1024_n_0_n_n_0_1_1 (U (Proc.devRef .tc main_v6) : IVec S1024 32) (wrap 1024#32 (U (Proc.devRef .tc main_v7))) := by
  unfold st2; after_reads_simp; try rfl
set_option maxHeartbeats 1000000 in
theorem st2_v15 : st2 U (no_index (Proc.devRef .tc main_v15)) = (broadcastInDim S4 ![] bcast_S_S4 (constantI S_ 32 0#32) : IVec S4 32) := by
  unfold st2; after_reads_simp; try rfl
set_option maxHeartbeats 1000000 in
theorem st2_c_2 : st2 U (no_index (Proc.devRef .tc main_c_2)) = constantI S_ 32 0#32 := by
  unfold st2; after_reads_simp; try rfl
theorem st3_v7 : st3 U (no_index (Proc.devRef .tc main_v7)) = U (Proc.devRef .tc main_v7) := by
  unfold st3; after_reads_simp
theorem st3_v14 : st3 U (no_index (Proc.devRef .tc main_v14)) = U (Proc.devRef .tc main_v14) := by
  unfold st3; after_reads_simp
theorem st3_v15 : st3 U (no_index (Proc.devRef .tc main_v15)) = U (Proc.devRef .tc main_v15) := by
  unfold st3; after_reads_simp
theorem st3_v1 : st3 U (no_index (Proc.devRef .tc main_v1)) = U (Proc.devRef .tc main_v1) := by
  unfold st3; after_reads_simp
theorem st3_v2 : st3 U (no_index (Proc.devRef .tc main_v2)) = U (Proc.devRef .tc main_v2) := by
  unfold st3; after_reads_simp
theorem st3_v3 : st3 U (no_index (Proc.devRef .tc main_v3)) = U (Proc.devRef .tc main_v3) := by
  unfold st3; after_reads_simp
set_option maxHeartbeats 1000000 in
theorem st3_v16 : st3 U (no_index (Proc.devRef .tc main_v16)) = maxsi (broadcastInDim S1024 ![] bcast_S_S1024 (U (Proc.devRef .tc main_c_2) : IVec S_ 32)) (U (Proc.devRef .tc main_v6) : IVec S1024 32) := by
  unfold st3; after_reads_simp; try rfl
theorem st4_v7 : st4 U (no_index (Proc.devRef .tc main_v7)) = U (Proc.devRef .tc main_v7) := by
  unfold st4; after_reads_simp
theorem st4_v14 : st4 U (no_index (Proc.devRef .tc main_v14)) = U (Proc.devRef .tc main_v14) := by
  unfold st4; after_reads_simp
theorem st4_v1 : st4 U (no_index (Proc.devRef .tc main_v1)) = U (Proc.devRef .tc main_v1) := by
  unfold st4; after_reads_simp
theorem st4_v2 : st4 U (no_index (Proc.devRef .tc main_v2)) = U (Proc.devRef .tc main_v2) := by
  unfold st4; after_reads_simp
theorem st4_v3 : st4 U (no_index (Proc.devRef .tc main_v3)) = U (Proc.devRef .tc main_v3) := by
  unfold st4; after_reads_simp
set_option maxHeartbeats 1000000 in
theorem st4_v24 : st4 U (no_index (Proc.devRef .tc main_v24)) = (Host.scatter scatter_S4_S1024x1_S1024_n_0_0_1 IntOp.addi (U (Proc.devRef .tc main_v15) : IVec S4 32) (wrap 4#32 (U (Proc.devRef .tc main_v16))) (broadcastInDim S1024 ![] bcast_S_S1024 (constantI S_ 32 1#32))) := by
  unfold st4; after_reads_simp; try rfl
set_option maxHeartbeats 1000000 in
theorem st4_v28 : st4 U (no_index (Proc.devRef .tc main_v28)) = subi (addi (Host.scatter scatter_S4_S1024x1_S1024_n_0_0_1 IntOp.addi (U (Proc.devRef .tc main_v15) : IVec S4 32) (wrap 4#32 (U (Proc.devRef .tc main_v16))) (broadcastInDim S1024 ![] bcast_S_S1024 (constantI S_ 32 1#32))) (broadcastInDim S4 ![] bcast_S_S4 (constantI S_ 32 128#32))) (broadcastInDim S4 ![] bcast_S_S4 (constantI S_ 32 1#32)) := by
  unfold st4; after_reads_simp; try rfl
set_option maxHeartbeats 1000000 in
theorem st4_c_8 : st4 U (no_index (Proc.devRef .tc main_c_8)) = constantI S_ 32 128#32 := by
  unfold st4; after_reads_simp; try rfl
theorem st5_v7 : st5 U (no_index (Proc.devRef .tc main_v7)) = U (Proc.devRef .tc main_v7) := by
  unfold st5; after_reads_simp
theorem st5_v14 : st5 U (no_index (Proc.devRef .tc main_v14)) = U (Proc.devRef .tc main_v14) := by
  unfold st5; after_reads_simp
theorem st5_v24 : st5 U (no_index (Proc.devRef .tc main_v24)) = U (Proc.devRef .tc main_v24) := by
  unfold st5; after_reads_simp
theorem st5_v1 : st5 U (no_index (Proc.devRef .tc main_v1)) = U (Proc.devRef .tc main_v1) := by
  unfold st5; after_reads_simp
theorem st5_v2 : st5 U (no_index (Proc.devRef .tc main_v2)) = U (Proc.devRef .tc main_v2) := by
  unfold st5; after_reads_simp
theorem st5_v3 : st5 U (no_index (Proc.devRef .tc main_v3)) = U (Proc.devRef .tc main_v3) := by
  unfold st5; after_reads_simp
set_option maxHeartbeats 1000000 in
theorem st5_v29 : st5 U (no_index (Proc.devRef .tc main_v29)) = divW (U (Proc.devRef .tc main_v28)) (U (Proc.devRef .tc main_c_8)) := by
  unfold st5; after_reads_simp; try rfl
theorem st6_v7 : st6 U (no_index (Proc.devRef .tc main_v7)) = U (Proc.devRef .tc main_v7) := by
  unfold st6; after_reads_simp
theorem st6_v14 : st6 U (no_index (Proc.devRef .tc main_v14)) = U (Proc.devRef .tc main_v14) := by
  unfold st6; after_reads_simp
theorem st6_v24 : st6 U (no_index (Proc.devRef .tc main_v24)) = U (Proc.devRef .tc main_v24) := by
  unfold st6; after_reads_simp
theorem st6_v1 : st6 U (no_index (Proc.devRef .tc main_v1)) = U (Proc.devRef .tc main_v1) := by
  unfold st6; after_reads_simp
theorem st6_v2 : st6 U (no_index (Proc.devRef .tc main_v2)) = U (Proc.devRef .tc main_v2) := by
  unfold st6; after_reads_simp
theorem st6_v3 : st6 U (no_index (Proc.devRef .tc main_v3)) = U (Proc.devRef .tc main_v3) := by
  unfold st6; after_reads_simp
set_option maxHeartbeats 1000000 in
theorem st6_v30 : st6 U (no_index (Proc.devRef .tc main_v30)) = cumW (U (Proc.devRef .tc main_v29)) := by
  unfold st6; after_reads_simp; try rfl
theorem st7_v7 : st7 U (no_index (Proc.devRef .tc main_v7)) = U (Proc.devRef .tc main_v7) := by
  unfold st7; after_reads_simp
theorem st7_v14 : st7 U (no_index (Proc.devRef .tc main_v14)) = U (Proc.devRef .tc main_v14) := by
  unfold st7; after_reads_simp
theorem st7_v24 : st7 U (no_index (Proc.devRef .tc main_v24)) = U (Proc.devRef .tc main_v24) := by
  unfold st7; after_reads_simp
theorem st7_v30 : st7 U (no_index (Proc.devRef .tc main_v30)) = U (Proc.devRef .tc main_v30) := by
  unfold st7; after_reads_simp
theorem st7_v1 : st7 U (no_index (Proc.devRef .tc main_v1)) = U (Proc.devRef .tc main_v1) := by
  unfold st7; after_reads_simp
theorem st7_v2 : st7 U (no_index (Proc.devRef .tc main_v2)) = U (Proc.devRef .tc main_v2) := by
  unfold st7; after_reads_simp
theorem st7_v3 : st7 U (no_index (Proc.devRef .tc main_v3)) = U (Proc.devRef .tc main_v3) := by
  unfold st7; after_reads_simp
set_option maxHeartbeats 1000000 in
theorem st7_v35 : st7 U (no_index (Proc.devRef .tc main_v35)) = muli (shiftW (U (Proc.devRef .tc main_v30))) (broadcastInDim S4 ![] bcast_S_S4 (constantI S_ 32 128#32)) := by
  unfold st7; after_reads_simp; try rfl
set_option maxHeartbeats 1000000 in
theorem st7_v36 : st7 U (no_index (Proc.devRef .tc main_v36)) = (broadcastInDim S1 ![] bcast_S_S1 (constantI S_ 32 0#32) : IVec S1 32) := by
  unfold st7; after_reads_simp; try rfl
theorem st8_v7 : st8 U (no_index (Proc.devRef .tc main_v7)) = U (Proc.devRef .tc main_v7) := by
  unfold st8; after_reads_simp
theorem st8_v14 : st8 U (no_index (Proc.devRef .tc main_v14)) = U (Proc.devRef .tc main_v14) := by
  unfold st8; after_reads_simp
theorem st8_v30 : st8 U (no_index (Proc.devRef .tc main_v30)) = U (Proc.devRef .tc main_v30) := by
  unfold st8; after_reads_simp
theorem st8_v35 : st8 U (no_index (Proc.devRef .tc main_v35)) = U (Proc.devRef .tc main_v35) := by
  unfold st8; after_reads_simp
theorem st8_v36 : st8 U (no_index (Proc.devRef .tc main_v36)) = U (Proc.devRef .tc main_v36) := by
  unfold st8; after_reads_simp
theorem st8_v1 : st8 U (no_index (Proc.devRef .tc main_v1)) = U (Proc.devRef .tc main_v1) := by
  unfold st8; after_reads_simp
theorem st8_v2 : st8 U (no_index (Proc.devRef .tc main_v2)) = U (Proc.devRef .tc main_v2) := by
  unfold st8; after_reads_simp
theorem st8_v3 : st8 U (no_index (Proc.devRef .tc main_v3)) = U (Proc.devRef .tc main_v3) := by
  unfold st8; after_reads_simp
set_option maxHeartbeats 1000000 in
theorem st8_v37 : st8 U (no_index (Proc.devRef .tc main_v37)) = cumW (U (Proc.devRef .tc main_v24)) := by
  unfold st8; after_reads_simp; try rfl
theorem st9_v1 : st9 U (no_index (Proc.devRef .tc main_v1)) = U (Proc.devRef .tc main_v1) := by
  unfold st9; after_reads_simp
theorem st9_v2 : st9 U (no_index (Proc.devRef .tc main_v2)) = U (Proc.devRef .tc main_v2) := by
  unfold st9; after_reads_simp
theorem st9_v3 : st9 U (no_index (Proc.devRef .tc main_v3)) = U (Proc.devRef .tc main_v3) := by
  unfold st9; after_reads_simp
set_option maxHeartbeats 1000000 in
theorem st9_v64 : st9 U (no_index (Proc.devRef .tc main_v64)) = idxV (slotV (U (Proc.devRef .tc main_v35)) (shiftV (U (Proc.devRef .tc main_v36)) (U (Proc.devRef .tc main_v37))) (U (Proc.devRef .tc main_v14))) (U (Proc.devRef .tc main_v7)) := by
  unfold st9; after_reads_simp; try rfl
set_option maxHeartbeats 1000000 in
theorem st9_v74 : st9 U (no_index (Proc.devRef .tc main_v74)) = secOfV (U (Proc.devRef .tc main_v30)) := by
  unfold st9; after_reads_simp; try rfl
set_option maxHeartbeats 1000000 in
theorem st9_v82 : st9 U (no_index (Proc.devRef .tc main_v82)) = slotOfV (U (Proc.devRef .tc main_v7)) (slotV (U (Proc.devRef .tc main_v35)) (shiftV (U (Proc.devRef .tc main_v36)) (U (Proc.devRef .tc main_v37))) (U (Proc.devRef .tc main_v14))) := by
  unfold st9; after_reads_simp; try rfl

theorem read_v64 : after (List.flatten (before (F := F))) U (Proc.devRef .tc main_v64) = idxW (secs (U (Proc.devRef .tc main_arg1))) := by
  rw [before_eq]
  simp only [st0_v6, st0_v1, st0_v2, st0_v3, st1_v6, st1_v1, st1_v2, st1_v3, st1_v7, st2_v6, st2_v7, st2_v1, st2_v2, st2_v3, st2_v14, st2_v15, st2_c_2, st3_v7, st3_v14, st3_v15, st3_v1, st3_v2, st3_v3, st3_v16, st4_v7, st4_v14, st4_v1, st4_v2, st4_v3, st4_v24, st4_v28, st4_c_8, st5_v7, st5_v14, st5_v24, st5_v1, st5_v2, st5_v3, st5_v29, st6_v7, st6_v14, st6_v24, st6_v1, st6_v2, st6_v3, st6_v30, st7_v7, st7_v14, st7_v24, st7_v30, st7_v1, st7_v2, st7_v3, st7_v35, st7_v36, st8_v7, st8_v14, st8_v30, st8_v35, st8_v36, st8_v1, st8_v2, st8_v3, st8_v37, st9_v1, st9_v2, st9_v3, st9_v64, st9_v74, st9_v82]
  try rfl

theorem read_v74 : after (List.flatten (before (F := F))) U (Proc.devRef .tc main_v74) = secOfW (secs (U (Proc.devRef .tc main_arg1))) := by
  rw [before_eq]
  simp only [st0_v6, st0_v1, st0_v2, st0_v3, st1_v6, st1_v1, st1_v2, st1_v3, st1_v7, st2_v6, st2_v7, st2_v1, st2_v2, st2_v3, st2_v14, st2_v15, st2_c_2, st3_v7, st3_v14, st3_v15, st3_v1, st3_v2, st3_v3, st3_v16, st4_v7, st4_v14, st4_v1, st4_v2, st4_v3, st4_v24, st4_v28, st4_c_8, st5_v7, st5_v14, st5_v24, st5_v1, st5_v2, st5_v3, st5_v29, st6_v7, st6_v14, st6_v24, st6_v1, st6_v2, st6_v3, st6_v30, st7_v7, st7_v14, st7_v24, st7_v30, st7_v1, st7_v2, st7_v3, st7_v35, st7_v36, st8_v7, st8_v14, st8_v30, st8_v35, st8_v36, st8_v1, st8_v2, st8_v3, st8_v37, st9_v1, st9_v2, st9_v3, st9_v64, st9_v74, st9_v82]
  try rfl

theorem read_v82 : after (List.flatten (before (F := F))) U (Proc.devRef .tc main_v82) = slotOfW (secs (U (Proc.devRef .tc main_arg1))) := by
  rw [before_eq]
  simp only [st0_v6, st0_v1, st0_v2, st0_v3, st1_v6, st1_v1, st1_v2, st1_v3, st1_v7, st2_v6, st2_v7, st2_v1, st2_v2, st2_v3, st2_v14, st2_v15, st2_c_2, st3_v7, st3_v14, st3_v15, st3_v1, st3_v2, st3_v3, st3_v16, st4_v7, st4_v14, st4_v1, st4_v2, st4_v3, st4_v24, st4_v28, st4_c_8, st5_v7, st5_v14, st5_v24, st5_v1, st5_v2, st5_v3, st5_v29, st6_v7, st6_v14, st6_v24, st6_v1, st6_v2, st6_v3, st6_v30, st7_v7, st7_v14, st7_v24, st7_v30, st7_v1, st7_v2, st7_v3, st7_v35, st7_v36, st8_v7, st8_v14, st8_v30, st8_v35, st8_v36, st8_v1, st8_v2, st8_v3, st8_v37, st9_v1, st9_v2, st9_v3, st9_v64, st9_v74, st9_v82]
  try rfl

theorem read_v1 : after (List.flatten (before (F := F))) U (Proc.devRef .tc main_v1) = truncf .bf16 (transpose S4x200x200x256 [0, 2, 3, 1] (U (Proc.devRef .tc main_arg0) : FVec F S4x256x200x200 .f32) transposes_S4x256x200x200_S4x200x200x256_0_2_3_1) bitsLt_bf16_f32 := by
  rw [before_eq]
  simp only [st0_v6, st0_v1, st0_v2, st0_v3, st1_v6, st1_v1, st1_v2, st1_v3, st1_v7, st2_v6, st2_v7, st2_v1, st2_v2, st2_v3, st2_v14, st2_v15, st2_c_2, st3_v7, st3_v14, st3_v15, st3_v1, st3_v2, st3_v3, st3_v16, st4_v7, st4_v14, st4_v1, st4_v2, st4_v3, st4_v24, st4_v28, st4_c_8, st5_v7, st5_v14, st5_v24, st5_v1, st5_v2, st5_v3, st5_v29, st6_v7, st6_v14, st6_v24, st6_v1, st6_v2, st6_v3, st6_v30, st7_v7, st7_v14, st7_v24, st7_v30, st7_v1, st7_v2, st7_v3, st7_v35, st7_v36, st8_v7, st8_v14, st8_v30, st8_v35, st8_v36, st8_v1, st8_v2, st8_v3, st8_v37, st9_v1, st9_v2, st9_v3, st9_v64, st9_v74, st9_v82]
  try rfl

theorem read_v2 : after (List.flatten (before (F := F))) U (Proc.devRef .tc main_v2) = shapeCast S5120 (U (Proc.devRef .tc main_arg1) : FVec F S1024x5 .f32) shapeCasts_S1024x5_S5120 := by
  rw [before_eq]
  simp only [st0_v6, st0_v1, st0_v2, st0_v3, st1_v6, st1_v1, st1_v2, st1_v3, st1_v7, st2_v6, st2_v7, st2_v1, st2_v2, st2_v3, st2_v14, st2_v15, st2_c_2, st3_v7, st3_v14, st3_v15, st3_v1, st3_v2, st3_v3, st3_v16, st4_v7, st4_v14, st4_v1, st4_v2, st4_v3, st4_v24, st4_v28, st4_c_8, st5_v7, st5_v14, st5_v24, st5_v1, st5_v2, st5_v3, st5_v29, st6_v7, st6_v14, st6_v24, st6_v1, st6_v2, st6_v3, st6_v30, st7_v7, st7_v14, st7_v24, st7_v30, st7_v1, st7_v2, st7_v3, st7_v35, st7_v36, st8_v7, st8_v14, st8_v30, st8_v35, st8_v36, st8_v1, st8_v2, st8_v3, st8_v37, st9_v1, st9_v2, st9_v3, st9_v64, st9_v74, st9_v82]
  try rfl

theorem read_v3 : after (List.flatten (before (F := F))) U (Proc.devRef .tc main_v3) = shapeCast S1 (U (Proc.devRef .tc main_arg2) : FVec F S_ .f32) shapeCasts_S_S1 := by
  rw [before_eq]
  simp only [st0_v6, st0_v1, st0_v2, st0_v3, st1_v6, st1_v1, st1_v2, st1_v3, st1_v7, st2_v6, st2_v7, st2_v1, st2_v2, st2_v3, st2_v14, st2_v15, st2_c_2, st3_v7, st3_v14, st3_v15, st3_v1, st3_v2, st3_v3, st3_v16, st4_v7, st4_v14, st4_v1, st4_v2, st4_v3, st4_v24, st4_v28, st4_c_8, st5_v7, st5_v14, st5_v24, st5_v1, st5_v2, st5_v3, st5_v29, st6_v7, st6_v14, st6_v24, st6_v1, st6_v2, st6_v3, st6_v30, st7_v7, st7_v14, st7_v24, st7_v30, st7_v1, st7_v2, st7_v3, st7_v35, st7_v36, st8_v7, st8_v14, st8_v30, st8_v35, st8_v36, st8_v1, st8_v2, st8_v3, st8_v37, st9_v1, st9_v2, st9_v3, st9_v64, st9_v74, st9_v82]
  try rfl

end Cert.KernelIdeal.Roi
end
-- ==== Proof.PI.Words.lean ====
/- What the tables' words are: every section is one of the four, every slot names a region or none. -/
module

public import proofs.«01_k».proof.Proof.PI.Tables
public import Idealize.ShloMosaic.Lib.Routing.Ops
public import Idealize.ShloMosaic.Lib.Routing.OpsOrder
public import Idealize.ShloMosaic.Lib.Routing.OpsSet
public import Idealize.ShloMosaic.Lib.Routing.OpsPair
public import Idealize.ShloMosaic.Lib.SortFacts

@[expose] public section

set_option maxRecDepth 16384

noncomputable section

namespace Cert.KernelIdeal.Roi

open Cert.KernelIdeal Cert.KernelIdeal.Gen
open Idealize.ShloMosaic Idealize.ShloMosaic.TcCoe Idealize.ShloMosaic.StableHlo
open Idealize.ShloMosaic.Routing
open Idealize.ShloMosaic.ValueIdx (ix1 ix2)
open Idealize.SL.Sem

/-- A vector's index is its one coordinate. -/
theorem eq_ix1 {n : Nat} (j : (⟨1, ![n]⟩ : Shape).Idx) : j = ix1 (j 0) := by
  funext a
  match a with
  | ⟨0, _⟩ => rfl

/-- The permutation the sort by section makes. -/
def perm (b : IVec S1024 32) : Fin 1024 → Fin 1024 :=
  sortedFrom fun k k' => IntOp.cmpi .slt (b (ix1 k)) (b (ix1 k')) == 1#1

/-- A vector's index with its coordinate replaced. -/
theorem along_ix1 {n : Nat} (j : (⟨1, ![n]⟩ : Shape).Idx) (k : Fin n) : j.along (0 : Fin 1) k = ix1 k :=
  (Shape.Idx.along_rank1 j k).trans (eq_ix1 _)

/-- The order holds at each place the region the permutation names. -/
theorem ordW_eq (b : IVec S1024 32) (j : Fin 1024) : ordW b (ix1 j) = BitVec.ofNat 32 (perm b j).val := by
  unfold ordW Host.sort2
  rw [dif_pos (show 0 < S1024.rank by decide)]
  dsimp only
  have key : ∀ A : Fin 1024 → S1024.Idx, A = (fun k => ix1 k) →
      BitVec.ofNat 32 ((A (sortedFrom (fun k k' => IntOp.cmpi .slt (b (A k)) (b (A k')) == 1#1) j)) 0).val = BitVec.ofNat 32 (perm b j).val := by
    rintro _ rfl; rfl
  exact key (fun k => (ix1 j : S1024.Idx).along (0 : Fin 1) k) (funext fun k => along_ix1 _ k)

/-- The words of the order are below 1024. -/
theorem ordW_lt (b : IVec S1024 32) (j : S1024.Idx) : ∃ k : Fin 1024, ordW b j = BitVec.ofNat 32 k.val :=
  ⟨perm b (j 0), by rw [eq_ix1 j]; exact ordW_eq b (j 0)⟩

/-- Where a region's corner is read. -/
theorem off3_eq (k : Fin 1024) (r : Fin 4) : k0_off3 (BitVec.ofNat 32 k.val) (BitVec.ofNat 32 (1 + r.val)) 0 = 5 * k.val + 1 + r.val := by
  have hk := k.isLt
  have hr := r.isLt
  have h1 : Scalar.maxsi (BitVec.ofNat 32 k.val) 0#32 = BitVec.ofNat 32 k.val := by
    apply BitVec.eq_of_toInt_eq
    rw [toInt_max, StableHlo.Predicate.toInt_ofNat_small _ (by omega)]
    exact max_eq_left (Int.natCast_nonneg _)
  show (Scalar.addi (Scalar.muli (Scalar.maxsi (BitVec.ofNat 32 k.val) 0#32) 5#32) (BitVec.ofNat 32 (1 + r.val))).toNat = _
  rw [h1]
  show (BitVec.ofNat 32 k.val * 5#32 + BitVec.ofNat 32 (1 + r.val)).toNat = _
  simp only [BitVec.toNat_add, BitVec.toNat_mul, BitVec.toNat_ofNat]
  omega

/-- A region's word names a row of the corners' table. -/
theorem chk1_ofNat (k : Fin 1024) : k0_chk1 (BitVec.ofNat 32 k.val) := by
  intro r a
  obtain rfl : a = 0 := Subsingleton.elim _ _
  rw [off3_eq k r]
  have := k.isLt; have := r.isLt
  show 5 * k.val + 1 + r.val + 1 ≤ 5120
  omega

/-- No region's word reads the first row. -/
theorem chk1_none : k0_chk1 (4294967295#32) := by
  unfold k0_chk1
  decide +kernel

/-- Every slot's word names a row of the corners' table. -/
theorem idxW_chk (b : IVec S1024 32) (j : S1536.Idx) : k0_chk1 (idxW b j) := by
  refine scatter_forall _ _ k0_chk1 (fun _ _ _ h => h) _ _ _ (fun i => ?_) (fun i => ?_) j
  · exact chk1_none
  · obtain ⟨k, hk⟩ := ordW_lt b i
    rw [hk]; exact chk1_ofNat k

/-- The section of a block counts the running sums at or below it, but three at most. -/
theorem secOfV_eq (cum : IVec S4 32) (t : Fin 12) :
    secOfV cum (ix1 t) = IntOp.minsi (BitVec.ofNat 32 (Nat.count (fun q => ∃ h : q < 4, (cum (ix1 ⟨q, h⟩)).toInt ≤ (t.val : Int)) 4)) 3#32 := by
  show IntOp.minsi (Host.reduce IntOp.addi _ (constantI shape0 32 0#32) _ _ (ix1 t)) 3#32 = _
  refine congrArg (fun w => IntOp.minsi w 3#32) ?_
  refine reduce_count (n := 12) (m := 4) (by decide) _ _ _ _ t (fun q => ∃ h : q < 4, (cum (ix1 ⟨q, h⟩)).toInt ≤ (t.val : Int)) (fun q => ?_)
  have e1 : broadcastInDim S12x4 ![0, 1] bcast_S1x4_S12x4_0_1 (broadcastInDim S1x4 ![1] bcast_S4_S1x4_1 cum) (ix2 t q) = cum (ix1 q) := by
    refine congrArg cum ?_
    funext a
    match a with
    | ⟨0, _⟩ => exact Fin.ext rfl
  have e2 : broadcastInDim S12x4 ![0, 1] bcast_S12x1_S12x4_0_1 (broadcastInDim S12x1 ![0] bcast_S12_S12x1_0 (iotaInDim S12 32 0)) (ix2 t q)
      = BitVec.ofNat 32 t.val := rfl
  show IntOp.cmpi .sle _ _ = 1#1 ↔ _
  rw [e1, e2]
  have ht : (BitVec.ofNat 32 t.val).toInt = (t.val : Int) := StableHlo.Predicate.toInt_ofNat_small _ (by have := t.isLt; omega)
  have hc : IntOp.cmpi .sle (cum (ix1 q)) (BitVec.ofNat 32 t.val) = 1#1 ↔ (cum (ix1 q)).toInt ≤ (BitVec.ofNat 32 t.val).toInt := by
    show BitVec.ofBool ((cum (ix1 q)).sle (BitVec.ofNat 32 t.val)) = 1#1 ↔ _
    rw [BitVec.sle_eq_decide]
    by_cases h : (cum (ix1 q)).toInt ≤ (BitVec.ofNat 32 t.val).toInt <;> simp [h]
  rw [hc, ht]
  exact ⟨fun h => ⟨q.isLt, h⟩, fun ⟨_, h⟩ => h⟩

/-- A block's section is one of the four. -/
theorem secOfV_le (cum : IVec S4 32) (t : S12.Idx) : (secOfV cum t).toNat ≤ 3 := by
  obtain ⟨t, rfl⟩ : ∃ q : Fin 12, t = ix1 q := ⟨t 0, eq_ix1 t⟩
  rw [secOfV_eq]
  have key : ∀ n ≤ 4, (IntOp.minsi (BitVec.ofNat 32 n) 3#32).toNat ≤ 3 := by decide
  exact key _ (Nat.count_le _)

variable {F : FTy → Type} [FloatOps F] [Named F]
variable (m : (ℓ : Loc nD τ sig) → Buf (Elt F) ℓ)

/-- The sections' words a launch has. -/
abbrev secsOf : IVec S1024 32 := secs (F := F) (m (((0 : Dev nD) : Thread nD τ).loc main_arg1))

/-- The table of the sections as the region finds it. -/
theorem tbl_0 : tbl m 0 = secOfW (secsOf m) := read_v74 (fun b => m ((0 : Dev nD), b))

/-- The table of the regions as the region finds it. -/
theorem tbl_1 : tbl m 1 = idxW (secsOf m) := read_v64 (fun b => m ((0 : Dev nD), b))

/-- The regions' table holds words the body takes. -/
theorem words : Words m := fun j => by
  show k0_chk1 (tbl m 1 _)
  rw [tbl_1]
  exact idxW_chk _ _

/-- The section the features' window takes at a point. -/
theorem transform_2_eq (pf : pre0.Contents (Elt F)) (i : grid0.Coords) :
    cc0_transform_2 k0_off1_inb numel1_S1 pf i = ![(pf 0 (ix1 (i 0)) : BitVec 32).toNat, 0, 0, 0] := by
  have e : (Rect.unit (s := S12) ![(Scalar.indexCast (BitVec.ofNat 32 (i 0).val) : Index).toNat] S1.size (k0_off1_inb i)).emb
      (Shape.Idx.first (numel1_S1.symm ▸ Nat.one_pos)) = ix1 (i 0) := by
    funext a
    match a with
    | ⟨0, _⟩ =>
      apply Fin.ext
      show (BitVec.ofNat 32 (i 0).val).toNat + 0 * 1 = (i 0).val
      have : (i 0).val < 12 := (i 0).isLt
      rw [BitVec.toNat_ofNat]; omega
  exact congrArg (fun j => ![(pf 0 j : BitVec 32).toNat, 0, 0, 0]) e

/-- The tables are as the region needs them. -/
theorem ok : Ok m := by
  intro i
  have h3 : ((tbl m) 0 (ix1 (i 0)) : BitVec 32).toNat ≤ 3 := by rw [tbl_0]; exact secOfV_le _ _
  have e := transform_2_eq (tbl m) i
  refine ⟨fun a => ?_, .inr (.inr ⟨by decide, rfl, ?_, rfl⟩)⟩
  · rw [e]
    match a with
    | ⟨0, _⟩ => show ((tbl m 0 (ix1 (i 0)) : BitVec 32).toNat + 1) * 1 ≤ 4; omega
    | ⟨1, _⟩ => show (0 + 1) * 200 ≤ 200; omega
    | ⟨2, _⟩ => show (0 + 1) * 200 ≤ 200; omega
    | ⟨3, _⟩ => show (0 + 1) * 256 ≤ 256; omega
  · rfl

end Cert.KernelIdeal.Roi
end
-- ==== Proof.V.Sections.lean ====
/- Counting regions by section: where a region stands in the order, and which block of 128 slots it is in. -/
module

public import Mathlib.Data.Finset.Card
public import Mathlib.Data.Fintype.Card
public import Mathlib.Data.Fintype.EquivFin
public import Mathlib.Algebra.BigOperators.Group.Finset.Basic
public import Mathlib.Algebra.BigOperators.Intervals
public import Mathlib.Data.Nat.Count
public import Mathlib.Tactic.IntervalCases
public import Mathlib.Order.Interval.Finset.Fin
public import Mathlib.Data.Finset.Fin

@[expose] public section

namespace Cert.Sections

open Finset

variable (B : Fin 1024 → Nat)

/-- How many regions a section has. -/
def cnt (q : Nat) : Nat := (univ.filter fun n => B n = q).card

/-- How many regions the sections below have. -/
def below (q : Nat) : Nat := ∑ p ∈ range q, cnt B p

/-- How many blocks of 128 a section has. -/
def blk (q : Nat) : Nat := (cnt B q + 127) / 128

/-- The first block of a section. -/
def first (q : Nat) : Nat := ∑ p ∈ range q, blk B p

theorem below_eq (q : Nat) : below B q = (univ.filter fun n => B n < q).card := by
  induction q with
  | zero => simp [below]
  | succ q ih =>
    rw [below, sum_range_succ, ← below, ih, cnt, ← card_union_of_disjoint]
    · congr 1; ext n; simp only [mem_union, mem_filter, mem_univ, true_and]; omega
    · rw [disjoint_filter]; intro n _ h; omega

theorem first_mono {p q : Nat} (h : p ≤ q) : first B p ≤ first B q := by
  refine monotone_nat_of_le_succ (f := first B) (fun n => ?_) h
  rw [first, first, sum_range_succ]
  exact Nat.le_add_right _ _

/-- How many places come before one. -/
theorem card_before (k : Nat) (hk : k ≤ 1024) : (univ.filter fun i : Fin 1024 => i.val < k).card = k := by
  have h : (univ.filter fun i : Fin 1024 => i.val < k) = (range k).attachFin fun x hx => by have := mem_range.1 hx; omega := by
    ext i; simp [mem_attachFin]
  rw [h, card_attachFin, card_range]

theorem below_four (hB : ∀ n, B n < 4) : below B 4 = 1024 := by
  rw [below_eq, filter_true_of_mem fun n _ => hB n]; simp

/-- There are at most eleven blocks. -/
theorem first_four (hB : ∀ n, B n < 4) : first B 4 ≤ 11 := by
  have h := below_four B hB
  simp only [below, first, blk, sum_range_succ, sum_range_zero] at h ⊢
  omega

variable (σ : Fin 1024 → Fin 1024) (hσ : Function.Bijective σ) (hm : ∀ i j, i < j → B (σ i) ≤ B (σ j))

include hσ in
/-- The regions below a section, counted in the order. -/
theorem below_perm (q : Nat) : below B q = (univ.filter fun j => B (σ j) < q).card := by
  rw [below_eq]
  refine (card_bij (fun j _ => σ j) ?_ ?_ ?_).symm
  · intro j hj; simpa using hj
  · intro i _ j _ h; exact hσ.1 h
  · intro n hn
    obtain ⟨j, rfl⟩ := hσ.2 n
    exact ⟨j, by simpa using hn, rfl⟩

include hσ hm in
/-- A region stands after all of the sections below. -/
theorem below_le (j : Fin 1024) : below B (B (σ j)) ≤ j.val := by
  rw [below_perm B σ hσ]
  refine (card_le_card (t := univ.filter fun i : Fin 1024 => i.val < j.val) ?_).trans_eq ?_
  · intro i hi
    simp only [mem_filter, mem_univ, true_and] at hi ⊢
    by_contra hc
    rcases Nat.lt_or_ge j.val i.val with h | h
    · exact absurd (hm j i h) (by omega)
    · obtain rfl : i = j := Fin.ext (by omega)
      omega
  · exact card_before _ j.isLt.le

include hσ hm in
/-- A region stands before all of the sections above. -/
theorem lt_below (j : Fin 1024) : j.val < below B (B (σ j) + 1) := by
  rw [below_perm B σ hσ]
  refine Nat.lt_of_lt_of_le ?_ (card_le_card (s := univ.filter fun i : Fin 1024 => i.val < j.val + 1) ?_)
  · rw [card_before _ j.isLt]; omega
  · intro i hi
    simp only [mem_filter, mem_univ, true_and] at hi ⊢
    rcases Nat.lt_or_ge i.val j.val with h | h
    · exact Nat.lt_succ_of_le (hm i j h)
    · obtain rfl : i = j := Fin.ext (by omega)
      omega

/-- The slot of the region that stands at a place of the order. -/
def slot (j : Fin 1024) : Nat := first B (B (σ j)) * 128 + (j.val - below B (B (σ j)))

include hσ hm in
/-- The slot is in a block of the region's section. -/
theorem slot_block (j : Fin 1024) : first B (B (σ j)) ≤ slot B σ j / 128 ∧ slot B σ j / 128 < first B (B (σ j) + 1) := by
  have h1 := below_le B σ hσ hm j
  have h2 := lt_below B σ hσ hm j
  have h3 : below B (B (σ j) + 1) = below B (B (σ j)) + cnt B (B (σ j)) := sum_range_succ _ _
  have h4 : first B (B (σ j) + 1) = first B (B (σ j)) + (cnt B (B (σ j)) + 127) / 128 := sum_range_succ _ _
  unfold slot
  omega

include hσ hm in
theorem slot_lt (hB : ∀ n, B n < 4) (j : Fin 1024) : slot B σ j < 1536 := by
  have h := slot_block B σ hσ hm j
  have h2 := first_mono B (show B (σ j) + 1 ≤ 4 from hB _)
  have h3 := first_four B hB
  omega

include hσ hm in
theorem slot_inj : Function.Injective (slot B σ) := by
  have key : ∀ i j : Fin 1024, i < j → slot B σ i ≠ slot B σ j := by
    intro i j hij he
    have hij' : i.val < j.val := hij
    have h1 := slot_block B σ hσ hm i
    have h2 := slot_block B σ hσ hm j
    have h3 := below_le B σ hσ hm i
    have h4 := below_le B σ hσ hm j
    rcases Nat.lt_or_ge (B (σ i)) (B (σ j)) with h | h
    · have := first_mono B (show B (σ i) + 1 ≤ B (σ j) from h)
      omega
    · have e : B (σ i) = B (σ j) := le_antisymm (hm i j hij) h
      unfold slot at he
      rw [e] at he h3
      omega
  intro i j he
  rcases lt_trichotomy i j with h | h | h
  · exact absurd he (key i j h)
  · exact h
  · exact absurd he.symm (key j i h)

include hσ hm in
/-- How many sections end at or before the slot's block: the region's section. -/
theorem count_block (hB : ∀ n, B n < 4) (j : Fin 1024) :
    Nat.count (fun q => ∃ _ : q < 4, (first B (q + 1) : Int) ≤ ((slot B σ j / 128 : Nat) : Int)) 4 = B (σ j) := by
  have h := slot_block B σ hσ hm j
  have hq := hB (σ j)
  have hd : ∀ q, q < 4 → ((∃ _ : q < 4, (first B (q + 1) : Int) ≤ ((slot B σ j / 128 : Nat) : Int)) ↔ q < B (σ j)) := by
    intro q h4
    constructor
    · rintro ⟨_, hle⟩
      by_contra hc
      have := first_mono B (show B (σ j) + 1 ≤ q + 1 by omega)
      omega
    · intro hlt
      have := first_mono B (show q + 1 ≤ B (σ j) from hlt)
      exact ⟨h4, by omega⟩
  simp only [Nat.count_succ, Nat.count_zero, hd 0 (by omega), hd 1 (by omega), hd 2 (by omega), hd 3 (by omega)]
  generalize B (σ j) = q at hq ⊢
  interval_cases q <;> rfl

end Cert.Sections
end
-- ==== Proof.V.Route.lean ====
/- Where the host code sends each region: the slot it gets, the region the slot holds, and the image of the slot's block. -/
module

public import proofs.«01_k».proof.Proof.PI.Words
public import proofs.«01_k».proof.Proof.V.Sections

@[expose] public section

set_option maxRecDepth 16384

noncomputable section

namespace Cert.KernelIdeal.Roi

open Cert.KernelIdeal Cert.KernelIdeal.Gen
open Idealize.ShloMosaic Idealize.ShloMosaic.TcCoe Idealize.ShloMosaic.StableHlo
open Idealize.ShloMosaic.Routing
open Idealize.ShloMosaic.ValueIdx (ix1 ix2)

/-- An update of a scatter of single words into a vector lands where its index word says. -/
theorem lands {M N : Nat} (d : ScatterDims (shape1 M) (shape2 N 1) (shape1 N)) (hiw : d.insertedWindowDims = [0])
    (hsd : d.scatterDimsToOperandDims = [0]) (hivd : d.indexVectorDim = 1) (idx : IVec (shape2 N 1) 32) (i : Fin N) (x : Fin M) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  have hwin : d.window (ix1 i) 0 = 0 := by
    unfold ScatterDims.window
    exact dif_neg fun h => (of_decide_eq_true (List.mem_filter.1 h).2) (by rw [hiw]; exact List.mem_singleton.2 rfl)
  have hsi : d.siIdx (ix1 i) ⟨d.scatterDimsToOperandDims.idxOf 0, List.idxOf_lt_length_iff.2 hm⟩ = ix2 i (0 : Fin 1) := by
    funext q
    apply Fin.ext
    match q with
    | ⟨0, _⟩ =>
      unfold ScatterDims.siIdx
      rw [dif_neg (by rw [hivd]; exact Nat.zero_ne_one)]
      unfold ScatterDims.siCoord
      simp only [Fin.val_cast]
      exact congrArg (fun X : Fin 1 => (ix1 i X).val) (Subsingleton.elim _ 0)
    | ⟨1, _⟩ =>
      unfold ScatterDims.siIdx
      rw [dif_pos (by rw [hivd])]
      show List.idxOf (0 : Fin 1) d.scatterDimsToOperandDims = 0
      rw [hsd]; simp
  have hstart : d.start (ix1 i) idx 0 = (idx (ix2 i (0 : Fin 1))).toInt := by
    unfold ScatterDims.start
    rw [dif_pos hm, hsi]
  rw [resultIdx?_eq_some]
  constructor
  · intro h
    have h0 := h 0
    rw [hstart, hwin] at h0
    have e : (ix1 x 0).val = x.val := rfl
    simpa [e] using h0
  · intro h a
    obtain rfl : a = 0 := Subsingleton.elim _ _
    rw [hstart, hwin, h]
    have e : (ix1 x 0).val = x.val := rfl
    simp [e]

/-- A word that is not negative is wrapped to itself. -/
theorem wrap_eq (n : BitVec 32) (x : IVec S1024 32) (i : Fin 1024) (k : Nat) (hk : k < 2 ^ 31) (h : x (ix1 i) = BitVec.ofNat 32 k) :
    wrap n x (ix2 i (0 : Fin 1)) = BitVec.ofNat 32 k := by
  refine (bcCol _ _ i).trans ?_
  show (if IntOp.cmpi .slt (x (ix1 i)) 0#32 = 1#1 then _ else x (ix1 i)) = _
  rw [h, if_neg]
  show ¬ BitVec.ofBool ((BitVec.ofNat 32 k).slt 0#32) = 1#1
  rw [BitVec.slt_eq_decide, StableHlo.Predicate.toInt_ofNat_small _ hk]
  have : ¬ ((k : Int) < 0) := by omega
  simp [this]

/-- The word of a natural below 2³¹, as a natural. -/
theorem ofNat_inj {a b : Nat} (ha : a < 2 ^ 31) (hb : b < 2 ^ 31) (h : BitVec.ofNat 32 a = BitVec.ofNat 32 b) : a = b := by
  have := congrArg BitVec.toNat h
  simp only [BitVec.toNat_ofNat] at this
  omega

section

variable (b : IVec S1024 32) (B : Fin 1024 → Nat) (hb : ∀ n, b (ix1 n) = BitVec.ofNat 32 (B n)) (hB : ∀ n, B n < 4)

theorem perm_bij : Function.Bijective (perm b) := ⟨sortedFrom_injective _, sortedFrom_surjective _⟩

include hb hB in
/-- The sort puts the sections in order. -/
theorem perm_mono (i j : Fin 1024) (h : i < j) : B (perm b i) ≤ B (perm b j) := by
  have hc : ∀ k k' : Fin 1024, (IntOp.cmpi .slt (b (ix1 k)) (b (ix1 k')) == 1#1) = decide (B k < B k') := by
    intro k k'
    rw [hb, hb]
    show (BitVec.ofBool ((BitVec.ofNat 32 (B k)).slt (BitVec.ofNat 32 (B k'))) == 1#1) = _
    rw [BitVec.slt_eq_decide, StableHlo.Predicate.toInt_ofNat_small _ (by have := hB k; omega), StableHlo.Predicate.toInt_ofNat_small _ (by have := hB k'; omega)]
    by_cases h : B k < B k' <;> simp [h]
  have := sortedFrom_noInversion (fun k k' => decide (B k < B k')) (fun k k' => IntOp.cmpi .slt (b (ix1 k)) (b (ix1 k')) == 1#1)
    (fun a c h => by rw [hc] at h; simp only [decide_eq_true_eq, decide_eq_false_iff_not] at h ⊢; omega)
    (fun a c h => by rw [hc]; exact h)
    (fun a c e h h' => by simp only [decide_eq_false_iff_not] at h h' ⊢; omega) i j h
  simp only [decide_eq_false_iff_not] at this
  exact Nat.le_of_not_lt this

include hb in
theorem srtW_eq (j : Fin 1024) : srtW b (ix1 j) = BitVec.ofNat 32 (B (perm b j)) := by
  unfold srtW
  rw [gather_take1 gather_S1024_S1024x1_S1024_n_0_n_n_0_1_1 rfl rfl rfl rfl b _ j (perm b j)
    (wrap_eq _ _ j _ (by have := (perm b j).isLt; omega) (ordW_eq b j)) (by omega), hb]

include hb hB in
theorem cntW_eq (q : Fin 4) : cntW b (ix1 q) = BitVec.ofNat 32 (Sections.cnt B q.val) := by
  have hidx : ∀ i : Fin 1024, wrap 4#32 (maxsi (broadcastInDim S1024 ![] bcast_S_S1024 (constantI S_ 32 0#32)) b) (ix2 i (0 : Fin 1)) = BitVec.ofNat 32 (B i) := by
    intro i
    refine wrap_eq _ _ i _ (by have := hB i; omega) ?_
    show IntOp.maxsi 0#32 (b (ix1 i)) = _
    rw [hb]
    have := hB i
    generalize B i = k at this
    interval_cases k <;> rfl
  have hiff : ∀ i : Fin 1024, scatter_S4_S1024x1_S1024_n_0_0_1.resultIdx? (ix1 i) (wrap 4#32 (maxsi (broadcastInDim S1024 ![] bcast_S_S1024 (constantI S_ 32 0#32)) b)) = some (ix1 q)
      ↔ B i = q.val := by
    intro i
    rw [lands _ rfl rfl rfl, hidx, StableHlo.Predicate.toInt_ofNat_small _ (by have := hB i; omega)]
    omega
  unfold cntW Host.scatter
  refine (foldl_count _ (ix1 q) (fun n => decide (B (n.cast (numel1 1024)) = q.val)) (fun r n => ?_) _ _ 0 rfl).trans ?_
  · have hi := hiff (n.cast (numel1 1024))
    rw [← symm1 (N := 1024) n] at hi
    change scatter_S4_S1024x1_S1024_n_0_0_1.resultIdx? (S1024.rowMajor.symm n) _ = _ ↔ _ at hi
    generalize scatter_S4_S1024x1_S1024_n_0_0_1.resultIdx? (S1024.rowMajor.symm n) (wrap 4#32 (maxsi (broadcastInDim S1024 ![] bcast_S_S1024 (constantI S_ 32 0#32)) b)) = o at hi ⊢
    cases o with
    | none =>
      dsimp only
      rw [if_neg fun h => by have := hi.2 (of_decide_eq_true h); cases this]
    | some k =>
      dsimp only
      by_cases e : B (n.cast (numel1 1024)) = q.val
      · have hk : k = ix1 q := Option.some.inj (hi.2 e)
        rw [hk, if_pos rfl, if_pos (decide_eq_true e)]
        rfl
      · rw [if_neg fun h : ix1 q = k => e (hi.1 (congrArg some h.symm)), if_neg fun h => e (of_decide_eq_true h)]
  · rw [Nat.zero_add]
    refine congrArg (BitVec.ofNat 32) ?_
    have key : ∀ (M : Nat) (hM : M = 1024), (List.finRange M).countP (fun n => decide (B (n.cast hM) = q.val)) = Sections.cnt B q.val := by
      rintro _ rfl
      rw [List.countP_eq_length_filter]
      rfl
    exact key _ _

end

/-- The blocks of one section, on words. -/
def blkE (c : BitVec 32) : BitVec 32 :=
  let x := IntOp.subi (IntOp.addi c 128#32) 1#32
  Scalar.select
    (IntOp.andi (IntOp.cmpi (w := 32) .ne (if x = 0 then 0 else if x.msb = true then -1 else 1) (if (128#32) = 0 then 0 else if (128#32).msb = true then -1 else 1))
      (IntOp.cmpi .ne (IntOp.remsi .host x 128#32) 0#32))
    (IntOp.subi (IntOp.divsi .host x 128#32) 1#32) (IntOp.divsi .host x 128#32)

/-- The blocks of a section of at most 1024 regions. -/
theorem blkW_eq (c : IVec S4 32) (q : Fin 4) (n : Nat) (hn : n ≤ 1024) (h : c (ix1 q) = BitVec.ofNat 32 n) :
    blkW c (ix1 q) = BitVec.ofNat 32 ((n + 127) / 128) := by
  have key : ∀ n : Fin 1025, blkE (BitVec.ofNat 32 n.val) = BitVec.ofNat 32 ((n.val + 127) / 128) := by decide +kernel
  have e : blkW c (ix1 q) = blkE (c (ix1 q)) := by
    simp only [blkW, divW, blkE, select, andi, cmpi, signi, Host.remsi, Host.divsi, subi, addi, broadcastInDim, constantI]
    rfl
  rw [e, h]
  exact key ⟨n, by omega⟩

/-- The running sums of four words. -/
theorem cumW_eq (x : IVec S4 32) (f : Nat → Nat) (hx : ∀ q : Fin 4, x (ix1 q) = BitVec.ofNat 32 (f q.val)) (q : Fin 4) :
    cumW x (ix1 q) = BitVec.ofNat 32 (∑ p ∈ Finset.range (q.val + 1), f p) := by
  unfold cumW
  refine (cumsum1 (N := 4) (Nm1 := 3) rfl x f hx _ rfl _ _ q).trans (congrArg (BitVec.ofNat 32) ?_)
  generalize q.val + 1 = k
  induction k with
  | zero => rfl
  | succ k ih => rw [List.range_succ, List.map_append, List.sum_append, ih, Finset.sum_range_succ]; simp

/-- The words moved one place up. -/
theorem shiftV_succ (z : IVec S1 32) (y : IVec S4 32) (q : Fin 3) : shiftV z y (ix1 q.succ) = y (ix1 q.castSucc) := by
  match q with
  | ⟨0, _⟩ => exact congrArg y (funext fun a => match a with | ⟨0, _⟩ => rfl)
  | ⟨1, _⟩ => exact congrArg y (funext fun a => match a with | ⟨0, _⟩ => rfl)
  | ⟨2, _⟩ => exact congrArg y (funext fun a => match a with | ⟨0, _⟩ => rfl)

/-- The sums before each place. -/
theorem shiftW_eq (x : IVec S4 32) (f : Nat → Nat) (hx : ∀ q : Fin 4, x (ix1 q) = BitVec.ofNat 32 (f q.val)) (q : Fin 4) :
    shiftW (cumW x) (ix1 q) = BitVec.ofNat 32 (∑ p ∈ Finset.range q.val, f p) := by
  match q with
  | ⟨0, _⟩ => rfl
  | ⟨n + 1, h⟩ =>
    rw [← cumW_eq x f hx ⟨n, by omega⟩]
    exact shiftV_succ _ (cumW x) ⟨n, by omega⟩

/-- A whole of four words read at a section's place. -/
theorem take4 (x : IVec S4 32) (srt : IVec S1024 32) (j : Fin 1024) (q : Fin 4) (h : srt (ix1 j) = BitVec.ofNat 32 q.val) :
    Host.gather gather_S4_S1024x1_S1024_n_0_n_n_0_1_1 x (wrap 4#32 srt) (ix1 j) = x (ix1 q) :=
  gather_take1 gather_S4_S1024x1_S1024_n_0_n_n_0_1_1 rfl rfl rfl rfl x _ j q (wrap_eq _ _ j _ (by have := q.isLt; omega) h) (by omega)

/-- The slot at a place from the words at its section. -/
theorem slotV_eq (sec cc : IVec S4 32) (srt : IVec S1024 32) (j : Fin 1024) (q : Fin 4) (h : srt (ix1 j) = BitVec.ofNat 32 q.val) (a c : Nat)
    (ha : sec (ix1 q) = BitVec.ofNat 32 a) (hc : cc (ix1 q) = BitVec.ofNat 32 c) (hle : c ≤ j.val) :
    slotV sec cc srt (ix1 j) = BitVec.ofNat 32 (a + (j.val - c)) := by
  show Host.gather gather_S4_S1024x1_S1024_n_0_n_n_0_1_1 sec (wrap 4#32 srt) (ix1 j)
    + (BitVec.ofNat 32 j.val - Host.gather gather_S4_S1024x1_S1024_n_0_n_n_0_1_1 cc (wrap 4#32 srt) (ix1 j)) = _
  rw [take4 _ _ j q h, take4 _ _ j q h, ha, hc, BitVec.ofNat_add]
  congr 1
  have hj := j.isLt
  apply BitVec.eq_of_toNat_eq
  simp only [BitVec.toNat_sub, BitVec.toNat_ofNat]
  omega

/-- The slots put at their regions hold, at a region, its slot. -/
theorem slotOfV_eq (ord slot : IVec S1024 32) (σ : Fin 1024 → Fin 1024) (hσ : Function.Injective σ)
    (ho : ∀ i, ord (ix1 i) = BitVec.ofNat 32 (σ i).val) (j : Fin 1024) : slotOfV ord slot (ix1 (σ j)) = slot (ix1 j) := by
  have hl : ∀ i : Fin 1024, scatter_S1024_S1024x1_S1024_n_0_0_1.resultIdx? (ix1 i) (wrap 1024#32 ord) = some (ix1 (σ j)) ↔ i = j := by
    intro i
    have hi := (σ i).isLt
    rw [lands _ rfl rfl rfl, wrap_eq _ _ i _ (by omega) (ho i), StableHlo.Predicate.toInt_ofNat_small _ (by omega)]
    exact ⟨fun h => hσ (Fin.ext (by omega)), fun h => by rw [h]⟩
  unfold slotOfV
  refine scatter_set_hit _ _ _ _ _ _ (fun k hk => ?_) (ix1 j) ((hl j).2 rfl)
  rw [eq_ix1 k] at hk ⊢
  rw [(hl _).1 hk]
  rfl

/-- The regions put at their slots hold, at a slot, its region. -/
theorem idxV_eq (slot ord : IVec S1024 32) (s : Fin 1024 → Nat) (hs : ∀ i, s i < 1536) (hi : Function.Injective s)
    (ho : ∀ i, slot (ix1 i) = BitVec.ofNat 32 (s i)) (j : Fin 1024) : idxV slot ord (ix1 ⟨s j, hs j⟩) = ord (ix1 j) := by
  have hl : ∀ i : Fin 1024, scatter_S1536_S1024x1_S1024_n_0_0_1.resultIdx? (ix1 i) (wrap 1536#32 slot) = some (ix1 ⟨s j, hs j⟩) ↔ i = j := by
    intro i
    have hi' := hs i
    rw [lands _ rfl rfl rfl, wrap_eq _ _ i _ (by omega) (ho i), StableHlo.Predicate.toInt_ofNat_small _ (by omega)]
    exact ⟨fun h => hi (by exact_mod_cast h), fun h => by rw [h]⟩
  unfold idxV
  refine scatter_set_hit _ _ _ _ _ _ (fun k hk => ?_) (ix1 j) ((hl j).2 rfl)
  rw [eq_ix1 k] at hk ⊢
  rw [(hl _).1 hk]
  rfl

/-- The words times 128. -/
theorem secW_eq (c : IVec S4 32) (q : Fin 4) (n : Nat) (h : shiftW (cumW (blkW c)) (ix1 q) = BitVec.ofNat 32 n) :
    secW c (ix1 q) = BitVec.ofNat 32 (n * 128) := by
  have e : secW c (ix1 q) = shiftW (cumW (blkW c)) (ix1 q) * 128#32 := by
    unfold secW
    generalize shiftW (cumW (blkW c)) = y
    rfl
  rw [e, h, BitVec.ofNat_mul]

section

variable (b : IVec S1024 32) (B : Fin 1024 → Nat) (hb : ∀ n, b (ix1 n) = BitVec.ofNat 32 (B n)) (hB : ∀ n, B n < 4)

theorem cnt_le (q : Nat) : Sections.cnt B q ≤ 1024 := (Finset.card_le_univ _).trans (by simp)

include hb hB in
theorem blkW_cnt (q : Fin 4) : blkW (cntW b) (ix1 q) = BitVec.ofNat 32 (Sections.blk B q.val) :=
  blkW_eq _ q _ (cnt_le B _) (cntW_eq b B hb hB q)

include hb hB in
/-- The slot of the region at a place of the order. -/
theorem slotW_eq (j : Fin 1024) : slotW b (ix1 j) = BitVec.ofNat 32 (Sections.slot B (perm b) j) := by
  have hq := hB (perm b j)
  exact slotV_eq _ _ _ j ⟨_, hq⟩ (srtW_eq b B hb j) _ _
    (secW_eq _ _ _ (shiftW_eq _ _ (blkW_cnt b B hb hB) _)) (shiftW_eq _ _ (cntW_eq b B hb hB) _)
    (Sections.below_le B (perm b) (perm_bij b) (perm_mono b B hb hB) j)

include hb hB in
/-- Every region has a slot, which holds it, in a block of its section. -/
theorem route (n : Fin 1024) : ∃ s : Fin 1536, slotOfW b (ix1 n) = BitVec.ofNat 32 s.val ∧ idxW b (ix1 s) = BitVec.ofNat 32 n.val
    ∧ ∀ t : Fin 12, t.val = s.val / 128 → secOfW b (ix1 t) = BitVec.ofNat 32 (B n) := by
  have hbij := perm_bij b
  have hmono := perm_mono b B hb hB
  have hlt := Sections.slot_lt B (perm b) hbij hmono hB
  have hinj := Sections.slot_inj B (perm b) hbij hmono
  obtain ⟨j, rfl⟩ := hbij.2 n
  refine ⟨⟨Sections.slot B (perm b) j, hlt j⟩, ?_, ?_, ?_⟩
  · exact (slotOfV_eq _ _ (perm b) hbij.1 (ordW_eq b) j).trans (slotW_eq b B hb hB j)
  · exact (idxV_eq _ _ _ hlt hinj (slotW_eq b B hb hB) j).trans (ordW_eq b j)
  · intro t ht
    unfold secOfW
    rw [secOfV_eq]
    have hc : ∀ q : Fin 4, (cumW (blkW (cntW b)) (ix1 q)).toInt = (Sections.first B (q.val + 1) : Int) := by
      intro q
      rw [cumW_eq _ _ (blkW_cnt b B hb hB)]
      have h4 := Sections.first_four B hB
      have := Sections.first_mono B (show q.val + 1 ≤ 4 from q.isLt)
      exact StableHlo.Predicate.toInt_ofNat_small _ (Nat.lt_of_le_of_lt (this.trans h4) (by omega))
    have e : Nat.count (fun q => ∃ h : q < 4, (cumW (blkW (cntW b)) (ix1 ⟨q, h⟩)).toInt ≤ (t.val : Int)) 4 = B (perm b j) := by
      rw [← Sections.count_block B (perm b) hbij hmono hB j, Nat.count_eq_card_filter_range, Nat.count_eq_card_filter_range]
      refine congrArg Finset.card (Finset.filter_congr fun q _ => ?_)
      exact exists_congr fun h => by rw [hc ⟨q, h⟩, ht]
    rw [e]
    have := hB (perm b j)
    generalize B (perm b j) = k at this
    interval_cases k <;> rfl

end

end Cert.KernelIdeal.Roi
end
-- ==== Proof.V.Output.lean ====
/- What the run leaves in the result: region by region, what the body leaves at the region's slot. -/
module

public import proofs.«01_k».proof.Proof.V.Route
public import Idealize.ShloMosaic.Lib.Pipeline.ValueKit
public import Idealize.ShloMosaic.Lib.Pipeline.Covers
public import Idealize.ShloMosaic.Lib.StableHlo.RunRead

@[expose] public section

set_option maxRecDepth 16384

noncomputable section

namespace Cert.KernelIdeal.Roi

open Cert.KernelIdeal Cert.KernelIdeal.Gen
open Idealize.ShloMosaic Idealize.ShloMosaic.TcCoe Idealize.ShloMosaic.StableHlo
open Idealize.ShloMosaic.Routing
open Idealize.ShloMosaic.Pipeline (Dat Cfg Window)
open Idealize.ShloMosaic.ValueIdx (ix1 ix2)
open Idealize.SL.Sem

variable {F : FTy → Type} [FloatOps F] [Named F]
variable (m : (ℓ : Loc nD τ sig) → Buf (Elt F) ℓ)

/-- The grid's one coordinate is the point's number. -/
theorem coords_val : ∀ t : Fin grid0.N, (grid0.coords t 0).val = t.val := by decide +kernel

/-- The result's block at a point's coordinates, -/
theorem transform_3_of (i : grid0.Coords) : cc0_transform_3 i = ![(i 0).val, 0, 0, 0] := by
  funext a
  match a with
  | ⟨0, _⟩ =>
    have h : (i 0).val < 12 := (i 0).isLt
    show (BitVec.ofNat 32 (i 0).val).toNat = (i 0).val
    rw [BitVec.toNat_ofNat]; omega
  | ⟨1, _⟩ => rfl
  | ⟨2, _⟩ => rfl
  | ⟨3, _⟩ => rfl

/-- and at a point. -/
theorem transform_3_eq (t : Fin grid0.N) : cc0_transform_3 (grid0.coords t) = ![t.val, 0, 0, 0] := by
  rw [transform_3_of, coords_val]

/-- The result's array, slot by slot. -/
def slots (hO : Ok m) (c : Dev nD) : S1536x7x7x256.Idx → F .f32 := fun i =>
  oblk m hO c ⟨(i 0).val / 128, by have h : (i 0).val < 1536 := (i 0).isLt; show _ < 12; omega⟩
    (ValueIdx.ix4 (⟨(i 0).val % 128, Nat.mod_lt _ (by decide)⟩ : Fin 128) (i 1) (i 2) (i 3))

/-- The region leaves the slots' array. -/
theorem arr_slots (hO : Ok m) (c : Dev nD) : (dats m hO 0 c).arrAt 3 (cfgM m hO).N = slots m hO c := by
  refine (dats m hO 0 c).arrAt_eq_of_covers 3 _ ?_ fun t hf y => ?_
  · have hn : ((cfgM m hO).win 3).nblk (0 : Fin 4) = 12 := by show (1536 + 128 - 1) / 128 = 12; rfl
    refine ((cfgM m hO).win 3).covers_of_indexMap_surj rfl (fun a => ?_) fun β => ?_
    · match a with
      | ⟨0, _⟩ => exact (by decide : 0 < 128)
      | ⟨1, _⟩ => exact (by decide : 0 < 7)
      | ⟨2, _⟩ => exact (by decide : 0 < 7)
      | ⟨3, _⟩ => exact (by decide : 0 < 256)
    obtain ⟨i, hi⟩ : ∃ i : grid0.Coords, (i 0).val = (β (0 : Fin 4)).val := ⟨fun x => ⟨(β (0 : Fin 4)).val, by
      have h := lt_of_lt_of_eq (β (0 : Fin 4)).isLt hn
      obtain rfl : x = (⟨0, Nat.zero_lt_one⟩ : Fin 1) := Subsingleton.elim (α := Fin 1) _ _
      exact h⟩, rfl⟩
    refine ⟨i, fun a => ?_⟩
    have hb1 : ((cfgM m hO).win 3).nblk (1 : Fin 4) = 1 := by show (7 + 7 - 1) / 7 = 1; rfl
    have hb2 : ((cfgM m hO).win 3).nblk (2 : Fin 4) = 1 := by show (7 + 7 - 1) / 7 = 1; rfl
    have hb3 : ((cfgM m hO).win 3).nblk (3 : Fin 4) = 1 := by show (256 + 256 - 1) / 256 = 1; rfl
    match a with
    | ⟨0, _⟩ => exact (congrFun (transform_3_of i) 0).trans hi
    | ⟨1, _⟩ => exact (congrFun (transform_3_of i) 1).trans (by have := lt_of_lt_of_eq (β (1 : Fin 4)).isLt hb1; show 0 = (β (1 : Fin 4)).val; omega)
    | ⟨2, _⟩ => exact (congrFun (transform_3_of i) 2).trans (by have := lt_of_lt_of_eq (β (2 : Fin 4)).isLt hb2; show 0 = (β (2 : Fin 4)).val; omega)
    | ⟨3, _⟩ => exact (congrFun (transform_3_of i) 3).trans (by have := lt_of_lt_of_eq (β (3 : Fin 4)).isLt hb3; show 0 = (β (3 : Fin 4)).val; omega)
  · rw [after_3]
    have e : ∀ a : Fin 4, (((((cfgM m hO).win 3).blk t).view.emb y a).val : Nat) = ![t.val, 0, 0, 0] a * S128x7x7x256.size a + (y a).val := by
      intro a
      have hi := congrFun (transform_3_eq t) a
      blk_simp
      exact congrArg (fun k => k * S128x7x7x256.size a + (y a).val) hi
    have hy : (y (0 : Fin 4)).val < 128 := (y (0 : Fin 4)).isLt
    have e0 : (((((cfgM m hO).win 3).blk t).view.emb y (0 : Fin 4)).val : Nat) = t.val * 128 + (y (0 : Fin 4)).val := e 0
    blk_simp
    unfold slots
    refine congrArg₂ (fun (t : Fin grid0.N) (y : S128x7x7x256.Idx) => oblk m hO c t y) (Fin.ext ?_) (funext fun a => Fin.ext ?_)
    · show t.val = (((((cfgM m hO).win 3).blk t).view.emb y (0 : Fin 4)).val : Nat) / 128; omega
    · match a with
      | ⟨0, _⟩ => show (y (0 : Fin 4)).val = (((((cfgM m hO).win 3).blk t).view.emb y (0 : Fin 4)).val : Nat) % 128; omega
      | ⟨1, _⟩ => exact ((e 1).trans (Nat.zero_add _)).symm
      | ⟨2, _⟩ => exact ((e 2).trans (Nat.zero_add _)).symm
      | ⟨3, _⟩ => exact ((e 3).trans (Nat.zero_add _)).symm

/-- Taking rows of a four-axis array along its first axis. -/
theorem take_rows {α : Type} (x : S1536x7x7x256.Idx → α) (idx : IVec S1024x1 32) (n : Fin 1024) (y1 y2 : Fin 7) (y3 : Fin 256) (b : Fin 1536)
    (hb : idx (ValueIdx.ix2 n 0) = BitVec.ofNat 32 b.val) :
    Host.gather gather_S1536x7x7x256_S1024x1_S1024x7x7x256_123_0_n_n_0_1_177256 x idx (ValueIdx.ix4 n y1 y2 y3) = x (ValueIdx.ix4 b y1 y2 y3) := by
  unfold Host.gather
  refine congrArg x (funext fun a => Fin.ext ?_)
  match a with
  | ⟨0, _⟩ =>
    have e : min (idx (ValueIdx.ix2 n 0)).toInt.toNat (1536 - 1) = b.val := by
      have hbl := b.isLt
      rw [hb, StableHlo.Predicate.toInt_ofNat_small _ (by omega)]
      omega
    refine Eq.trans ?_ e
    show gather_S1536x7x7x256_S1024x1_S1024x7x7x256_123_0_n_n_0_1_177256.start (ValueIdx.ix4 n y1 y2 y3) idx 0 + 0 + 0 = _
    unfold GatherDims.start
    rw [dif_pos (by decide)]
    refine congrArg (fun q => min (idx q).toInt.toNat (1536 - 1)) (funext fun a => Fin.ext ?_)
    match a with
    | ⟨0, _⟩ => rfl
    | ⟨1, _⟩ => rfl
  | ⟨1, _⟩ => exact Nat.zero_add _
  | ⟨2, _⟩ => exact Nat.zero_add _
  | ⟨3, _⟩ => exact Nat.zero_add _

/-- The operations after the region, read at the result. -/
theorem suffix_91 (W : Valuation τ sig (Elt F)) : StableHlo.after (hostOps1 (F := F)) W (Proc.devRef .tc main_v91)
    = transpose S1024x256x7x7 [0, 3, 1, 2] (Host.gather gather_S1536x7x7x256_S1024x1_S1024x7x7x256_123_0_n_n_0_1_177256
        (W (Proc.devRef .tc main_v83) : FVec F S1536x7x7x256 .f32) (wrap 1536#32 (W (Proc.devRef .tc main_v82)))) transposes_S1024x7x7x256_S1024x256x7x7_0_3_1_2 := by
  after_reads_simp
  rfl

/-- The slots' table is no window's array. -/
theorem arr_ne_82 : ∀ w, Pipeline.arrRef spec0 w ≠ main_v82 := by decide

/-- The result as the run leaves it. -/
theorem tail_91 (hO : Ok m) (c : Dev nD) : Pipeline.afterTail pcfgs (fun _ => adm m hO) (dats m hO) 0 (V0 m) [hostOps1] c main_v91
    = transpose S1024x256x7x7 [0, 3, 1, 2] (Host.gather gather_S1536x7x7x256_S1024x1_S1024x7x7x256_123_0_n_n_0_1_177256
        (slots m hO c) (wrap 1536#32 (slotOfW (secs (F := F) (m ((c.tc : Thread nD τ).loc main_arg1)))))) transposes_S1024x7x7x256_S1024x256x7x7_0_3_1_2 := by
  have e83 : Pipeline.withArrays (Pipeline.pin pcfgs (fun _ => adm m hO) 0).spec c (V0 m c) (fun w => (dats m hO 0 c).arrAt w (cfgM m hO).N) (Proc.devRef .tc main_v83) = slots m hO c :=
    (Pipeline.withArrays_arr _ (by decide : Function.Injective (Pipeline.arrRef spec0)) c (V0 m c) _ 3).trans (arr_slots m hO c)
  have e82 : Pipeline.withArrays (Pipeline.pin pcfgs (fun _ => adm m hO) 0).spec c (V0 m c) (fun w => (dats m hO 0 c).arrAt w (cfgM m hO).N) (Proc.devRef .tc main_v82)
      = slotOfW (secs (F := F) (m ((c.tc : Thread nD τ).loc main_arg1))) :=
    (Pipeline.withArrays_of_ne _ c (V0 m c) _ main_v82 arr_ne_82).trans (read_v82 _)
  unfold Pipeline.afterTail
  refine (suffix_91 _).trans ?_
  exact congrArg₂ (fun a b => transpose S1024x256x7x7 [0, 3, 1, 2] (Host.gather gather_S1536x7x7x256_S1024x1_S1024x7x7x256_123_0_n_n_0_1_177256
    (a : FVec F S1536x7x7x256 .f32) (wrap 1536#32 b)) transposes_S1024x7x7x256_S1024x256x7x7_0_3_1_2) e83 e82

/-! ## The blocks the region reads -/

/-- The scale's block is the scale. -/
theorem sblk_eq (hO : Ok m) (c : Dev nD) (t : Fin (cfgM m hO).N) :
    sblk m hO c t = shapeCast S1 (m ((c.tc : Thread nD τ).loc main_arg2) : FVec F S_ .f32) shapeCasts_S_S1 := by
  funext y
  have e : ∀ a : Fin 1, (((((cfgM m hO).win 0).blk t).view.emb y a).val : Nat) = (y a).val := by
    intro a
    blk_simp
    match a with
    | ⟨0, _⟩ => exact Nat.zero_add _
  have e' : (((cfgM m hO).win 0).blk t).view.emb y = y := funext fun a => Fin.ext (e a)
  refine Eq.trans ?_ (congrFun (read_v3 (fun b => m (c, b))) y)
  exact congrArg (V m c (Pipeline.arrRef spec0 0)) e'

/-- The corners' block is the regions' array in one row. -/
theorem rblk_eq (hO : Ok m) (c : Dev nD) (t : Fin (cfgM m hO).N) :
    rblk m hO c t = shapeCast S5120 (m ((c.tc : Thread nD τ).loc main_arg1) : FVec F S1024x5 .f32) shapeCasts_S1024x5_S5120 := by
  funext y
  have e : ∀ a : Fin 1, (((((cfgM m hO).win 1).blk t).view.emb y a).val : Nat) = (y a).val := by
    intro a
    blk_simp
    match a with
    | ⟨0, _⟩ => exact Nat.zero_add _
  have e' : (((cfgM m hO).win 1).blk t).view.emb y = y := funext fun a => Fin.ext (e a)
  refine Eq.trans ?_ (congrFun (read_v2 (fun b => m (c, b))) y)
  exact congrArg (V m c (Pipeline.arrRef spec0 1)) e'

/-- The features' block is the image the sections' table names. -/
theorem fblk_eq (hO : Ok m) (c : Dev nD) (t : Fin (cfgM m hO).N) (q : Fin 4)
    (hq : secOfW (secsOf m) (ValueIdx.ix1 ((grid0.coords t) 0)) = BitVec.ofNat 32 q.val) (y : S1x200x200x256.Idx) :
    fblk m hO c t y = (truncf .bf16 (transpose S4x200x200x256 [0, 2, 3, 1] (m ((c.tc : Thread nD τ).loc main_arg0) : FVec F S4x256x200x200 .f32)
      transposes_S4x256x200x200_S4x200x200x256_0_2_3_1) bitsLt_bf16_f32 : FVec F S4x200x200x256 .bf16)
      (ValueIdx.ix4 q (y 1) (y 2) (y 3)) := by
  have hi : ∀ a : Fin 4, cc0_transform_2 k0_off1_inb numel1_S1 (tbl m) (grid0.coords t) a = ![q.val, 0, 0, 0] a := by
    intro a
    rw [transform_2_eq, tbl_0, hq]
    have h := q.isLt
    match a with
    | ⟨0, _⟩ => show (BitVec.ofNat 32 q.val).toNat = q.val; rw [BitVec.toNat_ofNat]; omega
    | ⟨1, _⟩ => rfl
    | ⟨2, _⟩ => rfl
    | ⟨3, _⟩ => rfl
  have e : ∀ a : Fin 4, (((((cfgM m hO).win 2).blk t).view.emb y a).val : Nat) = ![q.val, 0, 0, 0] a * S1x200x200x256.size a + (y a).val := by
    intro a
    blk_simp
    exact congrArg (fun k => k * S1x200x200x256.size a + (y a).val) (hi a)
  have e' : (((cfgM m hO).win 2).blk t).view.emb y = (ValueIdx.ix4 q (y 1) (y 2) (y 3) : S4x200x200x256.Idx) := funext fun a => Fin.ext <| by
    have h0 : (y (0 : Fin 4)).val < 1 := (y (0 : Fin 4)).isLt
    match a with
    | ⟨0, _⟩ => exact (e 0).trans (by show q.val * 1 + (y (0 : Fin 4)).val = q.val; omega)
    | ⟨1, _⟩ => exact (e 1).trans (Nat.zero_add _)
    | ⟨2, _⟩ => exact (e 2).trans (Nat.zero_add _)
    | ⟨3, _⟩ => exact (e 3).trans (Nat.zero_add _)
  refine Eq.trans ?_ (congrFun (read_v1 (fun b => m (c, b))) _)
  exact congrArg (V m c (Pipeline.arrRef spec0 2)) e'

/-- Where a visit reads its word. -/
theorem idxOff_eq : ∀ (i : grid0.Coords) (k : Fin k0_t1_loop.trips) (u : Fin 16), idxOff i k u.val 0 = 128 * (i 0).val + 16 * k.val + u.val := by
  decide +kernel

/-- The word of a slot. -/
theorem word_slot (X : S1536.Idx → BitVec 32) (i : grid0.Coords) (y : S128x7x7x256.Idx) (s : Fin 1536) (h0 : (i 0).val = s.val / 128)
    (hy : (y 0).val = s.val % 128) : wordAt X i (tripOf y) (visitOf y) = X (ValueIdx.ix1 s) := by
  unfold wordAt
  refine congrArg X (funext fun a => Fin.ext ?_)
  match a with
  | ⟨0, _⟩ =>
    refine (idxOff_eq i (tripOf y) (visitOf y)).trans ?_
    show 128 * (i 0).val + 16 * ((y 0).val / 16) + (y 0).val % 16 = s.val
    omega

/-- The regions' array in one row. -/
abbrev flatRois (r : FVec F S1024x5 .f32) : S5120.Idx → F .f32 := shapeCast S5120 r shapeCasts_S1024x5_S5120

/-- One image, channels last. -/
abbrev image (f : FVec F S4x256x200x200 .f32) (q : Fin 4) : S1x200x200x256.Idx → F .bf16 := fun y =>
  (truncf .bf16 (transpose S4x200x200x256 [0, 2, 3, 1] f transposes_S4x256x200x200_S4x200x200x256_0_2_3_1) bitsLt_bf16_f32 : FVec F S4x200x200x256 .bf16)
    (ValueIdx.ix4 q (y 1) (y 2) (y 3))

/-- A block at an index. -/
theorem oblk_point (hO : Ok m) (c : Dev nD) (t : Fin grid0.N) (q : Fin 4) (hq : secOfW (secsOf m) (ValueIdx.ix1 ((grid0.coords t) 0)) = BitVec.ofNat 32 q.val)
    (y : S128x7x7x256.Idx) (s : Fin 1536) (w : BitVec 32) (h0 : t.val = s.val / 128) (hy : (y 0).val = s.val % 128)
    (hw : idxW (secsOf m) (ValueIdx.ix1 s) = w) :
    oblk m hO c t y = roiOut (flatRois (m ((c.tc : Thread nD τ).loc main_arg1) : FVec F S1024x5 .f32))
      (image (m ((c.tc : Thread nD τ).loc main_arg0) : FVec F S4x256x200x200 .f32) q)
      (shapeCast S1 (m ((c.tc : Thread nD τ).loc main_arg2) : FVec F S_ .f32) shapeCasts_S_S1 idx1) w (y 1) (y 2) (y 3) := by
  have e1 : wordAt (tbM1.view.read (Elt F) (tbl m 1)) (grid0.coords t) (tripOf y) (visitOf y) = w := by
    rw [word_slot _ _ y s ((coords_val t).trans h0) hy]
    exact (congrFun (tbl_1 m) _).trans hw
  have e2 : fblk m hO c t = image (m ((c.tc : Thread nD τ).loc main_arg0) : FVec F S4x256x200x200 .f32) q := funext fun y => fblk_eq m hO c t q hq y
  have e3 := rblk_eq m hO c t
  have e4 := congrFun (sblk_eq m hO c t) idx1
  show roiOut (rblk m hO c t) (fblk m hO c t) (sblk m hO c t idx1) (wordAt (tbM1.view.read (Elt F) (tbl m 1)) (grid0.coords t) (tripOf y) (visitOf y)) (y 1) (y 2) (y 3) = _
  rw [e1, e2, e3, e4]

/-- The result, region by region: what the body leaves for the region from the region's corners and its image. -/
theorem out_point (hO : Ok m) (c : Dev nD) (B : Fin 1024 → Fin 4)
    (hB : ∀ n, secs (F := F) (m ((c.tc : Thread nD τ).loc main_arg1)) (ValueIdx.ix1 n) = BitVec.ofNat 32 (B n).val)
    (n : Fin 1024) (ch : Fin 256) (a b : Fin 7) :
    Pipeline.afterTail pcfgs (fun _ => adm m hO) (dats m hO) 0 (V0 m) [hostOps1] c main_v91 (ValueIdx.ix4 n ch a b : S1024x256x7x7.Idx)
      = roiOut (flatRois (m ((c.tc : Thread nD τ).loc main_arg1) : FVec F S1024x5 .f32))
          (image (m ((c.tc : Thread nD τ).loc main_arg0) : FVec F S4x256x200x200 .f32) (B n))
          (shapeCast S1 (m ((c.tc : Thread nD τ).loc main_arg2) : FVec F S_ .f32) shapeCasts_S_S1 idx1) (BitVec.ofNat 32 n.val) a b ch := by
  obtain rfl : c = (0 : Dev nD) := Subsingleton.elim _ _
  obtain ⟨s, hs, hi, hsec⟩ := Cert.KernelIdeal.Roi.route (secsOf m) (fun n => (B n).val) hB (fun n => (B n).isLt) n
  have hs' : s.val < 1536 := s.isLt
  have ht : s.val / 128 < 12 := by omega
  have e1 : (transpose S1024x256x7x7 [0, 3, 1, 2] (Host.gather gather_S1536x7x7x256_S1024x1_S1024x7x7x256_123_0_n_n_0_1_177256
      (slots m hO 0) (wrap 1536#32 (slotOfW (secsOf m)))) transposes_S1024x7x7x256_S1024x256x7x7_0_3_1_2) (ValueIdx.ix4 n ch a b)
      = slots m hO 0 (ValueIdx.ix4 s a b ch) := by
    refine Eq.trans ?_ (take_rows _ (wrap 1536#32 (slotOfW (secsOf m))) n a b ch s (wrap_eq _ _ n _ (by have := s.isLt; omega) hs))
    unfold transpose
    refine congrArg _ (funext fun x => Fin.ext ?_)
    match x with
    | ⟨0, _⟩ => rfl
    | ⟨1, _⟩ => rfl
    | ⟨2, _⟩ => rfl
    | ⟨3, _⟩ => rfl
  refine (congrFun (tail_91 m hO 0) _).trans (e1.trans ?_)
  exact oblk_point m hO 0 ⟨s.val / 128, ht⟩ (B n) (hsec _ (coords_val _)) _ s _ rfl rfl hi

end Cert.KernelIdeal.Roi
end
-- ==== Proof.V.Spec.lean ====
/- A sample of the image by bilinear weights, as plain mathematics over the extended reals. -/
module

public import proofs.«01_k».proof.Proof.PI.Body
public import Idealize.ShloMosaic.PureOps.Ideal.Laws
public import Idealize.ShloMosaic.Lib.Pointwise

@[expose] public section

noncomputable section

namespace Cert.Sample

open Idealize.ShloMosaic
open Cert.KernelIdeal.Roi (toInt_max toInt_min toInt_bounds clip_mem)

/-- The lesser of two real numbers. -/
theorem coe_min' (a b : ℝ) : ((min a b : ℝ) : EReal) = min (a : EReal) (b : EReal) := EReal.coe_strictMono.monotone.map_min

/-- The greater of two real numbers. -/
theorem coe_max' (a b : ℝ) : ((max a b : ℝ) : EReal) = max (a : EReal) (b : EReal) := EReal.coe_strictMono.monotone.map_max

/-- A position inside the image. -/
def Inside (x : EReal) : Prop := 0 ≤ x ∧ x < ((200 : ℝ) : EReal)

/-- The node before a position: the last but one at most. -/
def node (x : EReal) : ℕ := min ⌊x.toReal⌋₊ 198

/-- What is left of a position past its node. -/
def rest (x : EReal) : EReal := x - ((node x : ℝ) : EReal)

/-- A row or column of the image by its number. -/
def cell (k : ℕ) : Fin 200 := ⟨k % 200, Nat.mod_lt _ (by decide)⟩

/-- The four terms of a sample. -/
def blend (f : Fin 200 → Fin 200 → EReal) (h w : EReal) : EReal :=
  f (cell (node h)) (cell (node w)) * (1 - rest h) * (1 - rest w)
    + f (cell (node h)) (cell (node w + 1)) * (1 - rest h) * rest w
    + f (cell (node h + 1)) (cell (node w)) * rest h * (1 - rest w)
    + f (cell (node h + 1)) (cell (node w + 1)) * rest h * rest w

open Classical in
/-- A sample: nothing outside the image. -/
def sample (f : Fin 200 → Fin 200 → EReal) (h w : EReal) : EReal := if Inside h ∧ Inside w then blend f h w else 0

/-- A region's step along one axis, from its two corners. -/
def step (a b : EReal) : EReal := max (b - a + 1) 0 * ((7⁻¹ : ℝ) : EReal)

/-- A sample's position along one axis. -/
def pos (a b : EReal) (p : ℕ) : EReal := a + ((p : ℝ) : EReal) * step a b

/-- A sample of a region from its corners and the scale, at a row and a column of its grid. -/
def val (f : Fin 200 → Fin 200 → EReal) (s x1 y1 x2 y2 : EReal) (p q : ℕ) : EReal := sample f (pos (y1 * s) (y2 * s) p) (pos (x1 * s) (x2 * s) q)

/-- A bin of a region: a quarter of the samples at its four corners. -/
def pooled (f : Fin 200 → Fin 200 → EReal) (s x1 y1 x2 y2 : EReal) (a b : ℕ) : EReal :=
  (val f s x1 y1 x2 y2 a b + val f s x1 y1 x2 y2 (a + 1) b + (val f s x1 y1 x2 y2 a (b + 1) + val f s x1 y1 x2 y2 (a + 1) (b + 1)))
    * Ideal.ofBits .f32 0x3E800000#32

theorem node_le (x : EReal) : node x ≤ 198 := Nat.min_le_right _ _

/-- A position inside is a real number. -/
theorem Inside.real {x : EReal} (h : Inside x) : ∃ r : ℝ, x = (r : EReal) ∧ 0 ≤ r ∧ r < 200 ∧ node x = min ⌊r⌋₊ 198 := by
  obtain ⟨h0, h1⟩ := h
  induction x with
  | bot => exact absurd h0 (by simp)
  | top => exact absurd h1 (by simp)
  | coe r => exact ⟨r, rfl, by exact_mod_cast h0, by exact_mod_cast h1, rfl⟩

/-- A natural number below the words' half as a signed word. -/
theorem toInt_nat (n : ℕ) (h : n < 2 ^ 31) : (BitVec.ofNat 32 n).toInt = n := by
  rw [BitVec.toInt_ofNat']; simp only [Int.bmod]; omega

/-- Truncation of a real number that is not negative. -/
theorem fptosi_nonneg (r : ℝ) (h0 : 0 ≤ r) (h1 : r < 2 ^ 30) : Ideal.fptosi 32 (r : EReal) = BitVec.ofNat 32 ⌊r⌋₊ := by
  have hf : ⌊r⌋₊ < 2 ^ 30 := (Nat.floor_lt h0).2 (by exact_mod_cast h1)
  have hz : ⌊r⌋ = ((⌊r⌋₊ : ℕ) : ℤ) := (Int.natCast_floor_eq_floor h0).symm
  rw [Ideal.fptosi, Ideal.toIntClamped_coe, if_pos h0, hz]
  apply BitVec.eq_of_toInt_eq
  rw [toInt_nat _ (by omega), BitVec.toInt_ofInt]
  simp only [Int.bmod]; omega

/-- The node of a position inside, as the word the programs compute. -/
theorem word_node {x : EReal} (h : Inside x) : Scalar.minsi (Ideal.fptosi 32 x) 198#32 = BitVec.ofNat 32 (node x) := by
  obtain ⟨r, rfl, h0, h1, hn⟩ := h.real
  rw [fptosi_nonneg r h0 (by linarith), hn]
  have hf : ⌊r⌋₊ < 200 := (Nat.floor_lt h0).2 (by exact_mod_cast h1)
  apply BitVec.eq_of_toInt_eq
  rw [toInt_min, toInt_bounds.1, toInt_nat _ (by omega), toInt_nat _ (by omega)]
  omega

/-- Words that are not negative are kept by the maximum with nothing. -/
theorem max_nat (n : ℕ) (h : n < 2 ^ 31) : Scalar.maxsi (BitVec.ofNat 32 n) 0#32 = BitVec.ofNat 32 n := by
  apply BitVec.eq_of_toInt_eq
  rw [toInt_max, toInt_nat _ h, toInt_bounds.2]; omega

/-- The node of a position inside, as the number the reference computes. -/
theorem floor_node {x : EReal} (h : Inside x) : min (Ideal.liftRound Int.floor x) ((198 : ℝ) : EReal) = ((node x : ℝ) : EReal) := by
  obtain ⟨r, rfl, h0, h1, hn⟩ := h.real
  have hz : ⌊r⌋ = ((⌊r⌋₊ : ℕ) : ℤ) := (Int.natCast_floor_eq_floor h0).symm
  rw [hn]
  show min (((⌊r⌋ : ℝ)) : EReal) ((198 : ℝ) : EReal) = _
  rw [hz, ← coe_min']
  congr 1
  push_cast
  rfl

/-- The first column of the window that a word opens. -/
def windowAt (v : BitVec 32) : BitVec 32 :=
  Scalar.minsi (Scalar.shli (Scalar.shrsi (Scalar.minsi 198#32 (Scalar.maxsi 0#32 v)) 3#32) 3#32) 152#32

/-- The window of a clipped word: close before it, and inside the image. -/
theorem window_close : ∀ n : Fin 199, ∃ w : Fin 153,
    Scalar.minsi (Scalar.shli (Scalar.shrsi (BitVec.ofNat 32 n.val) 3#32) 3#32) 152#32 = BitVec.ofNat 32 w.val
      ∧ w.val ≤ n.val ∧ (n.val < w.val + 8 ∨ w.val = 152) := by
  intro n
  refine ⟨⟨min (8 * (n.val / 8)) 152, by omega⟩, ?_, ?_, ?_⟩
  · revert n; decide +kernel
  · show min (8 * (n.val / 8)) 152 ≤ n.val; omega
  · show n.val < min (8 * (n.val / 8)) 152 + 8 ∨ min (8 * (n.val / 8)) 152 = 152; omega

/-- A window that opens at the region's first column holds every column the region samples, if the region is at most 39
    columns wide. -/
theorem window_holds (a : EReal) (v : ℝ) (h0 : 0 ≤ v) (h1 : v ≤ 39) (hw : Inside (a + (v : EReal))) :
    ∃ w0 : ℕ, windowAt (Ideal.fptosi 32 a) = BitVec.ofNat 32 w0 ∧ w0 ≤ 152 ∧ w0 ≤ node (a + (v : EReal)) ∧ node (a + (v : EReal)) + 1 < w0 + 48 := by
  obtain ⟨r, hr, hr0, hr1, hn⟩ := hw.real
  induction a with
  | bot => simp at hr
  | top => simp at hr
  | coe x =>
    have hxv : x + v = r := by rw [← EReal.coe_add] at hr; exact_mod_cast hr
    have hfr : ⌊r⌋₊ < 200 := (Nat.floor_lt hr0).2 (by exact_mod_cast hr1)
    obtain ⟨t, htr⟩ : ∃ t, t = min ⌊x⌋₊ 198 := ⟨_, rfl⟩
    have ht : Scalar.minsi 198#32 (Scalar.maxsi 0#32 (Ideal.fptosi 32 (x : EReal))) = BitVec.ofNat 32 t := by
      by_cases hx : 0 ≤ x
      · rw [fptosi_nonneg x hx (by linarith)]
        have hfx : ⌊x⌋₊ < 200 := (Nat.floor_lt hx).2 (by push_cast; linarith)
        apply BitVec.eq_of_toInt_eq
        rw [toInt_min, toInt_max, toInt_bounds.1, toInt_bounds.2, toInt_nat _ (by omega), toInt_nat _ (by omega)]
        omega
      · have hx' : x < 0 := not_le.1 hx
        have hc : ⌈x⌉ ≤ 0 := Int.ceil_le.2 (by exact_mod_cast hx'.le)
        have hc' : -40 ≤ ⌈x⌉ := by
          have : (-40 : ℝ) ≤ x := by linarith
          exact_mod_cast this.trans (Int.le_ceil x)
        rw [Nat.floor_of_nonpos hx'.le] at htr
        rw [Ideal.fptosi, Ideal.toIntClamped_coe, if_neg hx]
        apply BitVec.eq_of_toInt_eq
        rw [toInt_min, toInt_max, BitVec.toInt_ofInt, toInt_bounds.1, toInt_bounds.2, toInt_nat _ (by omega)]
        simp only [Int.bmod]; omega
    obtain ⟨w, hw, hle, hlt⟩ := window_close ⟨t, by omega⟩
    replace hle : w.val ≤ t := hle
    replace hlt : t < w.val + 8 ∨ w.val = 152 := hlt
    refine ⟨w.val, ?_, by omega, ?_, ?_⟩
    · unfold windowAt; rw [ht]; exact hw
    · rw [hn]
      have : ⌊x⌋₊ ≤ ⌊r⌋₊ := Nat.floor_mono (by linarith)
      omega
    · rw [hn]
      have : ⌊r⌋₊ ≤ ⌊x⌋₊ + 39 := by
        by_cases hx : 0 ≤ x
        · have h2 : ⌊r⌋₊ ≤ ⌊x + ((39 : ℕ) : ℝ)⌋₊ := Nat.floor_mono (by push_cast; linarith)
          rwa [Nat.floor_add_natCast hx] at h2
        · have h2 : ⌊r⌋₊ ≤ ⌊((39 : ℕ) : ℝ)⌋₊ := Nat.floor_mono (by push_cast; linarith)
          rw [Nat.floor_natCast] at h2; omega
      omega

/-- A region at most 38 columns wide has a step of at most 39 sevenths. -/
theorem step_real (a b : EReal) (h : b - a ≤ ((38 : ℝ) : EReal)) : ∃ u : ℝ, 0 ≤ u ∧ u ≤ 39 ∧ step a b = ((u * 7⁻¹ : ℝ) : EReal) := by
  unfold step
  generalize b - a = d at h
  induction d with
  | bot => exact ⟨0, le_refl _, by norm_num, by simp⟩
  | top => simp at h
  | coe d =>
    have hd : d ≤ 38 := by exact_mod_cast h
    refine ⟨max (d + 1) 0, le_max_right _ _, max_le (by linarith) (by norm_num), ?_⟩
    rw [EReal.coe_mul, coe_max', EReal.coe_add]; rfl

/-- The columns of such a region stay in its window. -/
theorem window_pos (a b : EReal) (h : b - a ≤ ((38 : ℝ) : EReal)) (q : Fin 8) (hw : Inside (pos a b q.val)) :
    ∃ w0 : ℕ, windowAt (Ideal.fptosi 32 a) = BitVec.ofNat 32 w0 ∧ w0 ≤ 152 ∧ w0 ≤ node (pos a b q.val) ∧ node (pos a b q.val) + 1 < w0 + 48 := by
  obtain ⟨u, hu0, hu1, hs⟩ := step_real a b h
  have hq : (q.val : ℝ) ≤ 7 := by exact_mod_cast Nat.lt_succ_iff.1 q.isLt
  have hq0 : (0 : ℝ) ≤ q.val := Nat.cast_nonneg _
  have e : pos a b q.val = a + (((q.val : ℝ) * (u * 7⁻¹) : ℝ) : EReal) := by
    unfold pos; rw [hs, ← EReal.coe_mul]
  rw [e] at hw ⊢
  refine window_holds a _ (by positivity) ?_ hw
  have : (q.val : ℝ) * u ≤ 7 * 39 := mul_le_mul hq hu1 hu0 (by norm_num)
  linarith

/-! ## The sum over the window -/

/-- A window's sum with two weights, at the two columns. -/
theorem sum_window (n w0 : ℕ) (h1 : w0 ≤ n) (h2 : n + 1 < w0 + 48) (c a b : EReal) (g : Fin 48 → EReal) :
    ∑ k : Fin 48, c * ((if w0 + k.val = n then a else 0) + (if w0 + k.val = n + 1 then b else 0)) * g k
      = c * a * g ⟨n - w0, by omega⟩ + c * b * g ⟨n + 1 - w0, by omega⟩ := by
  have e : ∀ k : Fin 48, c * ((if w0 + k.val = n then a else 0) + (if w0 + k.val = n + 1 then b else 0)) * g k
      = (if (⟨n - w0, by omega⟩ : Fin 48) = k then c * a * g k else 0) + (if (⟨n + 1 - w0, by omega⟩ : Fin 48) = k then c * b * g k else 0) := by
    intro k
    by_cases e1 : w0 + k.val = n
    · rw [if_pos e1, if_neg (by omega), if_pos (Fin.ext (by show n - w0 = k.val; omega)),
        if_neg (fun e => by have : n + 1 - w0 = k.val := congrArg Fin.val e; omega), add_zero, add_zero]
    · by_cases e2 : w0 + k.val = n + 1
      · rw [if_neg e1, if_pos e2, if_neg (fun e => by have : n - w0 = k.val := congrArg Fin.val e; omega),
          if_pos (Fin.ext (by show n + 1 - w0 = k.val; omega)), zero_add, zero_add]
      · rw [if_neg e1, if_neg e2, if_neg (fun e => by have : n - w0 = k.val := congrArg Fin.val e; omega),
          if_neg (fun e => by have : n + 1 - w0 = k.val := congrArg Fin.val e; omega), add_zero, mul_zero, zero_mul]
  rw [Finset.sum_congr rfl fun k _ => e k, Finset.sum_add_distrib, Finset.sum_ite_eq, Finset.sum_ite_eq]
  simp

open Classical in
/-- The weighted sum over a window of two rows is the sample. -/
theorem sum_sample (w0 : ℕ) (f : Fin 200 → Fin 200 → EReal) (h w : EReal) (W X : Fin 96 → EReal)
    (hW : ∀ k : Fin 96, W k = (if Inside h then (1 : EReal) else 0) * (if 48 ≤ k.val then rest h else 1 - rest h)
      * (if Inside w then (if w0 + k.val % 48 = node w then 1 - rest w else 0) + (if w0 + k.val % 48 = node w + 1 then rest w else 0) else 0))
    (hw : Inside w → w0 ≤ 152 ∧ w0 ≤ node w ∧ node w + 1 < w0 + 48)
    (hX : Inside h → Inside w → ∀ k : Fin 96, X k = f (cell (node h + k.val / 48)) (cell (w0 + k.val % 48))) :
    ∑ k, W k * X k = sample f h w := by
  unfold sample
  by_cases hh : Inside h
  · by_cases hww : Inside w
    · rw [if_pos ⟨hh, hww⟩]
      obtain ⟨h0, h1, h2⟩ := hw hww
      rw [Fin.sum_univ_two_halves 48 48 rfl]
      have eW : ∀ k : Fin 96, W k = (if 48 ≤ k.val then rest h else 1 - rest h)
          * ((if w0 + k.val % 48 = node w then 1 - rest w else 0) + (if w0 + k.val % 48 = node w + 1 then rest w else 0)) := fun k => by
        rw [hW k, if_pos hh, if_pos hww, one_mul]
      have eX := hX hh hww
      have p0 : ∀ k : Fin 48, k.val % 48 = k.val ∧ k.val / 48 = 0 ∧ (48 + k.val) % 48 = k.val ∧ (48 + k.val) / 48 = 1 ∧ ¬ 48 ≤ k.val := fun k => by
        have := k.isLt; omega
      have hA : ∑ k : Fin 48, W ⟨k.val, by omega⟩ * X ⟨k.val, by omega⟩
          = ∑ k : Fin 48, (1 - rest h) * ((if w0 + k.val = node w then 1 - rest w else 0) + (if w0 + k.val = node w + 1 then rest w else 0))
            * f (cell (node h)) (cell (w0 + k.val)) := Finset.sum_congr rfl fun k _ => by
        obtain ⟨q1, q2, q3, q4, q5⟩ := p0 k
        rw [eW, eX]
        simp only [q1, q2, if_neg q5, add_zero]
      have hB : ∑ k : Fin 48, W ⟨48 + k.val, by omega⟩ * X ⟨48 + k.val, by omega⟩
          = ∑ k : Fin 48, rest h * ((if w0 + k.val = node w then 1 - rest w else 0) + (if w0 + k.val = node w + 1 then rest w else 0))
            * f (cell (node h + 1)) (cell (w0 + k.val)) := Finset.sum_congr rfl fun k _ => by
        obtain ⟨q1, q2, q3, q4, q5⟩ := p0 k
        rw [eW, eX]
        simp only [q3, q4, if_pos (Nat.le_add_right 48 k.val)]
      refine (congrArg₂ (· + ·) hA hB).trans ?_
      rw [sum_window (node w) w0 h1 h2 _ _ _ (fun k => f (cell (node h)) (cell (w0 + k.val))),
        sum_window (node w) w0 h1 h2 _ _ _ (fun k => f (cell (node h + 1)) (cell (w0 + k.val)))]
      have a1 : w0 + (node w - w0) = node w := by omega
      have a2 : w0 + (node w + 1 - w0) = node w + 1 := by omega
      show _ + _ * f _ (cell (w0 + (node w + 1 - w0))) + (_ + _) = _
      simp only [a1, a2]
      unfold blend
      simp only [mul_comm, mul_left_comm, mul_assoc, add_assoc]
    · rw [if_neg (fun e => hww e.2)]
      exact Finset.sum_eq_zero fun k _ => by rw [hW k, if_neg hww, mul_zero, zero_mul]
  · rw [if_neg (fun e => hh e.1)]
    exact Finset.sum_eq_zero fun k _ => by rw [hW k, if_neg hh, zero_mul, zero_mul, zero_mul]

end Cert.Sample
end
-- ==== Proof.V.KernelPoint.lean ====
/- What the kernel's body computes for a region, read at an index: pooled samples. -/
module

public import proofs.«01_k».proof.Proof.V.Spec

@[expose] public section

set_option maxRecDepth 16384

noncomputable section

namespace Cert.KernelIdeal.Roi

open Cert.KernelIdeal Cert.KernelIdeal.Gen
open Idealize.ShloMosaic Cert.Sample

/-! ## Words and literals -/

/-- The named constant is a seventh. -/
theorem named_seventh : (Named.named (F := Ideal) (φ := .f32) κ "one_seventh" 0x3E124925#32 : EReal) = ((7⁻¹ : ℝ) : EReal) :=
  IdealRules.named_const.ideal_named_scalar _ _ _ _ rfl

/-- The image's extent. -/
theorem lit_200 : Ideal.ofBits .f32 0x43480000#32 = ((200 : ℝ) : EReal) := by
  simp [Ideal.ofBits, Ideal.ieee, -EReal.coe_mul]; norm_num

/-- A weight row's column of the grid. -/
theorem col_word : ∀ r : Fin 64, (IntOp.andi (BitVec.ofNat 32 r.val) 7#32).toInt = ((r.val % 8 : ℕ) : ℤ) := by decide +kernel

/-- A weight row's row of the grid. -/
theorem row_word : ∀ r : Fin 64, (IntOp.shrsi ArithUnit.vector (BitVec.ofNat 32 r.val) 3#32).toInt = ((r.val / 8 : ℕ) : ℤ) := by decide +kernel

/-- The second image row's half of the window. -/
theorem half_word : ∀ k : Fin 96, IntOp.cmpi .sge (BitVec.ofNat 32 k.val) 48#32 = BitVec.ofBool (decide (48 ≤ k.val)) := by decide +kernel

/-- A place's column within the window. -/
theorem local_word : ∀ k : Fin 96, Scalar.select (IntOp.cmpi .sge (BitVec.ofNat 32 k.val) 48#32) (IntOp.subi (BitVec.ofNat 32 k.val) 48#32) (BitVec.ofNat 32 k.val)
    = BitVec.ofNat 32 (k.val % 48) := by decide +kernel

theorem col_float (r : Fin 64) : (FloatOps.sitofp (F := Ideal) FTy.f32 (IntOp.andi (BitVec.ofNat 32 r.val) 7#32) : EReal) = (((r.val % 8 : ℕ) : ℝ) : EReal) := by
  show (((IntOp.andi (BitVec.ofNat 32 r.val) 7#32).toInt : ℝ) : EReal) = _
  rw [col_word, Int.cast_natCast]

theorem row_float (r : Fin 64) : (FloatOps.sitofp (F := Ideal) FTy.f32 (IntOp.shrsi ArithUnit.vector (BitVec.ofNat 32 r.val) 3#32) : EReal) = (((r.val / 8 : ℕ) : ℝ) : EReal) := by
  show (((IntOp.shrsi ArithUnit.vector (BitVec.ofNat 32 r.val) 3#32).toInt : ℝ) : EReal) = _
  rw [row_word, Int.cast_natCast]

/-- A choice by a decided bit. -/
theorem select_bit {α : Type} (p : Prop) [Decidable p] (a b : α) : Scalar.select (BitVec.ofBool (decide p)) a b = if p then a else b := by
  by_cases h : p <;> simp [h, Scalar.select]

/-- A decided bit as a number. -/
theorem bit_float (p : Prop) [Decidable p] : (FloatOps.sitofp (F := Ideal) FTy.f32 (BitVec.setWidth 32 (BitVec.ofBool (decide p))) : EReal) = if p then 1 else 0 := by
  by_cases h : p
  · simp only [h, if_true, decide_true]
    show ((((BitVec.setWidth 32 (BitVec.ofBool true)).toInt : ℤ) : ℝ) : EReal) = 1
    rw [show (BitVec.setWidth 32 (BitVec.ofBool true)).toInt = 1 by decide]; simp
  · simp only [h, if_false, decide_false]
    show ((((BitVec.setWidth 32 (BitVec.ofBool false)).toInt : ℤ) : ℝ) : EReal) = 0
    rw [show (BitVec.setWidth 32 (BitVec.ofBool false)).toInt = 0 by decide]; simp

open Classical in
/-- The bit of a proposition. -/
def bitOf (p : Prop) : BitVec 1 := BitVec.ofBool (decide p)

open Classical in
theorem select_bitOf {α : Type} (p : Prop) (a b : α) : Scalar.select (bitOf p) a b = if p then a else b := select_bit p a b

open Classical in
theorem float_bitOf (p : Prop) : (FloatOps.sitofp (F := Ideal) FTy.f32 (BitVec.setWidth 32 (bitOf p)) : EReal) = if p then 1 else 0 := bit_float p

/-- The two comparisons of a position with the image's edges. -/
theorem inside_bit (x : EReal) [Decidable (0 ≤ x)] [Decidable (x < Ideal.ofBits .f32 0x43480000#32)] :
    IntOp.andi (BitVec.ofBool (decide (0 ≤ x))) (BitVec.ofBool (decide (x < Ideal.ofBits .f32 0x43480000#32))) = bitOf (Inside x) := by
  unfold bitOf Inside
  rw [← lit_200]
  by_cases h0 : 0 ≤ x <;> by_cases h1 : x < Ideal.ofBits .f32 0x43480000#32 <;> simp [h0, h1, IntOp.andi]

/-- A word of a real region is not negative. -/
theorem real_word : ∀ n : Fin 1024, (Scalar.extui (Scalar.cmpi CmpIPredicate.sge (BitVec.ofNat 32 n.val) 0#32) : BitVec 32).toInt = 1 := by decide +kernel

/-- Two small words are equal when their numbers are. -/
theorem eq_word (a b n : ℕ) (ha : a + b < 2 ^ 31) (hn : n < 2 ^ 31) :
    IntOp.cmpi .eq (IntOp.addi (BitVec.ofNat 32 a) (BitVec.ofNat 32 b)) (BitVec.ofNat 32 n) = BitVec.ofBool (decide (a + b = n)) := by
  have e : IntOp.addi (BitVec.ofNat 32 a) (BitVec.ofNat 32 b) = BitVec.ofNat 32 (a + b) := (BitVec.ofNat_add a b).symm
  rw [e]
  show BitVec.ofBool (BitVec.ofNat 32 (a + b) == BitVec.ofNat 32 n) = _
  congr 1
  rw [Bool.eq_iff_iff, beq_iff_eq, decide_eq_true_iff]
  constructor
  · intro h
    have := congrArg BitVec.toNat h
    rw [BitVec.toNat_ofNat, BitVec.toNat_ofNat] at this
    omega
  · rintro rfl; rfl

theorem pos_eq (a b : EReal) (p : ℕ) : a + ((p : ℝ) : EReal) * (max (b - a + 1) 0 * ((7⁻¹ : ℝ) : EReal)) = pos a b p := rfl

open Classical in
/-- The weights at an index. -/
theorem wts_at (s x1 y1 x2 y2 : EReal) (n : Fin 1024) (r : Fin 64) (k : Fin 96) (w0 : ℕ)
    (hw : Inside (pos (x1 * s) (x2 * s) (r.val % 8)) → windowAt (Ideal.fptosi 32 (x1 * s)) = BitVec.ofNat 32 w0 ∧ w0 ≤ 152) :
    wts (F := Ideal) s (BitVec.ofNat 32 n.val) x1 y1 x2 y2 (ix2 r k)
      = (if Inside (pos (y1 * s) (y2 * s) (r.val / 8)) then (1 : EReal) else 0)
        * (if 48 ≤ k.val then rest (pos (y1 * s) (y2 * s) (r.val / 8)) else 1 - rest (pos (y1 * s) (y2 * s) (r.val / 8)))
        * (if Inside (pos (x1 * s) (x2 * s) (r.val % 8)) then
            (if w0 + k.val % 48 = node (pos (x1 * s) (x2 * s) (r.val % 8)) then 1 - rest (pos (x1 * s) (x2 * s) (r.val % 8)) else 0)
              + (if w0 + k.val % 48 = node (pos (x1 * s) (x2 * s) (r.val % 8)) + 1 then rest (pos (x1 * s) (x2 * s) (r.val % 8)) else 0) else 0) := by
  pointwise [wts, k0_pay14, k0_pay13, k0_pay12, k0_pay11, k0_pay10, k0_pay9, k0_pay8, k0_pay7, k0_pay6, k0_pay4, k0_pay3, k0_pay2, k0_pay1]
  rw [real_word]
  simp only [inside_bit]
  simp only [named_seventh, col_float, row_float, local_word]
  simp only [pos_eq, half_word, select_bit, select_bitOf, float_bitOf, Int.cast_one, EReal.coe_one, mul_one]
  generalize pos (x1 * s) (x2 * s) (r.val % 8) = w at hw ⊢
  generalize pos (y1 * s) (y2 * s) (r.val / 8) = h
  have e1 : ∀ x : EReal, Inside x → (x - FloatOps.sitofp (F := Ideal) FTy.f32 (IntOp.minsi (FloatOps.fptosi (F := Ideal) (φ := .f32) 32 x) 198#32) : EReal) = rest x := fun x hx => by
    show x - ((((Scalar.minsi (Ideal.fptosi 32 x) 198#32).toInt : ℤ) : ℝ) : EReal) = _
    have hn := node_le x
    rw [word_node hx, toInt_nat _ (by omega)]; rfl
  by_cases hh : Inside h
  · simp only [if_pos hh]
    rw [e1 h hh]
    by_cases hww : Inside w
    · obtain ⟨hwin, hle⟩ := hw hww
      have hn := node_le w
      have hk : k.val % 48 < 48 := Nat.mod_lt _ (by decide)
      have e2 : IntOp.maxsi (IntOp.minsi (FloatOps.fptosi (F := Ideal) (φ := .f32) 32 w) 198#32) 0#32 = BitVec.ofNat 32 (node w) := by
        show Scalar.maxsi (Scalar.minsi (Ideal.fptosi 32 w) 198#32) 0#32 = _
        rw [word_node hww, max_nat _ (by omega)]
      have e3 : IntOp.addi (BitVec.ofNat 32 (node w)) 1#32 = BitVec.ofNat 32 (node w + 1) := (BitVec.ofNat_add _ _).symm
      have e4 : Scalar.minsi (Scalar.shli (Scalar.shrsi (Scalar.minsi (198#32) (Scalar.maxsi (0#32) (Ideal.fptosi 32 (x1 * s)))) 3#32) 3#32) 152#32 = BitVec.ofNat 32 w0 := hwin
      simp only [if_pos hww]
      rw [e1 w hww, e2, e3, e4, eq_word _ _ _ (by omega) (by omega), eq_word _ _ _ (by omega) (by omega), select_bit, select_bit]
    · simp only [if_neg hww, mul_zero]
  · simp only [if_neg hh, zero_mul, ite_self]

end Cert.KernelIdeal.Roi
end
-- ==== Proof.V.Strip.lean ====
/- What the kernel's body computes for a region, read at an index: pooled samples. -/
module

public import proofs.«01_k».proof.Proof.PI.Words
public import proofs.«01_k».proof.Proof.V.KernelPoint

@[expose] public section

set_option maxRecDepth 16384

noncomputable section

namespace Cert.KernelIdeal.Roi

open Cert.KernelIdeal Cert.KernelIdeal.Gen
open Idealize.ShloMosaic Cert.Sample

/-- A dot of eight rows of weights, read at an index. -/
theorem dot_at (o : ℕ) (ho : S64x96.Slices ![o, 0] S8x96) (hb : o + 8 ≤ 64) (m2 : FVec Ideal S64x96 .bf16) (rows : Vec Ideal S1x2x48x256 .bf16) (q : Fin 8) (d : Fin 256) :
    (dotAt o ho m2 rows (ix2 q d) : EReal) = ∑ k : Fin 96, (m2 (ix2 ⟨o + q.val, by omega⟩ k) : EReal)
      * rows (ix4 (0 : Fin 1) (⟨k.val / 48, by omega⟩ : Fin 2) (⟨k.val % 48, Nat.mod_lt _ (by decide)⟩ : Fin 48) d) := by
  pointwise [dotAt]

/-- A pooled strip, read at an index. -/
theorem pool_at (A B : FVec Ideal S8x256 .f32) (b : Fin 7) (d : Fin 256) :
    (pool2 A B (stripIdx b d) : EReal) = ((A (ix2 (⟨b.val, by omega⟩ : Fin 8) d) + B (ix2 (⟨b.val, by omega⟩ : Fin 8) d))
      + (A (ix2 (⟨1 + b.val, by omega⟩ : Fin 8) d) + B (ix2 (⟨1 + b.val, by omega⟩ : Fin 8) d)) : EReal) * Ideal.ofBits .f32 0x3E800000#32 := by
  show pool2 A B (ix4 (0 : Fin 1) (0 : Fin 1) b d) = _
  pointwise [pool2]

/-- A box of two image rows and 48 columns, read at an index. -/
theorem unit_at (X5 : S1x200x200x256.Idx → Ideal .bf16) (off : Fin 4 → ℕ) (inb : ∀ a, off a + S1x2x48x256.size a ≤ S1x200x200x256.size a)
    (nh w0 : ℕ) (h0 : nh ≤ 198) (h1 : w0 ≤ 152) (ho : off = ![0, nh, w0, 0]) (i : Fin 2) (j : Fin 48) (d : Fin 256) :
    X5 ((Rect.unit (s := S1x200x200x256) off S1x2x48x256.size inb).emb (ix4 (0 : Fin 1) i j d))
      = X5 (ix4 (0 : Fin 1) (cell (nh + i.val)) (cell (w0 + j.val)) d) := by
  subst ho
  refine congrArg X5 (funext fun a => Fin.ext ?_)
  match a with
  | ⟨0, _⟩ => rfl
  | ⟨1, _⟩ =>
    show nh + 1 * i.val = (nh + i.val) % 200
    omega
  | ⟨2, _⟩ =>
    show w0 + 1 * j.val = (w0 + j.val) % 200
    omega
  | ⟨3, _⟩ =>
    show 0 + 1 * d.val = d.val
    omega

/-- The image rows read, at an index. -/
theorem rows_at (X5 : S1x200x200x256.Idx → Ideal .bf16) (v h : BitVec 32) (nh w0 : ℕ) (h0 : nh ≤ 198) (h1 : w0 ≤ 152)
    (hh : Scalar.maxsi (Scalar.minsi h 198#32) 0#32 = BitVec.ofNat 32 nh) (hw : windowAt v = BitVec.ofNat 32 w0)
    (i : Fin 2) (j : Fin 48) (d : Fin 256) :
    rowsAt X5 v h (ix4 (0 : Fin 1) i j d) = X5 (ix4 (0 : Fin 1) (cell (nh + i.val)) (cell (w0 + j.val)) d) := by
  have ho : k0_off4 v h = ![0, (BitVec.ofNat 32 nh).toNat, (BitVec.ofNat 32 w0).toNat, 0] := by
    rw [← hh, ← hw]; rfl
  have e1 : (BitVec.ofNat 32 nh).toNat = nh := by rw [BitVec.toNat_ofNat]; omega
  have e2 : (BitVec.ofNat 32 w0).toNat = w0 := by rw [BitVec.toNat_ofNat]; omega
  rw [e1, e2] at ho
  exact unit_at X5 _ (chk3_all v h) nh w0 h0 h1 ho i j d

/-- The row of the image a row of the grid reads. -/
theorem hrow_eq (s y1 y2 : EReal) (p : Fin 8) (lit : BitVec 32) (hl : Ideal.ofBits .f32 lit = ((p.val : ℝ) : EReal)) :
    hrow (F := Ideal) (k0_pay8 (F := Ideal) s y1) (k0_pay9 (F := Ideal) s y1 y2) lit = Ideal.fptosi 32 (pos (y1 * s) (y2 * s) p.val) := by
  have e : (k0_pay9 (F := Ideal) s y1 y2 : EReal) = step (y1 * s) (y2 * s) := by
    pointwise [k0_pay9, k0_pay8]
    rw [named_seventh]; rfl
  unfold hrow
  rw [e]
  show Ideal.fptosi 32 (y1 * s + Ideal.ofBits .f32 lit * step (y1 * s) (y2 * s)) = _
  rw [hl]; rfl

open Classical in
/-- The weights at an index, by the row and the column of the grid it stands for. -/
theorem wts_pos (s x1 y1 x2 y2 : EReal) (n : Fin 1024) (r : Fin 64) (k : Fin 96) (w0 p q : ℕ) (hp : r.val / 8 = p) (hq : r.val % 8 = q)
    (hw : Inside (pos (x1 * s) (x2 * s) q) → windowAt (Ideal.fptosi 32 (x1 * s)) = BitVec.ofNat 32 w0 ∧ w0 ≤ 152) :
    wts (F := Ideal) s (BitVec.ofNat 32 n.val) x1 y1 x2 y2 (ix2 r k)
      = (if Inside (pos (y1 * s) (y2 * s) p) then (1 : EReal) else 0)
        * (if 48 ≤ k.val then rest (pos (y1 * s) (y2 * s) p) else 1 - rest (pos (y1 * s) (y2 * s) p))
        * (if Inside (pos (x1 * s) (x2 * s) q) then
            (if w0 + k.val % 48 = node (pos (x1 * s) (x2 * s) q) then 1 - rest (pos (x1 * s) (x2 * s) q) else 0)
              + (if w0 + k.val % 48 = node (pos (x1 * s) (x2 * s) q) + 1 then rest (pos (x1 * s) (x2 * s) q) else 0) else 0) := by
  subst hp hq
  exact wts_at s x1 y1 x2 y2 n r k w0 hw

/-- A strip at a column and a channel: the sample there. -/
theorem strip_at (X5 : S1x200x200x256.Idx → Ideal .bf16) (s x1 y1 x2 y2 : EReal) (n : Fin 1024) (hx : x2 * s - x1 * s ≤ ((38 : ℝ) : EReal))
    (p q : Fin 8) (d : Fin 256) (o : ℕ) (hop : o = 8 * p.val) (ho : S64x96.Slices ![o, 0] S8x96) (lit : BitVec 32)
    (hl : Ideal.ofBits .f32 lit = ((p.val : ℝ) : EReal)) :
    (dotAt o ho (wts (F := Ideal) s (BitVec.ofNat 32 n.val) x1 y1 x2 y2)
        (rowsAt X5 (Scalar.fptosi (F := Ideal) (φ := .f32) 32 (k0_pay7 (F := Ideal) s x1)) (hrow (F := Ideal) (k0_pay8 (F := Ideal) s y1) (k0_pay9 (F := Ideal) s y1 y2) lit)) (ix2 q d) : EReal)
      = sample (fun a b => X5 (ix4 (0 : Fin 1) a b d)) (pos (y1 * s) (y2 * s) p.val) (pos (x1 * s) (x2 * s) q.val) := by
  have hp := p.isLt
  have hq := q.isLt
  have r1 : (o + q.val) / 8 = p.val := by omega
  have r2 : (o + q.val) % 8 = q.val := by omega
  obtain ⟨w0, hw0⟩ : ∃ w0 : ℕ, Inside (pos (x1 * s) (x2 * s) q.val) → windowAt (Ideal.fptosi 32 (x1 * s)) = BitVec.ofNat 32 w0 ∧ w0 ≤ 152
      ∧ w0 ≤ node (pos (x1 * s) (x2 * s) q.val) ∧ node (pos (x1 * s) (x2 * s) q.val) + 1 < w0 + 48 := by
    by_cases hi : Inside (pos (x1 * s) (x2 * s) q.val)
    · obtain ⟨w0, h⟩ := window_pos (x1 * s) (x2 * s) hx q hi
      exact ⟨w0, fun _ => h⟩
    · exact ⟨0, fun h => absurd h hi⟩
  rw [dot_at o ho (by omega)]
  refine sum_sample w0 (fun a b => X5 (ix4 (0 : Fin 1) a b d)) _ _ _ _ (fun k => ?_) (fun hi => (hw0 hi).2) (fun hh hi k => ?_)
  · exact wts_pos s x1 y1 x2 y2 n ⟨o + q.val, by omega⟩ k w0 p.val q.val r1 r2 fun hi => ⟨(hw0 hi).1, (hw0 hi).2.1⟩
  · rw [hrow_eq s y1 y2 p lit hl]
    have hn := node_le (pos (y1 * s) (y2 * s) p.val)
    exact rows_at X5 _ _ (node (pos (y1 * s) (y2 * s) p.val)) w0 hn (hw0 hi).2.1
      (by rw [word_node hh, max_nat _ (by omega)]) (hw0 hi).1 _ _ d

/-- The rows' numbers as literals. -/
theorem lit_rows : Ideal.ofBits .f32 0x00000000#32 = (((0 : ℕ) : ℝ) : EReal) ∧ Ideal.ofBits .f32 0x3F800000#32 = (((1 : ℕ) : ℝ) : EReal)
    ∧ Ideal.ofBits .f32 0x40000000#32 = (((2 : ℕ) : ℝ) : EReal) ∧ Ideal.ofBits .f32 0x40400000#32 = (((3 : ℕ) : ℝ) : EReal)
    ∧ Ideal.ofBits .f32 0x40800000#32 = (((4 : ℕ) : ℝ) : EReal) ∧ Ideal.ofBits .f32 0x40A00000#32 = (((5 : ℕ) : ℝ) : EReal)
    ∧ Ideal.ofBits .f32 0x40C00000#32 = (((6 : ℕ) : ℝ) : EReal) ∧ Ideal.ofBits .f32 0x40E00000#32 = (((7 : ℕ) : ℝ) : EReal) := by
  refine ⟨?_, ?_, ?_, ?_, ?_, ?_, ?_, ?_⟩ <;> (simp [Ideal.ofBits, Ideal.ieee, -EReal.coe_mul] <;> norm_num)

/-- Every strip at a column and a channel. -/
theorem roi_at (X4 : S5120.Idx → Ideal .f32) (X5 : S1x200x200x256.Idx → Ideal .bf16) (s : EReal) (n : Fin 1024)
    (x1 y1 x2 y2 : EReal) (h1 : cornerAt X4 (BitVec.ofNat 32 n.val) 0 = x1) (h2 : cornerAt X4 (BitVec.ofNat 32 n.val) 1 = y1)
    (h3 : cornerAt X4 (BitVec.ofNat 32 n.val) 2 = x2) (h4 : cornerAt X4 (BitVec.ofNat 32 n.val) 3 = y2)
    (hx : x2 * s - x1 * s ≤ ((38 : ℝ) : EReal)) (p q : Fin 8) (d : Fin 256) :
    (roiVal (F := Ideal) X4 X5 s (BitVec.ofNat 32 n.val) p (ix2 q d) : EReal)
      = sample (fun a b => X5 (ix4 (0 : Fin 1) a b d)) (pos (y1 * s) (y2 * s) p.val) (pos (x1 * s) (x2 * s) q.val) := by
  obtain ⟨l0, l1, l2, l3, l4, l5, l6, l7⟩ := lit_rows
  unfold roiVal
  rw [h1, h2, h3, h4]
  have key := fun (p : Fin 8) => strip_at X5 s x1 y1 x2 y2 n hx p q d
  match p with
  | ⟨0, _⟩ => exact key 0 0 rfl _ _ l0
  | ⟨1, _⟩ => exact key 1 8 rfl _ _ l1
  | ⟨2, _⟩ => exact key 2 16 rfl _ _ l2
  | ⟨3, _⟩ => exact key 3 24 rfl _ _ l3
  | ⟨4, _⟩ => exact key 4 32 rfl _ _ l4
  | ⟨5, _⟩ => exact key 5 40 rfl _ _ l5
  | ⟨6, _⟩ => exact key 6 48 rfl _ _ l6
  | ⟨7, _⟩ => exact key 7 56 rfl _ _ l7

/-- The pooled value: a quarter of the four samples around. -/
theorem roiOut_at (X4 : S5120.Idx → Ideal .f32) (X5 : S1x200x200x256.Idx → Ideal .bf16) (s : EReal) (n : Fin 1024)
    (x1 y1 x2 y2 : EReal) (h1 : cornerAt X4 (BitVec.ofNat 32 n.val) 0 = x1) (h2 : cornerAt X4 (BitVec.ofNat 32 n.val) 1 = y1)
    (h3 : cornerAt X4 (BitVec.ofNat 32 n.val) 2 = x2) (h4 : cornerAt X4 (BitVec.ofNat 32 n.val) 3 = y2)
    (hx : x2 * s - x1 * s ≤ ((38 : ℝ) : EReal)) (a b : Fin 7) (d : Fin 256) :
    (roiOut (F := Ideal) X4 X5 s (BitVec.ofNat 32 n.val) a b d : EReal) = pooled (fun i j => X5 (ix4 (0 : Fin 1) i j d)) s x1 y1 x2 y2 a.val b.val := by
  have key := roi_at X4 X5 s n x1 y1 x2 y2 h1 h2 h3 h4 hx
  unfold roiOut pooled val
  rw [pool_at, key, key, key, key, ← Nat.add_comm 1 b.val]
  rfl

end Cert.KernelIdeal.Roi
end
-- ==== Proof.V.KernelOut.lean ====
/- The kernel's result, element by element: a bin of the region, for regions in range. -/
module

public import proofs.«01_k».proof.Proof.V.Output
public import proofs.«01_k».proof.Proof.V.Strip

@[expose] public section

set_option maxRecDepth 16384

noncomputable section

namespace Cert.KernelIdeal.Roi

open Cert.KernelIdeal Cert.KernelIdeal.Gen
open Idealize.ShloMosaic Idealize.ShloMosaic.TcCoe Cert.Sample

/-- A corner of a region in the table. -/
theorem corner_of (r : FVec Ideal S1024x5 .f32) (n : Fin 1024) (k : Fin 4) :
    (cornerAt (flatRois r) (BitVec.ofNat 32 n.val) k : EReal) = r (ix2 n (⟨1 + k.val, by omega⟩ : Fin 5)) := by
  have hn := n.isLt
  have hk := k.isLt
  have e : cornerAt (flatRois r) (BitVec.ofNat 32 n.val) k = flatRois r (ix1 (⟨5 * n.val + 1 + k.val, by omega⟩ : Fin 5120)) := by
    unfold cornerAt
    refine congrArg (flatRois r) (funext fun a => Fin.ext ?_)
    match a with
    | ⟨0, _⟩ =>
      show k0_off3 (BitVec.ofNat 32 n.val) (BitVec.ofNat 32 (1 + k.val)) 0 % 5120 = 5 * n.val + 1 + k.val
      rw [off3_eq]; omega
  rw [e]
  pointwise [flatRois]
  congr 2 <;> (apply Fin.ext; show _ = _; simp; omega)

/-- An image of the kernel's array is an image of the features. -/
theorem image_at (f : FVec Ideal S4x256x200x200 .f32) (B : Fin 4) (i j : Fin 200) (c : Fin 256) :
    (image f B (ix4 (0 : Fin 1) i j c) : EReal) = f (ix4 B c i j) := by
  show (truncf .bf16 (transpose S4x200x200x256 [0, 2, 3, 1] f _) _ : FVec Ideal S4x200x200x256 .bf16) (ix4 B i j c) = _
  pointwise []

/-- The scale in its table. -/
theorem scale_at (s : FVec Ideal S_ .f32) : (shapeCast S1 s shapeCasts_S_S1 idx1 : EReal) = s Idealize.ShloMosaic.ix0 := by
  unfold shapeCast
  exact congrArg s (funext fun a => a.elim0)

/-- A section's word. -/
theorem secs_at (r : FVec Ideal S1024x5 .f32) (n : Fin 1024) : secs (F := Ideal) r (ValueIdx.ix1 n) = Ideal.fptosi 32 (r (ix2 n (0 : Fin 5))) := by
  show secs (F := Ideal) r (ix1 n) = _
  pointwise [secs]
  rfl

/-- The kernel's result at an index. -/
theorem kernel_at (m : (ℓ : Loc nD τ sig) → Buf (Elt Ideal) ℓ) (hO : Ok m) (d : Dev nD)
    (f : FVec Ideal S4x256x200x200 .f32) (r : FVec Ideal S1024x5 .f32) (s : FVec Ideal S_ .f32)
    (hf : m ((d.tc : Thread nD τ).loc main_arg0) = f) (hr : m ((d.tc : Thread nD τ).loc main_arg1) = r) (hs : m ((d.tc : Thread nD τ).loc main_arg2) = s)
    (B : Fin 1024 → Fin 4) (hB : ∀ n, Ideal.fptosi 32 (r (ix2 n (0 : Fin 5))) = BitVec.ofNat 32 (B n).val)
    (hx : ∀ n : Fin 1024, r (ix2 n (3 : Fin 5)) * s Idealize.ShloMosaic.ix0 - r (ix2 n (1 : Fin 5)) * s Idealize.ShloMosaic.ix0 ≤ ((38 : ℝ) : EReal))
    (n : Fin 1024) (c : Fin 256) (a b : Fin 7) :
    (Pipeline.afterTail pcfgs (fun _ => adm m hO) (dats m hO) 0 (V0 m) [hostOps1] d main_v91 (ix4 n c a b : S1024x256x7x7.Idx) : EReal)
      = pooled (fun i j => f (ix4 (B n) c i j)) (s Idealize.ShloMosaic.ix0) (r (ix2 n (1 : Fin 5))) (r (ix2 n (2 : Fin 5))) (r (ix2 n (3 : Fin 5))) (r (ix2 n (4 : Fin 5))) a.val b.val := by
  subst hf hr hs
  refine (out_point m hO d B (fun n => (secs_at _ n).trans (hB n)) n c a b).trans ?_
  refine (roiOut_at _ _ _ n _ _ _ _ (corner_of _ n 0) (corner_of _ n 1) (corner_of _ n 2) (corner_of _ n 3) ?_ a b c).trans ?_
  · rw [scale_at]; exact hx n
  · rw [scale_at]
    simp only [image_at]
    rfl

end Cert.KernelIdeal.Roi
end
-- ==== Proof.V.RefPoint.lean ====
/- What the reference computes, read at an index: pooled samples. -/
module

public import proofs.«01_k».proof.Proof.Gen.ReferenceIdeal.Run
public import proofs.«01_k».proof.Proof.V.KernelPoint
public import Idealize.ShloMosaic.Lib.Tactic.CleanTypes

@[expose] public section

set_option maxRecDepth 16384

noncomputable section

namespace Cert.ReferenceIdeal.Roi

open Cert.ReferenceIdeal Cert.ReferenceIdeal.Gen Cert.ReferenceIdeal.Value
open Idealize.ShloMosaic Cert.Sample
open Cert.KernelIdeal.Roi (bitOf select_bitOf inside_bit)

/-- The regions. -/
abbrev rois (V0 : Valuation τ sig (Elt Ideal)) : FVec Ideal S1024x5 .f32 := V0 (Proc.devRef .tc main_arg1)

/-- The scale. -/
abbrev scale (V0 : Valuation τ sig (Elt Ideal)) : FVec Ideal S_ .f32 := V0 (Proc.devRef .tc main_arg2)

/-- A word that is not negative stays as it is when an index is wrapped. -/
theorem wrap_word (x : BitVec 32) (k : BitVec 32) (n : ℕ) (hn : n < 2 ^ 31) (hx : x = BitVec.ofNat 32 n) :
    Scalar.select (IntOp.cmpi .slt x 0#32) (IntOp.addi x k) x = BitVec.ofNat 32 n := by
  subst hx
  have e : IntOp.cmpi .slt (BitVec.ofNat 32 n) 0#32 = 0#1 := by
    show BitVec.ofBool ((BitVec.ofNat 32 n).slt 0#32) = _
    rw [show (BitVec.ofNat 32 n).slt 0#32 = false by
      rw [Bool.eq_false_iff]; intro h
      rw [BitVec.slt_iff_toInt_lt, toInt_nat n hn] at h
      have : (0#32 : BitVec 32).toInt = 0 := by decide
      omega]
    rfl
  rw [e]; rfl

/-- The indices of a corner of every cell: image, row and column. -/
abbrev corner (b : IVec S1024x1x1 32) (i : IVec S1024x8x1 32) (j : IVec S1024x1x8 32) : IVec S1024x8x8x3 32 :=
  concatenate S1024x8x8x3 3 [⟨S1024x8x8x1, (broadcastInDim S1024x8x8x1 ![0, 1, 2] bcast_S1024x8x8_S1024x8x8x1_0_1_2 (broadcastInDim S1024x8x8 ![0, 1, 2] bcast_S1024x1x1_S1024x8x8_0_1_2 (select (cmpi .slt b (broadcastInDim S1024x1x1 ![] bcast_S_S1024x1x1 (constantI S_ 32 0#32))) (addi b (broadcastInDim S1024x1x1 ![] bcast_S_S1024x1x1 (constantI S_ 32 4#32))) b)))⟩,
    ⟨S1024x8x8x1, (broadcastInDim S1024x8x8x1 ![0, 1, 2] bcast_S1024x8x8_S1024x8x8x1_0_1_2 (broadcastInDim S1024x8x8 ![0, 1, 2] bcast_S1024x8x1_S1024x8x8_0_1_2 (select (cmpi .slt i (broadcastInDim S1024x8x1 ![] bcast_S_S1024x8x1 (constantI S_ 32 0#32))) (addi i (broadcastInDim S1024x8x1 ![] bcast_S_S1024x8x1 (constantI S_ 32 200#32))) i)))⟩,
    ⟨S1024x8x8x1, (broadcastInDim S1024x8x8x1 ![0, 1, 2] bcast_S1024x8x8_S1024x8x8x1_0_1_2 (broadcastInDim S1024x8x8 ![0, 1, 2] bcast_S1024x1x8_S1024x8x8_0_1_2 (select (cmpi .slt j (broadcastInDim S1024x1x8 ![] bcast_S_S1024x1x8 (constantI S_ 32 0#32))) (addi j (broadcastInDim S1024x1x8 ![] bcast_S_S1024x1x8 (constantI S_ 32 200#32))) j)))⟩]
    concatenates_S1024x8x8x1_S1024x8x8x1_S1024x8x8x1_S1024x8x8x3_d3

theorem corner_at (b : IVec S1024x1x1 32) (i : IVec S1024x8x1 32) (j : IVec S1024x1x8 32) (n : Fin 1024) (p q : Fin 8) (B I J : ℕ)
    (hB : B < 2 ^ 31) (hI : I < 2 ^ 31) (hJ : J < 2 ^ 31)
    (hb : b (ix3 n (0 : Fin 1) (0 : Fin 1)) = BitVec.ofNat 32 B) (hi : i (ix3 n p (0 : Fin 1)) = BitVec.ofNat 32 I) (hj : j (ix3 n (0 : Fin 1) q) = BitVec.ofNat 32 J) :
    corner b i j (ix4 n p q (0 : Fin 3)) = BitVec.ofNat 32 B ∧ corner b i j (ix4 n p q (1 : Fin 3)) = BitVec.ofNat 32 I
      ∧ corner b i j (ix4 n p q (2 : Fin 3)) = BitVec.ofNat 32 J := by
  refine ⟨?_, ?_, ?_⟩
  · refine Eq.trans ?_ (wrap_word _ 4#32 B hB hb)
    pointwise []
  · refine Eq.trans ?_ (wrap_word _ 200#32 I hI hi)
    pointwise []
  · refine Eq.trans ?_ (wrap_word _ 200#32 J hJ hj)
    pointwise []

/-- A gather of whole rows of channels at a corner. -/
theorem take_corner {α : Type} (f : S4x256x200x200.Idx → α) (w : IVec S1024x8x8x3 32) (n : Fin 1024) (p q : Fin 8) (c : Fin 256)
    (B : Fin 4) (I J : Fin 200) (hb : w (ix4 n p q (0 : Fin 3)) = BitVec.ofNat 32 B.val) (hi : w (ix4 n p q (1 : Fin 3)) = BitVec.ofNat 32 I.val)
    (hj : w (ix4 n p q (2 : Fin 3)) = BitVec.ofNat 32 J.val) :
    Host.gather gather_S4x256x200x200_S1024x8x8x3_S1024x8x8x256_3_023_n_n_023_3_125611 f w (ix4 n p q c) = f (ix4 B c I J) := by
  unfold Host.gather
  refine congrArg f (funext fun a => Fin.ext ?_)
  match a with
  | ⟨0, _⟩ =>
    have e : min (w (ix4 n p q (0 : Fin 3))).toInt.toNat (4 - 1) = B.val := by
      have h := B.isLt
      rw [hb, toInt_nat _ (by omega)]; omega
    refine Eq.trans ?_ e
    show gather_S4x256x200x200_S1024x8x8x3_S1024x8x8x256_3_023_n_n_023_3_125611.start (ix4 n p q c) w 0 + 0 + 0 = _
    unfold GatherDims.start
    rw [dif_pos (by decide)]
    refine congrArg (fun q => min (w q).toInt.toNat (4 - 1)) (funext fun a => Fin.ext ?_)
    match a with
    | ⟨0, _⟩ => rfl
    | ⟨1, _⟩ => rfl
    | ⟨2, _⟩ => rfl
    | ⟨3, _⟩ => rfl
  | ⟨1, _⟩ => exact Nat.zero_add _
  | ⟨2, _⟩ =>
    have e : min (w (ix4 n p q (1 : Fin 3))).toInt.toNat (200 - 1) = I.val := by
      have h := I.isLt
      rw [hi, toInt_nat _ (by omega)]; omega
    refine Eq.trans ?_ e
    show gather_S4x256x200x200_S1024x8x8x3_S1024x8x8x256_3_023_n_n_023_3_125611.start (ix4 n p q c) w 2 + 0 + 0 = _
    unfold GatherDims.start
    rw [dif_pos (by decide)]
    refine congrArg (fun q => min (w q).toInt.toNat (200 - 1)) (funext fun a => Fin.ext ?_)
    match a with
    | ⟨0, _⟩ => rfl
    | ⟨1, _⟩ => rfl
    | ⟨2, _⟩ => rfl
    | ⟨3, _⟩ => rfl
  | ⟨3, _⟩ =>
    have e : min (w (ix4 n p q (2 : Fin 3))).toInt.toNat (200 - 1) = J.val := by
      have h := J.isLt
      rw [hj, toInt_nat _ (by omega)]; omega
    refine Eq.trans ?_ e
    show gather_S4x256x200x200_S1024x8x8x3_S1024x8x8x256_3_023_n_n_023_3_125611.start (ix4 n p q c) w 3 + 0 + 0 = _
    unfold GatherDims.start
    rw [dif_pos (by decide)]
    refine congrArg (fun q => min (w q).toInt.toNat (200 - 1)) (funext fun a => Fin.ext ?_)
    match a with
    | ⟨0, _⟩ => rfl
    | ⟨1, _⟩ => rfl
    | ⟨2, _⟩ => rfl
    | ⟨3, _⟩ => rfl

/-- The number of steps as a literal. -/
theorem lit_7 : Ideal.ofBits .f32 0x40E00000#32 = ((7 : ℝ) : EReal) := by
  simp [Ideal.ofBits, Ideal.ieee, -EReal.coe_mul]; norm_num

/-- The last node as a literal. -/
theorem lit_198 : Ideal.ofBits .f32 0x43460000#32 = ((198 : ℝ) : EReal) := by
  simp [Ideal.ofBits, Ideal.ieee, -EReal.coe_mul]; norm_num

/-- A position as the reference computes it. -/
theorem pos_div (a b : EReal) (p : Fin 8) :
    a + (FloatOps.sitofp (F := Ideal) FTy.f32 (BitVec.ofNat 32 p.val) : EReal) * Ideal.div (max (b - a + 1) 0) (Ideal.ofBits .f32 0x40E00000#32) = pos a b p.val := by
  have e : (FloatOps.sitofp (F := Ideal) FTy.f32 (BitVec.ofNat 32 p.val) : EReal) = ((p.val : ℝ) : EReal) := by
    show ((((BitVec.ofNat 32 p.val).toInt : ℤ) : ℝ) : EReal) = _
    rw [toInt_nat _ (by have := p.isLt; omega), Int.cast_natCast]
  rw [e, lit_7, Ideal.div_coe (by norm_num : (7 : ℝ) ≠ 0), one_div]
  rfl

/-- A cell's vertical position. -/
theorem h_at (V0 : Valuation τ sig (Elt Ideal)) (n : Fin 1024) (p : Fin 8) :
    (res_main_v42 V0 (ix2 n p) : EReal) = pos (rois V0 (ix2 n (2 : Fin 5)) * scale V0 ix0) (rois V0 (ix2 n (4 : Fin 5)) * scale V0 ix0) p.val := by
  rw [← pos_div]
  pointwise [res_main_v42, res_main_v10]

/-- A cell's horizontal position. -/
theorem w_at (V0 : Valuation τ sig (Elt Ideal)) (n : Fin 1024) (p : Fin 8) :
    (res_main_v50 V0 (ix2 n p) : EReal) = pos (rois V0 (ix2 n (1 : Fin 5)) * scale V0 ix0) (rois V0 (ix2 n (3 : Fin 5)) * scale V0 ix0) p.val := by
  rw [← pos_div]
  pointwise [res_main_v50, res_main_v6]

/-- The constant nothing. -/
theorem zero_const : (id (constant (F := Ideal) S_ FTy.f32 0#32) ix0 : EReal) = 0 := by
  show Ideal.ofBits .f32 0x00000000#32 = 0
  simp [Ideal.ofBits, Ideal.ieee]

/-- A node as a word. -/
theorem node_word (x : EReal) : Ideal.fptosi 32 (max (Ideal.ofBits .f32 0x00000000#32) ((node x : ℝ) : EReal)) = BitVec.ofNat 32 (node x) := by
  have hn := node_le x
  have h0 : Ideal.ofBits .f32 0x00000000#32 = ((0 : ℝ) : EReal) := by simp [Ideal.ofBits, Ideal.ieee]
  have h1 : (0 : ℝ) ≤ (node x : ℝ) := Nat.cast_nonneg _
  have h2 : (node x : ℝ) < 2 ^ 30 := by
    have : (node x : ℝ) ≤ 198 := by exact_mod_cast hn
    linarith
  rw [h0, ← coe_max', max_eq_right h1, fptosi_nonneg _ h1 h2, Nat.floor_natCast]

section
variable (V0 : Valuation τ sig (Elt Ideal)) (n : Fin 1024) (p q : Fin 8) (h w : EReal)

theorem v53_at (hv : (res_main_v42 V0 (ix2 n p) : EReal) = h) (hh : Inside h) : (res_main_v53 V0 (ix2 n p) : EReal) = ((node h : ℝ) : EReal) := by
  pointwise [res_main_v53]
  rw [hv, lit_198, floor_node hh]

theorem v56_at (hv : (res_main_v50 V0 (ix2 n q) : EReal) = w) (hh : Inside w) : (res_main_v56 V0 (ix2 n q) : EReal) = ((node w : ℝ) : EReal) := by
  pointwise [res_main_v56]
  rw [hv, lit_198, floor_node hh]

theorem v79_at (hv : (res_main_v42 V0 (ix2 n p) : EReal) = h) (hh : Inside h) : (res_main_v79 V0 (ix3 n p (0 : Fin 1)) : BitVec 32) = BitVec.ofNat 32 (node h) := by
  rw [← node_word h, ← v53_at V0 n p h hv hh]
  pointwise [res_main_v79]
  exact congrArg (fun z => Ideal.fptosi 32 (max z _)) zero_const

theorem v80_at (hv : (res_main_v50 V0 (ix2 n q) : EReal) = w) (hh : Inside w) : (res_main_v80 V0 (ix3 n (0 : Fin 1) q) : BitVec 32) = BitVec.ofNat 32 (node w) := by
  rw [← node_word w, ← v56_at V0 n q w hv hh]
  pointwise [res_main_v80]
  exact congrArg (fun z => Ideal.fptosi 32 (max z _)) zero_const

/-- The next node, or the node itself, as a word. -/
theorem next_word (v : BitVec 32) (a b : ℕ) (hv : v = BitVec.ofNat 32 a) : IntOp.addi v (BitVec.ofNat 32 b) = BitVec.ofNat 32 (a + b) := by
  subst hv; exact (BitVec.ofNat_add _ _).symm

/-- A gather at a corner of a cell: the row and the column past the nodes by nothing or one. -/
theorem gather_at (f : S4x256x200x200.Idx → EReal) (b : IVec S1024x1x1 32) (i : IVec S1024x8x1 32) (j : IVec S1024x1x8 32) (c : Fin 256) (B : Fin 4) (dh dw : ℕ)
    (hdh : dh ≤ 1) (hdw : dw ≤ 1)
    (hb : b (ix3 n (0 : Fin 1) (0 : Fin 1)) = BitVec.ofNat 32 B.val) (hi : i (ix3 n p (0 : Fin 1)) = BitVec.ofNat 32 (node h + dh))
    (hj : j (ix3 n (0 : Fin 1) q) = BitVec.ofNat 32 (node w + dw)) :
    Host.gather gather_S4x256x200x200_S1024x8x8x3_S1024x8x8x256_3_023_n_n_023_3_125611 f (corner b i j) (ix4 n p q c)
      = f (ix4 B c (cell (node h + dh)) (cell (node w + dw))) := by
  have h1 := node_le h
  have h2 := node_le w
  have h3 := B.isLt
  obtain ⟨e0, e1, e2⟩ := corner_at b i j n p q B.val (node h + dh) (node w + dw) (by omega) (by omega) (by omega) hb hi hj
  refine take_corner f (corner b i j) n p q c B _ _ e0 (e1.trans (congrArg _ ?_)) (e2.trans (congrArg _ ?_))
  · exact (Nat.mod_eq_of_lt (by omega)).symm
  · exact (Nat.mod_eq_of_lt (by omega)).symm

open Classical in
/-- Both positions inside. -/
theorem both_bit (P Q : Prop) : IntOp.andi (bitOf P) (bitOf Q) = bitOf (P ∧ Q) := by
  unfold bitOf
  by_cases hP : P <;> by_cases hQ : Q <;> simp [hP, hQ, IntOp.andi]

/-- The samples, at a region, a channel and a cell. -/
theorem samples_at (c : Fin 256) (B : Fin 4) (hv : (res_main_v42 V0 (ix2 n p) : EReal) = h) (hw : (res_main_v50 V0 (ix2 n q) : EReal) = w)
    (hb : (res_main_v78 V0 (ix3 n (0 : Fin 1) (0 : Fin 1)) : BitVec 32) = BitVec.ofNat 32 B.val) :
    (res_main_v220 V0 (ix4 n c p q) : EReal)
      = sample (fun i j => (V0 (Proc.devRef .tc main_arg0) : FVec Ideal S4x256x200x200 .f32) (ix4 B c i j)) h w := by
  pointwise [res_main_v220, res_main_v185, res_main_v81, res_main_v82]
  rw [hv, hw]
  simp only [inside_bit, both_bit, select_bitOf]
  unfold sample
  by_cases hi : Inside h ∧ Inside w
  · rw [if_pos hi, if_pos hi]
    obtain ⟨ih, iw⟩ := hi
    have a := v79_at V0 n p h hv ih
    have b := v80_at V0 n q w hw iw
    have c84 : (res_main_v84 V0 (ix3 n p (0 : Fin 1)) : BitVec 32) = BitVec.ofNat 32 (node h + 0) := next_word _ _ 0 a
    have c119 : (res_main_v119 V0 (ix3 n p (0 : Fin 1)) : BitVec 32) = BitVec.ofNat 32 (node h + 0) := next_word _ _ 0 a
    have c153 : (res_main_v153 V0 (ix3 n p (0 : Fin 1)) : BitVec 32) = BitVec.ofNat 32 (node h + 1) := next_word _ _ 1 a
    have c187 : (res_main_v187 V0 (ix3 n p (0 : Fin 1)) : BitVec 32) = BitVec.ofNat 32 (node h + 1) := next_word _ _ 1 a
    have c86 : (res_main_v86 V0 (ix3 n (0 : Fin 1) q) : BitVec 32) = BitVec.ofNat 32 (node w + 0) := next_word _ _ 0 b
    have c121 : (res_main_v121 V0 (ix3 n (0 : Fin 1) q) : BitVec 32) = BitVec.ofNat 32 (node w + 1) := next_word _ _ 1 b
    have c155 : (res_main_v155 V0 (ix3 n (0 : Fin 1) q) : BitVec 32) = BitVec.ofNat 32 (node w + 0) := next_word _ _ 0 b
    have c189 : (res_main_v189 V0 (ix3 n (0 : Fin 1) q) : BitVec 32) = BitVec.ofNat 32 (node w + 1) := next_word _ _ 1 b
    rw [v53_at V0 n p h hv ih, v56_at V0 n q w hw iw,
      gather_at n p q h w (V0 (Proc.devRef .tc main_arg0)) _ _ _ c B 0 0 (by decide) (by decide) hb c84 c86,
      gather_at n p q h w (V0 (Proc.devRef .tc main_arg0)) _ _ _ c B 0 1 (by decide) (by decide) hb c119 c121,
      gather_at n p q h w (V0 (Proc.devRef .tc main_arg0)) _ _ _ c B 1 0 (by decide) (by decide) hb c153 c155,
      gather_at n p q h w (V0 (Proc.devRef .tc main_arg0)) _ _ _ c B 1 1 (by decide) (by decide) hb c187 c189]
    rfl
  · rw [if_neg hi, if_neg hi]
    exact zero_const

/-- The batch index of a region, as a word. -/
theorem v78_at : (res_main_v78 V0 (ix3 n (0 : Fin 1) (0 : Fin 1)) : BitVec 32) = Ideal.fptosi 32 (rois V0 (ix2 n (0 : Fin 5))) := by
  pointwise [res_main_v78]
  rfl

end

theorem four_sum (a b c d : EReal) : a + b + c + d = a + c + (b + d) := by ac_rfl

/-- The reference's result at an index. -/
theorem result_at (V0 : Valuation τ sig (Elt Ideal)) (n : Fin 1024) (c : Fin 256) (a b : Fin 7) (B : Fin 4)
    (hB : Ideal.fptosi 32 (rois V0 (ix2 n (0 : Fin 5))) = BitVec.ofNat 32 B.val) :
    (mulf (addf (addf (addf (extractStridedSlice S1024x256x7x7 ![0, 0, 0, 0] (res_main_v220 V0) slices_S1024x256x8x8_S1024x256x7x7_0_0_0_0) (extractStridedSlice S1024x256x7x7 ![0, 0, 0, 1] (res_main_v220 V0) slices_S1024x256x8x8_S1024x256x7x7_0_0_0_1)) (extractStridedSlice S1024x256x7x7 ![0, 0, 1, 0] (res_main_v220 V0) slices_S1024x256x8x8_S1024x256x7x7_0_0_1_0)) (extractStridedSlice S1024x256x7x7 ![0, 0, 1, 1] (res_main_v220 V0) slices_S1024x256x8x8_S1024x256x7x7_0_0_1_1)) (broadcastInDim S1024x256x7x7 ![] bcast_S_S1024x256x7x7 (constant S_ .f32 0x3E800000#32))
        (ix4 n c a b) : EReal)
      = pooled (fun i j => (V0 (Proc.devRef .tc main_arg0) : FVec Ideal S4x256x200x200 .f32) (ix4 B c i j)) (scale V0 ix0)
          (rois V0 (ix2 n (1 : Fin 5))) (rois V0 (ix2 n (2 : Fin 5))) (rois V0 (ix2 n (3 : Fin 5))) (rois V0 (ix2 n (4 : Fin 5))) a.val b.val := by
  have key := fun p q : Fin 8 => samples_at V0 n p q _ _ c B (h_at V0 n p) (w_at V0 n q) ((v78_at V0 n).trans hB)
  pointwise []
  rw [key, key, key, key]
  unfold pooled val
  simp only [Nat.add_comm 1]
  exact congrArg (· * _) (four_sum _ _ _ _)

end Cert.ReferenceIdeal.Roi
end
-- ==== Proof.V.Agree.lean ====
/- The kernel's result and the reference's, element by element, for regions in range. -/
module

public import proofs.«01_k».proof.Defs
public import proofs.«01_k».proof.Proof.V.KernelOut
public import proofs.«01_k».proof.Proof.V.RefPoint

@[expose] public section

set_option maxRecDepth 16384

noncomputable section

namespace Cert.Agree

open Idealize.ShloMosaic Cert.Sample
open Cert.KernelIdeal (S4x256x200x200 S1024x5 S_ S1024x256x7x7 S1x200x200x256 S5120)
open Cert.KernelIdeal.Roi (bitOf)

/-! ## The precondition, read at a region -/

/-- The bounds as literals. -/
theorem lit_bounds : Ideal.ofBits .f32 0xBF800000#32 = ((-1 : ℝ) : EReal) ∧ Ideal.ofBits .f32 0x40800000#32 = ((4 : ℝ) : EReal)
    ∧ Ideal.ofBits .f32 0x42180000#32 = ((38 : ℝ) : EReal) := by
  refine ⟨?_, ?_, ?_⟩ <;> (simp [Ideal.ofBits, Ideal.ieee, -EReal.coe_mul, -EReal.coe_neg] <;> norm_num)

/-- A bit and another are set when both are. -/
theorem and_bits (x y : BitVec 1) (h : IntOp.andi x y = 1#1) : x = 1#1 ∧ y = 1#1 := by
  revert h; revert x y; decide

/-- A decided bit that is set. -/
theorem of_bit (p : Prop) [Decidable p] (h : BitVec.ofBool (decide p) = 1#1) : p := by
  by_contra hp
  rw [decide_eq_false hp] at h
  exact absurd h (by decide)

/-- A region in range: its batch index above minus one and below four, its width at most 38 after scaling. -/
theorem pre_at [Cert.Pre_rois_in_range.Facts] (f : FVec Ideal S4x256x200x200 .f32) (r : FVec Ideal S1024x5 .f32) (s : FVec Ideal S_ .f32)
    (h : Cert.Pre_rois_in_range.fn (F := Ideal) f r s = fun _ => 1#1) (n : Fin 1024) :
    ((-1 : ℝ) : EReal) < r (ix2 n (0 : Fin 5)) ∧ r (ix2 n (0 : Fin 5)) < ((4 : ℝ) : EReal)
      ∧ r (ix2 n (3 : Fin 5)) * s ix0 - r (ix2 n (1 : Fin 5)) * s ix0 ≤ ((38 : ℝ) : EReal) := by
  have e : Cert.Pre_rois_in_range.fn (F := Ideal) f r s (ix1 n)
      = IntOp.andi (IntOp.andi (BitVec.ofBool (decide ((r (ix2 n (0 : Fin 5)) : EReal) > Ideal.ofBits .f32 0xBF800000#32)))
          (BitVec.ofBool (decide ((r (ix2 n (0 : Fin 5)) : EReal) < Ideal.ofBits .f32 0x40800000#32))))
        (BitVec.ofBool (decide ((r (ix2 n (3 : Fin 5)) * s ix0 - r (ix2 n (1 : Fin 5)) * s ix0 : EReal) ≤ Ideal.ofBits .f32 0x42180000#32))) := by
    pointwise [Cert.Pre_rois_in_range.fn]
  rw [h] at e
  obtain ⟨e12, e3⟩ := and_bits _ _ e.symm
  obtain ⟨e1, e2⟩ := and_bits _ _ e12
  have h1 := of_bit _ e1
  have h2 := of_bit _ e2
  have h3 := of_bit _ e3
  rw [lit_bounds.1] at h1
  rw [lit_bounds.2.1] at h2
  rw [lit_bounds.2.2] at h3
  exact ⟨h1, h2, h3⟩

/-- Such a batch index truncates to the number of an image. -/
theorem batch_word (x : EReal) (h0 : ((-1 : ℝ) : EReal) < x) (h1 : x < ((4 : ℝ) : EReal)) : ∃ B : Fin 4, Ideal.fptosi 32 x = BitVec.ofNat 32 B.val := by
  induction x with
  | bot => simp at h0
  | top => simp at h1
  | coe r =>
    have h0 : -1 < r := by exact_mod_cast h0
    have h1 : r < 4 := by exact_mod_cast h1
    by_cases hr : 0 ≤ r
    · have hf : ⌊r⌋₊ < 4 := (Nat.floor_lt hr).2 (by exact_mod_cast h1)
      exact ⟨⟨⌊r⌋₊, hf⟩, fptosi_nonneg r hr (by linarith)⟩
    · have hc : ⌈r⌉ = 0 := by
        rw [Int.ceil_eq_iff]; push_cast; constructor <;> linarith
      refine ⟨0, ?_⟩
      rw [Ideal.fptosi, Ideal.toIntClamped_coe, if_neg hr, hc]
      decide

/-! ## The two results -/

open Idealize.SL.Sem

/-- Two arrays that agree at every index. -/
theorem ext4 (X Y : S1024x256x7x7.Idx → EReal) (h : ∀ (n : Fin 1024) (c : Fin 256) (a b : Fin 7), X (ix4 n c a b) = Y (ix4 n c a b)) : X = Y := by
  funext j
  have e : j = ix4 (j 0 : Fin 1024) (j 1 : Fin 256) (j 2 : Fin 7) (j 3 : Fin 7) := by
    funext a
    match a with
    | ⟨0, _⟩ => rfl
    | ⟨1, _⟩ => rfl
    | ⟨2, _⟩ => rfl
    | ⟨3, _⟩ => rfl
  rw [e]; exact h _ _ _ _

/-- The two results are the same array. -/
theorem results [Cert.Pre_rois_in_range.Facts] (m : (ℓ : Loc Cert.KernelIdeal.nD Cert.KernelIdeal.τ Cert.KernelIdeal.sig) → Buf (Elt Ideal) ℓ)
    (hO : Cert.KernelIdeal.Roi.Ok m) (d : Dev Cert.KernelIdeal.nD)
    (f : FVec Ideal S4x256x200x200 .f32) (r : FVec Ideal S1024x5 .f32) (s : FVec Ideal S_ .f32)
    (hf : m ((d.tc : Thread Cert.KernelIdeal.nD Cert.KernelIdeal.τ).loc Cert.KernelIdeal.main_arg0) = f)
    (hr : m ((d.tc : Thread Cert.KernelIdeal.nD Cert.KernelIdeal.τ).loc Cert.KernelIdeal.main_arg1) = r)
    (hs : m ((d.tc : Thread Cert.KernelIdeal.nD Cert.KernelIdeal.τ).loc Cert.KernelIdeal.main_arg2) = s)
    (W : Valuation Cert.ReferenceIdeal.τ Cert.ReferenceIdeal.sig (Elt Ideal))
    (wf : W (Proc.devRef .tc Cert.ReferenceIdeal.main_arg0) = f) (wr : W (Proc.devRef .tc Cert.ReferenceIdeal.main_arg1) = r)
    (ws : W (Proc.devRef .tc Cert.ReferenceIdeal.main_arg2) = s)
    (h : Cert.Pre_rois_in_range.fn (F := Ideal) f r s = fun _ => 1#1) :
    Cert.ReferenceIdeal.Value.val5 W (Proc.devRef .tc Cert.ReferenceIdeal.main_v229)
      = Pipeline.afterTail Cert.KernelIdeal.pcfgs (fun _ => Cert.KernelIdeal.Roi.adm m hO) (Cert.KernelIdeal.Roi.dats m hO) 0 (Cert.KernelIdeal.Roi.V0 m)
          [Cert.KernelIdeal.Gen.hostOps1] d Cert.KernelIdeal.main_v91 := by
  have hp := pre_at f r s h
  have hB := fun n => batch_word _ (hp n).1 (hp n).2.1
  choose B hB using hB
  refine (Cert.ReferenceIdeal.Value.val5_main_v229 W).trans (ext4 _ _ fun n c a b => ?_)
  refine (Cert.ReferenceIdeal.Roi.result_at W n c a b (B n) ?_).trans ?_
  · rw [← hB n]; subst wr; rfl
  · refine Eq.trans ?_ (Cert.KernelIdeal.Roi.kernel_at m hO d f r s hf hr hs B hB (fun n => (hp n).2.2) n c a b).symm
    subst wf wr ws; rfl

end Cert.Agree
end
-- ==== Proof.lean ====
/- The claims of this certificate, put together from the modules beside it: the runs of the kernel and of the
   idealized kernel (Proof/P, Proof/PI), the reference's composed run, the one named constant, and the agreement of the two
   results for regions in range (Proof/V). -/
module

public import proofs.«01_k».proof.Defs
public import proofs.«01_k».proof.Proof.Gen.Pre_rois_in_range
public import proofs.«01_k».proof.Proof.Gen.ReferenceIdeal.Run
public import proofs.«01_k».proof.Proof.P.Words
public import proofs.«01_k».proof.Proof.PI.Words
public import proofs.«01_k».proof.Proof.V.Agree

public section

noncomputable section

namespace Cert.Proof

open Idealize.ShloMosaic Idealize.SL.Sem

/-- The printed kernel terminates from every memory, its arguments end unchanged, its counters at zero. -/
theorem frame_kernel : Cert.quiescent_Kernel := fun m ρ _ =>
  Cert.Kernel.Roi.frame (F := Bits) m ρ (Cert.Kernel.Roi.ok m) (Cert.Kernel.Roi.words m)

/-- The idealized kernel terminates from every memory, its arguments end unchanged, its counters at zero. -/
theorem frame_ideal : Cert.quiescent_KernelIdeal := fun m ρ _ =>
  Cert.KernelIdeal.Roi.frame (F := Ideal) m ρ (Cert.KernelIdeal.Roi.ok m) (Cert.KernelIdeal.Roi.words m)

/-- The reference terminates from every memory, its arguments end unchanged; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The one rewritten constant: the word of 1/7 is named and read as the inverse of seven. -/
theorem preserved : Cert.preserves_Kernel_KernelIdeal := IdealRules.named_const.statement _ _ _ _ _ rfl

/-- The result is a buffer the region leaves alone. -/
theorem result_rest : Cert.KernelIdeal.main_v91 ∈ Pipeline.restRefs Cert.KernelIdeal.sig Cert.KernelIdeal.spec0 := by decide

/-- For regions in range the idealized kernel and the reference end with equal results, their arguments unchanged. -/
theorem algebraic : Cert.algebraic_KernelIdeal_ReferenceIdeal_pre_rois_in_range := by
  intro m ρ m' ρ' hP hA
  have hO := Cert.KernelIdeal.Roi.ok m
  refine ⟨fun c => Pipeline.afterTail Cert.KernelIdeal.pcfgs (fun _ => Cert.KernelIdeal.Roi.adm m hO) (Cert.KernelIdeal.Roi.dats m hO) 0
    (Cert.KernelIdeal.Roi.V0 m) [Cert.KernelIdeal.Gen.hostOps1] c Cert.KernelIdeal.main_v91, ?_, ?_⟩
  · refine (θ_run Cert.KernelIdeal.defs _ _).mono (fun r h c => ?_) (Cert.KernelIdeal.Roi.run_main (F := Ideal) m ρ hO (Cert.KernelIdeal.Roi.words m))
    have e : ∀ b : Ref Cert.KernelIdeal.sig .tc, b ∈ [Cert.KernelIdeal.main_arg0, Cert.KernelIdeal.main_arg1, Cert.KernelIdeal.main_arg2] →
        r.2.mem ((c.tc : Thread Cert.KernelIdeal.nD Cert.KernelIdeal.τ).loc b) = m ((c.tc : Thread Cert.KernelIdeal.nD Cert.KernelIdeal.τ).loc b) :=
      fun b hb => ((h.1 c).2 b (Cert.KernelIdeal.Roi.args_rest b hb)).trans (Cert.KernelIdeal.Roi.tail_arg m hO c b hb)
    exact ⟨(h.1 c).2 _ result_rest, e _ (by decide), e _ (by decide), e _ (by decide)⟩
  · refine (θ_run Cert.ReferenceIdeal.defs _ _).mono (fun r h c => ⟨?_, (h c).2⟩) (Cert.ReferenceIdeal.Value.run (F := Ideal) m' ρ')
    refine ((h c).1.trans (Cert.ReferenceIdeal.Value.val5_main_v229 (StableHlo.launchContents m' c)).symm).trans ?_
    exact Cert.Agree.results m hO c _ _ _ rfl rfl rfl (StableHlo.launchContents m' c) (hA c).1 (hA c).2.1 (hA c).2.2 (hP c)

theorem claim : Cert.Claim :=
  ⟨Cert.Kernel.Gen.facts, Cert.KernelIdeal.Gen.facts, Cert.ReferenceIdeal.Gen.facts, Cert.Pre_rois_in_range.Gen.facts,
    frame_kernel, frame_ideal, fun m ρ _ => frame_ideal m ρ trivial, frame_reference, fun m ρ _ => frame_reference m ρ trivial, preserved, algebraic⟩

end Cert.Proof

end
